-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_tiles_first : Cert.Pre_tiles_first.Facts] (m : (ℓ : Loc Cert.Kernel2.nD Cert.Kernel2.τ Cert.Kernel2.sig) → Buf (Elt Bits) ℓ) : Prop :=
  ∀ c : Dev Cert.Kernel2.nD,
    (Cert.Pre_tiles_first.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tiles_first : Cert.Pre_tiles_first.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_first.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_first [hPre_tiles_first : Cert.Pre_tiles_first.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_first.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_halves_first : Cert.Pre_halves_first.Facts] (m : (ℓ : Loc Cert.Kernel3.nD Cert.Kernel3.τ Cert.Kernel3.sig) → Buf (Elt Bits) ℓ) : Prop :=
  ∀ c : Dev Cert.Kernel3.nD,
    (Cert.Pre_halves_first.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_halves_first : Cert.Pre_halves_first.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_halves_first.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_halves_first [hPre_halves_first : Cert.Pre_halves_first.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_halves_first.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_dense_tables : Cert.Pre_dense_tables.Facts] (m : (ℓ : Loc Cert.Kernel6.nD Cert.Kernel6.τ Cert.Kernel6.sig) → Buf (Elt Bits) ℓ) : Prop :=
  ∀ c : Dev Cert.Kernel6.nD,
    (Cert.Pre_dense_tables.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_dense_tables : Cert.Pre_dense_tables.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_dense_tables.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_dense_tables [hPre_dense_tables : Cert.Pre_dense_tables.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_dense_tables.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tiles_first : Cert.Pre_tiles_first.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles_first : Cert.Pre_tiles_first.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles_first [hReference2Ideal : Cert.Reference2Ideal.Facts] [hPre_tiles_first : Cert.Pre_tiles_first.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_first m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_halves_first : Cert.Pre_halves_first.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_halves_first : Cert.Pre_halves_first.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_halves_first [hReference3Ideal : Cert.Reference3Ideal.Facts] [hPre_halves_first : Cert.Pre_halves_first.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_halves_first m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] [hPre_dense_tables : Cert.Pre_dense_tables.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_dense_tables : Cert.Pre_dense_tables.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_dense_tables [hReference6Ideal : Cert.Reference6Ideal.Facts] [hPre_dense_tables : Cert.Pre_dense_tables.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_dense_tables m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_rows_held [hKernel2Ideal : Cert.Kernel2Ideal.Facts] [hReference2Ideal : Cert.Reference2Ideal.Facts] [hPre_tiles_first : Cert.Pre_tiles_first.Facts] [hOn_rows_held : Cert.On_rows_held.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![23552, 7168]⟩ : Shape).Idx, (Cert.On_rows_held.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![23552, 7168]⟩ : Shape).Idx, (Cert.On_rows_held.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v10) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_on_halves_held [hKernel3Ideal : Cert.Kernel3Ideal.Facts] [hReference3Ideal : Cert.Reference3Ideal.Facts] [hPre_halves_first : Cert.Pre_halves_first.Facts] [hOn_halves_held : Cert.On_halves_held.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![16, 23552, 128]⟩ : Shape).Idx, (Cert.On_halves_held.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![16, 23552, 128]⟩ : Shape).Idx, (Cert.On_halves_held.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v7) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] [hPre_dense_tables : Cert.Pre_dense_tables.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v33) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v30) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_tiles_first : Cert.Pre_tiles_first.Facts) (hPre_halves_first : Cert.Pre_halves_first.Facts) (hPre_dense_tables : Cert.Pre_dense_tables.Facts) (hOn_rows_held : Cert.On_rows_held.Facts) (hOn_halves_held : Cert.On_halves_held.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tiles_first := hPre_tiles_first)
    ∧ quiescent_Kernel2Ideal (hKernel2Ideal := hKernel2Ideal) (hPre_tiles_first := hPre_tiles_first)
    ∧ quiescent_Reference2Ideal (hReference2Ideal := hReference2Ideal)
    ∧ quiescent_Reference2Ideal_pre_tiles_first (hReference2Ideal := hReference2Ideal) (hPre_tiles_first := hPre_tiles_first)
    ∧ quiescent_Kernel3 (hKernel3 := hKernel3) (hPre_halves_first := hPre_halves_first)
    ∧ quiescent_Kernel3Ideal (hKernel3Ideal := hKernel3Ideal) (hPre_halves_first := hPre_halves_first)
    ∧ quiescent_Reference3Ideal (hReference3Ideal := hReference3Ideal)
    ∧ quiescent_Reference3Ideal_pre_halves_first (hReference3Ideal := hReference3Ideal) (hPre_halves_first := hPre_halves_first)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_dense_tables := hPre_dense_tables)
    ∧ quiescent_Kernel6Ideal (hKernel6Ideal := hKernel6Ideal) (hPre_dense_tables := hPre_dense_tables)
    ∧ quiescent_Reference6Ideal (hReference6Ideal := hReference6Ideal)
    ∧ quiescent_Reference6Ideal_pre_dense_tables (hReference6Ideal := hReference6Ideal) (hPre_dense_tables := hPre_dense_tables)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_rows_held (hKernel2Ideal := hKernel2Ideal) (hReference2Ideal := hReference2Ideal) (hPre_tiles_first := hPre_tiles_first) (hOn_rows_held := hOn_rows_held)
    ∧ preserves_Kernel3_Kernel3Ideal
    ∧ algebraic_Kernel3Ideal_Reference3Ideal_on_halves_held (hKernel3Ideal := hKernel3Ideal) (hReference3Ideal := hReference3Ideal) (hPre_halves_first := hPre_halves_first) (hOn_halves_held := hOn_halves_held)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_dense_tables := hPre_dense_tables)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_halves_held.lean ====
abbrev S23552x7168 : Shape := ⟨2, ![23552, 7168]⟩
abbrev S16x7168x2048 : Shape := ⟨3, ![16, 7168, 2048]⟩
abbrev S23 : Shape := ⟨1, ![23]⟩
abbrev S46 : Shape := ⟨1, ![46]⟩
abbrev S_ : Shape := ⟨0, ![]⟩
abbrev S1x46x1x1 : Shape := ⟨4, ![1, 46, 1, 1]⟩
abbrev S16x46x512x128 : Shape := ⟨4, ![16, 46, 512, 128]⟩
abbrev S16x23552x128 : Shape := ⟨3, ![16, 23552, 128]⟩

class Facts : Prop where
  bcast_S_S46 : S_.BroadcastsInDim S46 (![] : Fin 0 → Fin S46.rank)
  bcast_S46_S1x46x1x1_1 : S46.BroadcastsInDim S1x46x1x1 (![1] : Fin 1 → Fin S1x46x1x1.rank)
  bcast_S1x46x1x1_S16x46x512x128_0_1_2_3 : S1x46x1x1.BroadcastsInDim S16x46x512x128 (![0, 1, 2, 3] : Fin 4 → Fin S16x46x512x128.rank)
  shapeCasts_S16x46x512x128_S16x23552x128 : S16x46x512x128.ShapeCasts S16x23552x128

variable [Facts]

def fn {F : FTy → Type} [FloatOps F] (main_arg0 : FVec F S23552x7168 .bf16) (main_arg1 : FVec F S16x7168x2048 .f32) (main_arg2 : IVec S23 32) (main_arg3 : IVec S46 32) (main_arg4 : IVec S46 32) : IVec S16x23552x128 1 :=
  let main_c : IVec S_ 32 := constantI S_ 32 0#32
  let main_v0 : IVec S46 32 := broadcastInDim S46 ![] bcast_S_S46 main_c
  let main_v1 : IVec S46 1 := cmpi .sgt main_arg3 main_v0
  let main_v2 : IVec S1x46x1x1 1 := broadcastInDim S1x46x1x1 ![1] bcast_S46_S1x46x1x1_1 main_v1
  let main_v3 : IVec S16x46x512x128 1 := broadcastInDim S16x46x512x128 ![0, 1, 2, 3] bcast_S1x46x1x1_S16x46x512x128_0_1_2_3 main_v2
  let main_v4 : IVec S16x23552x128 1 := shapeCast S16x23552x128 main_v3 shapeCasts_S16x46x512x128_S16x23552x128
  main_v4
-- ==== On_rows_held.lean ====
abbrev S23552x2048 : Shape := ⟨2, ![23552, 2048]⟩
abbrev S16x2048x7168 : Shape := ⟨3, ![16, 2048, 7168]⟩
abbrev S23 : Shape := ⟨1, ![23]⟩
abbrev S2 : Shape := ⟨1, ![2]⟩
abbrev S23x1 : Shape := ⟨2, ![23, 1]⟩
abbrev S1x2 : Shape := ⟨2, ![1, 2]⟩
abbrev S23x2 : Shape := ⟨2, ![23, 2]⟩
abbrev S23x2x1x1 : Shape := ⟨4, ![23, 2, 1, 1]⟩
abbrev S23x2x512x7168 : Shape := ⟨4, ![23, 2, 512, 7168]⟩
abbrev S23552x7168 : Shape := ⟨2, ![23552, 7168]⟩

class Facts : Prop where
  bcast_S23_S23x1_0 : S23.BroadcastsInDim S23x1 (![0] : Fin 1 → Fin S23x1.rank)
  bcast_S2_S1x2_1 : S2.BroadcastsInDim S1x2 (![1] : Fin 1 → Fin S1x2.rank)
  bcast_S23x1_S23x2_0_1 : S23x1.BroadcastsInDim S23x2 (![0, 1] : Fin 2 → Fin S23x2.rank)
  bcast_S1x2_S23x2_0_1 : S1x2.BroadcastsInDim S23x2 (![0, 1] : Fin 2 → Fin S23x2.rank)
  bcast_S23x2_S23x2x1x1_0_1 : S23x2.BroadcastsInDim S23x2x1x1 (![0, 1] : Fin 2 → Fin S23x2x1x1.rank)
  bcast_S23x2x1x1_S23x2x512x7168_0_1_2_3 : S23x2x1x1.BroadcastsInDim S23x2x512x7168 (![0, 1, 2, 3] : Fin 4 → Fin S23x2x512x7168.rank)
  shapeCasts_S23x2x512x7168_S23552x7168 : S23x2x512x7168.ShapeCasts S23552x7168

variable [Facts]

def fn {F : FTy → Type} [FloatOps F] (main_arg0 : FVec F S23552x2048 .bf16) (main_arg1 : FVec F S16x2048x7168 .f32) (main_arg2 : FVec F S16x2048x7168 .f32) (main_arg3 : IVec S23 32) (main_arg4 : IVec S23 32) (main_arg5 : IVec S23 32) : IVec S23552x7168 1 :=
  let main_v0 : IVec S2 32 := iotaInDim S2 32 0
  let main_v1 : IVec S23x1 32 := broadcastInDim S23x1 ![0] bcast_S23_S23x1_0 main_arg4
  let main_v2 : IVec S1x2 32 := broadcastInDim S1x2 ![1] bcast_S2_S1x2_1 main_v0
  let main_v3 : IVec S23x2 32 := broadcastInDim S23x2 ![0, 1] bcast_S23x1_S23x2_0_1 main_v1
  let main_v4 : IVec S23x2 32 := broadcastInDim S23x2 ![0, 1] bcast_S1x2_S23x2_0_1 main_v2
  let main_v5 : IVec S23x2 1 := cmpi .sgt main_v3 main_v4
  let main_v6 : IVec S23x2x1x1 1 := broadcastInDim S23x2x1x1 ![0, 1] bcast_S23x2_S23x2x1x1_0_1 main_v5
  let main_v7 : IVec S23x2x512x7168 1 := broadcastInDim S23x2x512x7168 ![0, 1, 2, 3] bcast_S23x2x1x1_S23x2x512x7168_0_1_2_3 main_v6
  let main_v8 : IVec S23552x7168 1 := shapeCast S23552x7168 main_v7 shapeCasts_S23x2x512x7168_S23552x7168
  main_v8
-- ==== Pre_dense_tables.lean ====
abbrev S8192x2048 : Shape := ⟨2, ![8192, 2048]⟩
abbrev S2x2048x7168 : Shape := ⟨3, ![2, 2048, 7168]⟩
abbrev S8 : Shape := ⟨1, ![8]⟩
abbrev S1 : Shape := ⟨1, ![1]⟩
abbrev S_ : Shape := ⟨0, ![]⟩

class Facts : Prop where
  slices_S8_S1_0 : S8.Slices ![0] S1
  shapeCasts_S1_S_ : S1.ShapeCasts S_
  bcast_S_S8 : S_.BroadcastsInDim S8 (![] : Fin 0 → Fin S8.rank)
  reducesTo_S8_S_d0 : S8.ReducesTo [0] S_
  h_S_ : 0 < S_.numel

variable [Facts]

def fn_part1 {F : FTy → Type} [FloatOps F] (main_v16 : IVec S_ 1) (main_v18 : IVec S8 1) : IVec S_ 1 :=
  let main_c_4 : IVec S_ 1 := constantI S_ 1 1#1
  let main_v19 : IVec S_ 1 := (fun x v => Host.reduce IntOp.andi x v reducesTo_S8_S_d0 h_S_) main_v18 main_c_4
  let main_v20 : IVec S_ 1 := andi main_v16 main_v19
  main_v20

def fn {F : FTy → Type} [FloatOps F] (main_arg0 : FVec F S8192x2048 .bf16) (main_arg1 : FVec F S2x2048x7168 .f32) (main_arg2 : FVec F S2x2048x7168 .f32) (main_arg3 : IVec S8 32) (main_arg4 : IVec S8 32) (main_arg5 : IVec S8 32) : IVec S_ 1 :=
  let main_v0 : IVec S1 32 := (extractStridedSlice S1 ![0] · slices_S8_S1_0) main_arg3
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S8_S1_0) main_arg3
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  let main_v7 : IVec S1 32 := (extractStridedSlice S1 ![0] · slices_S8_S1_0) main_arg3
  let main_v8 : IVec S_ 32 := shapeCast S_ main_v7 shapeCasts_S1_S_
  let main_v9 : IVec S8 32 := broadcastInDim S8 ![] bcast_S_S8 main_v8
  let main_v10 : IVec S8 1 := cmpi .eq main_arg3 main_v9
  let main_c_1 : IVec S_ 1 := constantI S_ 1 1#1
  let main_v11 : IVec S_ 1 := (fun x v => Host.reduce IntOp.andi x v reducesTo_S8_S_d0 h_S_) main_v10 main_c_1
  let main_v12 : IVec S_ 1 := andi main_v6 main_v11
  let main_c_2 : IVec S_ 32 := constantI S_ 32 2#32
  let main_v13 : IVec S8 32 := broadcastInDim S8 ![] bcast_S_S8 main_c_2
  let main_v14 : IVec S8 1 := cmpi .eq main_arg4 main_v13
  let main_c_3 : IVec S_ 1 := constantI S_ 1 1#1
  let main_v15 : IVec S_ 1 := (fun x v => Host.reduce IntOp.andi x v reducesTo_S8_S_d0 h_S_) main_v14 main_c_3
  let main_v16 : IVec S_ 1 := andi main_v12 main_v15
  let main_v17 : IVec S8 32 := iotaInDim S8 32 0
  let main_v18 : IVec S8 1 := cmpi .eq main_arg5 main_v17
  fn_part1 (F := F) main_v16 main_v18
-- ==== Pre_finite.lean ====
abbrev S32 : Shape := ⟨1, ![32]⟩
abbrev S8192x2048 : Shape := ⟨2, ![8192, 2048]⟩
abbrev S8192x512 : Shape := ⟨2, ![8192, 512]⟩
abbrev S8192x3072 : Shape := ⟨2, ![8192, 3072]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S32 .f32) (main_arg1 : FVec F S8192x2048 .bf16) (main_arg2 : FVec F S8192x512 .f32) (main_arg3 : FVec F S8192x3072 .f32) : IVec S_ 1 :=
  let main_v0 : FVec F S32 .f32 := Host.absf main_arg0
  let main_cst : FVec F S_ .f32 := constant S_ .f32 0x7F800000#32
  let main_v1 : FVec F S32 .f32 := broadcastInDim S32 ![] bcast_S_S32 main_cst
  let main_v2 : IVec S32 1 := cmpf .olt main_v0 main_v1
  let main_c : IVec S_ 1 := constantI S_ 1 1#1
  let main_v3 : IVec S_ 1 := (fun x v => Host.reduce IntOp.andi x v reducesTo_S32_S_d0 h_S_) main_v2 main_c
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v3 main_v8
  let main_v10 : FVec F S8192x512 .f32 := Host.absf main_arg2
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v9 main_v13
  main_v14
-- ==== Pre_halves_first.lean ====
abbrev S23552x7168 : Shape := ⟨2, ![23552, 7168]⟩
abbrev S16x7168x2048 : Shape := ⟨3, ![16, 7168, 2048]⟩
abbrev S23 : Shape := ⟨1, ![23]⟩
abbrev S46 : Shape := ⟨1, ![46]⟩
abbrev S45 : Shape := ⟨1, ![45]⟩
abbrev S23x2 : Shape := ⟨2, ![23, 2]⟩
abbrev S_ : Shape := ⟨0, ![]⟩
abbrev S1 : Shape := ⟨1, ![1]⟩
abbrev S23x1 : Shape := ⟨2, ![23, 1]⟩
abbrev S22x1 : Shape := ⟨2, ![22, 1]⟩
abbrev S22 : Shape := ⟨1, ![22]⟩

class Facts : Prop where
  shapeCasts_S46_S23x2 : S46.ShapeCasts S23x2
  bcast_S_S23 : S_.BroadcastsInDim S23 (![] : Fin 0 → Fin S23.rank)
  reducesTo_S23_S_d0 : S23.ReducesTo [0] S_
  h_S_ : 0 < S_.numel
  slices_S46_S1_0 : S46.Slices ![0] S1
  shapeCasts_S1_S_ : S1.ShapeCasts S_
  slices_S23x2_S23x1_0_1 : S23x2.Slices ![0, 1] S23x1
  shapeCasts_S23x1_S23 : S23x1.ShapeCasts S23
  slices_S23x2_S23x1_0_0 : S23x2.Slices ![0, 0] S23x1
  slices_S23x2_S22x1_1_0 : S23x2.Slices ![1, 0] S22x1
  shapeCasts_S22x1_S22 : S22x1.ShapeCasts S22
  bcast_S_S22 : S_.BroadcastsInDim S22 (![] : Fin 0 → Fin S22.rank)
  slices_S23x2_S22x1_0_0 : S23x2.Slices ![0, 0] S22x1
  reducesTo_S22_S_d0 : S22.ReducesTo [0] S_
  slices_S46_S45_1 : S46.Slices ![1] S45
  bcast_S_S45 : S_.BroadcastsInDim S45 (![] : Fin 0 → Fin S45.rank)
  slices_S46_S45_0 : S46.Slices ![0] S45
  reducesTo_S45_S_d0 : S45.ReducesTo [0] S_

variable [Facts]

def fn_where {F : FTy → Type} [FloatOps F] (arg0 : IVec S45 1) (arg1 : IVec S45 32) (arg2 : IVec S45 32) : IVec S45 32 :=
  let v0 : IVec S45 32 := select arg0 arg1 arg2
  v0

def fn_part2 {F : FTy → Type} [FloatOps F] (main_arg3 : IVec S46 32) (main_arg4 : IVec S46 32) (main_v0 : IVec S45 32) (main_v33 : IVec S_ 1) (main_v36 : IVec S45 1) : IVec S_ 1 :=
  let main_v37 : IVec S45 32 := (extractStridedSlice S45 ![1] · slices_S46_S45_1) main_arg4
  let main_v38 : IVec S45 32 := (extractStridedSlice S45 ![0] · slices_S46_S45_0) main_arg3
  let main_c_10 : IVec S_ 32 := constantI S_ 32 0#32
  let main_v39 : IVec S45 32 := broadcastInDim S45 ![] bcast_S_S45 main_c_10
  let main_v40 : IVec S45 1 := cmpi .sgt main_v38 main_v39
  let main_v41 : IVec S45 32 := (extractStridedSlice S45 ![0] · slices_S46_S45_0) main_arg4
  let main_v42 : IVec S45 32 := fn_where (F := F) main_v40 main_v0 main_v41
  let main_v43 : IVec S45 1 := cmpi .eq main_v37 main_v42
  let main_v44 : IVec S45 1 := ori main_v36 main_v43
  let main_c_11 : IVec S_ 1 := constantI S_ 1 1#1
  let main_v45 : IVec S_ 1 := (fun x v => Host.reduce IntOp.andi x v reducesTo_S45_S_d0 h_S_) main_v44 main_c_11
  let main_v46 : IVec S_ 1 := andi main_v33 main_v45
  main_v46

def fn_part1 {F : FTy → Type} [FloatOps F] (main_arg3 : IVec S46 32) (main_arg4 : IVec S46 32) (main_v0 : IVec S45 32) (main_v1 : IVec S23x2 32) (main_v11 : IVec S_ 1) (main_v15 : IVec S23 1) (main_v17 : IVec S23 32) (main_c_4 : IVec S_ 32) : IVec S_ 1 :=
  let main_v18 : IVec S23 32 := broadcastInDim S23 ![] bcast_S_S23 main_c_4
  let main_v19 : IVec S23 1 := cmpi .sgt main_v17 main_v18
  let main_v20 : IVec S23 1 := ori main_v15 main_v19
  let main_c_5 : IVec S_ 1 := constantI S_ 1 1#1
  let main_v21 : IVec S_ 1 := (fun x v => Host.reduce IntOp.andi x v reducesTo_S23_S_d0 h_S_) main_v20 main_c_5
  let main_v22 : IVec S_ 1 := andi main_v11 main_v21
  let main_v23 : IVec S22x1 32 := (extractStridedSlice S22x1 ![1, 0] · slices_S23x2_S22x1_1_0) main_v1
  let main_v24 : IVec S22 32 := shapeCast S22 main_v23 shapeCasts_S22x1_S22
  let main_c_6 : IVec S_ 32 := constantI S_ 32 0#32
  let main_v25 : IVec S22 32 := broadcastInDim S22 ![] bcast_S_S22 main_c_6
  let main_v26 : IVec S22 1 := cmpi .sle main_v24 main_v25
  let main_v27 : IVec S22x1 32 := (extractStridedSlice S22x1 ![0, 0] · slices_S23x2_S22x1_0_0) main_v1
  let main_v28 : IVec S22 32 := shapeCast S22 main_v27 shapeCasts_S22x1_S22
  let main_c_7 : IVec S_ 32 := constantI S_ 32 0#32
  let main_v29 : IVec S22 32 := broadcastInDim S22 ![] bcast_S_S22 main_c_7
  let main_v30 : IVec S22 1 := cmpi .sgt main_v28 main_v29
  let main_v31 : IVec S22 1 := ori main_v26 main_v30
  let main_c_8 : IVec S_ 1 := constantI S_ 1 1#1
  let main_v32 : IVec S_ 1 := (fun x v => Host.reduce IntOp.andi x v reducesTo_S22_S_d0 h_S_) main_v31 main_c_8
  let main_v33 : IVec S_ 1 := andi main_v22 main_v32
  let main_v34 : IVec S45 32 := (extractStridedSlice S45 ![1] · slices_S46_S45_1) main_arg3
  let main_c_9 : IVec S_ 32 := constantI S_ 32 0#32
  let main_v35 : IVec S45 32 := broadcastInDim S45 ![] bcast_S_S45 main_c_9
  let main_v36 : IVec S45 1 := cmpi .sgt main_v34 main_v35
  fn_part2 (F := F) main_arg3 main_arg4 main_v0 main_v33 main_v36

def fn {F : FTy → Type} [FloatOps F] (main_arg0 : FVec F S23552x7168 .bf16) (main_arg1 : FVec F S16x7168x2048 .f32) (main_arg2 : IVec S23 32) (main_arg3 : IVec S46 32) (main_arg4 : IVec S46 32) : IVec S_ 1 :=
  let main_v0 : IVec S45 32 := iotaInDim S45 32 0
  let main_v1 : IVec S23x2 32 := shapeCast S23x2 main_arg3 shapeCasts_S46_S23x2
  let main_c : IVec S_ 32 := constantI S_ 32 0#32
  let main_v2 : IVec S23 32 := broadcastInDim S23 ![] bcast_S_S23 main_c
  let main_v3 : IVec S23 1 := cmpi .sge main_arg2 main_v2
  let main_c_0 : IVec S_ 32 := constantI S_ 32 16#32
  let main_v4 : IVec S23 32 := broadcastInDim S23 ![] bcast_S_S23 main_c_0
  let main_v5 : IVec S23 1 := cmpi .slt main_arg2 main_v4
  let main_v6 : IVec S23 1 := andi main_v3 main_v5
  let main_c_1 : IVec S_ 1 := constantI S_ 1 1#1
  let main_v7 : IVec S_ 1 := (fun x v => Host.reduce IntOp.andi x v reducesTo_S23_S_d0 h_S_) main_v6 main_c_1
  let main_v8 : IVec S1 32 := (extractStridedSlice S1 ![0] · slices_S46_S1_0) main_arg3
  let main_v9 : IVec S_ 32 := shapeCast S_ main_v8 shapeCasts_S1_S_
  let main_c_2 : IVec S_ 32 := constantI S_ 32 0#32
  let main_v10 : IVec S_ 1 := cmpi .sgt main_v9 main_c_2
  let main_v11 : IVec S_ 1 := andi main_v7 main_v10
  let main_v12 : IVec S23x1 32 := (extractStridedSlice S23x1 ![0, 1] · slices_S23x2_S23x1_0_1) main_v1
  let main_v13 : IVec S23 32 := shapeCast S23 main_v12 shapeCasts_S23x1_S23
  let main_c_3 : IVec S_ 32 := constantI S_ 32 0#32
  let main_v14 : IVec S23 32 := broadcastInDim S23 ![] bcast_S_S23 main_c_3
  let main_v15 : IVec S23 1 := cmpi .sle main_v13 main_v14
  let main_v16 : IVec S23x1 32 := (extractStridedSlice S23x1 ![0, 0] · slices_S23x2_S23x1_0_0) main_v1
  let main_v17 : IVec S23 32 := shapeCast S23 main_v16 shapeCasts_S23x1_S23
  let main_c_4 : IVec S_ 32 := constantI S_ 32 0#32
  fn_part1 (F := F) main_arg3 main_arg4 main_v0 main_v1 main_v11 main_v15 main_v17 main_c_4
-- ==== Pre_tiles_first.lean ====
abbrev S23552x2048 : Shape := ⟨2, ![23552, 2048]⟩
abbrev S16x2048x7168 : Shape := ⟨3, ![16, 2048, 7168]⟩
abbrev S23 : Shape := ⟨1, ![23]⟩
abbrev S22 : Shape := ⟨1, ![22]⟩
abbrev S_ : Shape := ⟨0, ![]⟩
abbrev S1 : Shape := ⟨1, ![1]⟩

class Facts : Prop where
  bcast_S_S22 : S_.BroadcastsInDim S22 (![] : Fin 0 → Fin S22.rank)
  bcast_S_S23 : S_.BroadcastsInDim S23 (![] : Fin 0 → Fin S23.rank)
  reducesTo_S23_S_d0 : S23.ReducesTo [0] S_
  h_S_ : 0 < S_.numel
  slices_S23_S1_0 : S23.Slices ![0] S1
  shapeCasts_S1_S_ : S1.ShapeCasts S_
  slices_S23_S22_1 : S23.Slices ![1] S22
  slices_S23_S22_0 : S23.Slices ![0] S22
  reducesTo_S22_S_d0 : S22.ReducesTo [0] S_

variable [Facts]

def fn_where {F : FTy → Type} [FloatOps F] (arg0 : IVec S22 1) (arg1 : IVec S22 32) (arg2 : IVec S22 32) : IVec S22 32 :=
  let v0 : IVec S22 32 := select arg0 arg1 arg2
  v0

def fn_part2 {F : FTy → Type} [FloatOps F] (main_arg5 : IVec S23 32) (main_v2 : IVec S22 32) (main_v32 : IVec S_ 1) (main_v33 : IVec S22 32) (main_v34 : IVec S22 32) (main_c_11 : IVec S_ 32) : IVec S_ 1 :=
  let main_v35 : IVec S22 32 := broadcastInDim S22 ![] bcast_S_S22 main_c_11
  let main_v36 : IVec S22 1 := cmpi .sgt main_v34 main_v35
  let main_v37 : IVec S22 32 := (extractStridedSlice S22 ![0] · slices_S23_S22_0) main_arg5
  let main_v38 : IVec S22 32 := fn_where (F := F) main_v36 main_v2 main_v37
  let main_v39 : IVec S22 1 := cmpi .eq main_v33 main_v38
  let main_c_12 : IVec S_ 1 := constantI S_ 1 1#1
  let main_v40 : IVec S_ 1 := (fun x v => Host.reduce IntOp.andi x v reducesTo_S22_S_d0 h_S_) main_v39 main_c_12
  let main_v41 : IVec S_ 1 := andi main_v32 main_v40
  main_v41

def fn_part1 {F : FTy → Type} [FloatOps F] (main_arg4 : IVec S23 32) (main_arg5 : IVec S23 32) (main_v2 : IVec S22 32) (main_v16 : IVec S_ 1) (main_c_5 : IVec S_ 32) : IVec S_ 1 :=
  let main_v17 : IVec S23 32 := broadcastInDim S23 ![] bcast_S_S23 main_c_5
  let main_v18 : IVec S23 1 := cmpi .sge main_arg4 main_v17
  let main_c_6 : IVec S_ 32 := constantI S_ 32 2#32
  let main_v19 : IVec S23 32 := broadcastInDim S23 ![] bcast_S_S23 main_c_6
  let main_v20 : IVec S23 1 := cmpi .sle main_arg4 main_v19
  let main_v21 : IVec S23 1 := andi main_v18 main_v20
  let main_c_7 : IVec S_ 1 := constantI S_ 1 1#1
  let main_v22 : IVec S_ 1 := (fun x v => Host.reduce IntOp.andi x v reducesTo_S23_S_d0 h_S_) main_v21 main_c_7
  let main_v23 : IVec S_ 1 := andi main_v16 main_v22
  let main_v24 : IVec S22 32 := (extractStridedSlice S22 ![1] · slices_S23_S22_1) main_arg4
  let main_c_8 : IVec S_ 32 := constantI S_ 32 0#32
  let main_v25 : IVec S22 32 := broadcastInDim S22 ![] bcast_S_S22 main_c_8
  let main_v26 : IVec S22 1 := cmpi .sle main_v24 main_v25
  let main_v27 : IVec S22 32 := (extractStridedSlice S22 ![0] · slices_S23_S22_0) main_arg4
  let main_c_9 : IVec S_ 32 := constantI S_ 32 0#32
  let main_v28 : IVec S22 32 := broadcastInDim S22 ![] bcast_S_S22 main_c_9
  let main_v29 : IVec S22 1 := cmpi .sgt main_v27 main_v28
  let main_v30 : IVec S22 1 := ori main_v26 main_v29
  let main_c_10 : IVec S_ 1 := constantI S_ 1 1#1
  let main_v31 : IVec S_ 1 := (fun x v => Host.reduce IntOp.andi x v reducesTo_S22_S_d0 h_S_) main_v30 main_c_10
  let main_v32 : IVec S_ 1 := andi main_v23 main_v31
  let main_v33 : IVec S22 32 := (extractStridedSlice S22 ![1] · slices_S23_S22_1) main_arg5
  let main_v34 : IVec S22 32 := (extractStridedSlice S22 ![1] · slices_S23_S22_1) main_arg4
  let main_c_11 : IVec S_ 32 := constantI S_ 32 0#32
  fn_part2 (F := F) main_arg5 main_v2 main_v32 main_v33 main_v34 main_c_11

def fn {F : FTy → Type} [FloatOps F] (main_arg0 : FVec F S23552x2048 .bf16) (main_arg1 : FVec F S16x2048x7168 .f32) (main_arg2 : FVec F S16x2048x7168 .f32) (main_arg3 : IVec S23 32) (main_arg4 : IVec S23 32) (main_arg5 : IVec S23 32) : IVec S_ 1 :=
  let main_v0 : IVec S22 32 := iotaInDim S22 32 0
  let main_c : IVec S_ 32 := constantI S_ 32 1#32
  let main_v1 : IVec S22 32 := broadcastInDim S22 ![] bcast_S_S22 main_c
  let main_v2 : IVec S22 32 := addi main_v1 main_v0
  let main_c_0 : IVec S_ 32 := constantI S_ 32 0#32
  let main_v3 : IVec S23 32 := broadcastInDim S23 ![] bcast_S_S23 main_c_0
  let main_v4 : IVec S23 1 := cmpi .sge main_arg3 main_v3
  let main_c_1 : IVec S_ 32 := constantI S_ 32 16#32
  let main_v5 : IVec S23 32 := broadcastInDim S23 ![] bcast_S_S23 main_c_1
  let main_v6 : IVec S23 1 := cmpi .slt main_arg3 main_v5
  let main_v7 : IVec S23 1 := andi main_v4 main_v6
  let main_c_2 : IVec S_ 1 := constantI S_ 1 1#1
  let main_v8 : IVec S_ 1 := (fun x v => Host.reduce IntOp.andi x v reducesTo_S23_S_d0 h_S_) main_v7 main_c_2
  let main_v9 : IVec S1 32 := (extractStridedSlice S1 ![0] · slices_S23_S1_0) main_arg4
  let main_v10 : IVec S_ 32 := shapeCast S_ main_v9 shapeCasts_S1_S_
  let main_c_3 : IVec S_ 32 := constantI S_ 32 0#32
  let main_v11 : IVec S_ 1 := cmpi .sgt main_v10 main_c_3
  let main_v12 : IVec S_ 1 := andi main_v8 main_v11
  let main_v13 : IVec S1 32 := (extractStridedSlice S1 ![0] · slices_S23_S1_0) main_arg5
  let main_v14 : IVec S_ 32 := shapeCast S_ main_v13 shapeCasts_S1_S_
  let main_c_4 : IVec S_ 32 := constantI S_ 32 0#32
  let main_v15 : IVec S_ 1 := cmpi .eq main_v14 main_c_4
  let main_v16 : IVec S_ 1 := andi main_v12 main_v15
  let main_c_5 : IVec S_ 32 := constantI S_ 32 0#32
  fn_part1 (F := F) main_arg4 main_arg5 main_v2 main_v16 main_c_5
-- ==== Kernel.lean ====
abbrev S32 : Shape := ⟨1, ![32]⟩
abbrev S8192x2048 : Shape := ⟨2, ![8192, 2048]⟩
abbrev S8192x512 : Shape := ⟨2, ![8192, 512]⟩
abbrev S8192x3072 : Shape := ⟨2, ![8192, 3072]⟩
abbrev S_ : Shape := ⟨0, ![]⟩
abbrev S128x2048 : Shape := ⟨2, ![128, 2048]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 19
  | .vmem => 12
  | .smem => 2
  | _ => 0

abbrev bufTy : (tb : Table) → Fin (tcTables nBuf tb) → BufTy
  | .hbm, ⟨0, _⟩ => ⟨S32, .f32⟩
  | .hbm, ⟨1, _⟩ => ⟨S8192x2048, .bf16⟩
  | .hbm, ⟨2, _⟩ => ⟨S8192x512, .f32⟩
  | .hbm, ⟨3, _⟩ => ⟨S8192x3072, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x2048, .bf16⟩
  | .local _ .vmem, ⟨11, _⟩ => ⟨S128x2048, .bf16⟩
  | .local _ .smem, ⟨0, _⟩ => ⟨S32, .f32⟩
  | .local _ .smem, ⟨1, _⟩ => ⟨S32, .f32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32 : Shape := ⟨1, ![32]⟩
abbrev S8192x2048 : Shape := ⟨2, ![8192, 2048]⟩
abbrev S8192x512 : Shape := ⟨2, ![8192, 512]⟩
abbrev S8192x3072 : Shape := ⟨2, ![8192, 3072]⟩
abbrev S2x4096x8x4x64 : Shape := ⟨5, ![2, 4096, 8, 4, 64]⟩
abbrev S2x4096x8x64 : Shape := ⟨4, ![2, 4096, 8, 64]⟩
abbrev S2x8x4096x4096x4 : Shape := ⟨5, ![2, 8, 4096, 4096, 4]⟩
abbrev S2x8x4x4096x4096 : Shape := ⟨5, ![2, 8, 4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4 : Shape := ⟨2, ![8, 4]⟩
abbrev S1x8x4x1x1 : Shape := ⟨5, ![1, 8, 4, 1, 1]⟩
abbrev S1x1x1x4096x4096 : Shape := ⟨5, ![1, 1, 1, 4096, 4096]⟩
abbrev S1x8x4x4096x4096 : Shape := ⟨5, ![1, 8, 4, 4096, 4096]⟩
abbrev S2x8x4x4096 : Shape := ⟨4, ![2, 8, 4, 4096]⟩
abbrev S2x8x4x4096x1 : Shape := ⟨5, ![2, 8, 4, 4096, 1]⟩
abbrev S2x8x64x4x4096 : Shape := ⟨5, ![2, 8, 64, 4, 4096]⟩

abbrev nBuf : Space → Nat
  | .hbm => 75
  | .vmem => 0
  | .smem => 0
  | _ => 0

abbrev bufTy : (tb : Table) → Fin (tcTables nBuf tb) → BufTy
  | .hbm, ⟨0, _⟩ => ⟨S32, .f32⟩
  | .hbm, ⟨1, _⟩ => ⟨S8192x2048, .bf16⟩
  | .hbm, ⟨2, _⟩ => ⟨S8192x512, .f32⟩
  | .hbm, ⟨3, _⟩ => ⟨S8192x3072, .f32⟩
  | .hbm, ⟨4, _⟩ => ⟨S8192x2048, .f32⟩
  | .hbm, ⟨5, _⟩ => ⟨S2x4096x8x4x64, .f32⟩
  | .hbm, ⟨6, _⟩ => ⟨S2x4096x8x64, .f32⟩
  | .hbm, ⟨7, _⟩ => ⟨S8192x512, .f32⟩
  | .hbm, ⟨8, _⟩ => ⟨S2x4096x8x64, .f32⟩
  | .hbm, ⟨9, _⟩ => ⟨S2x8x4096x4096x4, .f32⟩
  | .hbm, ⟨10, _⟩ => ⟨S2x8x4x4096x4096, .f32⟩
  | .hbm, ⟨11, _⟩ => ⟨S4096, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S8x4, .f32⟩
  | .hbm, ⟨39, _⟩ => ⟨S1x8x4x1x1, .f32⟩
  | .hbm, ⟨40, _⟩ => ⟨S4096x4096, .f32⟩
  | .hbm, ⟨41, _⟩ => ⟨S1x1x1x4096x4096, .f32⟩
  | .hbm, ⟨42, _⟩ => ⟨S1x8x4x4096x4096, .f32⟩
  | .hbm, ⟨43, _⟩ => ⟨S1x8x4x4096x4096, .f32⟩
  | .hbm, ⟨44, _⟩ => ⟨S1x8x4x4096x4096, .f32⟩
  | .hbm, ⟨45, _⟩ => ⟨S2x8x4x4096x4096, .f32⟩
  | .hbm, ⟨46, _⟩ => ⟨S2x8x4x4096x4096, .f32⟩
  | .hbm, ⟨47, _⟩ => ⟨S_, .f32⟩
  | .hbm, ⟨48, _⟩ => ⟨S_, .f32⟩
  | .hbm, ⟨49, _⟩ => ⟨S2x8x4x4096x4096, .i1⟩
  | .hbm, ⟨50, _⟩ => ⟨S2x8x4x4096x4096, .f32⟩
  | .hbm, ⟨51, _⟩ => ⟨S2x8x4x4096x4096, .f32⟩
  | .hbm, ⟨52, _⟩ => ⟨S8x4, .f32⟩
  | .hbm, ⟨53, _⟩ => ⟨S1x8x4x1x1, .f32⟩
  | .hbm, ⟨54, _⟩ => ⟨S_, .f32⟩
  | .hbm, ⟨55, _⟩ => ⟨S2x8x4x4096, .f32⟩
  | .hbm, ⟨56, _⟩ => ⟨S2x8x4x4096x1, .f32⟩
  | .hbm, ⟨57, _⟩ => ⟨S2x8x4x4096x1, .f32⟩
  | .hbm, ⟨58, _⟩ => ⟨S2x8x4x4096x1, .f32⟩
  | .hbm, ⟨59, _⟩ => ⟨S2x8x4x4096x4096, .f32⟩
  | .hbm, ⟨60, _⟩ => ⟨S2x8x4x4096x4096, .f32⟩
  | .hbm, ⟨61, _⟩ => ⟨S2x8x4x4096x4096, .f32⟩
  | .hbm, ⟨62, _⟩ => ⟨S_, .f32⟩
  | .hbm, ⟨63, _⟩ => ⟨S2x8x4x4096, .f32⟩
  | .hbm, ⟨64, _⟩ => ⟨S2x8x4x4096x1, .f32⟩
  | .hbm, ⟨65, _⟩ => ⟨S2x8x4x4096x1, .f32⟩
  | .hbm, ⟨66, _⟩ => ⟨S2x8x4x4096x1, .f32⟩
  | .hbm, ⟨67, _⟩ => ⟨S2x8x4x4096x1, .f32⟩
  | .hbm, ⟨68, _⟩ => ⟨S2x8x4x4096x1, .f32⟩
  | .hbm, ⟨69, _⟩ => ⟨S2x8x4x4096x4096, .f32⟩
  | .hbm, ⟨70, _⟩ => ⟨S2x8x4x4096x4096, .f32⟩
  | .hbm, ⟨71, _⟩ => ⟨S2x8x64x4x4096, .f32⟩
  | .hbm, ⟨72, _⟩ => ⟨S2x4096x8x4x64, .f32⟩
  | .hbm, ⟨73, _⟩ => ⟨S8192x2048, .f32⟩
  | .hbm, ⟨74, _⟩ => ⟨S8192x2048, .bf16⟩
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel2.lean ====
abbrev S23552x2048 : Shape := ⟨2, ![23552, 2048]⟩
abbrev S16x2048x7168 : Shape := ⟨3, ![16, 2048, 7168]⟩
abbrev S23 : Shape := ⟨1, ![23]⟩
abbrev S23552x7168 : Shape := ⟨2, ![23552, 7168]⟩
abbrev S1024x2048 : Shape := ⟨2, ![1024, 2048]⟩
abbrev S1 : Shape := ⟨1, ![1]⟩
abbrev S1x2048x512 : Shape := ⟨3, ![1, 2048, 512]⟩
abbrev S1024x512 : Shape := ⟨2, ![1024, 512]⟩
abbrev S2048x1024 : Shape := ⟨2, ![2048, 1024]⟩
abbrev S2048x512 : Shape := ⟨2, ![2048, 512]⟩
abbrev S1024x1024 : Shape := ⟨2, ![1024, 1024]⟩
abbrev S512x2048 : Shape := ⟨2, ![512, 2048]⟩
abbrev S512x1024 : Shape := ⟨2, ![512, 1024]⟩
abbrev S512x512 : Shape := ⟨2, ![512, 512]⟩

abbrev nBuf : Space → Nat
  | .hbm => 4
  | .vmem => 9
  | .smem => 3
  | _ => 0

abbrev bufTy : (tb : Table) → Fin (tcTables nBuf tb) → BufTy
  | .hbm, ⟨0, _⟩ => ⟨S23552x2048, .bf16⟩
  | .hbm, ⟨1, _⟩ => ⟨S16x2048x7168, .f32⟩
  | .hbm, ⟨2, _⟩ => ⟨S16x2048x7168, .f32⟩
  | .hbm, ⟨3, _⟩ => ⟨S23552x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .smem, ⟨0, _⟩ => ⟨S23, .i32⟩
  | .local _ .smem, ⟨1, _⟩ => ⟨S23, .i32⟩
  | .local _ .smem, ⟨2, _⟩ => ⟨S23, .i32⟩
  | _, _ => ⟨S23552x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 23], ![false, false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v6 : Index := Scalar.indexCast arg1
  ![v6.toNat]
def k0_off3 (i : grid0.Coords) : Fin 1 → Nat :=
  let arg1 : BitVec 32 := BitVec.ofNat 32 (i 1).val
  let c1_i32 : BitVec 32 := 1#32
  let v8 : BitVec 32 := Scalar.subi arg1 c1_i32
  let c0_i32_2 : BitVec 32 := 0#32
  let v9 : BitVec 32 := Scalar.maxsi v8 c0_i32_2
  let v10 : Index := Scalar.indexCast v9
  ![v10.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond3 (v1 : BitVec 32) : BitVec 1 :=
  let c2_i32 : BitVec 32 := 2#32
  let v16 : BitVec 1 := Scalar.cmpi .eq v1 c2_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c1_i32_5 : BitVec 32 := 1#32
  let v19 : BitVec 1 := Scalar.cmpi .eq v1 c1_i32_5
  let v20 : BitVec 32 := Scalar.extui v19
  let c0_i32_6 : BitVec 32 := 0#32
  let v21 : BitVec 1 := Scalar.cmpi .ne v20 c0_i32_6
  v21

def cc0_transform_0 (k0_off1_inb : ∀ i : grid0.Coords, ∀ a, (k0_off1 i) a + S1.size a ≤ S23.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S23) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S23) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S23) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S23.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S23) ![v0.toNat] S1.size (k0_off1_inb i)) numel1_S1
  let c0_i32 : BitVec 32 := 0#32
  ![v1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S23552x2048 : Shape := ⟨2, ![23552, 2048]⟩
abbrev S16x2048x7168 : Shape := ⟨3, ![16, 2048, 7168]⟩
abbrev S23 : Shape := ⟨1, ![23]⟩
abbrev S23x1 : Shape := ⟨2, ![23, 1]⟩
abbrev S23x1024 : Shape := ⟨2, ![23, 1024]⟩
abbrev S23552 : Shape := ⟨1, ![23552]⟩
abbrev S23552x1 : Shape := ⟨2, ![23552, 1]⟩
abbrev S23552x2048x7168 : Shape := ⟨3, ![23552, 2048, 7168]⟩
abbrev S23552x7168 : Shape := ⟨2, ![23552, 7168]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S23552x2048, .bf16⟩
  | .hbm, ⟨1, _⟩ => ⟨S16x2048x7168, .f32⟩
  | .hbm, ⟨2, _⟩ => ⟨S16x2048x7168, .f32⟩
  | .hbm, ⟨3, _⟩ => ⟨S23, .i32⟩
  | .hbm, ⟨4, _⟩ => ⟨S23, .i32⟩
  | .hbm, ⟨5, _⟩ => ⟨S23, .i32⟩
  | .hbm, ⟨6, _⟩ => ⟨S23x1, .i32⟩
  | .hbm, ⟨7, _⟩ => ⟨S23x1024, .i32⟩
  | .hbm, ⟨8, _⟩ => ⟨S23552, .i32⟩
  | .hbm, ⟨9, _⟩ => ⟨S23552x2048, .f32⟩
  | .hbm, ⟨10, _⟩ => ⟨S23552x1, .i32⟩
  | .hbm, ⟨11, _⟩ => ⟨S23552x2048x7168, .f32⟩
  | .hbm, ⟨12, _⟩ => ⟨S23552x7168, .f32⟩
  | .hbm, ⟨13, _⟩ => ⟨S23552x1, .i32⟩
  | .hbm, ⟨14, _⟩ => ⟨S23552x2048x7168, .f32⟩
  | .hbm, ⟨15, _⟩ => ⟨S23552x7168, .f32⟩
  | .hbm, ⟨16, _⟩ => ⟨S23552x7168, .f32⟩
  | .hbm, ⟨17, _⟩ => ⟨S23552x7168, .f32⟩
  | .hbm, ⟨18, _⟩ => ⟨S_, .f32⟩
  | .hbm, ⟨19, _⟩ => ⟨S23552x7168, .f32⟩
  | .hbm, ⟨20, _⟩ => ⟨S23552x7168, .f32⟩
  | .hbm, ⟨21, _⟩ => ⟨S_, .f32⟩
  | .hbm, ⟨22, _⟩ => ⟨S23552x7168, .f32⟩
  | .hbm, ⟨23, _⟩ => ⟨S23552x7168, .f32⟩
  | .hbm, ⟨24, _⟩ => ⟨S23552x7168, .f32⟩
  | .hbm, ⟨25, _⟩ => ⟨S23552x7168, .f32⟩
  | .hbm, ⟨26, _⟩ => ⟨S23552x7168, .bf16⟩
  | _, _ => ⟨S23552x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_call2_v0 : Ref sig .tc := ⟨.hbm, 16, rfl⟩
abbrev main_call2_v1 : Ref sig .tc := ⟨.hbm, 17, rfl⟩
abbrev main_call2_cst : Ref sig .tc := ⟨.hbm, 18, rfl⟩
abbrev main_call2_v2 : Ref sig .tc := ⟨.hbm, 19, rfl⟩
abbrev main_call2_v3 : Ref sig .tc := ⟨.hbm, 20, rfl⟩
abbrev main_call2_cst_0 : Ref sig .tc := ⟨.hbm, 21, rfl⟩
abbrev main_call2_v4 : Ref sig .tc := ⟨.hbm, 22, rfl⟩
abbrev main_call2_v5 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩

abbrev nD : Nat := 1
abbrev τ : Topo := Topo.v7x

variable {F : FTy → Type} [FloatOps F]
-- ==== Kernel3.lean ====
abbrev S23552x7168 : Shape := ⟨2, ![23552, 7168]⟩
abbrev S16x7168x2048 : Shape := ⟨3, ![16, 7168, 2048]⟩
abbrev S23 : Shape := ⟨1, ![23]⟩
abbrev S46 : Shape := ⟨1, ![46]⟩
abbrev S16x23552x128 : Shape := ⟨3, ![16, 23552, 128]⟩
abbrev S512x7168 : Shape := ⟨2, ![512, 7168]⟩
abbrev S1 : Shape := ⟨1, ![1]⟩
abbrev S1x7168x512 : Shape := ⟨3, ![1, 7168, 512]⟩
abbrev S4x512x128 : Shape := ⟨3, ![4, 512, 128]⟩
abbrev S7168x512 : Shape := ⟨2, ![7168, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 3
  | .vmem => 7
  | .smem => 3
  | _ => 0

abbrev bufTy : (tb : Table) → Fin (tcTables nBuf tb) → BufTy
  | .hbm, ⟨0, _⟩ => ⟨S23552x7168, .bf16⟩
  | .hbm, ⟨1, _⟩ => ⟨S16x7168x2048, .f32⟩
  | .hbm, ⟨2, _⟩ => ⟨S16x23552x128, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S4x512x128, .f32⟩
  | .local _ .vmem, ⟨5, _⟩ => ⟨S4x512x128, .f32⟩
  | .local _ .vmem, ⟨6, _⟩ => ⟨S7168x512, .bf16⟩
  | .local _ .smem, ⟨0, _⟩ => ⟨S23, .i32⟩
  | .local _ .smem, ⟨1, _⟩ => ⟨S46, .i32⟩
  | .local _ .smem, ⟨2, _⟩ => ⟨S46, .i32⟩
  | _, _ => ⟨S23552x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 46], ![false, false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let v17 : Index := Scalar.indexCast v16
  ![v17.toNat]
def k0_off2 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v17 : Index := Scalar.indexCast v16
  ![v17.toNat]
def k0_off3 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v51 : Index := Scalar.indexCast v16
  ![v51.toNat]
def k0_off4 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_21 : BitVec 32 := 1#32
  let v53 : BitVec 32 := Scalar.subi v16 c1_i32_21
  let c0_i32_22 : BitVec 32 := 0#32
  let v54 : BitVec 32 := Scalar.maxsi v53 c0_i32_22
  let v55 : Index := Scalar.indexCast v54
  ![v55.toNat]
def k0_cond1 (v35 : BitVec 32) : BitVec 1 :=
  let c0_i32_11 : BitVec 32 := 0#32
  let v36 : BitVec 1 := Scalar.cmpi .sgt v35 c0_i32_11
  let v37 : BitVec 32 := Scalar.extui v36
  let c0_i32_12 : BitVec 32 := 0#32
  let v38 : BitVec 1 := Scalar.cmpi .ne v37 c0_i32_12
  v38

def cc0_transform_0 (k0_off1_inb : ∀ i : grid0.Coords, ∀ a, (k0_off1 i) a + S1.size a ≤ S46.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 1 (Rect.unit (s := S46) ![v17.toNat] S1.size (k0_off1_inb i)) numel1_S1
  let c0_i32_5 : BitVec 32 := 0#32
  let v19 : BitVec 1 := Scalar.cmpi .sgt v18 c0_i32_5
  let v20 : Index := Scalar.indexCast v16
  let v21 : BitVec 32 := pf.at 2 (Rect.unit (s := S46) ![v20.toNat] S1.size (k0_off1_inb i)) numel1_S1
  let c1_i32_6 : BitVec 32 := 1#32
  let v22 : BitVec 32 := Scalar.muli v21 c1_i32_6
  let c1_i32_7 : BitVec 32 := 1#32
  let v23 : BitVec 32 := Scalar.addi v22 c1_i32_7
  let c1_i32_8 : BitVec 32 := 1#32
  let v24 : BitVec 32 := Scalar.subi v23 c1_i32_8
  let v25 : BitVec 32 := Scalar.select v19 arg1 v24
  let c0_i32_9 : BitVec 32 := 0#32
  let c0_i32_10 : BitVec 32 := 0#32
  ![v25.toNat, c0_i32_9.toNat]

def cc0_transform_1 (k0_off2_inb : ∀ i : grid0.Coords, ∀ a, (k0_off2 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S23) ![v17.toNat] S1.size (k0_off2_inb i)) numel1_S1
  let c0_i32_4 : BitVec 32 := 0#32
  let c0_i32_5 : BitVec 32 := 0#32
  ![v18.toNat, c0_i32_4.toNat, arg0.toNat]

def cc0_transform_2 (k0_off1_inb : ∀ i : grid0.Coords, ∀ a, (k0_off1 i) a + S1.size a ≤ S46.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 1 (Rect.unit (s := S46) ![v17.toNat] S1.size (k0_off1_inb i)) numel1_S1
  let c0_i32_5 : BitVec 32 := 0#32
  let v19 : BitVec 1 := Scalar.cmpi .sgt v18 c0_i32_5
  let v20 : Index := Scalar.indexCast v16
  let v21 : BitVec 32 := pf.at 2 (Rect.unit (s := S46) ![v20.toNat] S1.size (k0_off1_inb i)) numel1_S1
  let c1_i32_6 : BitVec 32 := 1#32
  let v22 : BitVec 32 := Scalar.muli v21 c1_i32_6
  let c1_i32_7 : BitVec 32 := 1#32
  let v23 : BitVec 32 := Scalar.addi v22 c1_i32_7
  let c1_i32_8 : BitVec 32 := 1#32
  let v24 : BitVec 32 := Scalar.subi v23 c1_i32_8
  let v25 : BitVec 32 := Scalar.select v19 arg1 v24
  let c0_i32_9 : BitVec 32 := 0#32
  let c0_i32_10 : BitVec 32 := 0#32
  ![arg0.toNat, v25.toNat, c0_i32_9.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S23552x7168 : Shape := ⟨2, ![23552, 7168]⟩
abbrev S16x7168x2048 : Shape := ⟨3, ![16, 7168, 2048]⟩
abbrev S23 : Shape := ⟨1, ![23]⟩
abbrev S46 : Shape := ⟨1, ![46]⟩
abbrev S23x1 : Shape := ⟨2, ![23, 1]⟩
abbrev S23x1024 : Shape := ⟨2, ![23, 1024]⟩
abbrev S23552 : Shape := ⟨1, ![23552]⟩
abbrev S23552x1 : Shape := ⟨2, ![23552, 1]⟩
abbrev S23552x7168x2048 : Shape := ⟨3, ![23552, 7168, 2048]⟩
abbrev S23552x2048 : Shape := ⟨2, ![23552, 2048]⟩
abbrev S23552x16x128 : Shape := ⟨3, ![23552, 16, 128]⟩
abbrev S16x23552x128 : Shape := ⟨3, ![16, 23552, 128]⟩

abbrev nBuf : Space → Nat
  | .hbm => 14
  | .vmem => 0
  | .smem => 0
  | _ => 0

abbrev bufTy : (tb : Table) → Fin (tcTables nBuf tb) → BufTy
  | .hbm, ⟨0, _⟩ => ⟨S23552x7168, .bf16⟩
  | .hbm, ⟨1, _⟩ => ⟨S16x7168x2048, .f32⟩
  | .hbm, ⟨2, _⟩ => ⟨S23, .i32⟩
  | .hbm, ⟨3, _⟩ => ⟨S46, .i32⟩
  | .hbm, ⟨4, _⟩ => ⟨S46, .i32⟩
  | .hbm, ⟨5, _⟩ => ⟨S23x1, .i32⟩
  | .hbm, ⟨6, _⟩ => ⟨S23x1024, .i32⟩
  | .hbm, ⟨7, _⟩ => ⟨S23552, .i32⟩
  | .hbm, ⟨8, _⟩ => ⟨S23552x7168, .f32⟩
  | .hbm, ⟨9, _⟩ => ⟨S23552x1, .i32⟩
  | .hbm, ⟨10, _⟩ => ⟨S23552x7168x2048, .f32⟩
  | .hbm, ⟨11, _⟩ => ⟨S23552x2048, .f32⟩
  | .hbm, ⟨12, _⟩ => ⟨S23552x16x128, .f32⟩
  | .hbm, ⟨13, _⟩ => ⟨S16x23552x128, .f32⟩
  | _, _ => ⟨S23552x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S8192x6144 : Shape := ⟨2, ![8192, 6144]⟩
abbrev S1x3x2048 : Shape := ⟨3, ![1, 3, 2048]⟩
abbrev S8192x2048 : Shape := ⟨2, ![8192, 2048]⟩
abbrev S16x8x2048 : Shape := ⟨3, ![16, 8, 2048]⟩
abbrev S512x2048 : Shape := ⟨2, ![512, 2048]⟩
abbrev S8x2048 : Shape := ⟨2, ![8, 2048]⟩
abbrev S1x8x2048 : Shape := ⟨3, ![1, 8, 2048]⟩
abbrev S1x2048 : Shape := ⟨2, ![1, 2048]⟩
abbrev S1x1x2048 : Shape := ⟨3, ![1, 1, 2048]⟩

abbrev nBuf : Space → Nat
  | .hbm => 4
  | .vmem => 15
  | .smem => 0
  | _ => 0

abbrev bufTy : (tb : Table) → Fin (tcTables nBuf tb) → BufTy
  | .hbm, ⟨0, _⟩ => ⟨S8192x6144, .f32⟩
  | .hbm, ⟨1, _⟩ => ⟨S1x3x2048, .f32⟩
  | .hbm, ⟨2, _⟩ => ⟨S8192x2048, .bf16⟩
  | .hbm, ⟨3, _⟩ => ⟨S16x8x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S1x3x2048, .f32⟩
  | .local _ .vmem, ⟨11, _⟩ => ⟨S512x2048, .bf16⟩
  | .local _ .vmem, ⟨12, _⟩ => ⟨S512x2048, .bf16⟩
  | .local _ .vmem, ⟨13, _⟩ => ⟨S1x8x2048, .f32⟩
  | .local _ .vmem, ⟨14, _⟩ => ⟨S1x8x2048, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let c0_i32_0 : BitVec 32 := 0#32
  ![v4.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x6144 : Shape := ⟨2, ![8192, 6144]⟩
abbrev S1x3x2048 : Shape := ⟨3, ![1, 3, 2048]⟩
abbrev S8192x2048 : Shape := ⟨2, ![8192, 2048]⟩
abbrev S2x4096x2048 : Shape := ⟨3, ![2, 4096, 2048]⟩
abbrev S_ : Shape := ⟨0, ![]⟩
abbrev S2x2x2048 : Shape := ⟨3, ![2, 2, 2048]⟩
abbrev S2x4098x2048 : Shape := ⟨3, ![2, 4098, 2048]⟩
abbrev S3x2048 : Shape := ⟨2, ![3, 2048]⟩
abbrev S1x2048 : Shape := ⟨2, ![1, 2048]⟩
abbrev S2048 : Shape := ⟨1, ![2048]⟩
abbrev S1x1x2048 : Shape := ⟨3, ![1, 1, 2048]⟩
abbrev S16x512x2048 : Shape := ⟨3, ![16, 512, 2048]⟩
abbrev S16x8x2048 : Shape := ⟨3, ![16, 8, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1x3x2048, .f32⟩
  | .hbm, ⟨2, _⟩ => ⟨S8192x2048, .f32⟩
  | .hbm, ⟨3, _⟩ => ⟨S2x4096x2048, .f32⟩
  | .hbm, ⟨4, _⟩ => ⟨S8192x2048, .f32⟩
  | .hbm, ⟨5, _⟩ => ⟨S2x4096x2048, .f32⟩
  | .hbm, ⟨6, _⟩ => ⟨S8192x2048, .f32⟩
  | .hbm, ⟨7, _⟩ => ⟨S2x4096x2048, .f32⟩
  | .hbm, ⟨8, _⟩ => ⟨S_, .f32⟩
  | .hbm, ⟨9, _⟩ => ⟨S2x2x2048, .f32⟩
  | .hbm, ⟨10, _⟩ => ⟨S2x4096x2048, .f32⟩
  | .hbm, ⟨11, _⟩ => ⟨S2x4098x2048, .f32⟩
  | .hbm, ⟨12, _⟩ => ⟨S3x2048, .f32⟩
  | .hbm, ⟨13, _⟩ => ⟨S1x2048, .f32⟩
  | .hbm, ⟨14, _⟩ => ⟨S2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S1x2048, .f32⟩
  | .hbm, ⟨20, _⟩ => ⟨S2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S1x2048, .f32⟩
  | .hbm, ⟨27, _⟩ => ⟨S2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S8192x2048, .f32⟩
  | .hbm, ⟨35, _⟩ => ⟨S8192x2048, .bf16⟩
  | .hbm, ⟨36, _⟩ => ⟨S16x512x2048, .f32⟩
  | .hbm, ⟨37, _⟩ => ⟨S16x8x2048, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩

abbrev nD : Nat := 1
abbrev τ : Topo := Topo.v7x

variable {F : FTy → Type} [FloatOps F]
-- ==== Kernel5.lean ====
abbrev S8192x2048 : Shape := ⟨2, ![8192, 2048]⟩
abbrev S1x2048x6144 : Shape := ⟨3, ![1, 2048, 6144]⟩
abbrev S8192x6144 : Shape := ⟨2, ![8192, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x2048, .f32⟩
  | .hbm, ⟨3, _⟩ => ⟨S2048x6144, .f32⟩
  | .hbm, ⟨4, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8192x2048 : Shape := ⟨2, ![8192, 2048]⟩
abbrev S2x2048x7168 : Shape := ⟨3, ![2, 2048, 7168]⟩
abbrev S8 : Shape := ⟨1, ![8]⟩
abbrev S8192x7168 : Shape := ⟨2, ![8192, 7168]⟩
abbrev S1024x2048 : Shape := ⟨2, ![1024, 2048]⟩
abbrev S1 : Shape := ⟨1, ![1]⟩
abbrev S1x2048x512 : Shape := ⟨3, ![1, 2048, 512]⟩
abbrev S1024x512 : Shape := ⟨2, ![1024, 512]⟩
abbrev S2048x1024 : Shape := ⟨2, ![2048, 1024]⟩
abbrev S2048x512 : Shape := ⟨2, ![2048, 512]⟩
abbrev S1024x1024 : Shape := ⟨2, ![1024, 1024]⟩
abbrev S512x2048 : Shape := ⟨2, ![512, 2048]⟩
abbrev S512x1024 : Shape := ⟨2, ![512, 1024]⟩
abbrev S512x512 : Shape := ⟨2, ![512, 512]⟩

abbrev nBuf : Space → Nat
  | .hbm => 4
  | .vmem => 9
  | .smem => 3
  | _ => 0

abbrev bufTy : (tb : Table) → Fin (tcTables nBuf tb) → BufTy
  | .hbm, ⟨0, _⟩ => ⟨S8192x2048, .bf16⟩
  | .hbm, ⟨1, _⟩ => ⟨S2x2048x7168, .f32⟩
  | .hbm, ⟨2, _⟩ => ⟨S2x2048x7168, .f32⟩
  | .hbm, ⟨3, _⟩ => ⟨S8192x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .smem, ⟨0, _⟩ => ⟨S8, .i32⟩
  | .local _ .smem, ⟨1, _⟩ => ⟨S8, .i32⟩
  | .local _ .smem, ⟨2, _⟩ => ⟨S8, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 8], ![false, false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v6 : Index := Scalar.indexCast arg1
  ![v6.toNat]
def k0_off3 (i : grid0.Coords) : Fin 1 → Nat :=
  let arg1 : BitVec 32 := BitVec.ofNat 32 (i 1).val
  let c1_i32 : BitVec 32 := 1#32
  let v8 : BitVec 32 := Scalar.subi arg1 c1_i32
  let c0_i32_2 : BitVec 32 := 0#32
  let v9 : BitVec 32 := Scalar.maxsi v8 c0_i32_2
  let v10 : Index := Scalar.indexCast v9
  ![v10.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond3 (v1 : BitVec 32) : BitVec 1 :=
  let c2_i32 : BitVec 32 := 2#32
  let v16 : BitVec 1 := Scalar.cmpi .eq v1 c2_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c1_i32_5 : BitVec 32 := 1#32
  let v19 : BitVec 1 := Scalar.cmpi .eq v1 c1_i32_5
  let v20 : BitVec 32 := Scalar.extui v19
  let c0_i32_6 : BitVec 32 := 0#32
  let v21 : BitVec 1 := Scalar.cmpi .ne v20 c0_i32_6
  v21

def cc0_transform_0 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S8) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S8) ![v0.toNat] S1.size (k0_off1_inb i)) numel1_S1
  let c0_i32 : BitVec 32 := 0#32
  ![v1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2x2048x7168 : Shape := ⟨3, ![2, 2048, 7168]⟩
abbrev S8 : Shape := ⟨1, ![8]⟩
abbrev S1 : Shape := ⟨1, ![1]⟩
abbrev S_ : Shape := ⟨0, ![]⟩
abbrev S1x2048x7168 : Shape := ⟨3, ![1, 2048, 7168]⟩
abbrev S2048x7168 : Shape := ⟨2, ![2048, 7168]⟩
abbrev S8192x7168 : Shape := ⟨2, ![8192, 7168]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x7168, .f32⟩
  | .hbm, ⟨2, _⟩ => ⟨S2x2048x7168, .f32⟩
  | .hbm, ⟨3, _⟩ => ⟨S8, .i32⟩
  | .hbm, ⟨4, _⟩ => ⟨S8, .i32⟩
  | .hbm, ⟨5, _⟩ => ⟨S8, .i32⟩
  | .hbm, ⟨6, _⟩ => ⟨S8192x2048, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1x2048x7168, .f32⟩
  | .hbm, ⟨12, _⟩ => ⟨S2048x7168, .f32⟩
  | .hbm, ⟨13, _⟩ => ⟨S1x2048x7168, .f32⟩
  | .hbm, ⟨14, _⟩ => ⟨S2048x7168, .f32⟩
  | .hbm, ⟨15, _⟩ => ⟨S2048x7168, .f32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1x2048x7168, .f32⟩
  | .hbm, ⟨21, _⟩ => ⟨S2048x7168, .f32⟩
  | .hbm, ⟨22, _⟩ => ⟨S1x2048x7168, .f32⟩
  | .hbm, ⟨23, _⟩ => ⟨S2048x7168, .f32⟩
  | .hbm, ⟨24, _⟩ => ⟨S2048x7168, .f32⟩
  | .hbm, ⟨25, _⟩ => ⟨S8192x7168, .f32⟩
  | .hbm, ⟨26, _⟩ => ⟨S8192x7168, .f32⟩
  | .hbm, ⟨27, _⟩ => ⟨S8192x7168, .f32⟩
  | .hbm, ⟨28, _⟩ => ⟨S_, .f32⟩
  | .hbm, ⟨29, _⟩ => ⟨S8192x7168, .f32⟩
  | .hbm, ⟨30, _⟩ => ⟨S8192x7168, .f32⟩
  | .hbm, ⟨31, _⟩ => ⟨S_, .f32⟩
  | .hbm, ⟨32, _⟩ => ⟨S8192x7168, .f32⟩
  | .hbm, ⟨33, _⟩ => ⟨S8192x7168, .f32⟩
  | .hbm, ⟨34, _⟩ => ⟨S8192x7168, .f32⟩
  | .hbm, ⟨35, _⟩ => ⟨S8192x7168, .f32⟩
  | .hbm, ⟨36, _⟩ => ⟨S8192x7168, .f32⟩
  | .hbm, ⟨37, _⟩ => ⟨S8192x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call2_v0 : Ref sig .tc := ⟨.hbm, 26, rfl⟩
abbrev main_call2_v1 : Ref sig .tc := ⟨.hbm, 27, rfl⟩
abbrev main_call2_cst : Ref sig .tc := ⟨.hbm, 28, rfl⟩
abbrev main_call2_v2 : Ref sig .tc := ⟨.hbm, 29, rfl⟩
abbrev main_call2_v3 : Ref sig .tc := ⟨.hbm, 30, rfl⟩
abbrev main_call2_cst_0 : Ref sig .tc := ⟨.hbm, 31, rfl⟩
abbrev main_call2_v4 : Ref sig .tc := ⟨.hbm, 32, rfl⟩
abbrev main_call2_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel7.lean ====
abbrev S8192x2048 : Shape := ⟨2, ![8192, 2048]⟩
abbrev S1x2048x10304 : Shape := ⟨3, ![1, 2048, 10304]⟩
abbrev S8192x6144 : Shape := ⟨2, ![8192, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x10304, .f32⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S1x2048x10304 : Shape := ⟨3, ![1, 2048, 10304]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10304, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x2048 : Shape := ⟨2, ![8192, 2048]⟩
abbrev S1x2048x10304 : Shape := ⟨3, ![1, 2048, 10304]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x10304, .f32⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S1x2048x10304 : Shape := ⟨3, ![1, 2048, 10304]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10304, .f32⟩
  | .hbm, ⟨2, _⟩ => ⟨S8192x2048, .f32⟩
  | .hbm, ⟨3, _⟩ => ⟨S1x2048x4096, .f32⟩
  | .hbm, ⟨4, _⟩ => ⟨S2048x4096, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x2048 : Shape := ⟨2, ![8192, 2048]⟩
abbrev S2x2048x3072 : Shape := ⟨3, ![2, 2048, 3072]⟩
abbrev S8192x3072 : Shape := ⟨2, ![8192, 3072]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x3072, .f32⟩
  | .hbm, ⟨2, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S2x2048x3072 : Shape := ⟨3, ![2, 2048, 3072]⟩
abbrev S1x2048x3072 : Shape := ⟨3, ![1, 2048, 3072]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x3072, .f32⟩
  | .hbm, ⟨2, _⟩ => ⟨S8192x2048, .f32⟩
  | .hbm, ⟨3, _⟩ => ⟨S1x2048x3072, .f32⟩
  | .hbm, ⟨4, _⟩ => ⟨S2048x3072, .f32⟩
  | .hbm, ⟨5, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x2048 : Shape := ⟨2, ![8192, 2048]⟩
abbrev S2x2048x3072 : Shape := ⟨3, ![2, 2048, 3072]⟩
abbrev S8192x3072 : Shape := ⟨2, ![8192, 3072]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x3072, .f32⟩
  | .hbm, ⟨2, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x2048 : Shape := ⟨2, ![8192, 2048]⟩
abbrev S2x2048x3072 : Shape := ⟨3, ![2, 2048, 3072]⟩
abbrev S1x2048x3072 : Shape := ⟨3, ![1, 2048, 3072]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x3072, .f32⟩
  | .hbm, ⟨2, _⟩ => ⟨S8192x2048, .f32⟩
  | .hbm, ⟨3, _⟩ => ⟨S1x2048x3072, .f32⟩
  | .hbm, ⟨4, _⟩ => ⟨S2048x3072, .f32⟩
  | .hbm, ⟨5, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8192x2048 : Shape := ⟨2, ![8192, 2048]⟩
abbrev S1x2048x10304 : Shape := ⟨3, ![1, 2048, 10304]⟩
abbrev S1x2048x64 : Shape := ⟨3, ![1, 2048, 64]⟩
abbrev S2048x64 : Shape := ⟨2, ![2048, 64]⟩
abbrev S_ : Shape := ⟨0, ![]⟩
abbrev S2048x128 : Shape := ⟨2, ![2048, 128]⟩
abbrev S1x2048x128 : Shape := ⟨3, ![1, 2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x10304, .f32⟩
  | .hbm, ⟨2, _⟩ => ⟨S1x2048x64, .f32⟩
  | .hbm, ⟨3, _⟩ => ⟨S2048x64, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S1x2048x128, .f32⟩
  | .hbm, ⟨8, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .f32⟩
  | .local _ .vmem, ⟨3, _⟩ => ⟨S1024x128, .f32⟩
  | .local _ .vmem, ⟨4, _⟩ => ⟨S1024x128, .f32⟩
  | .local _ .vmem, ⟨5, _⟩ => ⟨S2048x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x2048 : Shape := ⟨2, ![8192, 2048]⟩
abbrev S1x2048x10304 : Shape := ⟨3, ![1, 2048, 10304]⟩
abbrev S1x2048x64 : Shape := ⟨3, ![1, 2048, 64]⟩
abbrev S2048x64 : Shape := ⟨2, ![2048, 64]⟩
abbrev S8192x64 : Shape := ⟨2, ![8192, 64]⟩
abbrev S_ : Shape := ⟨0, ![]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10304, .f32⟩
  | .hbm, ⟨2, _⟩ => ⟨S8192x2048, .f32⟩
  | .hbm, ⟨3, _⟩ => ⟨S1x2048x64, .f32⟩
  | .hbm, ⟨4, _⟩ => ⟨S2048x64, .f32⟩
  | .hbm, ⟨5, _⟩ => ⟨S8192x64, .f32⟩
  | .hbm, ⟨6, _⟩ => ⟨S_, .i32⟩
  | .hbm, ⟨7, _⟩ => ⟨S_, .f32⟩
  | .hbm, ⟨8, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S8192x3072 : Shape := ⟨2, ![8192, 3072]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8192x2048 : Shape := ⟨2, ![8192, 2048]⟩
abbrev S8192x512 : Shape := ⟨2, ![8192, 512]⟩
abbrev S512x2048 : Shape := ⟨2, ![512, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S2x64, .f32⟩
  | .hbm, ⟨5, _⟩ => ⟨S128, .f32⟩
  | .hbm, ⟨6, _⟩ => ⟨S1x128, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S8192x2048, .bf16⟩
  | .hbm, ⟨12, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S1x128, .f32⟩
  | .local _ .vmem, ⟨6, _⟩ => ⟨S512x2048, .bf16⟩
  | .local _ .vmem, ⟨7, _⟩ => ⟨S512x2048, .bf16⟩
  | .local _ .vmem, ⟨8, _⟩ => ⟨S512x512, .f32⟩
  | .local _ .vmem, ⟨9, _⟩ => ⟨S512x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S8192x3072 : Shape := ⟨2, ![8192, 3072]⟩
abbrev S64 : Shape := ⟨1, ![64]⟩
abbrev S8192x2048 : Shape := ⟨2, ![8192, 2048]⟩
abbrev S8192x32x64 : Shape := ⟨3, ![8192, 32, 64]⟩
abbrev S_ : Shape := ⟨0, ![]⟩
abbrev S8192x32 : Shape := ⟨2, ![8192, 32]⟩
abbrev S8192x32x1 : Shape := ⟨3, ![8192, 32, 1]⟩
abbrev S1x1x64 : Shape := ⟨3, ![1, 1, 64]⟩
abbrev S8192x512 : Shape := ⟨2, ![8192, 512]⟩
abbrev S8192x8x64 : Shape := ⟨3, ![8192, 8, 64]⟩
abbrev S8192x8 : Shape := ⟨2, ![8192, 8]⟩
abbrev S8192x8x1 : Shape := ⟨3, ![8192, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x2048, .f32⟩
  | .hbm, ⟨4, _⟩ => ⟨S8192x32x64, .f32⟩
  | .hbm, ⟨5, _⟩ => ⟨S8192x32x64, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .f32⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S8192x32x1, .f32⟩
  | .hbm, ⟨16, _⟩ => ⟨S8192x32x64, .f32⟩
  | .hbm, ⟨17, _⟩ => ⟨S8192x32x64, .f32⟩
  | .hbm, ⟨18, _⟩ => ⟨S1x1x64, .f32⟩
  | .hbm, ⟨19, _⟩ => ⟨S8192x32x64, .f32⟩
  | .hbm, ⟨20, _⟩ => ⟨S8192x32x64, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x512, .f32⟩
  | .hbm, ⟨26, _⟩ => ⟨S8192x8x64, .f32⟩
  | .hbm, ⟨27, _⟩ => ⟨S8192x8x64, .f32⟩
  | .hbm, ⟨28, _⟩ => ⟨S_, .f32⟩
  | .hbm, ⟨29, _⟩ => ⟨S8192x8, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S_, .f32⟩
  | .hbm, ⟨35, _⟩ => ⟨S8192x8x1, .f32⟩
  | .hbm, ⟨36, _⟩ => ⟨S8192x8x1, .f32⟩
  | .hbm, ⟨37, _⟩ => ⟨S8192x8x1, .f32⟩
  | .hbm, ⟨38, _⟩ => ⟨S8192x8x64, .f32⟩
  | .hbm, ⟨39, _⟩ => ⟨S8192x8x64, .f32⟩
  | .hbm, ⟨40, _⟩ => ⟨S1x1x64, .f32⟩
  | .hbm, ⟨41, _⟩ => ⟨S8192x8x64, .f32⟩
  | .hbm, ⟨42, _⟩ => ⟨S8192x8x64, .f32⟩
  | .hbm, ⟨43, _⟩ => ⟨S8192x512, .f32⟩
  | .hbm, ⟨44, _⟩ => ⟨S8192x2048, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel14.lean ====
abbrev S32x6144 : Shape := ⟨2, ![32, 6144]⟩
abbrev S32x2x2048 : Shape := ⟨3, ![32, 2, 2048]⟩
abbrev S1x3x2048 : Shape := ⟨3, ![1, 3, 2048]⟩
abbrev S2x32x2048 : Shape := ⟨3, ![2, 32, 2048]⟩
abbrev S3x2048 : Shape := ⟨2, ![3, 2048]⟩
abbrev S32x2048 : Shape := ⟨2, ![32, 2048]⟩
abbrev S1x2048 : Shape := ⟨2, ![1, 2048]⟩
abbrev S1x32x2048 : Shape := ⟨3, ![1, 32, 2048]⟩

abbrev nBuf : Space → Nat
  | .hbm => 7
  | .vmem => 5
  | .smem => 0
  | _ => 0

abbrev bufTy : (tb : Table) → Fin (tcTables nBuf tb) → BufTy
  | .hbm, ⟨0, _⟩ => ⟨S32x6144, .f32⟩
  | .hbm, ⟨1, _⟩ => ⟨S32x2x2048, .f32⟩
  | .hbm, ⟨2, _⟩ => ⟨S1x3x2048, .f32⟩
  | .hbm, ⟨3, _⟩ => ⟨S2x32x2048, .f32⟩
  | .hbm, ⟨4, _⟩ => ⟨S3x2048, .f32⟩
  | .hbm, ⟨5, _⟩ => ⟨S32x2048, .f32⟩
  | .hbm, ⟨6, _⟩ => ⟨S32x2048, .f32⟩
  | .local _ .vmem, ⟨0, _⟩ => ⟨S32x6144, .f32⟩
  | .local _ .vmem, ⟨1, _⟩ => ⟨S2x32x2048, .f32⟩
  | .local _ .vmem, ⟨2, _⟩ => ⟨S3x2048, .f32⟩
  | .local _ .vmem, ⟨3, _⟩ => ⟨S32x2048, .f32⟩
  | .local _ .vmem, ⟨4, _⟩ => ⟨S32x2048, .f32⟩
  | _, _ => ⟨S32x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference14Ideal.lean ====
abbrev S32x6144 : Shape := ⟨2, ![32, 6144]⟩
abbrev S32x2x2048 : Shape := ⟨3, ![32, 2, 2048]⟩
abbrev S1x3x2048 : Shape := ⟨3, ![1, 3, 2048]⟩
abbrev S32x1x6144 : Shape := ⟨3, ![32, 1, 6144]⟩
abbrev S32x1x2048 : Shape := ⟨3, ![32, 1, 2048]⟩
abbrev S32x3x2048 : Shape := ⟨3, ![32, 3, 2048]⟩
abbrev S3x2048 : Shape := ⟨2, ![3, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S32x2048 : Shape := ⟨2, ![32, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32x6144, .f32⟩
  | .hbm, ⟨1, _⟩ => ⟨S32x2x2048, .f32⟩
  | .hbm, ⟨2, _⟩ => ⟨S1x3x2048, .f32⟩
  | .hbm, ⟨3, _⟩ => ⟨S32x1x6144, .f32⟩
  | .hbm, ⟨4, _⟩ => ⟨S32x1x2048, .f32⟩
  | .hbm, ⟨5, _⟩ => ⟨S32x1x2048, .f32⟩
  | .hbm, ⟨6, _⟩ => ⟨S32x1x2048, .f32⟩
  | .hbm, ⟨7, _⟩ => ⟨S32x1x2048, .f32⟩
  | .hbm, ⟨8, _⟩ => ⟨S32x3x2048, .f32⟩
  | .hbm, ⟨9, _⟩ => ⟨S3x2048, .f32⟩
  | .hbm, ⟨10, _⟩ => ⟨S1x2048, .f32⟩
  | .hbm, ⟨11, _⟩ => ⟨S2048, .f32⟩
  | .hbm, ⟨12, _⟩ => ⟨S32x1x2048, .f32⟩
  | .hbm, ⟨13, _⟩ => ⟨S1x1x2048, .f32⟩
  | .hbm, ⟨14, _⟩ => ⟨S32x1x2048, .f32⟩
  | .hbm, ⟨15, _⟩ => ⟨S32x1x2048, .f32⟩
  | .hbm, ⟨16, _⟩ => ⟨S_, .f32⟩
  | .hbm, ⟨17, _⟩ => ⟨S32x1x2048, .f32⟩
  | .hbm, ⟨18, _⟩ => ⟨S32x1x2048, .f32⟩
  | .hbm, ⟨19, _⟩ => ⟨S1x2048, .f32⟩
  | .hbm, ⟨20, _⟩ => ⟨S2048, .f32⟩
  | .hbm, ⟨21, _⟩ => ⟨S32x1x2048, .f32⟩
  | .hbm, ⟨22, _⟩ => ⟨S1x1x2048, .f32⟩
  | .hbm, ⟨23, _⟩ => ⟨S32x1x2048, .f32⟩
  | .hbm, ⟨24, _⟩ => ⟨S32x1x2048, .f32⟩
  | .hbm, ⟨25, _⟩ => ⟨S32x1x2048, .f32⟩
  | .hbm, ⟨26, _⟩ => ⟨S1x2048, .f32⟩
  | .hbm, ⟨27, _⟩ => ⟨S2048, .f32⟩
  | .hbm, ⟨28, _⟩ => ⟨S32x1x2048, .f32⟩
  | .hbm, ⟨29, _⟩ => ⟨S1x1x2048, .f32⟩
  | .hbm, ⟨30, _⟩ => ⟨S32x1x2048, .f32⟩
  | .hbm, ⟨31, _⟩ => ⟨S32x1x2048, .f32⟩
  | .hbm, ⟨32, _⟩ => ⟨S32x1x2048, .f32⟩
  | .hbm, ⟨33, _⟩ => ⟨S32x1x2048, .f32⟩
  | .hbm, ⟨34, _⟩ => ⟨S32x2048, .f32⟩
  | .hbm, ⟨35, _⟩ => ⟨S32x1x2048, .f32⟩
  | .hbm, ⟨36, _⟩ => ⟨S32x2048, .f32⟩
  | _, _ => ⟨S32x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Kernel15.lean ====
abbrev S32x2048 : Shape := ⟨2, ![32, 2048]⟩
abbrev S32x128 : Shape := ⟨2, ![32, 128]⟩
abbrev S8x32x2048 : Shape := ⟨3, ![8, 32, 2048]⟩
abbrev S32 : Shape := ⟨1, ![32]⟩
abbrev S32x1 : Shape := ⟨2, ![32, 1]⟩
abbrev S1x32x2048 : Shape := ⟨3, ![1, 32, 2048]⟩

abbrev nBuf : Space → Nat
  | .hbm => 4
  | .vmem => 4
  | .smem => 0
  | _ => 0

abbrev bufTy : (tb : Table) → Fin (tcTables nBuf tb) → BufTy
  | .hbm, ⟨0, _⟩ => ⟨S32x2048, .f32⟩
  | .hbm, ⟨1, _⟩ => ⟨S32x128, .f32⟩
  | .hbm, ⟨2, _⟩ => ⟨S8x32x2048, .f32⟩
  | .hbm, ⟨3, _⟩ => ⟨S32x2048, .f32⟩
  | .local _ .vmem, ⟨0, _⟩ => ⟨S32x2048, .f32⟩
  | .local _ .vmem, ⟨1, _⟩ => ⟨S32x128, .f32⟩
  | .local _ .vmem, ⟨2, _⟩ => ⟨S8x32x2048, .f32⟩
  | .local _ .vmem, ⟨3, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference15Ideal.lean ====
abbrev S32x2048 : Shape := ⟨2, ![32, 2048]⟩
abbrev S32x128 : Shape := ⟨2, ![32, 128]⟩
abbrev S8x32x2048 : Shape := ⟨3, ![8, 32, 2048]⟩
abbrev S_ : Shape := ⟨0, ![]⟩
abbrev S32x1 : Shape := ⟨2, ![32, 1]⟩
abbrev S1x32x2048 : Shape := ⟨3, ![1, 32, 2048]⟩

abbrev nBuf : Space → Nat
  | .hbm => 54
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x128, .f32⟩
  | .hbm, ⟨2, _⟩ => ⟨S8x32x2048, .f32⟩
  | .hbm, ⟨3, _⟩ => ⟨S_, .f32⟩
  | .hbm, ⟨4, _⟩ => ⟨S32x2048, .f32⟩
  | .hbm, ⟨5, _⟩ => ⟨S32x1, .f32⟩
  | .hbm, ⟨6, _⟩ => ⟨S1x32x2048, .f32⟩
  | .hbm, ⟨7, _⟩ => ⟨S32x2048, .f32⟩
  | .hbm, ⟨8, _⟩ => ⟨S32x2048, .f32⟩
  | .hbm, ⟨9, _⟩ => ⟨S32x2048, .f32⟩
  | .hbm, ⟨10, _⟩ => ⟨S32x2048, .f32⟩
  | .hbm, ⟨11, _⟩ => ⟨S32x1, .f32⟩
  | .hbm, ⟨12, _⟩ => ⟨S1x32x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S32x2048, .f32⟩
  | .hbm, ⟨17, _⟩ => ⟨S32x1, .f32⟩
  | .hbm, ⟨18, _⟩ => ⟨S1x32x2048, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S32x2048, .f32⟩
  | .hbm, ⟨23, _⟩ => ⟨S32x1, .f32⟩
  | .hbm, ⟨24, _⟩ => ⟨S1x32x2048, .f32⟩
  | .hbm, ⟨25, _⟩ => ⟨S32x2048, .f32⟩
  | .hbm, ⟨26, _⟩ => ⟨S32x2048, .f32⟩
  | .hbm, ⟨27, _⟩ => ⟨S32x2048, .f32⟩
  | .hbm, ⟨28, _⟩ => ⟨S32x2048, .f32⟩
  | .hbm, ⟨29, _⟩ => ⟨S32x1, .f32⟩
  | .hbm, ⟨30, _⟩ => ⟨S1x32x2048, .f32⟩
  | .hbm, ⟨31, _⟩ => ⟨S32x2048, .f32⟩
  | .hbm, ⟨32, _⟩ => ⟨S32x2048, .f32⟩
  | .hbm, ⟨33, _⟩ => ⟨S32x2048, .f32⟩
  | .hbm, ⟨34, _⟩ => ⟨S32x2048, .f32⟩
  | .hbm, ⟨35, _⟩ => ⟨S32x1, .f32⟩
  | .hbm, ⟨36, _⟩ => ⟨S1x32x2048, .f32⟩
  | .hbm, ⟨37, _⟩ => ⟨S32x2048, .f32⟩
  | .hbm, ⟨38, _⟩ => ⟨S32x2048, .f32⟩
  | .hbm, ⟨39, _⟩ => ⟨S32x2048, .f32⟩
  | .hbm, ⟨40, _⟩ => ⟨S32x2048, .f32⟩
  | .hbm, ⟨41, _⟩ => ⟨S32x1, .f32⟩
  | .hbm, ⟨42, _⟩ => ⟨S1x32x2048, .f32⟩
  | .hbm, ⟨43, _⟩ => ⟨S32x2048, .f32⟩
  | .hbm, ⟨44, _⟩ => ⟨S32x2048, .f32⟩
  | .hbm, ⟨45, _⟩ => ⟨S32x2048, .f32⟩
  | .hbm, ⟨46, _⟩ => ⟨S32x2048, .f32⟩
  | .hbm, ⟨47, _⟩ => ⟨S32x1, .f32⟩
  | .hbm, ⟨48, _⟩ => ⟨S1x32x2048, .f32⟩
  | .hbm, ⟨49, _⟩ => ⟨S32x2048, .f32⟩
  | .hbm, ⟨50, _⟩ => ⟨S32x2048, .f32⟩
  | .hbm, ⟨51, _⟩ => ⟨S32x2048, .f32⟩
  | .hbm, ⟨52, _⟩ => ⟨S32x2048, .f32⟩
  | .hbm, ⟨53, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩

abbrev nD : Nat := 1
abbrev τ : Topo := Topo.v7x

variable {F : FTy → Type} [FloatOps F]
-- ==== Kernel16.lean ====
abbrev S32x4096 : Shape := ⟨2, ![32, 4096]⟩
abbrev S4096 : Shape := ⟨1, ![4096]⟩
abbrev S1x4096 : Shape := ⟨2, ![1, 4096]⟩
abbrev S32x512 : Shape := ⟨2, ![32, 512]⟩
abbrev S32 : Shape := ⟨1, ![32]⟩
abbrev S32x1 : Shape := ⟨2, ![32, 1]⟩
abbrev S1x512 : Shape := ⟨2, ![1, 512]⟩

abbrev nBuf : Space → Nat
  | .hbm => 5
  | .vmem => 4
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S4096, .f32⟩
  | .hbm, ⟨3, _⟩ => ⟨S1x4096, .f32⟩
  | .hbm, ⟨4, _⟩ => ⟨S32x4096, .f32⟩
  | .local _ .vmem, ⟨0, _⟩ => ⟨S32x4096, .f32⟩
  | .local _ .vmem, ⟨1, _⟩ => ⟨S32x4096, .f32⟩
  | .local _ .vmem, ⟨2, _⟩ => ⟨S1x4096, .f32⟩
  | .local _ .vmem, ⟨3, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference16Ideal.lean ====
abbrev S32x4096 : Shape := ⟨2, ![32, 4096]⟩
abbrev S4096 : Shape := ⟨1, ![4096]⟩
abbrev S_ : Shape := ⟨0, ![]⟩
abbrev S32x8x512 : Shape := ⟨3, ![32, 8, 512]⟩
abbrev S32x8 : Shape := ⟨2, ![32, 8]⟩
abbrev S32x8x1 : Shape := ⟨3, ![32, 8, 1]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S4096, .f32⟩
  | .hbm, ⟨3, _⟩ => ⟨S32x4096, .f32⟩
  | .hbm, ⟨4, _⟩ => ⟨S32x4096, .f32⟩
  | .hbm, ⟨5, _⟩ => ⟨S_, .f32⟩
  | .hbm, ⟨6, _⟩ => ⟨S32x4096, .f32⟩
  | .hbm, ⟨7, _⟩ => ⟨S32x4096, .f32⟩
  | .hbm, ⟨8, _⟩ => ⟨S_, .f32⟩
  | .hbm, ⟨9, _⟩ => ⟨S32x4096, .f32⟩
  | .hbm, ⟨10, _⟩ => ⟨S32x4096, .f32⟩
  | .hbm, ⟨11, _⟩ => ⟨S32x4096, .f32⟩
  | .hbm, ⟨12, _⟩ => ⟨S32x4096, .f32⟩
  | .hbm, ⟨13, _⟩ => ⟨S32x8x512, .f32⟩
  | .hbm, ⟨14, _⟩ => ⟨S32x8x512, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S32x8x1, .f32⟩
  | .hbm, ⟨25, _⟩ => ⟨S32x8x512, .f32⟩
  | .hbm, ⟨26, _⟩ => ⟨S32x8x512, .f32⟩
  | .hbm, ⟨27, _⟩ => ⟨S32x4096, .f32⟩
  | .hbm, ⟨28, _⟩ => ⟨S1x4096, .f32⟩
  | .hbm, ⟨29, _⟩ => ⟨S32x4096, .f32⟩
  | .hbm, ⟨30, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Proof.Soft.lean ====
module

public import proofs.«01_k».proof.Proof.Gen.KernelIdeal.Value
public import Idealize.ShloMosaic.Lib.Pointwise
public import Idealize.ShloMosaic.Lib.WordCmp

@[expose] public section

set_option maxRecDepth 16384

noncomputable section

namespace Cert.Attn

open Idealize.ShloMosaic

/-! ## The softmax with a sink, over any number of keys -/

/-- The largest of the scores and the sink. -/
def smax {n : ℕ} (s : Fin n → EReal) (k : EReal) : EReal := max (Finset.univ.fold max ⊥ s) k

/-- The weights' common denominator: the keys' terms and the sink's. -/
def sden {n : ℕ} (s : Fin n → EReal) (k : EReal) : EReal :=
  ∑ j, Ideal.exp (s j - smax s k) + Ideal.exp (k - smax s k)

/-- The values averaged with the weights. -/
def softOut {n : ℕ} (s v : Fin n → EReal) (k : EReal) : EReal :=
  ∑ j, Ideal.div (Ideal.exp (s j - smax s k)) (sden s k) * v j

/-- The exponential is never negative. -/
theorem exp_nonneg (x : EReal) : 0 ≤ Ideal.exp x := by
  induction x with
  | bot => simp
  | top => simp
  | coe r => rw [Ideal.exp_coe]; exact_mod_cast (Real.exp_pos r).le

/-- Zero over a nonzero denominator is zero. -/
theorem div_zero_left {D : EReal} (h : D ≠ 0) : Ideal.div 0 D = 0 := by
  unfold Ideal.div; rw [if_neg h, zero_mul]

/-- A maximum is bounded by a bound of its terms. -/
theorem fold_le {n : ℕ} (s : Fin n → EReal) (x : EReal) (h : ∀ j, s j ≤ x) : Finset.univ.fold max ⊥ s ≤ x :=
  Finset.sup_le fun j _ => h j

/-- Each term is at most the maximum. -/
theorem le_fold {n : ℕ} (s : Fin n → EReal) (j : Fin n) : s j ≤ Finset.univ.fold max ⊥ s :=
  Finset.le_sup (f := s) (Finset.mem_univ j)

/-- A maximum of terms below infinity is below infinity. -/
theorem fold_ne_top {n : ℕ} (s : Fin n → EReal) (h : ∀ j, s j ≠ ⊤) : Finset.univ.fold max ⊥ s ≠ ⊤ := by
  have : Finset.univ.sup s < ⊤ := (Finset.sup_lt_iff (by exact bot_lt_top)).2 fun j _ => lt_top_iff_ne_top.2 (h j)
  exact this.ne

/-- With a finite sink and no score at +∞ the denominator is positive: the sink's own term is. -/
theorem sden_ne_zero {n : ℕ} (s : Fin n → EReal) (k : EReal) (hk : k ≠ ⊥) (hk' : k ≠ ⊤) (hs : ∀ j, s j ≠ ⊤) : sden s k ≠ 0 := by
  have hM : smax s k ≠ ⊤ := by
    unfold smax
    rcases max_choice (Finset.univ.fold max ⊥ s) k with h | h <;> rw [h]
    · exact fold_ne_top s hs
    · exact hk'
  have hM' : smax s k ≠ ⊥ := fun h => hk (le_bot_iff.1 (h ▸ le_max_right _ _))
  have h1 : 0 < Ideal.exp (k - smax s k) := by
    generalize smax s k = M at hM hM' ⊢
    lift k to ℝ using ⟨hk', hk⟩
    lift M to ℝ using ⟨hM, hM'⟩
    rw [← EReal.coe_sub, Ideal.exp_coe]
    exact_mod_cast Real.exp_pos _
  have h2 : 0 ≤ ∑ j, Ideal.exp (s j - smax s k) := Finset.sum_nonneg fun j _ => exp_nonneg _
  unfold sden
  exact (lt_of_lt_of_le h1 (le_add_of_nonneg_left h2)).ne'

/-- A sum of terms that vanish off `p` is the sum over the indices with `p`. -/
theorem sum_eq_sum_subtype {n : ℕ} (p : Fin n → Prop) [DecidablePred p] (f : Fin n → EReal) (h : ∀ j, ¬p j → f j = 0) :
    ∑ j, f j = ∑ j : {j // p j}, f j := by
  rw [← Fintype.sum_subtype_add_sum_subtype p f, Finset.sum_eq_zero (s := (Finset.univ : Finset {j // ¬p j})) fun j _ => h _ j.2, add_zero]

/-- Two key sets whose attended keys correspond give the same result: the others weigh nothing. -/
theorem softOut_reindex {n n' : ℕ} (s v : Fin n → EReal) (s' v' : Fin n' → EReal) (k : EReal)
    (p : Fin n → Prop) (p' : Fin n' → Prop) [DecidablePred p] [DecidablePred p']
    (e : {j // p j} ≃ {j // p' j}) (hs : ∀ j, ¬p j → s j = ⊥) (hs' : ∀ j, ¬p' j → s' j = ⊥)
    (hse : ∀ j, s' (e j).1 = s j.1) (hve : ∀ j, v' (e j).1 = v j.1)
    (hk : k ≠ ⊥) (hk' : k ≠ ⊤) (ht : ∀ j, s j ≠ ⊤) : softOut s v k = softOut s' v' k := by
  have hM : smax s k = smax s' k := by
    unfold smax
    congr 1
    refine le_antisymm (fold_le _ _ fun j => ?_) (fold_le _ _ fun j => ?_)
    · by_cases h : p j
      · rw [← hse ⟨j, h⟩]; exact le_fold s' _
      · rw [hs j h]; exact bot_le
    · by_cases h : p' j
      · have := hse (e.symm ⟨j, h⟩)
        rw [e.apply_symm_apply] at this
        rw [this]; exact le_fold s _
      · rw [hs' j h]; exact bot_le
  have hb : ∀ M : EReal, Ideal.exp (⊥ - M) = 0 := fun M => by rw [EReal.bot_sub]; exact Ideal.exp_bot
  have hD : sden s k = sden s' k := by
    unfold sden
    rw [hM, sum_eq_sum_subtype p _ fun j h => by rw [hs j h, hb], sum_eq_sum_subtype p' _ fun j h => by rw [hs' j h, hb],
      ← Equiv.sum_comp e]
    simp only [hse]
  have h0 := sden_ne_zero s k hk hk' ht
  unfold softOut
  rw [← hM, ← hD, sum_eq_sum_subtype p _ fun j h => by rw [hs j h, hb, div_zero_left h0, zero_mul],
    sum_eq_sum_subtype p' _ fun j h => by rw [hs' j h, hb, div_zero_left h0, zero_mul], ← Equiv.sum_comp e]
  simp only [hse, hve]

/-! ## Finite values -/

/-- A finite sum of real numbers is real. -/
theorem real_sum {ι : Type} (S : Finset ι) (f : ι → EReal) (h : ∀ i, ∃ r : ℝ, f i = r) : ∃ r : ℝ, ∑ i ∈ S, f i = r := by
  classical
  induction S using Finset.induction_on with
  | empty => exact ⟨0, by simp⟩
  | insert a S ha ih =>
    obtain ⟨x, hx⟩ := ih
    obtain ⟨y, hy⟩ := h a
    exact ⟨y + x, by rw [Finset.sum_insert ha, hx, hy, EReal.coe_add]⟩

/-! ## Distances between positions -/

/-- A difference of words that does not overflow. -/
theorem toInt_subi (x y : BitVec 32) (h₁ : -2 ^ 31 ≤ x.toInt - y.toInt) (h₂ : x.toInt - y.toInt < 2 ^ 31) :
    (IntOp.subi x y).toInt = x.toInt - y.toInt := by
  show (x - y).toInt = _
  rw [BitVec.toInt_sub]
  exact Int.bmod_eq_of_le (by omega) (by omega)

/-- A sum of words that does not overflow. -/
theorem toInt_addi (x y : BitVec 32) (h₁ : -2 ^ 31 ≤ x.toInt + y.toInt) (h₂ : x.toInt + y.toInt < 2 ^ 31) :
    (IntOp.addi x y).toInt = x.toInt + y.toInt := by
  show (x + y).toInt = _
  rw [BitVec.toInt_add]
  exact Int.bmod_eq_of_le (by omega) (by omega)

/-- A small natural number as a word, read back. -/
theorem toInt_nat (n : ℕ) (h : n < 2 ^ 31) : (BitVec.ofNat 32 n).toInt = n := WordCmp.toInt_ofNat_of_lt h

/-- The difference of two small numbers as words, read back. -/
theorem toInt_dist (a b : ℕ) (ha : a < 2 ^ 30) (hb : b < 2 ^ 30) :
    (IntOp.subi (BitVec.ofNat 32 a) (BitVec.ofNat 32 b)).toInt = (a : ℤ) - b := by
  rw [toInt_subi, toInt_nat a (by omega), toInt_nat b (by omega)] <;> rw [toInt_nat a (by omega), toInt_nat b (by omega)] <;> omega

/-- The distance within a tile, as words, read back. -/
theorem toInt_tile (r j : ℕ) (hr : r < 128) (hj : j < 256) :
    (IntOp.subi (IntOp.addi 128#32 (BitVec.ofNat 32 r)) (BitVec.ofNat 32 j)).toInt = 128 + (r : ℤ) - j := by
  have h : (IntOp.addi 128#32 (BitVec.ofNat 32 r)).toInt = 128 + (r : ℤ) := by
    have h128 : (128#32).toInt = 128 := by decide
    rw [toInt_addi, toInt_nat r (by omega), h128] <;> rw [toInt_nat r (by omega), h128] <;> omega
  rw [toInt_subi, h, toInt_nat j (by omega)] <;> rw [h, toInt_nat j (by omega)] <;> omega

end Cert.Attn
-- ==== Proof.Heads.lean ====
module

public import proofs.«01_k».proof.Proof.Soft

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

/-- The scores of one query head of a tile: its query lanes (the lanes outside `sel` zeroed) against the 256 keys,
    less the slope times the distance, −∞ where the key is not attended to. -/
def headScores (mask : IVec S128x256 1) (df : FVec F S128x256 .f32) (sel : IVec S128x128 1) (q : FVec F S128x128 .bf16)
    (k : FVec F S256x128 .bf16) (slope : F .f32) : FVec F S128x256 .f32 :=
  select mask (subf (matmul dot_S128x128_S256x128_S128x256_1_1_0_0_n_n none (select sel q (broadcast S128x128 (Scalar.ofBits .bf16 0x0000#16))) k
    (constant S128x256 .f32 0x00000000#32)) (mulf (broadcast S128x256 slope) df)) (broadcast S128x256 (Scalar.ofBits .f32 0xFF800000#32))

/-- The row maximum of the scores and the sink. -/
def headMax (s : FVec F S128x256 .f32) (sink : F .f32) : FVec F S128x1 .f32 :=
  maximumf (shapeCast S128x1 (multiReduction .maximumf [1] S128 s 0xFF800000#32 reduces_S128x256_S128 (.inl rfl) rfl) shapeCasts_S128_S128x1)
    (broadcast S128x1 sink)

/-- The unnormalized weights. -/
def headExp (s : FVec F S128x256 .f32) (sink : F .f32) : FVec F S128x256 .f32 :=
  exp (subf s (broadcastTo S128x256 (headMax s sink) broadcasts_S128x1_S128x256))

/-- The weights of the row, the sink's own in the denominator. -/
def headProbs (s : FVec F S128x256 .f32) (sink : F .f32) : FVec F S128x256 .bf16 :=
  truncf .bf16 (divf (headExp s sink)
    (broadcastTo S128x256 (addf (shapeCast S128x1 (multiReduction .add [1] S128 (headExp s sink) 0x00000000#32 reduces_S128x256_S128 (.inl rfl) rfl) shapeCasts_S128_S128x1)
      (exp (subf (broadcast S128x1 sink) (headMax s sink)))) broadcasts_S128x1_S128x256)) bitsLt_bf16_f32

/-- One head's output over all 128 lanes of a value tile. -/
def headOut (s : FVec F S128x256 .f32) (sink : F .f32) (v : FVec F S256x128 .bf16) : FVec F S128x128 .f32 :=
  matmul dot_S128x256_S256x128_S128x128_1_0_0_1_n_n none (headProbs s sink) v (constant S128x128 .f32 0x00000000#32)

/-- The two heads of one column tile whose key/value head lies in the low half of its 128 lanes. -/
def pairLow (i : grid0.Coords) (kp kc vp vc : FVec F S128x128 .f32) (q : FVec F S128x128 .bf16) (sl₀ sk₀ sl₁ sk₁ : F .f32) : FVec F S128x128 .bf16 :=
  truncf .bf16 (select k0_pay5
    (headOut (headScores (k0_pay3 i) k0_pay4 k0_pay5 q (k0_pay6 kp kc) sl₀) sk₀ (k0_pay9 vp vc))
    (headOut (headScores (k0_pay3 i) k0_pay4 k0_pay5 (k0_pay10 q) (k0_pay6 kp kc) sl₁) sk₁ (k0_pay8 vp vc))) bitsLt_bf16_f32

/-- The two heads of one column tile whose key/value head lies in the high half of its 128 lanes. -/
def pairHigh (i : grid0.Coords) (kp kc vp vc : FVec F S128x128 .f32) (q : FVec F S128x128 .bf16) (sl₀ sk₀ sl₁ sk₁ : F .f32) : FVec F S128x128 .bf16 :=
  truncf .bf16 (select k0_pay5
    (headOut (headScores (k0_pay3 i) k0_pay4 (xori k0_pay5 (constantI S128x128 1 1#1)) (k0_pay10 q) (k0_pay6 kp kc) sl₀) sk₀ (k0_pay8 vp vc))
    (headOut (headScores (k0_pay3 i) k0_pay4 (xori k0_pay5 (constantI S128x128 1 1#1)) q (k0_pay6 kp kc) sl₁) sk₁ (k0_pay9 vp vc))) bitsLt_bf16_f32

/-! ## Read at an index -/

/-- The word of minus infinity is the least extended real. -/
theorem ofBits_neg_inf : Ideal.ofBits .f32 0xFF800000#32 = ⊥ := by simp [Ideal.ofBits, Ideal.ieee]

/-- One head's masked scores at an index. -/
theorem headScores_apply (mask : IVec S128x256 1) (df : FVec Ideal S128x256 .f32) (sel : IVec S128x128 1) (q : FVec Ideal S128x128 .bf16)
    (k : FVec Ideal S256x128 .bf16) (slope : Ideal .f32) (r : Fin 128) (j : Fin 256) :
    headScores mask df sel q k slope (ix2 r j)
      = if mask (ix2 r j) = 1#1 then (∑ x : Fin 128, if sel (ix2 r x) = 1#1 then q (ix2 r x) * k (ix2 j x) else 0) - slope * df (ix2 r j) else ⊥ := by
  pointwise [headScores]
  rw [ofBits_neg_inf]
  rfl

/-- One head's row maximum, the sink included, at a row. -/
theorem headMax_apply (s : FVec Ideal S128x256 .f32) (sink : Ideal .f32) (r : Fin 128)  :
    headMax s sink (ix2 r 0) = smax (fun j => s (ix2 r j)) sink := by
  pointwise [headMax]
  rw [ofBits_neg_inf]
  rfl

/-- One head's normalised weights times the values, at an index. -/
theorem headOut_apply (s : FVec Ideal S128x256 .f32) (sink : Ideal .f32) (v : FVec Ideal S256x128 .bf16) (r : Fin 128) (l : Fin 128) :
    headOut s sink v (ix2 r l) = softOut (fun j => s (ix2 r j)) (fun j => v (ix2 j l)) sink := by
  pointwise [headOut, headProbs, headExp]
  simp only [headMax_apply]
  rfl

/-- The lane selector is one on the lower 64 lanes. -/
theorem pay5_apply (r x : Fin 128) : k0_pay5 (ix2 r x) = if x.val < 64 then 1#1 else 0#1 := by
  pointwise [k0_pay5]
  revert x
  decide

/-- The complemented lane selector is one on the upper 64 lanes. -/
theorem pay5_not_apply (r x : Fin 128) : xori k0_pay5 (constantI S128x128 1 1#1) (ix2 r x) = if x.val < 64 then 0#1 else 1#1 := by
  show IntOp.xori (k0_pay5 (ix2 r x)) 1#1 = _
  rw [pay5_apply]
  split <;> rfl

/-- A truth value spelt as a bit is one exactly when it holds. -/
theorem ite_eq_one (c : Prop) [Decidable c] : ((if c then 1#1 else 0#1) = 1#1) ↔ c := by split <;> simp [*]

/-- A negated truth value spelt as a bit is one exactly when it fails. -/
theorem ite_eq_one' (c : Prop) [Decidable c] : ((if c then 0#1 else 1#1) = 1#1) ↔ ¬c := by split <;> simp [*]

/-- Whether row `r` of the tile attends to the `j`-th of its 256 keys: it is not ahead, not more than 128 back, and, in
    the first tile of a sequence, not before the sequence. -/
def attends (n : ℕ) (r j : ℕ) : Prop := r ≤ j ∧ j ≤ 128 + r ∧ (128 ≤ j ∨ 0 < n)

instance (n r j : ℕ) : Decidable (attends n r j) := by unfold attends; infer_instance

/-- The block's mask bit is one exactly where the query attends to the key. -/
theorem pay3_apply (i : grid0.Coords) (r : Fin 128) (j : Fin 256) : k0_pay3 i (ix2 r j) = 1#1 ↔ attends (i 1).val r.val j.val := by
  have hi : (i 1).val < 32 := (i 1).isLt
  pointwise [k0_pay3, k0_pay2]
  rw [IntOp.andi_eq_one, IntOp.andi_eq_one, IntOp.ori_eq_one, IntOp.cmpi_sge, IntOp.cmpi_sle, IntOp.cmpi_sge, Scalar.cmpi, IntOp.cmpi_sgt, toInt_tile r j r.isLt j.isLt,
    toInt_nat j.val (by omega), toInt_nat (i 1).val (by omega)]
  have h0 : (0#32).toInt = 0 := by decide
  have h128 : (128#32).toInt = 128 := by decide
  rw [h0, h128]
  unfold attends
  omega

/-- The block's distance array at an index. -/
theorem pay4_apply (r : Fin 128) (j : Fin 256) : k0_pay4 (F := Ideal) (ix2 r j) = (((128 + (r.val : ℤ) - (j.val : ℤ) : ℤ) : ℝ) : EReal) := by
  pointwise [k0_pay4, k0_pay2]
  rw [← toInt_tile r j r.isLt j.isLt]
  rfl

/-- Two 128-row tiles one under the other. -/
def stack (a b : FVec Ideal S128x128 .f32) (j : Fin 256) (l : Fin 128) : EReal :=
  if h : j.val < 128 then a (ix2 ⟨j.val, h⟩ l) else b (ix2 ⟨j.val - 128, by omega⟩ l)

/-- The previous and the current key block, stacked, at an index. -/
theorem pay6_apply (a b : FVec Ideal S128x128 .f32) (j : Fin 256) (l : Fin 128) : k0_pay6 (F := Ideal) a b (ix2 j l) = stack a b j l := by
  pointwise [k0_pay6]
  rfl

/-- The previous and the current value block, stacked, at an index. -/
theorem pay9_apply (a b : FVec Ideal S128x128 .f32) (j : Fin 256) (l : Fin 128) : k0_pay9 (F := Ideal) a b (ix2 j l) = stack a b j l := by
  pointwise [k0_pay9, k0_pay7]
  rfl

/-- The lane half a tile away. -/
def other (l : Fin 128) : Fin 128 := ⟨(l.val + 64) % 128, by omega⟩

/-- The previous and the current key block of another column, stacked, at an index. -/
theorem pay8_apply (a b : FVec Ideal S128x128 .f32) (j : Fin 256) (l : Fin 128) : k0_pay8 (F := Ideal) a b (ix2 j l) = stack a b j (other l) := by
  pointwise [k0_pay8, k0_pay7]
  rfl

/-- A change of format leaves the query at an index as it is. -/
theorem pay10_apply (q : FVec Ideal S128x128 .bf16) (r : Fin 128) (l : Fin 128) : k0_pay10 (F := Ideal) q (ix2 r l) = q (ix2 r (other l)) := by
  pointwise [k0_pay10]
  rfl

/-- The score of a key: its product with the query over the 64 lanes from `a` on of the query's tile and from `b` on of
    the key's, less the slope times the distance; −∞ unless attended to. -/
def score (n : ℕ) (kp kc : FVec Ideal S128x128 .f32) (q : FVec Ideal S128x128 .bf16) (a b : ℕ) (ha : a ≤ 64) (hb : b ≤ 64)
    (sl : EReal) (r : Fin 128) (j : Fin 256) : EReal :=
  if attends n r.val j.val then
    (∑ x : Fin 64, q (ix2 r ⟨a + x.val, by omega⟩) * stack kp kc j ⟨b + x.val, by omega⟩) - sl * (((128 + (r.val : ℤ) - (j.val : ℤ) : ℤ) : ℝ) : EReal)
  else ⊥

/-- A sum over 128 lanes that keeps the lower half is a sum over 64. -/
theorem sum_low (f : Fin 128 → EReal) : (∑ x : Fin 128, if x.val < 64 then f x else 0) = ∑ x : Fin 64, f ⟨0 + x.val, by omega⟩ := by
  show (∑ x : Fin (64 + 64), if x.val < 64 then f x else 0) = _
  rw [Fin.sum_univ_add]
  simp [Fin.ext_iff]
  rfl

/-- A sum over 128 lanes that keeps the upper half is a sum over 64. -/
theorem sum_high (f : Fin 128 → EReal) : (∑ x : Fin 128, if ¬x.val < 64 then f x else 0) = ∑ x : Fin 64, f ⟨64 + x.val, by omega⟩ := by
  show (∑ x : Fin (64 + 64), if ¬x.val < 64 then f x else 0) = _
  rw [Fin.sum_univ_add]
  simp
  rfl

/-- A lane's place within its head is below 64. -/
theorem fin_lt (l : Fin 128) : l.val % 64 < 64 := Nat.mod_lt _ (by omega)

/-- The scores of a head whose lanes lie in the low half of both the query's and the key's tile. -/
theorem scores_ll (i : grid0.Coords) (kp kc : FVec Ideal S128x128 .f32) (q : FVec Ideal S128x128 .bf16) (sl : EReal) (r : Fin 128) :
    (fun j => headScores (F := Ideal) (k0_pay3 i) k0_pay4 k0_pay5 q (k0_pay6 kp kc) sl (ix2 r j)) = score (i 1).val kp kc q 0 0 (by omega) (by omega) sl r := by
  funext j
  rw [headScores_apply]
  simp only [pay3_apply, pay4_apply, pay5_apply, pay6_apply, ite_eq_one]
  rw [sum_low (fun x => q (ix2 r x) * stack kp kc j x)]
  rfl

/-- The scores of an upper head of queries against a lower head of keys. -/
theorem scores_hl (i : grid0.Coords) (kp kc : FVec Ideal S128x128 .f32) (q : FVec Ideal S128x128 .bf16) (sl : EReal) (r : Fin 128) :
    (fun j => headScores (F := Ideal) (k0_pay3 i) k0_pay4 k0_pay5 (k0_pay10 q) (k0_pay6 kp kc) sl (ix2 r j)) = score (i 1).val kp kc q 64 0 (by omega) (by omega) sl r := by
  funext j
  rw [headScores_apply]
  simp only [pay3_apply, pay4_apply, pay5_apply, pay6_apply, pay10_apply, ite_eq_one]
  rw [sum_low (fun x => q (ix2 r (other x)) * stack kp kc j x)]
  unfold score
  congr 2

/-- The scores of a lower head of queries against an upper head of keys. -/
theorem scores_lh (i : grid0.Coords) (kp kc : FVec Ideal S128x128 .f32) (q : FVec Ideal S128x128 .bf16) (sl : EReal) (r : Fin 128) :
    (fun j => headScores (F := Ideal) (k0_pay3 i) k0_pay4 (xori k0_pay5 (constantI S128x128 1 1#1)) (k0_pay10 q) (k0_pay6 kp kc) sl (ix2 r j)) = score (i 1).val kp kc q 0 64 (by omega) (by omega) sl r := by
  funext j
  rw [headScores_apply]
  simp only [pay3_apply, pay4_apply, pay5_not_apply, pay6_apply, pay10_apply, ite_eq_one']
  rw [sum_high (fun x => q (ix2 r (other x)) * stack kp kc j x)]
  unfold score
  congr 2

/-- The scores of an upper head of queries against an upper head of keys. -/
theorem scores_hh (i : grid0.Coords) (kp kc : FVec Ideal S128x128 .f32) (q : FVec Ideal S128x128 .bf16) (sl : EReal) (r : Fin 128) :
    (fun j => headScores (F := Ideal) (k0_pay3 i) k0_pay4 (xori k0_pay5 (constantI S128x128 1 1#1)) q (k0_pay6 kp kc) sl (ix2 r j)) = score (i 1).val kp kc q 64 64 (by omega) (by omega) sl r := by
  funext j
  rw [headScores_apply]
  simp only [pay3_apply, pay4_apply, pay5_not_apply, pay6_apply, ite_eq_one']
  rw [sum_high (fun x => q (ix2 r x) * stack kp kc j x)]
  rfl

/-- One head's result at row `r` and lane `l`: the softmax of its scores on the value lanes from `b` on. -/
def headAt (n : ℕ) (kp kc vp vc : FVec Ideal S128x128 .f32) (q : FVec Ideal S128x128 .bf16) (a b : ℕ) (ha : a ≤ 64) (hb : b ≤ 64)
    (sl sk : EReal) (r l : Fin 128) : EReal :=
  softOut (score n kp kc q a b ha hb sl r) (fun j => stack vp vc j ⟨b + l.val % 64, by have := fin_lt l; omega⟩) sk

/-- A pair of query heads on a lower key head: each lane is its own head's attention. -/
theorem pairLow_apply (i : grid0.Coords) (kp kc vp vc : FVec Ideal S128x128 .f32) (q : FVec Ideal S128x128 .bf16) (sl₀ sk₀ sl₁ sk₁ : EReal)
    (r l : Fin 128) :
    pairLow (F := Ideal) i kp kc vp vc q sl₀ sk₀ sl₁ sk₁ (ix2 r l)
      = if l.val < 64 then headAt (i 1).val kp kc vp vc q 0 0 (by omega) (by omega) sl₀ sk₀ r l
        else headAt (i 1).val kp kc vp vc q 64 0 (by omega) (by omega) sl₁ sk₁ r l := by
  show Scalar.select (k0_pay5 (ix2 r l)) _ _ = _
  rw [pay5_apply]
  by_cases hl : l.val < 64
  · rw [if_pos hl, if_pos hl]
    refine Eq.trans (headOut_apply _ _ _ r l) ?_
    rw [scores_ll]
    unfold headAt
    congr 1
    funext j
    rw [pay9_apply]
    congr 1
    exact Fin.ext (by simp; omega)
  · rw [if_neg hl, if_neg hl]
    refine Eq.trans (headOut_apply _ _ _ r l) ?_
    rw [scores_hl]
    unfold headAt
    congr 1
    funext j
    rw [pay8_apply]
    congr 1
    exact Fin.ext (by simp [other]; omega)

/-- A pair of query heads on an upper key head: each lane is its own head's attention. -/
theorem pairHigh_apply (i : grid0.Coords) (kp kc vp vc : FVec Ideal S128x128 .f32) (q : FVec Ideal S128x128 .bf16) (sl₀ sk₀ sl₁ sk₁ : EReal)
    (r l : Fin 128) :
    pairHigh (F := Ideal) i kp kc vp vc q sl₀ sk₀ sl₁ sk₁ (ix2 r l)
      = if l.val < 64 then headAt (i 1).val kp kc vp vc q 0 64 (by omega) (by omega) sl₀ sk₀ r l
        else headAt (i 1).val kp kc vp vc q 64 64 (by omega) (by omega) sl₁ sk₁ r l := by
  show Scalar.select (k0_pay5 (ix2 r l)) _ _ = _
  rw [pay5_apply]
  by_cases hl : l.val < 64
  · rw [if_pos hl, if_pos hl]
    refine Eq.trans (headOut_apply _ _ _ r l) ?_
    rw [scores_lh]
    unfold headAt
    congr 1
    funext j
    rw [pay8_apply]
    congr 1
    exact Fin.ext (by simp [other]; omega)
  · rw [if_neg hl, if_neg hl]
    refine Eq.trans (headOut_apply _ _ _ r l) ?_
    rw [scores_hh]
    unfold headAt
    congr 1
    funext j
    rw [pay9_apply]
    congr 1
    exact Fin.ext (by simp; omega)

end Cert.Attn
-- ==== Proof.Block.lean ====
module

public import proofs.«01_k».proof.Proof.Heads
public import Idealize.ShloMosaic.Lib.Pipeline.ValueKit.Tiles

@[expose] public section

set_option maxRecDepth 16384

noncomputable section

namespace Cert.Attn

open Cert.KernelIdeal Cert.KernelIdeal.Gen Idealize.ShloMosaic Idealize.ShloMosaic.TcCoe Idealize.SL.Sem

/-- Two 128-row blocks of all the key (or value) columns, one under the other. -/
def rows (a b : FVec Ideal S128x512 .f32) (j : Fin 256) (l : Fin 512) : EReal :=
  if h : j.val < 128 then a (ix2 ⟨j.val, h⟩ l) else b (ix2 ⟨j.val - 128, by omega⟩ l)

/-- The score at row `r` of head `h` for the `j`-th of the 256 keys of a grid point. -/
def blockScore (n : ℕ) (sl : FVec Ideal S32 .f32) (q : FVec Ideal S128x2048 .bf16) (kp kc : FVec Ideal S128x512 .f32)
    (r : Fin 128) (h : Fin 32) (j : Fin 256) : EReal :=
  if attends n r.val j.val then
    (∑ x : Fin 64, q (ix2 r ⟨64 * h.val + x.val, by omega⟩) * rows kp kc j ⟨64 * (h.val / 4) + x.val, by omega⟩)
      - sl (ix1 h) * (((128 + (r.val : ℤ) - (j.val : ℤ) : ℤ) : ℝ) : EReal)
  else ⊥

/-- What a grid point leaves at row `r` and column `c` of its block: lane `c % 64` of head `c / 64`. -/
def blockAt (n : ℕ) (sl sk : FVec Ideal S32 .f32) (q : FVec Ideal S128x2048 .bf16) (kp kc vp vc : FVec Ideal S128x512 .f32)
    (r : Fin 128) (c : Fin 2048) : EReal :=
  softOut (blockScore n sl q kp kc r ⟨c.val / 64, by omega⟩)
    (fun j => rows vp vc j ⟨64 * (c.val / 64 / 4) + c.val % 64, by omega⟩) (sk (ix1 ⟨c.val / 64, by omega⟩))

/-- The 128 columns of a block from `a` on. -/
abbrev colsAt (x : FVec Ideal S128x512 .f32) (a : ℕ) (ina : ∀ d, (![0, a] : Fin S128x512.rank → ℕ) d + (![128, 128] : Fin S128x512.rank → ℕ) d ≤ S128x512.size d) : FVec Ideal S128x128 .f32 :=
  View.ld (Val := Elt Ideal) (S := S128x512) (e' := .f32) x (Rect.unit ![0, a] ![128, 128] ina)

/-- The 128 columns of the query block from `b` on. -/
abbrev qColsAt (x : FVec Ideal S128x2048 .bf16) (b : ℕ) (inb : ∀ d, (![0, b] : Fin S128x2048.rank → ℕ) d + (![128, 128] : Fin S128x2048.rank → ℕ) d ≤ S128x2048.size d) : FVec Ideal S128x128 .bf16 :=
  View.ld (Val := Elt Ideal) (S := S128x2048) (e' := .bf16) x (Rect.unit ![0, b] ![128, 128] inb)

/-- The word at `h`. -/
abbrev wordAt (x : FVec Ideal S32 .f32) (h : ℕ) (inh : ∀ d, (![h] : Fin S32.rank → ℕ) d + (![1] : Fin S32.rank → ℕ) d ≤ S32.size d) (f : (Rect.unit (s := S32) ![h] ![1] inh).shape.Idx) : EReal :=
  View.ld (Val := Elt Ideal) (S := S32) (e' := .f32) x (Rect.unit ![h] ![1] inh) f

/-- Two stacked key (or value) blocks, read through 128 columns of each, at an index. -/
theorem stack_ld (x y : FVec Ideal S128x512 .f32) (a : ℕ) (ina) (j : Fin 256) (l : Fin 128) (l' : Fin 512) (hl : l'.val = a + l.val) :
    stack (colsAt x a ina) (colsAt y a ina) j l = rows x y j l' := by
  unfold stack rows
  split
  · exact View.ld_unit_apply_of _ _ _ _ _ _ (fun i => by match i with | 0 => simp | 1 => simpa using hl)
  · exact View.ld_unit_apply_of _ _ _ _ _ _ (fun i => by match i with | 0 => simp | 1 => simpa using hl)

/-- One head of a column tile, read from the blocks: with `C` the tile, the query lanes from `128 C + qa` on, the key and
    value lanes from `a + kb` on. -/
theorem headAt_ld (n : ℕ) (sl sk : FVec Ideal S32 .f32) (q : FVec Ideal S128x2048 .bf16) (kp kc vp vc : FVec Ideal S128x512 .f32)
    (a b qa kb h : ℕ) (hqa : qa ≤ 64) (hkb : kb ≤ 64) (ina inb inh) (hh : h < 32) (hb : b % 64 = 0) (hq : b + qa = 64 * h) (hk : a + kb = 64 * (h / 4)) (f₀ f₁)
    (r l : Fin 128) (c : Fin 2048) (hc : c.val = b + l.val) (hl : qa ≤ l.val ∧ l.val < qa + 64) :
    headAt n (colsAt kp a ina) (colsAt kc a ina)
        (colsAt vp a ina) (colsAt vc a ina)
        (qColsAt q b inb) qa kb hqa hkb
        (wordAt sl h inh f₀) (wordAt sk h inh f₁) r l
      = blockAt n sl sk q kp kc vp vc r c := by
  have hch : c.val / 64 = h := by omega
  have hcm : c.val % 64 = l.val % 64 := by omega
  have h1 : ∀ (w : FVec Ideal S32 .f32) f, wordAt w h inh f = w (ix1 ⟨h, hh⟩) := fun w f =>
    View.ld_unit_apply_of _ _ _ _ _ _ (fun i => by
      match i with
      | 0 => have : (f 0).val < 1 := (f 0).isLt
             simp; omega)
  unfold headAt blockAt
  rw [h1, h1]
  have e : (⟨c.val / 64, by omega⟩ : Fin 32) = ⟨h, hh⟩ := Fin.ext hch
  rw [e]
  congr 1
  · funext j
    unfold score blockScore
    congr 2
    refine Finset.sum_congr rfl fun x _ => ?_
    rw [stack_ld kp kc a ina j _ ⟨64 * (h / 4) + x.val, by omega⟩ (by simp; omega)]
    congr 1
    exact View.ld_unit_apply_of _ _ _ _ _ _ (fun i => by
      match i with
      | 0 => simp
      | 1 => simp; omega)
  · funext j
    exact stack_ld vp vc a ina j _ _ (by simp only [hch, hcm]; omega)

/-- The blocks of one grid point, as one function of the index. -/
def blockFn (n : ℕ) (sl sk : FVec Ideal S32 .f32) (q : FVec Ideal S128x2048 .bf16) (kp kc vp vc : FVec Ideal S128x512 .f32) : FVec Ideal S128x2048 .bf16 :=
  fun y => blockAt n sl sk q kp kc vp vc (y 0) (y 1)

/-- The stored piece of an even pair of heads is the block function's columns. -/
theorem pieceLow (i : grid0.Coords) (sl sk : FVec Ideal S32 .f32) (q : FVec Ideal S128x2048 .bf16) (kp kc vp vc : FVec Ideal S128x512 .f32)
    (a b h h' : ℕ) (ina inb inh inh') (hh : h < 31) (h1 : h' = h + 1) (hq : b = 64 * h) (hk : a = 64 * (h / 4)) (he : h % 2 = 0) (f₀ f₁ f₂ f₃)
    (x : (Rect.unit (s := S128x2048) ![0, b] ![128, 128] inb).shape.Idx) :
    pairLow (F := Ideal) i (colsAt kp a ina) (colsAt kc a ina)
        (colsAt vp a ina) (colsAt vc a ina)
        (qColsAt q b inb)
        (wordAt sl h inh f₀) (wordAt sk h inh f₁)
        (wordAt sl h' inh' f₂) (wordAt sk h' inh' f₃) x
      = blockFn (i 1).val sl sk q kp kc vp vc ((Rect.unit (s := S128x2048) ![0, b] ![128, 128] inb).emb x) := by
  obtain ⟨r, l, rfl⟩ : ∃ r l : Fin 128, x = ix2 r l := ⟨x 0, x 1, eq_ix2 x⟩
  have hr : ((Rect.unit (s := S128x2048) ![0, b] ![128, 128] inb).emb (ix2 r l)) 0 = r := Fin.ext (by simp)
  have hc : (((Rect.unit (s := S128x2048) ![0, b] ![128, 128] inb).emb (ix2 r l)) 1).val = b + l.val := by simp
  refine (pairLow_apply i _ _ _ _ _ _ _ _ _ r l).trans ?_
  unfold blockFn
  rw [hr]
  split
  · exact headAt_ld _ sl sk q kp kc vp vc a b 0 0 h _ _ ina inb inh (by omega) (by omega) (by omega) (by omega) _ _ r l _ hc (by omega)
  · exact headAt_ld _ sl sk q kp kc vp vc a b 64 0 h' _ _ ina inb inh' (by omega) (by omega) (by omega) (by omega) _ _ r l _ hc (by omega)

/-- The stored piece of an odd pair of heads is the block function's columns. -/
theorem pieceHigh (i : grid0.Coords) (sl sk : FVec Ideal S32 .f32) (q : FVec Ideal S128x2048 .bf16) (kp kc vp vc : FVec Ideal S128x512 .f32)
    (a b h h' : ℕ) (ina inb inh inh') (hh : h < 31) (h1 : h' = h + 1) (hq : b = 64 * h) (hk : a + 64 = 64 * (h / 4)) (he : h % 2 = 0) (f₀ f₁ f₂ f₃)
    (x : (Rect.unit (s := S128x2048) ![0, b] ![128, 128] inb).shape.Idx) :
    pairHigh (F := Ideal) i (colsAt kp a ina) (colsAt kc a ina)
        (colsAt vp a ina) (colsAt vc a ina)
        (qColsAt q b inb)
        (wordAt sl h inh f₀) (wordAt sk h inh f₁)
        (wordAt sl h' inh' f₂) (wordAt sk h' inh' f₃) x
      = blockFn (i 1).val sl sk q kp kc vp vc ((Rect.unit (s := S128x2048) ![0, b] ![128, 128] inb).emb x) := by
  obtain ⟨r, l, rfl⟩ : ∃ r l : Fin 128, x = ix2 r l := ⟨x 0, x 1, eq_ix2 x⟩
  have hr : ((Rect.unit (s := S128x2048) ![0, b] ![128, 128] inb).emb (ix2 r l)) 0 = r := Fin.ext (by simp)
  have hc : (((Rect.unit (s := S128x2048) ![0, b] ![128, 128] inb).emb (ix2 r l)) 1).val = b + l.val := by simp
  refine (pairHigh_apply i _ _ _ _ _ _ _ _ _ r l).trans ?_
  unfold blockFn
  rw [hr]
  split
  · exact headAt_ld _ sl sk q kp kc vp vc a b 0 64 h _ _ ina inb inh (by omega) (by omega) (by omega) (by omega) _ _ r l _ hc (by omega)
  · exact headAt_ld _ sl sk q kp kc vp vc a b 64 64 h' _ _ ina inb inh' (by omega) (by omega) (by omega) (by omega) _ _ r l _ hc (by omega)

end Cert.Attn
-- ==== Proof.Outs.lean ====
module

public import proofs.«01_k».proof.Proof.Block

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The block a grid point writes, at every index: its sixteen column tiles hold two heads each. -/
theorem outsAt_apply (c : Dev nD) (t : Fin cfg0.N) (y : S128x2048.Idx) :
    outsAt0 m c t y = blockFn (grid0.coords t 1).val (iblk m c 0 t) (iblk m c 1 t) (iblk m c 2 t) (iblk m c 3 t) (iblk m c 4 t) (iblk m c 5 t) (iblk m c 6 t) y := by
  have hy := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) y
  unfold outsAt0 out0_A_7
  rw [View.read_writes_eq_canon _ _ _ (cover0_A_7 c _ _ _ _ _ _ _ _ _ _ _ _ _ _ _ _ _ _ _ _ _ _ _ _)]
  refine View.canon_apply_of_pieces _ _ ?_ y hy
  clear hy
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  simp only [List.forall_mem_cons]
  exact ⟨
    fun x => pieceHigh (grid0.coords t) (iblk m c 0 t) (iblk m c 1 t) (iblk m c 2 t) (iblk m c 3 t) (iblk m c 4 t) (iblk m c 5 t) (iblk m c 6 t) 384 1920 30 31 _ _ _ _ (by omega) rfl rfl rfl rfl _ _ _ _ x,
    fun x => pieceHigh (grid0.coords t) (iblk m c 0 t) (iblk m c 1 t) (iblk m c 2 t) (iblk m c 3 t) (iblk m c 4 t) (iblk m c 5 t) (iblk m c 6 t) 384 1792 28 29 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 384 1664 26 27 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 384 1536 24 25 _ _ _ _ (by omega) rfl rfl rfl rfl _ _ _ _ x,
    fun x => pieceHigh (grid0.coords t) (iblk m c 0 t) (iblk m c 1 t) (iblk m c 2 t) (iblk m c 3 t) (iblk m c 4 t) (iblk m c 5 t) (iblk m c 6 t) 256 1408 22 23 _ _ _ _ (by omega) rfl rfl rfl rfl _ _ _ _ x,
    fun x => pieceHigh (grid0.coords t) (iblk m c 0 t) (iblk m c 1 t) (iblk m c 2 t) (iblk m c 3 t) (iblk m c 4 t) (iblk m c 5 t) (iblk m c 6 t) 256 1280 20 21 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 256 1152 18 19 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 256 1024 16 17 _ _ _ _ (by omega) rfl rfl rfl rfl _ _ _ _ x,
    fun x => pieceHigh (grid0.coords t) (iblk m c 0 t) (iblk m c 1 t) (iblk m c 2 t) (iblk m c 3 t) (iblk m c 4 t) (iblk m c 5 t) (iblk m c 6 t) 128 896 14 15 _ _ _ _ (by omega) rfl rfl rfl rfl _ _ _ _ x,
    fun x => pieceHigh (grid0.coords t) (iblk m c 0 t) (iblk m c 1 t) (iblk m c 2 t) (iblk m c 3 t) (iblk m c 4 t) (iblk m c 5 t) (iblk m c 6 t) 128 768 12 13 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 128 640 10 11 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 128 512 8 9 _ _ _ _ (by omega) rfl rfl rfl rfl _ _ _ _ x,
    fun x => pieceHigh (grid0.coords t) (iblk m c 0 t) (iblk m c 1 t) (iblk m c 2 t) (iblk m c 3 t) (iblk m c 4 t) (iblk m c 5 t) (iblk m c 6 t) 0 384 6 7 _ _ _ _ (by omega) rfl rfl rfl rfl _ _ _ _ x,
    fun x => pieceHigh (grid0.coords t) (iblk m c 0 t) (iblk m c 1 t) (iblk m c 2 t) (iblk m c 3 t) (iblk m c 4 t) (iblk m c 5 t) (iblk m c 6 t) 0 256 4 5 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 0 128 2 3 _ _ _ _ (by omega) rfl rfl rfl rfl _ _ _ _ x,
    fun x => pieceLow (grid0.coords t) (iblk m c 0 t) (iblk m c 1 t) (iblk m c 2 t) (iblk m c 3 t) (iblk m c 4 t) (iblk m c 5 t) (iblk m c 6 t) 0 0 0 1 _ _ _ _ (by omega) rfl rfl rfl rfl _ _ _ _ x,
    fun p hp => absurd hp (List.not_mem_nil)⟩

end Cert.Attn
-- ==== Proof.Arr.lean ====
module

public import proofs.«01_k».proof.Proof.Outs

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-! ## The windows' index maps -/

/-- The second grid coordinate of step `t` is the block's number within its sequence. -/
theorem coords_1 : ∀ t : Fin cfg0.N, (grid0.coords t 1).val = t.val % 32 :=
  (by decide +kernel : ∀ t : Fin grid0.N, (grid0.coords t 1).val = t.val % 32)
/-- Which block the query window visits at each step. -/
theorem index_2 : ∀ t : Fin cfg0.N, win0_2.index t 0 = t.val ∧ win0_2.index t 1 = 0 :=
  (by decide +kernel : ∀ t : Fin grid0.N, win0_2.index t 0 = t.val ∧ win0_2.index t 1 = 0)
/-- Which block the previous key window visits at each step. -/
theorem index_3 : ∀ t : Fin cfg0.N, win0_3.index t 0 = t.val - 1 ∧ win0_3.index t 1 = 0 :=
  (by decide +kernel : ∀ t : Fin grid0.N, win0_3.index t 0 = t.val - 1 ∧ win0_3.index t 1 = 0)
/-- Which block the key window visits at each step. -/
theorem index_4 : ∀ t : Fin cfg0.N, win0_4.index t 0 = t.val ∧ win0_4.index t 1 = 0 :=
  (by decide +kernel : ∀ t : Fin grid0.N, win0_4.index t 0 = t.val ∧ win0_4.index t 1 = 0)
/-- Which block the previous value window visits at each step. -/
theorem index_5 : ∀ t : Fin cfg0.N, win0_5.index t 0 = t.val - 1 ∧ win0_5.index t 1 = 5 :=
  (by decide +kernel : ∀ t : Fin grid0.N, win0_5.index t 0 = t.val - 1 ∧ win0_5.index t 1 = 5)
/-- Which block the value window visits at each step. -/
theorem index_6 : ∀ t : Fin cfg0.N, win0_6.index t 0 = t.val ∧ win0_6.index t 1 = 5 :=
  (by decide +kernel : ∀ t : Fin grid0.N, win0_6.index t 0 = t.val ∧ win0_6.index t 1 = 5)
/-- Which block the result window visits at each step. -/
theorem index_7 : ∀ t : Fin cfg0.N, win0_7.index t 0 = t.val ∧ win0_7.index t 1 = 0 :=
  (by decide +kernel : ∀ t : Fin grid0.N, win0_7.index t 0 = t.val ∧ win0_7.index t 1 = 0)

/-- There are 64 grid steps. -/
theorem t_lt (t : Fin cfg0.N) : t.val < 64 := t.isLt

/-! ## The input blocks, read from the arguments -/

/-- Window 0 hands every step the whole array of slopes. -/
theorem iblk_0 (c : Dev nD) (t : Fin cfg0.N) : iblk m c 0 t = (V m c main_v9 : FVec Ideal S32 .f32) := by
  funext i
  show V m c main_v9 (((cfg0.win 0).blk t).view.emb i) = V m c main_v9 i
  congr 1
  funext a
  refine Fin.ext ?_
  match a with
  | 0 => exact Pipeline.Window.rect_emb_val_of_index_zero win0_0 t 0 rfl i

/-- Window 1 hands every step the whole array of sinks. -/
theorem iblk_1 (c : Dev nD) (t : Fin cfg0.N) : iblk m c 1 t = (m ((c : Thread nD τ).loc main_arg0) : FVec Ideal S32 .f32) := by
  rw [← V_main_arg0 m c]
  funext i
  show V m c main_arg0 (((cfg0.win 1).blk t).view.emb i) = V m c main_arg0 i
  congr 1
  funext a
  refine Fin.ext ?_
  match a with
  | 0 => exact Pipeline.Window.rect_emb_val_of_index_zero win0_1 t 0 rfl i

/-- Window 2 at step `t` is the block of 128 query rows from row `128 t`. -/
theorem iblk_2 (c : Dev nD) (t : Fin cfg0.N) (r : Fin 128) (l : Fin 2048) (R : Fin 8192) (hR : R.val = 128 * t.val + r.val) :
    (iblk m c 2 t : FVec Ideal S128x2048 .bf16) (ix2 r l) = (m ((c : Thread nD τ).loc main_arg1) : FVec Ideal S8192x2048 .bf16) (ix2 R l) := by
  rw [← V_main_arg1 m c]
  show V m c main_arg1 (((cfg0.win 2).blk t).view.emb (ix2 r l)) = V m c main_arg1 (ix2 R l)
  congr 1
  funext a
  refine Fin.ext ?_
  have h := index_2 t
  match a with
  | 0 => exact (Pipeline.Window.rect_emb_val win0_2 t (ix2 r l) 0).trans (by rw [h.1]; exact (congrArg (· + r.val) (Nat.mul_comm _ _)).trans hR.symm)
  | 1 => exact Pipeline.Window.rect_emb_val_of_index_zero win0_2 t 1 h.2 (ix2 r l)

/-- Window 3 at step `t` is the block of key rows before the step's own (the first block at step 0). -/
theorem iblk_3 (c : Dev nD) (t : Fin cfg0.N) (r : Fin 128) (l : Fin 512) (R : Fin 8192) (hR : R.val = 128 * (t.val - 1) + r.val) :
    (iblk m c 3 t : FVec Ideal S128x512 .f32) (ix2 r l) = (m ((c : Thread nD τ).loc main_arg2) : FVec Ideal S8192x512 .f32) (ix2 R l) := by
  rw [← V_main_arg2 m c]
  show V m c main_arg2 (((cfg0.win 3).blk t).view.emb (ix2 r l)) = V m c main_arg2 (ix2 R l)
  congr 1
  funext a
  refine Fin.ext ?_
  have h := index_3 t
  match a with
  | 0 => exact (Pipeline.Window.rect_emb_val win0_3 t (ix2 r l) 0).trans (by rw [h.1]; exact (congrArg (· + r.val) (Nat.mul_comm _ _)).trans hR.symm)
  | 1 => exact Pipeline.Window.rect_emb_val_of_index_zero win0_3 t 1 h.2 (ix2 r l)

/-- Window 4 at step `t` is the step's own block of key rows. -/
theorem iblk_4 (c : Dev nD) (t : Fin cfg0.N) (r : Fin 128) (l : Fin 512) (R : Fin 8192) (hR : R.val = 128 * t.val + r.val) :
    (iblk m c 4 t : FVec Ideal S128x512 .f32) (ix2 r l) = (m ((c : Thread nD τ).loc main_arg2) : FVec Ideal S8192x512 .f32) (ix2 R l) := by
  rw [← V_main_arg2 m c]
  show V m c main_arg2 (((cfg0.win 4).blk t).view.emb (ix2 r l)) = V m c main_arg2 (ix2 R l)
  congr 1
  funext a
  refine Fin.ext ?_
  have h := index_4 t
  match a with
  | 0 => exact (Pipeline.Window.rect_emb_val win0_4 t (ix2 r l) 0).trans (by rw [h.1]; exact (congrArg (· + r.val) (Nat.mul_comm _ _)).trans hR.symm)
  | 1 => exact Pipeline.Window.rect_emb_val_of_index_zero win0_4 t 1 h.2 (ix2 r l)

/-- Window 5 at step `t` is the value columns of the block of rows before the step's own. -/
theorem iblk_5 (c : Dev nD) (t : Fin cfg0.N) (r : Fin 128) (l : Fin 512) (R : Fin 8192) (L : Fin 3072) (hR : R.val = 128 * (t.val - 1) + r.val)
    (hL : L.val = 2560 + l.val) :
    (iblk m c 5 t : FVec Ideal S128x512 .f32) (ix2 r l) = (m ((c : Thread nD τ).loc main_arg3) : FVec Ideal S8192x3072 .f32) (ix2 R L) := by
  rw [← V_main_arg3 m c]
  show V m c main_arg3 (((cfg0.win 5).blk t).view.emb (ix2 r l)) = V m c main_arg3 (ix2 R L)
  congr 1
  funext a
  refine Fin.ext ?_
  have h := index_5 t
  match a with
  | 0 => exact (Pipeline.Window.rect_emb_val win0_5 t (ix2 r l) 0).trans (by rw [h.1]; exact (congrArg (· + r.val) (Nat.mul_comm _ _)).trans hR.symm)
  | 1 => exact (Pipeline.Window.rect_emb_val win0_5 t (ix2 r l) 1).trans (by rw [h.2]; exact hL.symm)

/-- Window 6 at step `t` is the value columns of the step's own block of rows. -/
theorem iblk_6 (c : Dev nD) (t : Fin cfg0.N) (r : Fin 128) (l : Fin 512) (R : Fin 8192) (L : Fin 3072) (hR : R.val = 128 * t.val + r.val)
    (hL : L.val = 2560 + l.val) :
    (iblk m c 6 t : FVec Ideal S128x512 .f32) (ix2 r l) = (m ((c : Thread nD τ).loc main_arg3) : FVec Ideal S8192x3072 .f32) (ix2 R L) := by
  rw [← V_main_arg3 m c]
  show V m c main_arg3 (((cfg0.win 6).blk t).view.emb (ix2 r l)) = V m c main_arg3 (ix2 R L)
  congr 1
  funext a
  refine Fin.ext ?_
  have h := index_6 t
  match a with
  | 0 => exact (Pipeline.Window.rect_emb_val win0_6 t (ix2 r l) 0).trans (by rw [h.1]; exact (congrArg (· + r.val) (Nat.mul_comm _ _)).trans hR.symm)
  | 1 => exact (Pipeline.Window.rect_emb_val win0_6 t (ix2 r l) 1).trans (by rw [h.2]; exact hL.symm)

/-! ## The result array -/

/-- The result array holds at row `128 t + r` what step `t` computed at its row `r`. -/
theorem arr_apply (c : Dev nD) (t : Fin cfg0.N) (r : Fin 128) (l : Fin 2048) (R : Fin 8192) (hR : R.val = 128 * t.val + r.val) :
    ((dats m 0 c).arrAt 7 cfg0.N : FVec Ideal S8192x2048 .bf16) (ix2 R l)
      = blockAt (t.val % 32) (V m c main_v9) (m ((c : Thread nD τ).loc main_arg0)) (iblk m c 2 t) (iblk m c 3 t) (iblk m c 4 t) (iblk m c 5 t) (iblk m c 6 t) r l := by
  have e : ((cfg0.win 7).blk t).view.emb (ix2 r l) = ix2 R l := by
    funext a
    refine Fin.ext ?_
    have h := index_7 t
    match a with
    | 0 => exact (Pipeline.Window.rect_emb_val win0_7 t (ix2 r l) 0).trans (by rw [h.1]; exact (congrArg (· + r.val) (Nat.mul_comm _ _)).trans hR.symm)
    | 1 => exact Pipeline.Window.rect_emb_val_of_index_zero win0_7 t 1 h.2 (ix2 r l)
  have h := (dats m 0 c).arrAt_emb_eq_flushed 7 Value.disjoint7 t (flush0_7 t) (ix2 r l)
  rw [e] at h
  refine h.trans ?_
  rw [Value.flushed7]
  refine (outsAt_apply m c t (ix2 r l)).trans ?_
  rw [iblk_0, iblk_1, coords_1]
  rfl

end Cert.Attn
-- ==== Proof.Spec.lean ====
module

public import proofs.«01_k».proof.Proof.Arr

@[expose] public section

set_option maxRecDepth 16384

noncomputable section

namespace Cert.Attn

open Cert.KernelIdeal Cert.KernelIdeal.Gen Idealize.ShloMosaic Idealize.ShloMosaic.TcCoe Idealize.SL.Sem

/-! ## Sliding-window attention over whole sequences -/

/-- The score of query row `R` for the `s`-th key of its sequence in head `h`: −∞ outside the window. -/
def specScore (sl : FVec Ideal S32 .f32) (q : FVec Ideal S8192x2048 .bf16) (k : FVec Ideal S8192x512 .f32) (R : Fin 8192) (h : Fin 32) (s : Fin 4096) : EReal :=
  if s.val ≤ R.val % 4096 ∧ R.val % 4096 ≤ s.val + 128 then
    (∑ x : Fin 64, q (ix2 R ⟨64 * h.val + x.val, by omega⟩) * k (ix2 ⟨4096 * (R.val / 4096) + s.val, by omega⟩ ⟨64 * (h.val / 4) + x.val, by omega⟩))
      - sl (ix1 h) * ((((R.val % 4096 : ℕ) : ℤ) - (s.val : ℤ) : ℤ) : ℝ)
  else ⊥

/-- The result at row `R` and column `C`. -/
def specAt (sl sk : FVec Ideal S32 .f32) (q : FVec Ideal S8192x2048 .bf16) (k : FVec Ideal S8192x512 .f32) (v : FVec Ideal S8192x3072 .f32)
    (R : Fin 8192) (C : Fin 2048) : EReal :=
  softOut (specScore sl q k R ⟨C.val / 64, by omega⟩)
    (fun s => v (ix2 ⟨4096 * (R.val / 4096) + s.val, by omega⟩ ⟨2560 + (64 * (C.val / 64 / 4) + C.val % 64), by omega⟩)) (sk (ix1 ⟨C.val / 64, by omega⟩))

/-- The keys attended to in a tile are the window's keys of the sequence. -/
def keyEquiv (n r T : ℕ) (hn : n < 32) (hr : r < 128) (hT : T = 128 * n + r) :
    {j : Fin 256 // attends n r j.val} ≃ {s : Fin 4096 // s.val ≤ T ∧ T ≤ s.val + 128} where
  toFun j := ⟨⟨128 * n + j.1.val - 128, by have := j.2; unfold attends at this; omega⟩, by have := j.2; unfold attends at this; show _ ∧ _; dsimp only; omega⟩
  invFun s := ⟨⟨s.1.val + 128 - 128 * n, by have := s.2; omega⟩, by have := s.2; unfold attends; dsimp only; omega⟩
  left_inv j := Subtype.ext (Fin.ext (by have := j.2; unfold attends at this; dsimp only; omega))
  right_inv s := Subtype.ext (Fin.ext (by have := s.2; dsimp only; omega))

/-- A real number, not ±∞. -/
def IsReal (x : EReal) : Prop := ∃ a : ℝ, x = a

/-- A product of two real numbers is real. -/
theorem real_mul {x y : EReal} (hx : ∃ a : ℝ, x = a) (hy : ∃ a : ℝ, y = a) : ∃ a : ℝ, x * y = a := by
  obtain ⟨a, rfl⟩ := hx; obtain ⟨b, rfl⟩ := hy; exact ⟨a * b, (EReal.coe_mul a b).symm⟩

/-- A difference of two real numbers is real. -/
theorem real_sub {x y : EReal} (hx : ∃ a : ℝ, x = a) (hy : ∃ a : ℝ, y = a) : ∃ a : ℝ, x - y = a := by
  obtain ⟨a, rfl⟩ := hx; obtain ⟨b, rfl⟩ := hy; exact ⟨a - b, (EReal.coe_sub a b).symm⟩

/-- A score is below infinity when what it is made of is real. -/
theorem blockScore_ne_top (n : ℕ) (sl : FVec Ideal S32 .f32) (q : FVec Ideal S128x2048 .bf16) (kp kc : FVec Ideal S128x512 .f32)
    (r : Fin 128) (h : Fin 32) (j : Fin 256) (hsl : IsReal (sl (ix1 h))) (hq : ∀ l, IsReal (q (ix2 r l)))
    (hk : attends n r.val j.val → ∀ l, IsReal (rows kp kc j l)) : blockScore n sl q kp kc r h j ≠ ⊤ := by
  unfold blockScore
  split
  · rename_i hj
    obtain ⟨a, ha⟩ := real_sub (real_sum Finset.univ (fun x : Fin 64 => q (ix2 r ⟨64 * h.val + x.val, by omega⟩) * rows kp kc j ⟨64 * (h.val / 4) + x.val, by omega⟩)
      fun x => real_mul (hq _) (hk hj _)) (real_mul hsl ⟨((128 + (r.val : ℤ) - (j.val : ℤ) : ℤ) : ℝ), rfl⟩)
    rw [ha]
    exact EReal.coe_ne_top a
  · exact bot_ne_top

variable (m : (ℓ : Loc nD τ sig) → Buf (Elt Ideal) ℓ)

/-- An attended key's row, in the two blocks of the point, is the sequence's row. -/
theorem rows_k (c : Dev nD) (t : Fin cfg0.N) (r : Fin 128) (j : Fin 256) (hj : attends (t.val % 32) r.val j.val) (l : Fin 512)
    (S : Fin 8192) (hS : S.val = 128 * t.val + j.val - 128) :
    rows (iblk m c 3 t) (iblk m c 4 t) j l = (m ((c : Thread nD τ).loc main_arg2) : FVec Ideal S8192x512 .f32) (ix2 S l) := by
  unfold attends at hj
  unfold rows
  split
  · exact iblk_3 m c t _ l S (by dsimp only; omega)
  · exact iblk_4 m c t _ l S (by dsimp only; omega)

/-- The stacked value rows at an attended key are the sequence's rows. -/
theorem rows_v (c : Dev nD) (t : Fin cfg0.N) (r : Fin 128) (j : Fin 256) (hj : attends (t.val % 32) r.val j.val) (l : Fin 512)
    (S : Fin 8192) (hS : S.val = 128 * t.val + j.val - 128) (L : Fin 3072) (hL : L.val = 2560 + l.val) :
    rows (iblk m c 5 t) (iblk m c 6 t) j l = (m ((c : Thread nD τ).loc main_arg3) : FVec Ideal S8192x3072 .f32) (ix2 S L) := by
  unfold attends at hj
  unfold rows
  split
  · exact iblk_5 m c t _ l S L (by dsimp only; omega) hL
  · exact iblk_6 m c t _ l S L (by dsimp only; omega) hL

/-- The kernel's result array is the attention over whole sequences, given finite sinks, slopes, queries and keys. -/
theorem arr_spec (c : Dev nD) (R : Fin 8192) (C : Fin 2048)
    (hsl : ∀ h, IsReal ((V m c main_v9 : FVec Ideal S32 .f32) (ix1 h)))
    (hsk : ∀ h, IsReal ((m ((c : Thread nD τ).loc main_arg0) : FVec Ideal S32 .f32) (ix1 h)))
    (hq : ∀ R l, IsReal ((m ((c : Thread nD τ).loc main_arg1) : FVec Ideal S8192x2048 .bf16) (ix2 R l)))
    (hk : ∀ R l, IsReal ((m ((c : Thread nD τ).loc main_arg2) : FVec Ideal S8192x512 .f32) (ix2 R l))) :
    ((dats m 0 c).arrAt 7 cfg0.N : FVec Ideal S8192x2048 .bf16) (ix2 R C)
      = specAt (V m c main_v9) (m ((c : Thread nD τ).loc main_arg0)) (m ((c : Thread nD τ).loc main_arg1)) (m ((c : Thread nD τ).loc main_arg2))
          (m ((c : Thread nD τ).loc main_arg3)) R C := by
  have hN : cfg0.N = 64 := rfl
  let t : Fin cfg0.N := ⟨R.val / 128, by omega⟩
  have ht : t.val = R.val / 128 := rfl
  let r : Fin 128 := ⟨R.val % 128, by omega⟩
  have hr : r.val = R.val % 128 := rfl
  have hR : R.val = 128 * t.val + r.val := by omega
  refine (arr_apply m c t r C R hR).trans ?_
  unfold blockAt specAt
  obtain ⟨k0, hk0⟩ := hsk ⟨C.val / 64, by omega⟩
  refine softOut_reindex _ _ _ _ _ (fun j => attends (t.val % 32) r.val j.val) (fun s => s.val ≤ R.val % 4096 ∧ R.val % 4096 ≤ s.val + 128)
    (keyEquiv (t.val % 32) r.val (R.val % 4096) (by omega) r.isLt (by omega)) ?_ ?_ ?_ ?_ ?_ ?_ ?_
  · intro j hj; exact if_neg hj
  · intro s hs; exact if_neg hs
  · intro j
    have hj := j.2
    unfold specScore blockScore
    rw [if_pos (keyEquiv (t.val % 32) r.val (R.val % 4096) (by omega) r.isLt (by omega) j).2, if_pos hj]
    have hj' := hj
    unfold attends at hj'
    congr 1
    · refine Finset.sum_congr rfl fun x _ => ?_
      rw [iblk_2 m c t r _ R hR, rows_k m c t r j.1 hj _ ⟨4096 * (R.val / 4096) + (128 * (t.val % 32) + j.1.val - 128), by omega⟩ (by dsimp only; omega)]
      rfl
    · congr 3
      show ((R.val % 4096 : ℕ) : ℤ) - ((128 * (t.val % 32) + j.1.val - 128 : ℕ) : ℤ) = _
      omega
  · intro j
    have hj := j.2
    have hj' := hj
    unfold attends at hj'
    exact (rows_v m c t r j.1 hj _ ⟨4096 * (R.val / 4096) + (128 * (t.val % 32) + j.1.val - 128), by omega⟩ (by dsimp only; omega) _ (by rfl)).symm
  · rw [hk0]; exact EReal.coe_ne_bot _
  · rw [hk0]; exact EReal.coe_ne_top _
  · intro j
    refine blockScore_ne_top _ _ _ _ _ _ _ _ (hsl _) (fun l => ?_) fun hj l => ?_
    · rw [iblk_2 m c t r _ R hR]; exact hq _ _
    · have hj' := hj
      unfold attends at hj'
      rw [rows_k m c t r j hj _ ⟨4096 * (R.val / 4096) + (128 * (t.val % 32) + j.val - 128), by omega⟩ (by dsimp only; omega)]; exact hk _ _

end Cert.Attn
-- ==== Proof.Ref.lean ====
module

public import proofs.«01_k».proof.Proof.Spec
public import proofs.«01_k».proof.Proof.Gen.ReferenceIdeal.Read

@[expose] public section

set_option maxRecDepth 16384

noncomputable section

namespace Cert.Attn

open Cert.ReferenceIdeal Cert.ReferenceIdeal.Read Idealize.ShloMosaic Idealize.ShloMosaic.TcCoe Idealize.SL.Sem

/-! ## The reference's result, read at an index -/

/-- The row of batch `b` and position `t`. -/
abbrev rowOf (b : Fin 2) (t : Fin 4096) : Fin 8192 := ⟨4096 * b.val + t.val, by omega⟩
/-- Query head `r` of key/value head `g`. -/
abbrev headOf (g : Fin 8) (r : Fin 4) : Fin 32 := ⟨4 * g.val + r.val, by omega⟩

variable (x0 : FVec Ideal S32 .f32) (x1 : FVec Ideal S8192x2048 .bf16) (x2 : FVec Ideal S8192x512 .f32) (x3 : FVec Ideal S8192x3072 .f32)

/-- The reference's queries by batch, position and head. -/
theorem q_apply (b : Fin 2) (t : Fin 4096) (g : Fin 8) (r : Fin 4) (x : Fin 64) :
    val_main_v1 (F := Ideal) x1 (ix5 b t g r x) = x1 (ix2 (rowOf b t) ⟨64 * (headOf g r).val + x.val, by omega⟩) := by
  rw [val_main_v1_apply]
  refine congrArg x1 (funext fun a => Fin.ext ?_)
  match a with
  | 0 => show ((((b.val * 4096 + t.val) * 8 + g.val) * 4 + r.val) * 64 + x.val) / 2048 = 4096 * b.val + t.val; omega
  | 1 => show ((((b.val * 4096 + t.val) * 8 + g.val) * 4 + r.val) * 64 + x.val) % 2048 = 64 * (4 * g.val + r.val) + x.val; omega

/-- The reference's keys by batch, position and head. -/
theorem k_apply (b : Fin 2) (t : Fin 4096) (g : Fin 8) (x : Fin 64) :
    val_main_v2 (F := Ideal) x2 (ix4 b t g x) = x2 (ix2 (rowOf b t) ⟨64 * g.val + x.val, by omega⟩) := by
  rw [val_main_v2_apply]
  refine congrArg x2 (funext fun a => Fin.ext ?_)
  match a with
  | 0 => show (((b.val * 4096 + t.val) * 8 + g.val) * 64 + x.val) / 512 = 4096 * b.val + t.val; omega
  | 1 => show (((b.val * 4096 + t.val) * 8 + g.val) * 64 + x.val) % 512 = 64 * g.val + x.val; omega

/-- The reference's values by batch, position and head. -/
theorem v_apply (b : Fin 2) (t : Fin 4096) (g : Fin 8) (x : Fin 64) :
    val_main_v4 (F := Ideal) x3 (ix4 b t g x) = x3 (ix2 (rowOf b t) ⟨2560 + (64 * g.val + x.val), by omega⟩) := by
  rw [val_main_v4_apply, val_main_v3_apply]
  refine congrArg x3 (funext fun a => Fin.ext ?_)
  match a with
  | 0 => show (((b.val * 4096 + t.val) * 8 + g.val) * 64 + x.val) / 512 = 4096 * b.val + t.val; omega
  | 1 => show 2560 + (((b.val * 4096 + t.val) * 8 + g.val) * 64 + x.val) % 512 = 2560 + (64 * g.val + x.val); omega

/-- The reference's distance between two positions. -/
theorem dist_apply (t s : Fin 4096) : (val_main_v12 (F := Ideal) (ix2 t s)).toInt = (t.val : ℤ) - (s.val : ℤ) := by
  have h : val_main_v12 (F := Ideal) (ix2 t s) = IntOp.subi (BitVec.ofNat 32 t.val) (BitVec.ofNat 32 s.val) := by
    rw [val_main_v12_apply, val_main_v10_apply, val_main_v11_apply, val_main_v8_apply, val_main_v9_apply]
    rfl
  rw [h, toInt_subi, toInt_nat _ (by omega), toInt_nat _ (by omega)] <;> rw [toInt_nat _ (by omega), toInt_nat _ (by omega)] <;> omega

/-- The reference's mask holds on the window of 129 keys that ends at the query. -/
theorem mask_apply (t s : Fin 4096) : val_main_v17 (F := Ideal) (ix2 t s) = 1#1 ↔ (s.val ≤ t.val ∧ t.val ≤ s.val + 128) := by
  have h0 : (0#32).toInt = 0 := by decide
  have h128 : (128#32).toInt = 128 := by decide
  rw [val_main_v17_apply, IntOp.andi_eq_one, val_main_v14_apply, val_main_v16_apply, IntOp.cmpi_sge, IntOp.cmpi_sle, val_main_v13_apply, val_main_v15_apply,
    val_main_c_apply, val_main_c_0_apply, dist_apply, h0, h128]
  omega

/-- The reference's distance penalty at an index. -/
theorem slope_apply (b : Fin 2) (g : Fin 8) (r : Fin 4) (t s : Fin 4096) :
    val_main_v35 (F := Ideal) (ix5 b g r t s) = val_main_v27 (F := Ideal) (ix1 (headOf g r)) * ((((t.val : ℤ) - (s.val : ℤ) : ℤ) : ℝ) : EReal) := by
  rw [val_main_v35_apply, val_main_v34_apply, val_main_v32_apply, val_main_v33_apply, val_main_v29_apply, val_main_v31_apply, val_main_v28_apply,
    val_main_v30_apply, ← dist_apply]
  have e : idx_main_v28 (idx_main_v29 (idx_main_v32 (idx_main_v35 (ix5 b g r t s)))) = ix1 (headOf g r) := funext fun a => Fin.ext (by
    match a with
    | 0 => show g.val * 4 + r.val = 4 * g.val + r.val; omega)
  rw [e]
  rfl

/-- The reference's masked score at an index. -/
theorem score_apply (b : Fin 2) (g : Fin 8) (r : Fin 4) (t s : Fin 4096) :
    val_main_v37 (F := Ideal) x1 x2 (ix5 b g r t s) = specScore (val_main_v27 (F := Ideal)) x1 x2 (rowOf b t) (headOf g r) s := by
  have hm : ∀ c : BitVec 1, ∀ x y : EReal, Scalar.select c x y = if c = 1#1 then x else y := fun _ _ _ => rfl
  rw [val_main_v37_apply, hm, val_main_call0_v1_apply, val_main_v36_apply, val_main_v6_apply, val_main_v5_apply, slope_apply, val_main_call0_v2_apply]
  have e : idx_main_call0_v1 (ix5 b g r t s) = ix2 t s := funext fun a => Fin.ext (by match a with | 0 => rfl | 1 => rfl)
  rw [e]
  unfold specScore
  have ht : (rowOf b t).val % 4096 = t.val := by show (4096 * b.val + t.val) % 4096 = t.val; omega
  have hb : (rowOf b t).val / 4096 = b.val := by show (4096 * b.val + t.val) / 4096 = b.val; omega
  have hg : (headOf g r).val / 4 = g.val := by show (4 * g.val + r.val) / 4 = g.val; omega
  simp only [ht, hb, hg]
  by_cases h : s.val ≤ t.val ∧ t.val ≤ s.val + 128
  · rw [if_pos ((mask_apply t s).2 h), if_pos h]
    show (∑ k : Fin 64, _) - _ = _
    congr 1
    refine Finset.sum_congr rfl fun x _ => ?_
    rw [mul_comm]
    refine congrArg₂ (· * ·) ?_ ?_
    · exact (congrArg _ (funext fun a => Fin.ext (by match a with | 0 => rfl | 1 => rfl | 2 => rfl | 3 => rfl | 4 => rfl))).trans (q_apply x1 b t g r x)
    · exact (congrArg _ (funext fun a => Fin.ext (by match a with | 0 => rfl | 1 => rfl | 2 => rfl | 3 => rfl))).trans (k_apply x2 b s g x)
  · rw [if_neg (fun h' => h ((mask_apply t s).1 h')), if_neg h]
    exact ofBits_neg_inf

/-- The reference's sink at an index. -/
theorem sink_apply (b : Fin 2) (g : Fin 8) (r : Fin 4) (t : Fin 4096) :
    val_main_v42 (F := Ideal) x0 (ix5 b g r t 0) = x0 (ix1 (headOf g r)) ∧ val_main_v49 (F := Ideal) x0 (ix5 b g r t 0) = x0 (ix1 (headOf g r)) := by
  rw [val_main_v42_apply, val_main_v49_apply, val_main_v39_apply, val_main_v38_apply]
  constructor <;> refine congrArg x0 (funext fun a => Fin.ext ?_) <;> match a with
  | 0 => show g.val * 4 + r.val = 4 * g.val + r.val; omega

/-- The reference's row maximum of the scores. -/
theorem fold_apply (b : Fin 2) (g : Fin 8) (r : Fin 4) (t : Fin 4096) :
    val_main_v40 (F := Ideal) x1 x2 (ix4 b g r t)
      = Finset.univ.fold max ⊥ (specScore (val_main_v27 (F := Ideal)) x1 x2 (rowOf b t) (headOf g r)) := by
  unfold val_main_v40
  rw [Host.reduce_eq_fold_single FloatOps.maximumf _ _ _ (by decide : S2x8x4x4096x4096.Reduces [4] S2x8x4x4096)]
  have h0 : ∀ i, val_main_cst_5 (F := Ideal) i = ⊥ := fun i => (val_main_cst_5_apply i).trans ofBits_neg_inf
  rw [h0]
  show Finset.univ.fold max ⊥ _ = _
  refine congrArg (Finset.univ.fold max ⊥) (funext fun s => ?_)
  refine Eq.trans (congrArg (val_main_v37 (F := Ideal) x1 x2) (funext fun a => Fin.ext ?_)) (score_apply x1 x2 b g r t s)
  match a with | ⟨0, _⟩ => rfl | ⟨1, _⟩ => rfl | ⟨2, _⟩ => rfl | ⟨3, _⟩ => rfl | ⟨4, _⟩ => rfl

/-- The reference's row maximum with the sink. -/
theorem max_apply (b : Fin 2) (g : Fin 8) (r : Fin 4) (t : Fin 4096) :
    val_main_v43 (F := Ideal) x0 x1 x2 (ix5 b g r t 0)
      = smax (specScore (val_main_v27 (F := Ideal)) x1 x2 (rowOf b t) (headOf g r)) (x0 (ix1 (headOf g r))) := by
  rw [val_main_v43_apply, (sink_apply x0 b g r t).1, val_main_v41_apply]
  have e : idx_main_v41 (ix5 b g r t 0) = ix4 b g r t := funext fun a => Fin.ext (by match a with | 0 => rfl | 1 => rfl | 2 => rfl | 3 => rfl)
  rw [e, fold_apply]
  rfl

/-- The reference's exponential at an index. -/
theorem exp_apply (b : Fin 2) (g : Fin 8) (r : Fin 4) (t s : Fin 4096) :
    val_main_v46 (F := Ideal) x0 x1 x2 (ix5 b g r t s)
      = Ideal.exp (specScore (val_main_v27 (F := Ideal)) x1 x2 (rowOf b t) (headOf g r) s
          - smax (specScore (val_main_v27 (F := Ideal)) x1 x2 (rowOf b t) (headOf g r)) (x0 (ix1 (headOf g r)))) := by
  rw [val_main_v46_apply, val_main_v45_apply, score_apply, val_main_v44_apply]
  have e : idx_main_v44 (ix5 b g r t s) = ix5 b g r t 0 := funext fun a => Fin.ext (by match a with | 0 => rfl | 1 => rfl | 2 => rfl | 3 => rfl | 4 => rfl)
  rw [e, max_apply]
  rfl

/-- The reference's denominator at a row. -/
theorem den_apply (b : Fin 2) (g : Fin 8) (r : Fin 4) (t : Fin 4096) :
    val_main_v52 (F := Ideal) x0 x1 x2 (ix5 b g r t 0)
      = sden (specScore (val_main_v27 (F := Ideal)) x1 x2 (rowOf b t) (headOf g r)) (x0 (ix1 (headOf g r))) := by
  rw [val_main_v52_apply, val_main_v51_apply, val_main_v50_apply, (sink_apply x0 b g r t).2, max_apply, val_main_v48_apply, val_main_v47_apply]
  have h0 : ∀ i, val_main_cst_6 (F := Ideal) i = 0 := fun i => (val_main_cst_6_apply i).trans Ideal.ofBits_zero_f32
  rw [h0, zero_add]
  unfold sden
  show (∑ k : Fin 4096, _) + _ = _
  congr 1
  refine Finset.sum_congr rfl fun s _ => ?_
  exact (congrArg _ (funext fun a => Fin.ext (by match a with | 0 => rfl | 1 => rfl | 2 => rfl | 3 => rfl | 4 => rfl))).trans (exp_apply x0 x1 x2 b g r t s)

/-- The reference's result is the attention over whole sequences. -/
theorem ref_spec (R : Fin 8192) (C : Fin 2048) :
    val_main_v58 (F := Ideal) x0 x1 x2 x3 (ix2 R C) = specAt (val_main_v27 (F := Ideal)) x0 x1 x2 x3 R C := by
  have hR := R.isLt
  have hC := C.isLt
  rw [val_main_v58_apply, val_main_v57_apply, val_main_v56_apply]
  let b : Fin 2 := ⟨R.val / 4096, by omega⟩
  let t : Fin 4096 := ⟨R.val % 4096, by omega⟩
  let g : Fin 8 := ⟨C.val / 256, by omega⟩
  let r : Fin 4 := ⟨C.val / 64 % 4, by omega⟩
  let d : Fin 64 := ⟨C.val % 64, by omega⟩
  have e : idx_main_v56 (idx_main_v57 (ix2 R C)) = ix5 b g d r t := funext fun a => Fin.ext (by
    match a with
    | 0 => show (R.val * 2048 + C.val) / 8388608 = R.val / 4096; omega
    | 1 => show (R.val * 2048 + C.val) / 256 % 8 = C.val / 256; omega
    | 2 => show (R.val * 2048 + C.val) % 64 = C.val % 64; omega
    | 3 => show (R.val * 2048 + C.val) / 64 % 4 = C.val / 64 % 4; omega
    | 4 => show (R.val * 2048 + C.val) / 2048 % 4096 = R.val % 4096; omega)
  rw [e, val_main_v55_apply]
  have hrow : rowOf b t = R := Fin.ext (by show 4096 * (R.val / 4096) + R.val % 4096 = R.val; omega)
  have hhead : headOf g r = ⟨C.val / 64, by omega⟩ := Fin.ext (by show 4 * (C.val / 256) + C.val / 64 % 4 = C.val / 64; omega)
  unfold specAt softOut
  show (∑ k : Fin 4096, _) = _
  refine Finset.sum_congr rfl fun s _ => ?_
  rw [mul_comm]
  refine congrArg₂ (· * ·) ?_ ?_
  · have e' : ridx_main_v55 (ix5 b g d r t) s = ix5 b g r t s := funext fun a => Fin.ext (by match a with | 0 => rfl | 1 => rfl | 2 => rfl | 3 => rfl | 4 => rfl)
    have e'' : idx_main_v53 (ix5 b g r t s) = ix5 b g r t 0 := funext fun a => Fin.ext (by match a with | 0 => rfl | 1 => rfl | 2 => rfl | 3 => rfl | 4 => rfl)
    rw [e', val_main_v54_apply, exp_apply, val_main_v53_apply, e'', den_apply, hrow, hhead]
    rfl
  · have e' : lidx_main_v55 (ix5 b g d r t) s = ix4 b s g d := funext fun a => Fin.ext (by match a with | 0 => rfl | 1 => rfl | 2 => rfl | 3 => rfl)
    rw [e', v_apply]
    congr 2
    exact Fin.ext (by show 2560 + (64 * (C.val / 256) + C.val % 64) = 2560 + (64 * (C.val / 64 / 4) + C.val % 64); omega)

/-! ## The slopes -/

/-- A literal whose exponent field is not all ones is a real number. -/
theorem lit_real (w : BitVec 32) (h : (w.extractLsb' 23 8).toNat ≠ 255) : IsReal (Ideal.ofBits .f32 w) := by
  show IsReal (Ideal.ieee 8 23 w)
  unfold Ideal.ieee
  dsimp only
  rw [if_neg (show ¬(w.extractLsb' 23 8).toNat = 2 ^ 8 - 1 from h)]
  split
  · exact ⟨_, rfl⟩
  · exact ⟨_, rfl⟩

/-- A sum of two real numbers is real. -/
theorem real_add {x y : EReal} (hx : IsReal x) (hy : IsReal y) : IsReal (x + y) := by
  obtain ⟨a, rfl⟩ := hx; obtain ⟨b, rfl⟩ := hy; exact ⟨a + b, (EReal.coe_add a b).symm⟩

/-- The slopes are real numbers. -/
theorem slope_real (h : Fin 32) : IsReal (val_main_v27 (F := Ideal) (ix1 h)) := by
  rw [val_main_v27_apply, val_main_v26_apply, val_main_v24_apply, val_main_v25_apply, val_main_cst_3_apply, val_main_v22_apply, val_main_v21_apply, val_main_cst_1_apply,
    val_main_v20_apply, val_main_v19_apply, val_main_cst_apply, val_main_v23_apply, val_main_cst_2_apply]
  have h32 : Ideal.ofBits .f32 0x42000000#32 = ((32 : ℝ) : EReal) := by
    show Ideal.ieee 8 23 0x42000000#32 = _
    unfold Ideal.ieee
    have he : ((0x42000000#32).extractLsb' 23 8).toNat = 132 := by decide
    have hf : ((0x42000000#32).extractLsb' 0 23).toNat = 0 := by decide
    have hs : ((0x42000000#32).extractLsb' (8 + 23) 1 == 1#1) = false := by decide
    simp only [he, hf, hs]
    norm_num
  have key : IsReal (Ideal.ofBits .f32 0x3F317218#32 * Ideal.div (Ideal.ofBits .f32 0xC1000000#32 * (Ideal.ofBits .f32 0x3F800000#32 + (((BitVec.ofNat 32 h.val).toInt : ℝ) : EReal)))
      (Ideal.ofBits .f32 0x42000000#32)) := by
    refine real_mul (lit_real _ (by decide)) ?_
    rw [h32]
    unfold Ideal.div
    rw [if_neg (by norm_num)]
    refine real_mul (real_mul (lit_real _ (by decide)) (real_add (lit_real _ (by decide)) ⟨_, rfl⟩)) ⟨(32 : ℝ)⁻¹, (EReal.coe_inv _).symm⟩
  obtain ⟨a, ha⟩ := key
  refine ⟨Real.exp a, Eq.trans ?_ (Ideal.exp_coe a)⟩
  exact congrArg Ideal.exp ha

end Cert.Attn
-- ==== Proof.Final.lean ====
module

public import proofs.«01_k».proof.Proof.Ref
public import proofs.«01_k».proof.Pre_finite
public import proofs.«01_k».proof.Defs
public import proofs.«01_k».proof.Proof.Gen.KernelIdeal.Value
public import Idealize.ShloMosaic.Lib.ReduceAll
public import Idealize.ShloMosaic.Lib.StableHlo.ReadAt

@[expose] public section

set_option maxRecDepth 16384

noncomputable section

/-- The shape relations the precondition states. -/
instance Cert.Pre_finite.facts : Cert.Pre_finite.Facts where
  bcast_S_S32 := by decide
  reducesTo_S32_S_d0 := by decide
  h_S_ := by decide
  bitsLt_bf16_f32 := by decide
  bcast_S_S8192x2048 := by decide
  reducesTo_S8192x2048_S_d0_1 := by decide
  bcast_S_S8192x512 := by decide
  reducesTo_S8192x512_S_d0_1 := by decide

namespace Cert.Attn

open Idealize.ShloMosaic Idealize.ShloMosaic.TcCoe Idealize.SL.Sem

/-- A value whose magnitude is below infinity is a real number. -/
theorem real_of_lt {x : EReal} (h : Ideal.cmp .olt (max x (-x)) (Ideal.ofBits .f32 0x7F800000#32) = 1#1) : IsReal x := by
  have hi : Ideal.ofBits .f32 0x7F800000#32 = ⊤ := by
    show Ideal.ieee 8 23 0x7F800000#32 = _
    unfold Ideal.ieee
    have he : ((0x7F800000#32).extractLsb' 23 8).toNat = 255 := by decide
    have hf : ((0x7F800000#32).extractLsb' 0 23).toNat = 0 := by decide
    have hs : ((0x7F800000#32).extractLsb' (8 + 23) 1 == 1#1) = false := by decide
    simp only [he, hf, hs]
    norm_num
  rw [hi] at h
  induction x with
  | bot => simp [Ideal.cmp] at h
  | top => simp [Ideal.cmp] at h
  | coe a => exact ⟨a, rfl⟩

/-- The precondition holds only where the sinks, the queries and the keys are real numbers. -/
theorem pre_real (x0 : FVec Ideal Pre_finite.S32 .f32) (x1 : FVec Ideal Pre_finite.S8192x2048 .bf16) (x2 : FVec Ideal Pre_finite.S8192x512 .f32)
    (x3 : FVec Ideal Pre_finite.S8192x3072 .f32) (h : Pre_finite.fn (F := Ideal) x0 x1 x2 x3 = fun _ => 1#1) :
    (∀ i, IsReal (x0 i)) ∧ (∀ i, IsReal (x1 i)) ∧ ∀ i, IsReal (x2 i) := by
  dsimp only [Pre_finite.fn] at h
  have h0 := congrFun h (fun a => a.elim0)
  obtain ⟨h01, h2⟩ := IntOp.andi_eq_one.mp h0
  obtain ⟨h0, h1⟩ := IntOp.andi_eq_one.mp h01
  haveI : Subsingleton Pre_finite.S_.Idx := ⟨fun _ _ => funext fun a => a.elim0⟩
  exact ⟨fun i => real_of_lt (Host.reduce_andi_all _ _ _ _ _ h0 i), fun i => real_of_lt (Host.reduce_andi_all _ _ _ _ _ h1 i),
    fun i => real_of_lt (Host.reduce_andi_all _ _ _ _ _ h2 i)⟩

section
open Cert.KernelIdeal Cert.KernelIdeal.Gen
variable (m : (ℓ : Loc nD τ sig) → Buf (Elt Ideal) ℓ)

/-- The slopes the kernel's host lines compute are the reference's. -/
theorem slopes_eq (c : Dev nD) : (V m c main_v9 : FVec Ideal S32 .f32) = Cert.ReferenceIdeal.Read.val_main_v27 (F := Ideal) := by
  unfold V
  after_reads_simp
  rfl

/-- Under the precondition the kernel's result array is the reference's result. -/
theorem attn_eq (hpre : Pre_KernelIdeal_finite m) (c : Dev nD) :
    ((dats m 0 c).arrAt 7 cfg0.N : FVec Ideal S8192x2048 .bf16)
      = Cert.ReferenceIdeal.Read.val_main_v58 (F := Ideal) (m ((c : Thread nD τ).loc main_arg0)) (m ((c : Thread nD τ).loc main_arg1))
          (m ((c : Thread nD τ).loc main_arg2)) (m ((c : Thread nD τ).loc main_arg3)) := by
  obtain ⟨h0, h1, h2⟩ := pre_real _ _ _ _ (hpre c)
  funext i
  obtain ⟨R, C, rfl⟩ : ∃ R C, i = ix2 R C := ⟨i 0, i 1, eq_ix2 i⟩
  rw [arr_spec m c R C (fun h => by rw [slopes_eq]; exact slope_real h) (fun h => h0 _) (fun R l => h1 _) (fun R l => h2 _), slopes_eq]
  exact (ref_spec _ _ _ _ R C).symm

end

/-- The idealized kernel and the idealized reference end with equal results. -/
theorem algebraic : Cert.algebraic_KernelIdeal_ReferenceIdeal_pre_finite := by
  intro m ρ m' ρ' hpre hag
  refine ⟨fun c => (Cert.KernelIdeal.Gen.dats m 0 c).arrAt 7 Cert.KernelIdeal.cfg0.N, Cert.KernelIdeal.Value.run_blocks m ρ, ?_⟩
  refine (θ_run Cert.ReferenceIdeal.defs _ _).mono (fun r h c => ⟨((h c).1.trans (Cert.ReferenceIdeal.Read.val_main_v58_eq m' c)).trans ?_, (h c).2⟩)
    (Cert.ReferenceIdeal.Value.run m' ρ')
  obtain ⟨e0, e1, e2, e3⟩ := hag c
  rw [e0, e1, e2, e3]
  exact (attn_eq m hpre c).symm

/-- The idealized reference runs, leaves its arguments and ends with every semaphore at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Attn

end
-- ==== Proof.UpRunI.lean ====
module

public import proofs.«01_k».proof.Proof.Gen.Kernel2Ideal.Skeleton
public import proofs.«01_k».proof.Proof.Gen.Kernel2Ideal.Launch
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.ValueIdxCore
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-- The resource algebra the kernel is proved over. -/
abbrev MM := MT nD τ sig Unit (Elt Ideal) ℕ (UR sig nD τ) ℕ

/-- The tables of the tiles' experts and of the halves that hold rows, and the place of the weights kept between steps. -/
abbrev teM : Memref sig .tc .smem S23 .i32 := Memref.whole main_arg3
/-- The table of the tiles' halves that hold rows. -/
abbrev nlM : Memref sig .tc .smem S23 .i32 := Memref.whole main_arg4
/-- The table of the tiles' places. -/
abbrev tsM : Memref sig .tc .smem S23 .i32 := Memref.whole main_arg5
/-- The kept weights. -/
abbrev wM : Memref sig .tc .vmem S2048x1024 .bf16 := Memref.whole cc0_scratch0

/-- Entry `k` of a table over the tiles. -/
abbrev ent (T : S23.Idx → Elt Ideal .i32) (k : Fin 23) : BitVec 32 := T (fun a => ⟨k.val, by fin_cases a; exact k.isLt⟩)

/-- The tile of a grid point, and the tile before it (the first tile itself at the first). -/
abbrev tile (i : grid0.Coords) : Fin 23 := ⟨(i 1).val, (i 1).isLt⟩
/-- The tile before. -/
abbrev tileP (i : grid0.Coords) : Fin 23 := ⟨(i 1).val - 1, lt_of_le_of_lt (Nat.sub_le _ _) (i 1).isLt⟩

/-- The first read of a table is at the tile. -/
theorem off1_tile (i : grid0.Coords) : k0_off1 i 0 = (tile i).val := by
  have h : ∀ k : Fin 23, (Scalar.indexCast (BitVec.ofNat 32 k.val)).toNat = k.val := by decide
  exact h (tile i)

/-- The second read is at the tile. -/
theorem off2_tile (i : grid0.Coords) : k0_off2 i 0 = (tile i).val := off1_tile i

/-- The third read is at the tile before. -/
theorem off3_tile (i : grid0.Coords) : k0_off3 i 0 = (tileP i).val := by
  have h : ∀ k : Fin 23, (Scalar.indexCast (Scalar.maxsi (Scalar.subi (BitVec.ofNat 32 k.val) 1#32) 0#32)).toNat = k.val - 1 := by decide
  exact h (tile i)

/-- A scalar read of the table of the experts through a rectangle of one entry is that entry. -/
theorem word_te (T : S23.Idx → Elt Ideal .i32) (off : Fin 1 → ℕ) (inb) (k : Fin 23) (h : off 0 = k.val) :
    View.readAt (Elt Ideal) teM.view (Rect.unit (s := S23) off S1.size inb).toLoadRect T (Shape.Idx.first (numel1_S1.symm ▸ Nat.one_pos)) = ent T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A scalar read of the table of the halves through a rectangle of one entry is that entry. -/
theorem word_nl (T : S23.Idx → Elt Ideal .i32) (off : Fin 1 → ℕ) (inb) (k : Fin 23) (h : off 0 = k.val) :
    View.readAt (Elt Ideal) nlM.view (Rect.unit (s := S23) off S1.size inb).toLoadRect T (Shape.Idx.first (numel1_S1.symm ▸ Nat.one_pos)) = ent T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- The weights are brought in at the first tile and where the tile's expert is not the tile before's. -/
abbrev reload (i : grid0.Coords) (T0 : S23.Idx → Elt Ideal .i32) : Prop := (tile i).val = 0 ∨ ent T0 (tile i) ≠ ent T0 (tileP i)

/-- The printed decision on bringing the weights in, read as `reload`. -/
theorem reload_iff (k : Fin 23) (p q : BitVec 32) :
    Scalar.cmpi .ne (Scalar.extui (Scalar.ori (Scalar.cmpi .eq (BitVec.ofNat 32 k.val) 0#32) (Scalar.cmpi .ne p q)) : BitVec 32) 0#32 = 1#1 ↔ k.val = 0 ∨ p ≠ q := by
  have key : ∀ (k : Fin 23) (b : Bool), Scalar.cmpi .ne (Scalar.extui (Scalar.ori (Scalar.cmpi .eq (BitVec.ofNat 32 k.val) 0#32) (BitVec.ofBool b)) : BitVec 32) 0#32 = 1#1 ↔ k.val = 0 ∨ b = true := by decide
  have hb : Scalar.cmpi .ne p q = BitVec.ofBool (p != q) := rfl
  rw [hb, key]
  simp

/-- The weights kept between steps: the gate's columns before the upward projection's. -/
def wcat (x1 x2 : S1x2048x512.Idx → Elt Ideal .f32) : S2048x1024.Idx → Elt Ideal .bf16 := fun y =>
  if h : (y 1).val < 512 then k0_pay1 x1 (ix2 ⟨(y 0).val, (y 0).isLt⟩ ⟨(y 1).val, h⟩)
  else k0_pay2 x2 (ix2 ⟨(y 0).val, (y 0).isLt⟩ ⟨(y 1).val - 512, by have : (y 1).val < 1024 := (y 1).isLt; omega⟩)

/-- The two stores of the weights leave the weights side by side, through any view of their shape. -/
theorem read_wcat {sg : RefSig} (v : View sg .tc .vmem S2048x1024 .bf16) (f : v.ty.Contents (Elt Ideal)) (x1 x2 : S1x2048x512.Idx → Elt Ideal .f32) (h h') :
    v.read (Elt Ideal) (v.writes (Elt Ideal) f [⟨Rect.unit (s := S2048x1024) ![0, 512] S2048x512.size h, k0_pay2 x2⟩, ⟨Rect.unit (s := S2048x1024) ![0, 0] S2048x512.size h', k0_pay1 x1⟩]) = wcat x1 x2 := by
  funext y
  by_cases hy : (y 1).val < 512
  · rw [View.read_writes_cons_miss_of_axis _ _ _ _ y 1 512 512 rfl rfl rfl (Or.inl hy), wcat, dif_pos hy]
    refine View.read_writes_cons_hit_of_coords _ _ _ _ _ _ _ fun a => ?_
    fin_cases a <;> simp [Rect.unit]
  · rw [wcat, dif_neg hy]
    refine View.read_writes_cons_hit_of_coords _ _ _ _ _ _ _ fun a => ?_
    have : (y 1).val < 1024 := (y 1).isLt
    fin_cases a
    · simp [Rect.unit]
    · show (y 1).val = 512 + 1 * ((y 1).val - 512)
      omega

/-- The two stores into the kept weights. -/
theorem writes_wcat (a : S2048x1024.Idx → Elt Ideal .bf16) (x1 x2 : S1x2048x512.Idx → Elt Ideal .f32) (h h') :
    wM.view.writes (Elt Ideal) a [⟨Rect.unit (s := S2048x1024) ![0, 512] S2048x512.size h, k0_pay2 x2⟩, ⟨Rect.unit (s := S2048x1024) ![0, 0] S2048x512.size h', k0_pay1 x1⟩] = wcat x1 x2 := by
  have e := read_wcat wM.view a x1 x2 h h'
  have hr : ∀ f : S2048x1024.Idx → Elt Ideal .bf16, wM.view.read (Elt Ideal) f = f := fun _ => rfl
  exact (hr _).symm.trans e

/-- The upper half of a tile's rows. -/
abbrev upper (x0 : S1024x2048.Idx → Elt Ideal .bf16) : S512x2048.Idx → Elt Ideal .bf16 :=
  VecWindow.window (s := S1024x2048) x0 ![0, 0] S512x2048.size inb_S1024x2048_S512x2048_0_0

/-- What a tile with rows in its upper half alone leaves: that half's result over zeros. -/
def halfO (x0 : S1024x2048.Idx → Elt Ideal .bf16) (w : S2048x1024.Idx → Elt Ideal .bf16) : S1024x512.Idx → Elt Ideal .bf16 := fun y =>
  if h : (y 0).val < 512 then k0_pay4 (upper x0) w (ix2 ⟨(y 0).val, h⟩ ⟨(y 1).val, (y 1).isLt⟩)
  else k0_pay5 (F := Ideal) (ix2 ⟨(y 0).val - 512, by have : (y 0).val < 1024 := (y 0).isLt; omega⟩ ⟨(y 1).val, (y 1).isLt⟩)

/-- The two stores of the halves leave the upper half's result over zeros. -/
theorem writes_half (v : View sig .tc .vmem S1024x512 .bf16) (f : v.ty.Contents (Elt Ideal)) (x0 : S1024x2048.Idx → Elt Ideal .bf16) (w : S2048x1024.Idx → Elt Ideal .bf16) (h h') :
    v.read (Elt Ideal) (v.writes (Elt Ideal) f [⟨Rect.unit (s := S1024x512) ![512, 0] S512x512.size h, k0_pay5 (F := Ideal)⟩, ⟨Rect.unit (s := S1024x512) ![0, 0] S512x512.size h', k0_pay4 (upper x0) w⟩]) = halfO x0 w := by
  funext y
  by_cases hy : (y 0).val < 512
  · rw [View.read_writes_cons_miss_of_axis _ _ _ _ y 0 512 512 rfl rfl rfl (Or.inl hy), halfO, dif_pos hy]
    refine View.read_writes_cons_hit_of_coords _ _ _ _ _ _ _ fun a => ?_
    fin_cases a <;> simp [Rect.unit]
  · rw [halfO, dif_neg hy]
    refine View.read_writes_cons_hit_of_coords _ _ _ _ _ _ _ fun a => ?_
    have : (y 0).val < 1024 := (y 0).isLt
    fin_cases a
    · show (y 0).val = 512 + 1 * ((y 0).val - 512)
      omega
    · simp [Rect.unit]

open Classical in
/-- The kept weights after a step. -/
def stepW (i : grid0.Coords) (T0 T1 : S23.Idx → Elt Ideal .i32) (x1 x2 : S1x2048x512.Idx → Elt Ideal .f32) (a : S2048x1024.Idx → Elt Ideal .bf16) : S2048x1024.Idx → Elt Ideal .bf16 :=
  if ent T1 (tile i) ≠ 0#32 ∧ reload i T0 then wcat x1 x2 else a

/-- The result's block after a step. -/
def stepO (i : grid0.Coords) (T1 : S23.Idx → Elt Ideal .i32) (x0 : S1024x2048.Idx → Elt Ideal .bf16) (w : S2048x1024.Idx → Elt Ideal .bf16) (d : S1024x512.Idx → Elt Ideal .bf16) : S1024x512.Idx → Elt Ideal .bf16 :=
  if ent T1 (tile i) = 2#32 then k0_pay3 x0 w else if ent T1 (tile i) = 1#32 then halfO x0 w else d

set_option maxHeartbeats 8000000 in
/-- One step of the kernel: its inputs and tables as they were, the result's block and the kept weights as `stepO` and `stepW` say. -/
theorem run_step (c : Dev nD) (i : grid0.Coords) (arg5 : Memref sig .tc .vmem S1024x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S1024x512 .bf16) (harg8 : arg8.IsWhole)
    (T0 T1 T2 : S23.Idx → Elt Ideal .i32) (x0 : S1024x2048.Idx → Elt Ideal .bf16) (x1 x2 : S1x2048x512.Idx → Elt Ideal .f32)
    (hn : ent T1 (tile i) = 0#32 ∨ ent T1 (tile i) = 1#32 ∨ ent T1 (tile i) = 2#32) (d : S1024x512.Idx → Elt Ideal .bf16) (a : Buf (Elt Ideal) ((c : Thread nD τ).loc cc0_scratch0)) (K : PUnit → sProp MM) :
    iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (teM.view.loc (c : Thread nD τ) ↦{fullShare.right} T0)
          ∗ (nlM.view.loc (c : Thread nD τ) ↦{fullShare.right} T1)
          ∗ (tsM.view.loc (c : Thread nD τ) ↦{fullShare.right} T2)
          ∗ owns (c : Thread nD τ) arg8 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (teM.view.loc (c : Thread nD τ) ↦{fullShare.right} T0)
              ∗ (nlM.view.loc (c : Thread nD τ) ↦{fullShare.right} T1)
              ∗ (tsM.view.loc (c : Thread nD τ) ↦{fullShare.right} T2)
              ∗ owns (c : Thread nD τ) arg8 fullShare (stepO i T1 x0 (stepW i T0 T1 x1 x2 a) d)
              ∗ (wM.view.loc (c : Thread nD τ) ↦{fullShare} stepW i T0 T1 x1 x2 a)) -∗ K ⟨⟩))
          ⊢ wp frame (wpE (defs₀ (F := Ideal)) Variants.none c none) Set.univ (cc0_ffn_up i teM (Memref.isWhole_whole _) nlM (Memref.isWhole_whole _) tsM (Memref.isWhole_whole _) arg5 harg5 arg6 harg6 arg7 harg7 arg8 harg8 wM (Memref.isWhole_whole _)) K := by
  unfold owns
  rw [cc0_ffn_up_eq_skeleton]; unfold cc0_ffn_up_skel
  iintro ⟨H0, H1, H2, HT0, HT1, HT2, ⟨%f3, %hf3, HO3⟩, HS0, Hk⟩
  have hS0 : wM.IsWhole := Memref.isWhole_whole _
  have hT0 : teM.IsWhole := Memref.isWhole_whole _
  have hT1 : nlM.IsWhole := Memref.isWhole_whole _
  have hT2 : tsM.IsWhole := Memref.isWhole_whole _
  sl_exec! (disch := fail)
  sl_step
  iapply Hk
  isplitl [H0]; · iexact H0
  isplitl [H1]; · iexact H1
  isplitl [H2]; · iexact H2
  isplitl [HT0]; · iexact HT0
  isplitl [HT1]; · iexact HT1
  isplitl [HT2]; · iexact HT2
  have e1 : ∀ h, View.readAt (Elt Ideal) arg5.view (Rect.unit (s := S1024x2048) ![0, 0] S1024x2048.size h).toLoadRect (arg5.view.rep x0) = x0 := fun h => View.readAt_rep_full _ _ _
  have e2 : ∀ h, View.readAt (Elt Ideal) arg6.view (Rect.unit (s := S1x2048x512) ![0, 0, 0] S1x2048x512.size h).toLoadRect (arg6.view.rep x1) = x1 := fun h => View.readAt_rep_full _ _ _
  have e3 : ∀ h, View.readAt (Elt Ideal) arg7.view (Rect.unit (s := S1x2048x512) ![0, 0, 0] S1x2048x512.size h).toLoadRect (arg7.view.rep x2) = x2 := fun h => View.readAt_rep_full _ _ _
  have e4 : ∀ h, View.readAt (Elt Ideal) arg5.view (Rect.unit (s := S1024x2048) ![0, 0] S512x2048.size h).toLoadRect (arg5.view.rep x0) = upper x0 := fun h => View.readAt_rep_unit _ _ _ rfl _
  have e5 : ∀ h (b : S2048x1024.Idx → Elt Ideal .bf16), View.readAt (Elt Ideal) wM.view (Rect.unit (s := S2048x1024) ![0, 0] S2048x1024.size h).toLoadRect b = b := fun h b => View.readAt_full wM.view b h
  have eT : run_step.sl.r i T1 = ent T1 (tile i) := word_nl T1 _ _ _ (off1_tile i)
  have eR : run_step.sl.v15 i T0 = 1#1 ↔ reload i T0 := by
    unfold run_step.sl.v15 run_step.sl.v14 run_step.sl.v13 run_step.sl.v12
    exact (iff_of_eq (congrArg₂ (fun p q => Scalar.cmpi .ne (Scalar.extui (Scalar.ori (Scalar.cmpi .eq (BitVec.ofNat 32 (tile i).val) 0#32) (Scalar.cmpi .ne p q)) : BitVec 32) 0#32 = 1#1)
      (word_te T0 _ _ _ (off2_tile i)) (word_te T0 _ _ _ (off3_tile i)))).trans (reload_iff (tile i) _ _)
  have eW : (if hc : run_step.sl.v15 i T0 = 1#1 then
        wM.view.writes (Elt Ideal) a
          [⟨Rect.unit (s := S2048x1024) ![0, 512] S2048x512.size inb_S2048x1024_S2048x512_0_512, k0_pay2 (View.readAt (Elt Ideal) arg7.view (Rect.unit (s := S1x2048x512) ![0, 0, 0] S1x2048x512.size inb_S1x2048x512_S1x2048x512_0_0_0).toLoadRect (arg7.view.rep x2))⟩,
            ⟨Rect.unit (s := S2048x1024) ![0, 0] S2048x512.size inb_S2048x1024_S2048x512_0_0, k0_pay1 (View.readAt (Elt Ideal) arg6.view (Rect.unit (s := S1x2048x512) ![0, 0, 0] S1x2048x512.size inb_S1x2048x512_S1x2048x512_0_0_0).toLoadRect (arg6.view.rep x1))⟩]
      else a) = stepW i T0 (fun _ => 1#32) x1 x2 a := by
    rw [e2, e3, writes_wcat]
    unfold stepW
    simp only [eR]
    simp
  unfold run_step.sl.v23
  simp only [eT, eW, e1, e4, e5]
  have eZ : ent T1 (tile i) ≠ 0#32 → stepW i T0 (fun _ => 1#32) x1 x2 a = stepW i T0 T1 x1 x2 a := fun h => by
    unfold stepW; simp [h]
  rcases hn with h | h | h
  · have eA : stepW i T0 T1 x1 x2 a = a := by unfold stepW; simp [h]
    have c1 : ¬ k0_cond1 0#32 = 1#1 := by decide
    simp only [eA, h, c1, dif_neg, not_false_eq_true]
    isplitl [HO3]
    · iexists f3
      isplitr
      · ipureintro; rw [hf3]; unfold stepO; simp [h]
      · iexact HO3
    · iexact HS0
  · rw [eZ (by rw [h]; decide)]
    have c1 : k0_cond1 1#32 = 1#1 := by decide
    have c3 : ¬ k0_cond3 1#32 = 1#1 := by decide
    have c4 : k0_cond4 1#32 = 1#1 := by decide
    simp only [h, c1, c3, c4, dif_neg, dif_pos, not_false_eq_true]
    isplitl [HO3]
    · iexists _
      isplitr
      swap
      · iexact HO3
      · ipureintro; rw [writes_half]; unfold stepO; simp [h]
    · iexact HS0
  · rw [eZ (by rw [h]; decide)]
    have c1 : k0_cond1 2#32 = 1#1 := by decide
    have c3 : k0_cond3 2#32 = 1#1 := by decide
    have c4 : ¬ k0_cond4 2#32 = 1#1 := by decide
    simp only [h, c1, c3, c4, dif_neg, dif_pos, not_false_eq_true]
    isplitl [HO3]
    · iexists _
      isplitr
      swap
      · iexact HO3
      · ipureintro
        refine (View.read_writes_full arg8.view f3 inb_S1024x512_S1024x512_0_0 _ []).trans ?_
        unfold stepO; simp [h]
    · iexact HS0

end Cert.Kernel2Ideal.Up

end
-- ==== Proof.UpTabI.lean ====
module

public import proofs.«01_k».proof.Proof.UpRunI
public import Idealize.ShloMosaic.Lib.Affine
public import Idealize.ShloMosaic.Lib.Pipeline.Kit

@[expose] public section

set_option maxRecDepth 16384
set_option Elab.async false

noncomputable section

namespace Cert.Kernel2Ideal.Up

open Cert.Kernel2Ideal Cert.Kernel2Ideal.Gen
open Idealize.ShloMosaic
open Idealize.ShloMosaic.TcCoe Idealize.ShloMosaic.Tactic
open Idealize.ShloMosaic.ValueIdx

/-- What the precondition says of the tables: experts in range, halves 0, 1 or 2, the tiles with rows first and each at its own place, a tile without rows at the place of the tile before it. -/
structure Tables (T0 T1 T2 : S23.Idx → Elt Ideal .i32) : Prop where
  te_lt : ∀ k, (ent T0 k).toNat < 16
  nl_mem : ∀ k, ent T1 k = 0#32 ∨ ent T1 k = 1#32 ∨ ent T1 k = 2#32
  first : ent T1 0 ≠ 0#32
  front : ∀ k : Fin 23, k.val ≠ 0 → ent T1 k ≠ 0#32 → ent T1 ⟨k.val - 1, by omega⟩ ≠ 0#32
  ts_live : ∀ k : Fin 23, ent T1 k ≠ 0#32 → (ent T2 k).toNat = k.val
  ts_dead : ∀ k : Fin 23, k.val ≠ 0 → ent T1 k = 0#32 → ent T2 k = ent T2 ⟨k.val - 1, by omega⟩

/-- A tile's place is not past the tile. -/
theorem Tables.ts_le {T0 T1 T2 : S23.Idx → Elt Ideal .i32} (h : Tables T0 T1 T2) : ∀ (n : ℕ) (hn : n < 23), (ent T2 ⟨n, hn⟩).toNat ≤ n
  | 0, hn => by rw [h.ts_live ⟨0, hn⟩ h.first]
  | n + 1, hn => by
    by_cases hl : ent T1 ⟨n + 1, hn⟩ = 0#32
    · rw [h.ts_dead ⟨n + 1, hn⟩ (Nat.succ_ne_zero n) hl]
      exact le_trans (h.ts_le n (by omega)) (Nat.le_succ n)
    · rw [h.ts_live ⟨n + 1, hn⟩ hl]

/-- A place is a tile. -/
theorem Tables.ts_lt {T0 T1 T2 : S23.Idx → Elt Ideal .i32} (h : Tables T0 T1 T2) (k : Fin 23) : (ent T2 k).toNat < 23 :=
  lt_of_le_of_lt (h.ts_le k.val k.isLt) k.isLt

/-- The tile at a tile's place holds rows. -/
theorem Tables.live_ts {T0 T1 T2 : S23.Idx → Elt Ideal .i32} (h : Tables T0 T1 T2) : ∀ (n : ℕ) (hn : n < 23), ent T1 ⟨(ent T2 ⟨n, hn⟩).toNat, h.ts_lt _⟩ ≠ 0#32
  | 0, hn => by
    have e : (⟨(ent T2 ⟨0, hn⟩).toNat, h.ts_lt _⟩ : Fin 23) = 0 := Fin.ext (h.ts_live ⟨0, hn⟩ h.first)
    rw [e]; exact h.first
  | n + 1, hn => by
    by_cases hl : ent T1 ⟨n + 1, hn⟩ = 0#32
    · have e : (⟨(ent T2 ⟨n + 1, hn⟩).toNat, h.ts_lt _⟩ : Fin 23) = ⟨(ent T2 ⟨n, by omega⟩).toNat, h.ts_lt _⟩ :=
        Fin.ext (congrArg BitVec.toNat (h.ts_dead ⟨n + 1, hn⟩ (Nat.succ_ne_zero n) hl))
      rw [e]; exact h.live_ts n (by omega)
    · have e : (⟨(ent T2 ⟨n + 1, hn⟩).toNat, h.ts_lt _⟩ : Fin 23) = ⟨n + 1, hn⟩ := Fin.ext (h.ts_live ⟨n + 1, hn⟩ hl)
      rw [e]; exact hl

variable (pf : pre0.Contents (Elt Ideal))

/-- The tables of the run, by name. -/
abbrev te : S23.Idx → Elt Ideal .i32 := pf 0
/-- The tiles' halves that hold rows. -/
abbrev nl : S23.Idx → Elt Ideal .i32 := pf 1
/-- The tiles' places. -/
abbrev ts : S23.Idx → Elt Ideal .i32 := pf 2

/-- The read of the experts' table. -/
theorem at_te (i : grid0.Coords) (h : ∀ a, (![(Scalar.indexCast (BitVec.ofNat 32 (i 1).val)).toNat] : Fin 1 → ℕ) a + S1.size a ≤ S23.size a) : pf.at 0 (Rect.unit (s := S23) ![(Scalar.indexCast (BitVec.ofNat 32 (i 1).val)).toNat] S1.size h) numel1_S1 = ent (te pf) (tile i) := by
  show pf 0 _ = pf 0 _
  congr 1
  funext a
  fin_cases a
  apply Fin.ext
  have h0 : ((Shape.Idx.first (s := S1) (numel1_S1.symm ▸ Nat.one_pos)) 0).val < 1 := Fin.isLt _
  have h1 : (Scalar.indexCast (BitVec.ofNat 32 (i 1).val)).toNat = (i 1).val := off1_tile i
  show (Scalar.indexCast (BitVec.ofNat 32 (i 1).val)).toNat + ((Shape.Idx.first (s := S1) (numel1_S1.symm ▸ Nat.one_pos)) 0).val * 1 = (i 1).val
  omega

/-- The read of the places' table. -/
theorem at_ts (i : grid0.Coords) (h : ∀ a, (![(Scalar.indexCast (BitVec.ofNat 32 (i 1).val)).toNat] : Fin 1 → ℕ) a + S1.size a ≤ S23.size a) : pf.at 2 (Rect.unit (s := S23) ![(Scalar.indexCast (BitVec.ofNat 32 (i 1).val)).toNat] S1.size h) numel1_S1 = ent (ts pf) (tile i) := by
  show pf 2 _ = pf 2 _
  congr 1
  funext a
  fin_cases a
  apply Fin.ext
  have h0 : ((Shape.Idx.first (s := S1) (numel1_S1.symm ▸ Nat.one_pos)) 0).val < 1 := Fin.isLt _
  have h1 : (Scalar.indexCast (BitVec.ofNat 32 (i 1).val)).toNat = (i 1).val := off1_tile i
  show (Scalar.indexCast (BitVec.ofNat 32 (i 1).val)).toNat + ((Shape.Idx.first (s := S1) (numel1_S1.symm ▸ Nat.one_pos)) 0).val * 1 = (i 1).val
  omega

/-- A block of columns, as a word and back. -/
theorem col (i : grid0.Coords) : (BitVec.ofNat 32 (i 0).val).toNat = (i 0).val := by
  have : (i 0).val < 14 := (i 0).isLt
  rw [BitVec.toNat_ofNat]; omega

/-- Where each window's block lies at a grid point. -/
theorem tr0 (i : grid0.Coords) : cc0_transform_0 k0_off1_inb numel1_S1 pf i = ![(ent (ts pf) (tile i)).toNat, 0] := by
  unfold cc0_transform_0
  exact congrArg (fun w : BitVec 32 => ![w.toNat, 0]) (at_ts pf i _)

/-- The index map of the gate's weights. -/
theorem tr1 (i : grid0.Coords) : cc0_transform_1 k0_off1_inb numel1_S1 pf i = ![(ent (te pf) (tile i)).toNat, 0, (i 0).val] := by
  unfold cc0_transform_1
  exact congrArg₂ (fun (w : BitVec 32) (n : ℕ) => ![w.toNat, 0, n]) (at_te pf i _) (col i)

/-- The index map of the other weights. -/
theorem tr2 (i : grid0.Coords) : cc0_transform_2 k0_off1_inb numel1_S1 pf i = ![(ent (te pf) (tile i)).toNat, 0, (i 0).val] := by
  unfold cc0_transform_2
  exact congrArg₂ (fun (w : BitVec 32) (n : ℕ) => ![w.toNat, 0, n]) (at_te pf i _) (col i)

/-- The index map of the result. -/
theorem tr3 (i : grid0.Coords) : cc0_transform_3 k0_off1_inb numel1_S1 pf i = ![(ent (ts pf) (tile i)).toNat, (i 0).val] := by
  unfold cc0_transform_3
  exact congrArg₂ (fun (w : BitVec 32) (n : ℕ) => ![w.toNat, n]) (at_ts pf i _) (col i)

variable (hT : Tables (te pf) (nl pf) (ts pf))
include hT

/-- Every block lies inside its array. -/
theorem ok : ok0 pf := by
  unfold ok0
  refine ⟨fun i => ?_, fun i => ?_, fun i => ?_, fun i => ?_⟩
  · have hb : ∀ a, (cc0_transform_0 k0_off1_inb numel1_S1 pf i a + 1) * S1024x2048.size a ≤ S23552x2048.size a := by
      rw [tr0]; have := hT.ts_lt (tile i)
      intro a; fin_cases a
      · show ((ent (ts pf) (tile i)).toNat + 1) * 1024 ≤ 23552; omega
      · show (0 + 1) * 2048 ≤ 2048; omega
    exact ⟨hb, .inr (Affine.block_words_dvd (by decide) (by decide))⟩
  · have hb : ∀ a, (cc0_transform_1 k0_off1_inb numel1_S1 pf i a + 1) * S1x2048x512.size a ≤ S16x2048x7168.size a := by
      rw [tr1]; have := hT.te_lt (tile i)
      have h0 : (i 0).val < 14 := (i 0).isLt
      intro a; fin_cases a
      · show ((ent (te pf) (tile i)).toNat + 1) * 1 ≤ 16; omega
      · show (0 + 1) * 2048 ≤ 2048; omega
      · show ((i 0).val + 1) * 512 ≤ 7168; omega
    exact ⟨hb, .inl rfl⟩
  · have hb : ∀ a, (cc0_transform_2 k0_off1_inb numel1_S1 pf i a + 1) * S1x2048x512.size a ≤ S16x2048x7168.size a := by
      rw [tr2]; have := hT.te_lt (tile i)
      have h0 : (i 0).val < 14 := (i 0).isLt
      intro a; fin_cases a
      · show ((ent (te pf) (tile i)).toNat + 1) * 1 ≤ 16; omega
      · show (0 + 1) * 2048 ≤ 2048; omega
      · show ((i 0).val + 1) * 512 ≤ 7168; omega
    exact ⟨hb, .inl rfl⟩
  · have hb : ∀ a, (cc0_transform_3 k0_off1_inb numel1_S1 pf i a + 1) * S1024x512.size a ≤ S23552x7168.size a := by
      rw [tr3]; have := hT.ts_lt (tile i)
      have h0 : (i 0).val < 14 := (i 0).isLt
      intro a; fin_cases a
      · show ((ent (ts pf) (tile i)).toNat + 1) * 1024 ≤ 23552; omega
      · show ((i 0).val + 1) * 512 ≤ 7168; omega
    exact ⟨hb, .inr (Affine.block_words_dvd (by decide) (by decide))⟩

omit hT

/-- The output's window is idle exactly where the tile holds no rows. -/
theorem idle_iff (i : grid0.Coords) (hn : ent (nl pf) (tile i) = 0#32 ∨ ent (nl pf) (tile i) = 1#32 ∨ ent (nl pf) (tile i) = 2#32) :
    idle0 pf 3 i = decide (ent (nl pf) (tile i) = 0#32) := by
  have h : pf.atD 1 (k0_off1 i) = ent (nl pf) (tile i) := by
    have h1 : ∀ a : Fin 1, k0_off1 i a + 1 ≤ (pre0.ref 1).ty.shape.size a := fun a => by
      fin_cases a
      show k0_off1 i 0 + 1 ≤ 23
      rw [off1_tile]; have := (tile i).isLt; omega
    refine (dif_pos h1).trans ?_
    show nl pf _ = nl pf _
    congr 1
    funext a
    fin_cases a
    exact Fin.ext (off1_tile i)
  show (!(k0_cond1 (pf.atD 1 (k0_off1 i)) == 1#1 && k0_cond3 (pf.atD 1 (k0_off1 i)) == 1#1) && !(k0_cond1 (pf.atD 1 (k0_off1 i)) == 1#1 && k0_cond4 (pf.atD 1 (k0_off1 i)) == 1#1)) = _
  rw [h]
  rcases hn with h | h | h <;> rw [h] <;> decide

end Cert.Kernel2Ideal.Up

end
-- ==== Proof.UpDatI.lean ====
module

public import proofs.«01_k».proof.Proof.UpTabI
public import Idealize.ShloMosaic.Lib.Pipeline.Quiescent
public import Idealize.ShloMosaic.Lib.Pipeline.Value
public import Idealize.ShloMosaic.Lib.Claim
public import Idealize.ShloMosaic.Adequacy
public import Idealize.ShloMosaic.Init

@[expose] public section

set_option maxRecDepth 16384
set_option Elab.async false

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (pf : pre0.Contents (Elt Ideal)) (hT : Tables (te pf) (nl pf) (ts pf))

/-- The pipeline at the run's tables. -/
abbrev adm : (pcfg0 (F := Ideal)).Adm := ⟨pf, ok pf hT⟩
/-- The pipeline of the launch at the run's tables. -/
abbrev cfgA : Pipeline.Cfg sig Λ₀ := cfg0 (adm pf hT)
/-- The one pipeline of the program. -/
abbrev pcs : Fin 1 → Pipeline.Cfg sig Λ₀ := Pipeline.pin (pcfgs (F := Ideal)) fun _ => adm pf hT
/-- The coordinates of a point. -/
abbrev crd (t : Fin (cfgA pf hT).N) : grid0.Coords := (cfgA pf hT).grid.coords t

/-! ## The grid: 14 blocks of columns, 23 tiles each -/

/-- The number of points. -/
theorem N_eq : (cfgA pf hT).N = 322 := rfl

/-- The block of columns of a point. -/
theorem crd_0 (t : Fin (cfgA pf hT).N) : (crd pf hT t 0).val = t.val / 23 := by
  have h : t.val < 322 := t.isLt
  have e := Pipeline.Grid.coords_val (G := grid0) t 0 (S := 23) (B := 14) (by decide) rfl
  have e' : (crd pf hT t 0).val = t.val / 23 % 14 := e
  omega

/-- The second coordinate of a point is its tile. -/
theorem crd_1 (t : Fin (cfgA pf hT).N) : (crd pf hT t 1).val = t.val % 23 := by
  have e := Pipeline.Grid.coords_val (G := grid0) t 1 (S := 1) (B := 23) (by decide) rfl
  have e' : (crd pf hT t 1).val = t.val / 1 % 23 := e
  omega

/-- The tile of a point. -/
abbrev tl (t : Fin (cfgA pf hT).N) : Fin 23 := tile (crd pf hT t)

/-- The tile of a point, as a number. -/
theorem tl_val (t : Fin (cfgA pf hT).N) : (tl pf hT t).val = t.val % 23 := crd_1 pf hT t

/-- The point before. -/
abbrev back (t : Fin (cfgA pf hT).N) : Fin (cfgA pf hT).N := ⟨t.val - 1, lt_of_le_of_lt (Nat.sub_le _ _) t.isLt⟩

/-- The point before a tile other than the first is at the tile before. -/
theorem tl_back (t : Fin (cfgA pf hT).N) (h : (tl pf hT t).val ≠ 0) : tl pf hT (back pf hT t) = ⟨(tl pf hT t).val - 1, by omega⟩ := by
  apply Fin.ext
  have e1 := tl_val pf hT t
  have e2 := tl_val pf hT (back pf hT t)
  have e3 : (back pf hT t).val = t.val - 1 := rfl
  show (tl pf hT (back pf hT t)).val = (tl pf hT t).val - 1
  omega

/-- The point before a tile other than the first is at the same columns. -/
theorem col_back (t : Fin (cfgA pf hT).N) (h : (tl pf hT t).val ≠ 0) : (crd pf hT (back pf hT t) 0).val = (crd pf hT t 0).val := by
  have e1 := tl_val pf hT t
  have e2 := crd_0 pf hT t
  have e3 := crd_0 pf hT (back pf hT t)
  have e4 : (back pf hT t).val = t.val - 1 := rfl
  omega

/-- Whether a point's tile holds rows. -/
abbrev Live (t : Fin (cfgA pf hT).N) : Prop := ent (nl pf) (tl pf hT t) ≠ 0#32

/-- A tile without rows is not the first. -/
theorem tl_ne_of_dead (t : Fin (cfgA pf hT).N) (h : ¬ Live pf hT t) : (tl pf hT t).val ≠ 0 := fun e => by
  have : tl pf hT t = 0 := Fin.ext e
  rw [Live, this] at h
  exact h hT.first

/-- A point of a tile other than the first is not the first point. -/
theorem ne_of_tl (t : Fin (cfgA pf hT).N) (h : (tl pf hT t).val ≠ 0) : t.val ≠ 0 := fun e => by
  rw [tl_val, e] at h; exact h rfl

/-! ## Where the windows' blocks lie -/

/-- The rows' block of a point. -/
theorem index0 (t : Fin (cfgA pf hT).N) : ((cfgA pf hT).win (0 : Fin 4)).index t = ![(ent (ts pf) (tl pf hT t)).toNat, 0] := tr0 pf (crd pf hT t)
/-- The block of the gate's weights of a point. -/
theorem index1 (t : Fin (cfgA pf hT).N) : ((cfgA pf hT).win (1 : Fin 4)).index t = ![(ent (te pf) (tl pf hT t)).toNat, 0, (crd pf hT t 0).val] := tr1 pf (crd pf hT t)
/-- The block of the other weights of a point. -/
theorem index2 (t : Fin (cfgA pf hT).N) : ((cfgA pf hT).win (2 : Fin 4)).index t = ![(ent (te pf) (tl pf hT t)).toNat, 0, (crd pf hT t 0).val] := tr2 pf (crd pf hT t)
/-- The result's block of a point. -/
theorem index3 (t : Fin (cfgA pf hT).N) : ((cfgA pf hT).win (3 : Fin 4)).index t = ![(ent (ts pf) (tl pf hT t)).toNat, (crd pf hT t 0).val] := tr3 pf (crd pf hT t)

/-! ## The schedule of the result's window -/

/-- The result's block is left alone exactly at a tile without rows. -/
theorem idle3 (t : Fin (cfgA pf hT).N) : (cfgA pf hT).idle (3 : Fin 4) ((cfgA pf hT).grid.coords t) = decide (ent (nl pf) (tl pf hT t) = 0#32) :=
  idle_iff pf (crd pf hT t) (hT.nl_mem _)

/-- A tile without rows has the place of the tile before. -/
theorem ts_back (t : Fin (cfgA pf hT).N) (h : ¬ Live pf hT t) : ent (ts pf) (tl pf hT t) = ent (ts pf) (tl pf hT (back pf hT t)) := by
  have h0 := tl_ne_of_dead pf hT t h
  rw [tl_back pf hT t h0]
  exact hT.ts_dead _ h0 (not_not.mp h)

/-- Before a tile without rows nothing is written back. -/
theorem flush_back (t : Fin (cfgA pf hT).N) (h : ¬ Live pf hT t) : ((cfgA pf hT).win (3 : Fin 4)).flush (back pf hT t) = false := by
  have h0 := tl_ne_of_dead pf hT t h
  have ht := ne_of_tl pf hT t h0
  have hN : t.val < (cfgA pf hT).N := t.isLt
  have e : t.val - 1 + 1 = t.val := by omega
  unfold Pipeline.Window.flush
  have hi : ∀ hh : t.val - 1 + 1 < (cfgA pf hT).N, ((cfgA pf hT).win (3 : Fin 4)).index ⟨t.val - 1 + 1, hh⟩ = ((cfgA pf hT).win (3 : Fin 4)).index (back pf hT t) := by
    intro hh
    have e' : (⟨t.val - 1 + 1, hh⟩ : Fin (cfgA pf hT).N) = t := Fin.ext e
    rw [e', index3, index3, ts_back pf hT t h, col_back pf hT t h0]
  rw [Bool.and_eq_false_iff]
  right
  rw [Bool.or_eq_false_iff]
  constructor
  · exact decide_eq_false (by show ¬ (t.val - 1 + 1 = (cfgA pf hT).N); omega)
  · exact decide_eq_false (fun ⟨hh, hne⟩ => hne (hi hh))

/-- At a tile without rows the result's buffer still holds the last tile's block. -/
theorem fresh_dead : ∀ (n : ℕ) (hn : n < (cfgA pf hT).N), ¬ Live pf hT ⟨n, hn⟩ → (cfgA pf hT).fresh (3 : Fin 4) n = false
  | 0, hn, h => absurd rfl (ne_of_tl pf hT ⟨0, hn⟩ (tl_ne_of_dead pf hT _ h))
  | n + 1, hn, h => by
    have hn' : n < (cfgA pf hT).N := by omega
    rw [(cfgA pf hT).fresh_succ (3 : Fin 4) n hn']
    have hf := flush_back pf hT ⟨n + 1, hn⟩ h
    have hf' : ((cfgA pf hT).win (3 : Fin 4)).flush ⟨n, hn'⟩ = false := hf
    rw [hf', Bool.false_or, idle3]
    by_cases hl : Live pf hT ⟨n, hn'⟩
    · rw [decide_eq_false hl, Bool.false_and]
    · rw [fresh_dead n hn' hl, Bool.and_false]

/-- The point whose block the result's buffer holds: the one of the tile's place. -/
def src (t : Fin (cfgA pf hT).N) : Fin (cfgA pf hT).N :=
  ⟨t.val / 23 * 23 + (ent (ts pf) (tl pf hT t)).toNat, by
    have h1 := hT.ts_lt (tl pf hT t)
    have h2 : t.val < 322 := t.isLt
    show _ < 322
    omega⟩

/-- The tile of the point whose block the buffer holds is the place of this tile. -/
theorem tl_src (t : Fin (cfgA pf hT).N) : (tl pf hT (src pf hT t)).val = (ent (ts pf) (tl pf hT t)).toNat := by
  have h1 := hT.ts_lt (tl pf hT t)
  rw [tl_val]
  show (t.val / 23 * 23 + (ent (ts pf) (tl pf hT t)).toNat) % 23 = _
  omega

/-- That point is at the same columns. -/
theorem col_src (t : Fin (cfgA pf hT).N) : (crd pf hT (src pf hT t) 0).val = (crd pf hT t 0).val := by
  have h1 := hT.ts_lt (tl pf hT t)
  rw [crd_0, crd_0]
  show (t.val / 23 * 23 + (ent (ts pf) (tl pf hT t)).toNat) / 23 = _
  omega

/-- At a tile with rows it is the point itself. -/
theorem src_live (t : Fin (cfgA pf hT).N) (h : Live pf hT t) : src pf hT t = t := by
  apply Fin.ext
  show t.val / 23 * 23 + (ent (ts pf) (tl pf hT t)).toNat = t.val
  rw [hT.ts_live _ h, tl_val]
  omega

/-- At a tile without rows it is the one of the point before. -/
theorem src_dead (t : Fin (cfgA pf hT).N) (h : ¬ Live pf hT t) : src pf hT t = src pf hT (back pf hT t) := by
  apply Fin.ext
  show t.val / 23 * 23 + (ent (ts pf) (tl pf hT t)).toNat = (t.val - 1) / 23 * 23 + (ent (ts pf) (tl pf hT (back pf hT t))).toNat
  have h0 := tl_ne_of_dead pf hT t h
  have e := tl_val pf hT t
  rw [ts_back pf hT t h]
  omega

/-- Its tile holds rows. -/
theorem live_src (t : Fin (cfgA pf hT).N) : Live pf hT (src pf hT t) := by
  have e : tl pf hT (src pf hT t) = ⟨(ent (ts pf) (tl pf hT t)).toNat, hT.ts_lt _⟩ := Fin.ext (tl_src pf hT t)
  rw [Live, e]
  exact hT.live_ts (tl pf hT t).val (tl pf hT t).isLt

/-! ## The blocks the inputs' windows hold -/

variable (m : (ℓ : Loc nD τ sig) → Buf (Elt Ideal) ℓ) (ρ : Dev nD → PrngReg)

/-- The array's block an input's window holds at a point. -/
def iblk (c : Dev nD) (w : Fin (cfgA pf hT).W) (t : Fin (cfgA pf hT).N) : (((cfgA pf hT).win w).xblock ((cfgA pf hT).grid.coords t)).Idx → Elt Ideal ((cfgA pf hT).win w).elt :=
  (((cfgA pf hT).win w).blk t).view.read _ ((s₀ m ρ).mem (((cfgA pf hT).win w).arr.view.loc (c : Thread nD τ)))

/-- The rows a point is given. -/
abbrev X0 (c : Dev nD) (t : Fin (cfgA pf hT).N) : S1024x2048.Idx → Elt Ideal .bf16 := iblk pf hT m ρ c (0 : Fin 4) t
/-- The gate's weights a point is given. -/
abbrev X1 (c : Dev nD) (t : Fin (cfgA pf hT).N) : S1x2048x512.Idx → Elt Ideal .f32 := iblk pf hT m ρ c (1 : Fin 4) t
/-- The other weights a point is given. -/
abbrev X2 (c : Dev nD) (t : Fin (cfgA pf hT).N) : S1x2048x512.Idx → Elt Ideal .f32 := iblk pf hT m ρ c (2 : Fin 4) t

/-- The rows' block, entry by entry. -/
theorem X0_apply (c : Dev nD) (t : Fin (cfgA pf hT).N) (y : S1024x2048.Idx) (i : S23552x2048.Idx)
    (h0 : (i 0).val = (ent (ts pf) (tl pf hT t)).toNat * 1024 + (y 0).val) (h1 : (i 1).val = (y 1).val) :
    X0 pf hT m ρ c t y = (m ((c : Thread nD τ).loc main_arg0) : S23552x2048.Idx → Elt Ideal .bf16) i := by
  show (m ((c : Thread nD τ).loc main_arg0) : S23552x2048.Idx → Elt Ideal .bf16) ((((cfgA pf hT).win (0 : Fin 4)).rect t).emb y) = _
  congr 1
  funext a
  apply Fin.ext
  have e := Pipeline.Window.rect_emb_val ((cfgA pf hT).win (0 : Fin 4)) t y a
  refine e.trans ?_
  rw [index0]
  fin_cases a
  · exact h0.symm
  · show 0 * 2048 + (y 1).val = (i 1).val
    omega

/-- The gate's weights' block, entry by entry. -/
theorem X1_apply (c : Dev nD) (t : Fin (cfgA pf hT).N) (y : S1x2048x512.Idx) (i : S16x2048x7168.Idx)
    (h0 : (i 0).val = (ent (te pf) (tl pf hT t)).toNat) (h1 : (i 1).val = (y 1).val) (h2 : (i 2).val = (crd pf hT t 0).val * 512 + (y 2).val) :
    X1 pf hT m ρ c t y = (m ((c : Thread nD τ).loc main_arg1) : S16x2048x7168.Idx → Elt Ideal .f32) i := by
  show (m ((c : Thread nD τ).loc main_arg1) : S16x2048x7168.Idx → Elt Ideal .f32) ((((cfgA pf hT).win (1 : Fin 4)).rect t).emb y) = _
  congr 1
  funext a
  apply Fin.ext
  have e := Pipeline.Window.rect_emb_val ((cfgA pf hT).win (1 : Fin 4)) t y a
  refine e.trans ?_
  rw [index1]
  have hy : (y 0).val < 1 := (y 0).isLt
  fin_cases a
  · show (ent (te pf) (tl pf hT t)).toNat * 1 + (y 0).val = (i 0).val
    omega
  · show 0 * 2048 + (y 1).val = (i 1).val
    omega
  · exact h2.symm

/-- The upward projection's weights' block, entry by entry. -/
theorem X2_apply (c : Dev nD) (t : Fin (cfgA pf hT).N) (y : S1x2048x512.Idx) (i : S16x2048x7168.Idx)
    (h0 : (i 0).val = (ent (te pf) (tl pf hT t)).toNat) (h1 : (i 1).val = (y 1).val) (h2 : (i 2).val = (crd pf hT t 0).val * 512 + (y 2).val) :
    X2 pf hT m ρ c t y = (m ((c : Thread nD τ).loc main_arg2) : S16x2048x7168.Idx → Elt Ideal .f32) i := by
  show (m ((c : Thread nD τ).loc main_arg2) : S16x2048x7168.Idx → Elt Ideal .f32) ((((cfgA pf hT).win (2 : Fin 4)).rect t).emb y) = _
  congr 1
  funext a
  apply Fin.ext
  have e := Pipeline.Window.rect_emb_val ((cfgA pf hT).win (2 : Fin 4)) t y a
  refine e.trans ?_
  rw [index2]
  have hy : (y 0).val < 1 := (y 0).isLt
  fin_cases a
  · show (ent (te pf) (tl pf hT t)).toNat * 1 + (y 0).val = (i 0).val
    omega
  · show 0 * 2048 + (y 1).val = (i 1).val
    omega
  · exact h2.symm

/-- The element of an array of weights a block's element is. -/
abbrev wIdx (t : Fin (cfgA pf hT).N) (y : S1x2048x512.Idx) : S16x2048x7168.Idx :=
  ix3 ⟨(ent (te pf) (tl pf hT t)).toNat, hT.te_lt _⟩ ⟨(y 1).val, (y 1).isLt⟩ ⟨(crd pf hT t 0).val * 512 + (y 2).val, by
    have h1 : (crd pf hT t 0).val < 14 := (crd pf hT t 0).isLt
    have h2 : (y 2).val < 512 := (y 2).isLt
    omega⟩

/-- Two neighbouring points of one expert and one block of columns hold the same weights. -/
theorem X1_back (c : Dev nD) (t : Fin (cfgA pf hT).N) (h : (tl pf hT t).val ≠ 0) (he : ent (te pf) (tl pf hT t) = ent (te pf) (tl pf hT (back pf hT t))) :
    X1 pf hT m ρ c (back pf hT t) = X1 pf hT m ρ c t := by
  funext y
  rw [X1_apply pf hT m ρ c t y (wIdx pf hT t y) rfl rfl rfl]
  exact X1_apply pf hT m ρ c _ y _ (congrArg BitVec.toNat he) rfl (by rw [col_back pf hT t h])

/-- Equal experts, equal blocks of the other weights. -/
theorem X2_back (c : Dev nD) (t : Fin (cfgA pf hT).N) (h : (tl pf hT t).val ≠ 0) (he : ent (te pf) (tl pf hT t) = ent (te pf) (tl pf hT (back pf hT t))) :
    X2 pf hT m ρ c (back pf hT t) = X2 pf hT m ρ c t := by
  funext y
  rw [X2_apply pf hT m ρ c t y (wIdx pf hT t y) rfl rfl rfl]
  exact X2_apply pf hT m ρ c _ y _ (congrArg BitVec.toNat he) rfl (by rw [col_back pf hT t h])

/-- The weights a point's tile is multiplied by. -/
abbrev W (c : Dev nD) (t : Fin (cfgA pf hT).N) : S2048x1024.Idx → Elt Ideal .bf16 := wcat (X1 pf hT m ρ c t) (X2 pf hT m ρ c t)

/-- The block a point whose tile holds rows leaves. -/
def liveO (c : Dev nD) (t : Fin (cfgA pf hT).N) : S1024x512.Idx → Elt Ideal .bf16 :=
  if ent (nl pf) (tl pf hT t) = 2#32 then k0_pay3 (X0 pf hT m ρ c t) (W pf hT m ρ c t) else halfO (X0 pf hT m ρ c t) (W pf hT m ρ c t)

/-- At a point whose tile holds rows the step uses that point's weights, if the kept ones are the tile before's wherever that tile holds rows. -/
theorem stepW_live (c : Dev nD) (t : Fin (cfgA pf hT).N) (h : Live pf hT t) (a : S2048x1024.Idx → Elt Ideal .bf16)
    (ha : t.val ≠ 0 → Live pf hT (back pf hT t) → a = W pf hT m ρ c (back pf hT t)) :
    stepW (crd pf hT t) (te pf) (nl pf) (X1 pf hT m ρ c t) (X2 pf hT m ρ c t) a = W pf hT m ρ c t := by
  unfold stepW
  by_cases hr : reload (crd pf hT t) (te pf)
  · exact if_pos ⟨h, hr⟩
  · rw [if_neg (fun hh => hr hh.2)]
    have h0 : (tl pf hT t).val ≠ 0 := fun e => hr (Or.inl e)
    have he : ent (te pf) (tl pf hT t) = ent (te pf) (tl pf hT (back pf hT t)) := by
      rw [tl_back pf hT t h0]
      exact not_not.mp (fun e => hr (Or.inr e))
    have hb : Live pf hT (back pf hT t) := by
      rw [Live, tl_back pf hT t h0]
      exact hT.front _ h0 h
    rw [ha (ne_of_tl pf hT t h0) hb]
    show wcat _ _ = wcat _ _
    rw [X1_back pf hT m ρ c t h0 he, X2_back pf hT m ρ c t h0 he]

/-- At a tile with rows the step leaves that point's block. -/
theorem stepO_live (c : Dev nD) (t : Fin (cfgA pf hT).N) (h : Live pf hT t) (d : S1024x512.Idx → Elt Ideal .bf16) :
    stepO (crd pf hT t) (nl pf) (X0 pf hT m ρ c t) (W pf hT m ρ c t) d = liveO pf hT m ρ c t := by
  unfold stepO liveO
  by_cases h2 : ent (nl pf) (tl pf hT t) = 2#32
  · exact (if_pos h2).trans (if_pos h2).symm
  · have h1 : ent (nl pf) (tl pf hT t) = 1#32 := by
      rcases hT.nl_mem (tl pf hT t) with e | e | e
      · exact absurd e h
      · exact e
      · exact absurd e h2
    exact (if_neg h2).trans ((if_pos h1).trans (if_neg h2).symm)

/-- At a tile without rows the weights are kept. -/
theorem stepW_dead (t : Fin (cfgA pf hT).N) (h : ¬ Live pf hT t) (x1 x2 : S1x2048x512.Idx → Elt Ideal .f32) (a : S2048x1024.Idx → Elt Ideal .bf16) :
    stepW (crd pf hT t) (te pf) (nl pf) x1 x2 a = a := by
  unfold stepW
  exact if_neg fun hh => h hh.1

/-- At a tile without rows the result's block is kept. -/
theorem stepO_dead (t : Fin (cfgA pf hT).N) (h : ¬ Live pf hT t) (x0 : S1024x2048.Idx → Elt Ideal .bf16) (w : S2048x1024.Idx → Elt Ideal .bf16) (d : S1024x512.Idx → Elt Ideal .bf16) :
    stepO (crd pf hT t) (nl pf) x0 w d = d := by
  unfold stepO
  have e : ent (nl pf) (tile (crd pf hT t)) = 0#32 := not_not.mp h
  rw [e]
  exact (if_neg (by decide)).trans (if_neg (by decide))

end Cert.Kernel2Ideal.Up

end
-- ==== Proof.UpPay.lean ====
module

public import proofs.«01_k».proof.Proof.UpDatI
public import Idealize.ShloMosaic.Lib.Pointwise
public import Idealize.ShloMosaic.Lib.ValueIdxCore

@[expose] public section

set_option maxRecDepth 16384
set_option Elab.async false

noncomputable section

namespace Cert.Kernel2Ideal.Up

open Cert.Kernel2Ideal Cert.Kernel2Ideal.Gen
open Idealize.ShloMosaic

/-- The gate's silu times the other product. -/
def swi (g u : EReal) : EReal := g * Ideal.logistic g * u

/-- A whole tile's result at an index: the two products of its row with the weights' two halves. -/
theorem pay3_apply (x0 : FVec Ideal S1024x2048 .bf16) (w : FVec Ideal S2048x1024 .bf16) (r : Fin 1024) (l : Fin 512) :
    k0_pay3 (F := Ideal) x0 w (ix2 r l)
      = swi (∑ k : Fin 2048, x0 (ix2 r k) * w (ix2 k ⟨l.val, by omega⟩)) (∑ k : Fin 2048, x0 (ix2 r k) * w (ix2 k ⟨512 + l.val, by omega⟩)) := by
  pointwise [k0_pay3]

  rfl

/-- The upper half's result at an index. -/
theorem pay4_apply (x0 : FVec Ideal S512x2048 .bf16) (w : FVec Ideal S2048x1024 .bf16) (r : Fin 512) (l : Fin 512) :
    k0_pay4 (F := Ideal) x0 w (ix2 r l)
      = swi (∑ k : Fin 2048, x0 (ix2 r k) * w (ix2 k ⟨l.val, by omega⟩)) (∑ k : Fin 2048, x0 (ix2 r k) * w (ix2 k ⟨512 + l.val, by omega⟩)) := by
  pointwise [k0_pay4]
  rfl

/-- The gate's weights as the kernel keeps them: the block's own entries. -/
theorem pay1_apply (x : FVec Ideal S1x2048x512 .f32) (k : Fin 2048) (l : Fin 512) : k0_pay1 (F := Ideal) x (ix2 k l) = x (ix3 0 k l) := by
  pointwise [k0_pay1]

/-- The other weights as the kernel keeps them: the block's own entries. -/
theorem pay2_apply (x : FVec Ideal S1x2048x512 .f32) (k : Fin 2048) (l : Fin 512) : k0_pay2 (F := Ideal) x (ix2 k l) = x (ix3 0 k l) := by
  pointwise [k0_pay2]

end Cert.Kernel2Ideal.Up

end
-- ==== Proof.UpFrameI.lean ====
module

public import proofs.«01_k».proof.Proof.UpDatI

@[expose] public section

set_option maxRecDepth 16384
set_option Elab.async false

noncomputable section

namespace Cert.Kernel2Ideal.Up

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- The algebra's part the pipeline's cells live in. -/
abbrev EP : Emb (UR sig nD τ) MM := emb₁

variable (pf : pre0.Contents (Elt Ideal)) (hT : Tables (te pf) (nl pf) (ts pf))
variable (m : (ℓ : Loc nD τ sig) → Buf (Elt Ideal) ℓ) (ρ : Dev nD → PrngReg)

/-! ## The staging buffers at a point -/

/-- The rows' buffer. -/
abbrev ms0_0 (t : Fin (cfgA pf hT).N) : Memref sig .tc .vmem S1024x2048 .bf16 := spec0_0.stage ((cfgA pf hT).slots t (0 : Fin 4))
/-- The gate's weights' buffer. -/
abbrev ms0_1 (t : Fin (cfgA pf hT).N) : Memref sig .tc .vmem S1x2048x512 .f32 := spec0_1.stage ((cfgA pf hT).slots t (1 : Fin 4))
/-- The other weights' buffer. -/
abbrev ms0_2 (t : Fin (cfgA pf hT).N) : Memref sig .tc .vmem S1x2048x512 .f32 := spec0_2.stage ((cfgA pf hT).slots t (2 : Fin 4))
/-- The result's buffer. -/
abbrev ms0_3 (t : Fin (cfgA pf hT).N) : Memref sig .tc .vmem S1024x512 .bf16 := spec0_3.stage ((cfgA pf hT).slots t (3 : Fin 4))
/-- The rows' buffer is a whole buffer. -/
abbrev hs0_0 (t : Fin (cfgA pf hT).N) : (ms0_0 pf hT t).IsWhole := hstage0_0 (((cfgA pf hT).slots t (0 : Fin 4)).cast nbuf0_0)
/-- The gate's weights' buffer is a whole buffer. -/
abbrev hs0_1 (t : Fin (cfgA pf hT).N) : (ms0_1 pf hT t).IsWhole := hstage0_1 (((cfgA pf hT).slots t (1 : Fin 4)).cast nbuf0_1)
/-- The other weights' buffer is a whole buffer. -/
abbrev hs0_2 (t : Fin (cfgA pf hT).N) : (ms0_2 pf hT t).IsWhole := hstage0_2 (((cfgA pf hT).slots t (2 : Fin 4)).cast nbuf0_2)
/-- The result's buffer is a whole buffer. -/
abbrev hs0_3 (t : Fin (cfgA pf hT).N) : (ms0_3 pf hT t).IsWhole := hstage0_3 (((cfgA pf hT).slots t (3 : Fin 4)).cast nbuf0_3)

/-! ## What holds between the steps -/

/-- The kept weights before step `n` are those of the point before, if its tile holds rows. -/
def Kept (c : Dev nD) (n : ℕ) (a : S2048x1024.Idx → Elt Ideal .bf16) : Prop :=
  ∀ (h : n - 1 < (cfgA pf hT).N), n ≠ 0 → Live pf hT ⟨n - 1, h⟩ → a = W pf hT m ρ c ⟨n - 1, h⟩

/-- Between two steps: the kept weights, and the body's halves of the tables. -/
def Phi (c : Dev nD) (t : Fin ((cfgA pf hT).N + 1)) : sProp MM :=
  iprop((∃ a, ⌜Kept pf hT m ρ c t.val a⌝ ∗ (wM.view.loc (c : Thread nD τ) ↦{fullShare} a)) ∗ (teM.view.loc (c : Thread nD τ) ↦{fullShare.right} pf 0) ∗ (nlM.view.loc (c : Thread nD τ) ↦{fullShare.right} pf 1) ∗ (tsM.view.loc (c : Thread nD τ) ↦{fullShare.right} pf 2))

/-- What the pipeline's windows hold after each step: the inputs their blocks, the result the block of the tile's place. -/
def dats (_ : Fin 1) (c : Dev nD) : Dat τ (Elt Ideal) Unit ℕ (UR sig nD τ) ℕ (cfgA pf hT) c where
  A w := (s₀ m ρ).mem (((cfgA pf hT).win w).arr.view.loc (c : Thread nD τ))
  after w t := match w with
    | ⟨0, _⟩ => iblk pf hT m ρ c (0 : Fin 4) t
    | ⟨1, _⟩ => iblk pf hT m ρ c (1 : Fin 4) t
    | ⟨2, _⟩ => iblk pf hT m ρ c (2 : Fin 4) t
    | ⟨3, _⟩ => liveO pf hT m ρ c (src pf hT t)
  Φ t := Phi pf hT m ρ c t
  q _ := fullShare
  owed _ := 0

/-- After a step the rows' buffer holds its block. -/
theorem after0_0 (c : Dev nD) (t : Fin (cfgA pf hT).N) : (dats pf hT m ρ 0 c).after (0 : Fin 4) t = iblk pf hT m ρ c (0 : Fin 4) t := rfl
/-- After a step the gate's weights' buffer holds its block. -/
theorem after0_1 (c : Dev nD) (t : Fin (cfgA pf hT).N) : (dats pf hT m ρ 0 c).after (1 : Fin 4) t = iblk pf hT m ρ c (1 : Fin 4) t := rfl
/-- After a step the other weights' buffer holds its block. -/
theorem after0_2 (c : Dev nD) (t : Fin (cfgA pf hT).N) : (dats pf hT m ρ 0 c).after (2 : Fin 4) t = iblk pf hT m ρ c (2 : Fin 4) t := rfl
/-- After a step the result's buffer holds the block of the tile's place. -/
theorem after0_3 (c : Dev nD) (t : Fin (cfgA pf hT).N) : (dats pf hT m ρ 0 c).after (3 : Fin 4) t = liveO pf hT m ρ c (src pf hT t) := rfl

/-- Before a step the rows' buffer holds its block. -/
theorem before0_0 (c : Dev nD) (t : Fin (cfgA pf hT).N) (d) : (dats pf hT m ρ 0 c).before (0 : Fin 4) t d = iblk pf hT m ρ c (0 : Fin 4) t :=
  ((dats pf hT m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Before a step the gate's weights' buffer holds its block. -/
theorem before0_1 (c : Dev nD) (t : Fin (cfgA pf hT).N) (d) : (dats pf hT m ρ 0 c).before (1 : Fin 4) t d = iblk pf hT m ρ c (1 : Fin 4) t :=
  ((dats pf hT m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Before a step the other weights' buffer holds its block. -/
theorem before0_2 (c : Dev nD) (t : Fin (cfgA pf hT).N) (d) : (dats pf hT m ρ 0 c).before (2 : Fin 4) t d = iblk pf hT m ρ c (2 : Fin 4) t :=
  ((dats pf hT m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- A tile without rows keeps the block the result's buffer holds. -/
theorem hcarry0_3 (c : Dev nD) : ∀ (t : Fin (cfgA pf hT).N) (ht : t.val ≠ 0), (cfgA pf hT).idle (3 : Fin 4) ((cfgA pf hT).grid.coords t) = true → (cfgA pf hT).fresh (3 : Fin 4) t.val = false →
    (dats pf hT m ρ 0 c).after (3 : Fin 4) t = (dats pf hT m ρ 0 c).after (3 : Fin 4) ⟨t.val - 1, by omega⟩ := by
  intro t ht hi _
  rw [idle3] at hi
  have hd : ¬ Live pf hT t := not_not.mpr (of_decide_eq_true hi)
  rw [after0_3, after0_3, src_dead pf hT t hd]

/-- At a tile without rows the result's buffer holds the block of the tile's place. -/
theorem before0_3_dead (c : Dev nD) (t : Fin (cfgA pf hT).N) (h : ¬ Live pf hT t) (d) :
    (dats pf hT m ρ 0 c).before (3 : Fin 4) t d = liveO pf hT m ρ c (src pf hT t) := by
  rw [(dats pf hT m ρ 0 c).before_out_traj (3 : Fin 4) rfl (fun _ _ => rfl) (hcarry0_3 pf hT m ρ c) t.val t rfl d, fresh_dead pf hT t.val t.isLt h]
  rw [if_neg Bool.false_ne_true, after0_3, src_dead pf hT t h]

/-- The body at a point on its staging buffers. -/
abbrev bodyAt0 (t : Fin (cfgA pf hT).N) : Prog (TpuEff nD τ sig (Elt Ideal) Λ₀ .tc) PUnit :=
  cc0_ffn_up (crd pf hT t) teM (Memref.isWhole_whole _) nlM (Memref.isWhole_whole _) tsM (Memref.isWhole_whole _) (ms0_0 pf hT t) (hs0_0 pf hT t) (ms0_1 pf hT t) (hs0_1 pf hT t) (ms0_2 pf hT t) (hs0_2 pf hT t) (ms0_3 pf hT t) (hs0_3 pf hT t) wM (Memref.isWhole_whole _)

/-- A point's own weights are what the next point may find. -/
theorem kept_live (c : Dev nD) (t : Fin (cfgA pf hT).N) : Kept pf hT m ρ c (t.val + 1) (W pf hT m ρ c t) := fun _ _ _ => rfl

/-- After a tile without rows any weights will do. -/
theorem kept_dead (c : Dev nD) (t : Fin (cfgA pf hT).N) (h : ¬ Live pf hT t) (a) : Kept pf hT m ρ c (t.val + 1) a := fun _ _ hl => absurd hl h

set_option maxHeartbeats 4000000 in
/-- The body at a point does what the data say. -/
theorem sound_body (c : Dev nD) (t : Fin (cfgA pf hT).N) :
    iprop((dats pf hT m ρ 0 c).Φ t.castSucc ∗ (dats pf hT m ρ 0 c).owesAt () t.castSucc
        ∗ (∃ d, owns (c : Thread nD τ) (ms0_0 pf hT t) fullShare ((dats pf hT m ρ 0 c).before (0 : Fin 4) t d))
        ∗ (∃ d, owns (c : Thread nD τ) (ms0_1 pf hT t) fullShare ((dats pf hT m ρ 0 c).before (1 : Fin 4) t d))
        ∗ (∃ d, owns (c : Thread nD τ) (ms0_2 pf hT t) fullShare ((dats pf hT m ρ 0 c).before (2 : Fin 4) t d))
        ∗ (∃ d, owns (c : Thread nD τ) (ms0_3 pf hT t) fullShare ((dats pf hT m ρ 0 c).before (3 : Fin 4) t d)))
      ⊢ wp frame (wpE (defs₀ (F := Ideal)) Variants.none c none) Set.univ (bodyAt0 pf hT t) fun _ =>
          iprop((dats pf hT m ρ 0 c).Φ t.succ ∗ (dats pf hT m ρ 0 c).owesAt () t.succ
            ∗ bigSep Finset.univ fun w : Fin (cfgA pf hT).W =>
                match (cfgA pf hT).idle w ((cfgA pf hT).grid.coords t) with
                | true =>
                  match ((cfgA pf hT).win w).flush t with
                  | false => iprop(∃ d, owns (c : Thread nD τ) (((cfgA pf hT).win w).stage ((cfgA pf hT).slots t w)) fullShare ((dats pf hT m ρ 0 c).before w t d))
                  | true => owns (c : Thread nD τ) (((cfgA pf hT).win w).stage ((cfgA pf hT).slots t w)) fullShare ((dats pf hT m ρ 0 c).after w t)
                | false => owns (c : Thread nD τ) (((cfgA pf hT).win w).stage ((cfgA pf hT).slots t w)) fullShare ((dats pf hT m ρ 0 c).after w t)) := by
  rw [bigSep_W0]
  rewrite [idle3, show (dats pf hT m ρ 0 c).Φ t.succ = Phi pf hT m ρ c t.succ from rfl, show (dats pf hT m ρ 0 c).Φ t.castSucc = Phi pf hT m ρ c t.castSucc from rfl,
      show (dats pf hT m ρ 0 c).owesAt () t.succ = (dats pf hT m ρ 0 c).owesAt () t.castSucc from rfl]
  by_cases hl : Live pf hT t
  · rewrite [decide_eq_false hl]
    simp only [before0_0, before0_1, before0_2, after0_0, after0_1, after0_2, after0_3]
    rewrite [src_live pf hT t hl]
    unfold Phi; simp only [Fin.val_castSucc, Fin.val_succ]
    iintro ⟨⟨⟨%a, %ha, HS0⟩, HT0, HT1, HT2⟩, Ho, ⟨%d0, H0⟩, ⟨%d1, H1⟩, ⟨%d2, H2⟩, ⟨%d3, H3⟩⟩
    have eW := stepW_live pf hT m ρ c t hl a (fun h hb => ha (back pf hT t).isLt h hb)
    iapply (run_step c (crd pf hT t) (ms0_0 pf hT t) (hs0_0 pf hT t) (ms0_1 pf hT t) (hs0_1 pf hT t) (ms0_2 pf hT t) (hs0_2 pf hT t) (ms0_3 pf hT t) (hs0_3 pf hT t) (te pf) (nl pf) (ts pf) (X0 pf hT m ρ c t) (X1 pf hT m ρ c t) (X2 pf hT m ρ c t) (hT.nl_mem _) _ a _)
    rw [eW, stepO_live pf hT m ρ c t hl]
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexact H3
    isplitl [HS0]; · iexact HS0
    iintro ⟨H0, H1, H2, HT0, HT1, HT2, H3, HS0⟩
    isplitl [HS0 HT0 HT1 HT2]
    · isplitl [HS0]
      · iexists _; isplitr; swap
        · iexact HS0
        · ipureintro; exact kept_live pf hT m ρ c t
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    iexact H3
  · rewrite [decide_eq_true (not_not.mp hl)]
    simp only [before0_0, before0_1, before0_2, before0_3_dead pf hT m ρ c t hl, after0_0, after0_1, after0_2, after0_3]
    unfold Phi; simp only [Fin.val_castSucc, Fin.val_succ]
    iintro ⟨⟨⟨%a, %ha, HS0⟩, HT0, HT1, HT2⟩, Ho, ⟨%d0, H0⟩, ⟨%d1, H1⟩, ⟨%d2, H2⟩, ⟨%d3, H3⟩⟩
    iapply (run_step c (crd pf hT t) (ms0_0 pf hT t) (hs0_0 pf hT t) (ms0_1 pf hT t) (hs0_1 pf hT t) (ms0_2 pf hT t) (hs0_2 pf hT t) (ms0_3 pf hT t) (hs0_3 pf hT t) (te pf) (nl pf) (ts pf) (X0 pf hT m ρ c t) (X1 pf hT m ρ c t) (X2 pf hT m ρ c t) (hT.nl_mem _) _ a _)
    rw [stepW_dead pf hT t hl, stepO_dead pf hT t hl]
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexact H3
    isplitl [HS0]; · iexact HS0
    iintro ⟨H0, H1, H2, HT0, HT1, HT2, H3, HS0⟩
    isplitl [HS0 HT0 HT1 HT2]
    · isplitl [HS0]
      · iexists _; isplitr; swap
        · iexact HS0
        · ipureintro; exact kept_dead pf hT m ρ c t hl a
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    cases ((cfgA pf hT).win (3 : Fin 4)).flush t
    · iexists d3; iexact H3
    · iexact H3

/-- The body does at every point what the data say. -/
theorem body_obligation (c : Dev nD) : BodyObligation (dats pf hT m ρ 0 c) (defs₀ (F := Ideal)) Variants.none () Set.univ := fun t => by
  rw [bigSep_W0]
  exact sound_body pf hT m ρ c t

/-! ## The launch -/

/-- The launch's element of the algebra. -/
def u₀ : UR sig nD τ :=
  initOf (Pipeline.cells (pcs pf hT) ((launch0 (F := Ideal)).cellOf_inj fun _ => adm pf hT))
    (Pipeline.launchToks (pcs pf hT) ((launch0 (F := Ideal)).cellOf_inj fun _ => adm pf hT))

/-- Every window's array is held whole. -/
theorem share_eq (c : Dev nD) (w : Fin (cfgA pf hT).W) : (dats pf hT m ρ 0 c).share w = fullShare := by unfold Dat.share; split <;> rfl

/-- The tables as the launch hands them over, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp MM)
      = iprop((((c : Thread nD τ).loc main_arg3) ↦{q 0} v 0) ∗ (((c : Thread nD τ).loc main_arg4) ↦{q 1} v 1) ∗ (((c : Thread nD τ).loc main_arg5) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the launch hands over is what holds before the first step. -/
theorem phi0_intro (c : Dev nD) :
    iprop(BI.emp ∗ Pipeline.prefHeld pre0 c (fun _ => fullShare.right) (adm pf hT).1 ∗ Pipeline.scopedRest spec0 c) ⊢ (dats pf hT m ρ 0 c).Φ 0 := by
  rw [prefHeld_eq, scopedRest0_eq, show (dats pf hT m ρ 0 c).Φ 0 = Phi pf hT m ρ c 0 from rfl]
  unfold Phi
  iintro ⟨-, ⟨HT0, HT1, HT2⟩, ⟨%a0, HS0⟩⟩
  isplitl [HS0]
  · iexists a0; isplitr; swap
    · iexact HS0
    · ipureintro; intro _ h; exact absurd rfl h
  isplitl [HT0]
  · iexact HT0
  isplitl [HT1]
  · iexact HT1
  iexact HT2

/-- What holds after the last step gives the scratch buffer back. -/
theorem phiN_exit (c : Dev nD) : (dats pf hT m ρ 0 c).Φ (Fin.last (cfgA pf hT).N) ⊢ iprop(BI.emp ∗ Pipeline.scopedRest spec0 c) := by
  rw [scopedRest0_eq, show (dats pf hT m ρ 0 c).Φ (Fin.last (cfgA pf hT).N) = Phi pf hT m ρ c (Fin.last _) from rfl]
  unfold Phi
  iintro ⟨⟨%a0, -, HS0⟩, -, -, -⟩
  isplitr; · iempintro
  iexists a0; iexact HS0

/-- After the run: every array as the data say, every table as it was. -/
def QC : PUnit × MemSt nD τ sig (Elt Ideal) → Prop := fun r =>
  ∀ c : Dev nD, (∀ w : Fin (cfgA pf hT).W, r.2.mem (((cfgA pf hT).win w).arr.view.loc (c : Thread nD τ)) = (dats pf hT m ρ 0 c).arrAt w (cfgA pf hT).N)
    ∧ ∀ j, r.2.mem ((c : Thread nD τ).loc (pre0.ref j)) = (adm pf hT).1 j

/-- The tables of the memory are the run's. -/
abbrev Pinned : Prop := ∀ (c : Dev nD) (j : Fin 3), m ((c : Thread nD τ).loc (pre0.ref j)) = pf j

set_option backward.isDefEq.respectTransparency.types false in
set_option maxHeartbeats 4000000 in
/-- Every run ends, with every array as the data say and every counter at zero. -/
theorem run_main_quiescent (hp : Pinned pf m) : θ_run (defs (F := Ideal)) (onTc (τ := τ) (main (F := Ideal))) (s₀ m ρ) (fun r => QC pf hT m ρ r ∧ r.2.sem = fun _ => 0) :=
  Pipeline.θ_run_region_noSem_pf_quiescent pcfgs (fun _ => adm pf hT) (dats pf hT m ρ) () ((launch0 (F := Ideal)).cellOf_inj fun _ => adm pf hT) (0 : Fin 1)
    (launch0 (F := Ideal)).win.to₀ (launch0 (F := Ideal)).pre EP defs₀ Variants.none m ρ main
    (hbody := fun c => (body_obligation pf hT m ρ c).loose) (hne := (launch0 (F := Ideal)).block_pos)
    (harr := (launch0 (F := Ideal)).arr_whole) (hstage := (launch0 (F := Ideal)).stage_whole) (howed := fun _ _ => rfl)
    (u₀ := u₀ pf hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hT) (dats pf hT m ρ) 0 (launch0 (F := Ideal)).win.arr_inj c (launch0 (F := Ideal)).arr_whole
      (share_eq pf hT m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro pf hT m ρ)
    (hout := phiN_exit pf hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run leaves the arguments as they were, and the result as the data say. -/
theorem result (hp : Pinned pf m) :
    θ_run (defs (F := Ideal)) (onTc (τ := τ) (main (F := Ideal))) ⟨m, fun _ => 0, ρ⟩ (fun r => (∀ c : Dev nD,
      (r.2.mem ((c.tc : Thread nD τ).loc main_v0) = (dats pf hT m ρ 0 c).arrAt (3 : Fin 4) (cfgA pf hT).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (3 : Fin 4),
    ((h.1 c).1 (0 : Fin 4)).trans ((dats pf hT m ρ 0 c).arrAt_in (0 : Fin 4) rfl _), ((h.1 c).1 (1 : Fin 4)).trans ((dats pf hT m ρ 0 c).arrAt_in (1 : Fin 4) rfl _), ((h.1 c).1 (2 : Fin 4)).trans ((dats pf hT m ρ 0 c).arrAt_in (2 : Fin 4) rfl _),
    ((h.1 c).2 0).trans (hp c 0).symm, ((h.1 c).2 1).trans (hp c 1).symm, ((h.1 c).2 2).trans (hp c 2).symm⟩, h.2⟩) (run_main_quiescent pf hT m ρ hp)

include hT in
/-- The frame: every run ends with the arguments as they were and every counter at zero. -/
theorem frame (hp : Pinned pf m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (result pf hT m ρ hp)

end Cert.Kernel2Ideal.Up

end
-- ==== Proof.UpVal.lean ====
module

public import proofs.«01_k».proof.Proof.UpPay
public import proofs.«01_k».proof.Proof.UpFrameI

@[expose] public section

set_option maxRecDepth 16384
set_option Elab.async false

noncomputable section

namespace Cert.Kernel2Ideal.Up

open Cert.Kernel2Ideal Cert.Kernel2Ideal.Gen
open Idealize.ShloMosaic Idealize.ShloMosaic.TcCoe Idealize.SL.Sem
open Idealize.ShloMosaic.Pipeline (Dat)

/-- Row `R` of the tokens times column `C` of expert `e`'s weights. -/
def dot (x : S23552x2048.Idx → EReal) (w : S16x2048x7168.Idx → EReal) (e : Fin 16) (R : Fin 23552) (C : Fin 7168) : EReal :=
  ∑ k : Fin 2048, x (ix2 R k) * w (ix3 e k C)

/-- The weights side by side: a column of the gate's. -/
theorem wcat_low (x1 x2 : S1x2048x512.Idx → Elt Ideal .f32) (k : Fin 2048) (l : Fin 512) :
    wcat x1 x2 (ix2 k ⟨l.val, by omega⟩) = x1 (ix3 0 k l) := by
  unfold wcat
  refine (dif_pos (show l.val < 512 from l.isLt)).trans ?_
  exact pay1_apply x1 k l

/-- The weights side by side: a column of the other projection's. -/
theorem wcat_high (x1 x2 : S1x2048x512.Idx → Elt Ideal .f32) (k : Fin 2048) (l : Fin 512) :
    wcat x1 x2 (ix2 k ⟨512 + l.val, by omega⟩) = x2 (ix3 0 k l) := by
  unfold wcat
  refine (dif_neg (show ¬ 512 + l.val < 512 by omega)).trans ?_
  have e : (⟨512 + l.val - 512, by omega⟩ : Fin 512) = l := Fin.ext (by show 512 + l.val - 512 = l.val; omega)
  refine Eq.trans ?_ (pay2_apply x2 k l)
  congr 1
  funext a
  match a with
  | ⟨0, _⟩ => rfl
  | ⟨1, _⟩ => exact e

/-- The upper half of a tile's rows, entry by entry. -/
theorem upper_apply (x0 : S1024x2048.Idx → Elt Ideal .bf16) (r : Fin 512) (k : Fin 2048) : upper x0 (ix2 r k) = x0 (ix2 ⟨r.val, by omega⟩ k) := by
  show x0 _ = x0 _
  congr 1
  funext a
  apply Fin.ext
  match a with
  | ⟨0, _⟩ => show 0 + 1 * r.val = r.val; omega
  | ⟨1, _⟩ => show 0 + 1 * k.val = k.val; omega

variable (pf : pre0.Contents (Elt Ideal)) (hT : Tables (te pf) (nl pf) (ts pf))
variable (m : (ℓ : Loc nD τ sig) → Buf (Elt Ideal) ℓ) (ρ : Dev nD → PrngReg)

/-- The tile's expert. -/
abbrev ex (k : Fin 23) : Fin 16 := ⟨(ent (te pf) k).toNat, hT.te_lt k⟩

/-- The result's entry: row `R` uses the expert of its tile. -/
def spec (c : Dev nD) (R : Fin 23552) (C : Fin 7168) : EReal :=
  swi (dot (m ((c : Thread nD τ).loc main_arg0)) (m ((c : Thread nD τ).loc main_arg1)) (ex pf hT ⟨R.val / 1024, by omega⟩) R C)
    (dot (m ((c : Thread nD τ).loc main_arg0)) (m ((c : Thread nD τ).loc main_arg2)) (ex pf hT ⟨R.val / 1024, by omega⟩) R C)

/-- The block of a tile that holds rows, at a row it holds, is the result's entry. -/
theorem liveO_apply (c : Dev nD) (t : Fin (cfgA pf hT).N) (hl : Live pf hT t) (r : Fin 1024) (l : Fin 512) (R : Fin 23552) (C : Fin 7168)
    (hR : R.val = (tl pf hT t).val * 1024 + r.val) (hC : C.val = (crd pf hT t 0).val * 512 + l.val)
    (hm : r.val / 512 < (ent (nl pf) (tl pf hT t)).toNat) :
    liveO pf hT m ρ c t (ix2 r l) = spec pf hT m c R C := by
  have ets : (ent (ts pf) (tl pf hT t)).toNat = (tl pf hT t).val := hT.ts_live _ hl
  have hk : (⟨R.val / 1024, by omega⟩ : Fin 23) = tl pf hT t := Fin.ext (by show R.val / 1024 = (tl pf hT t).val; omega)
  have hx : ∀ k : Fin 2048, X0 pf hT m ρ c t (ix2 r k) = (m ((c : Thread nD τ).loc main_arg0) : S23552x2048.Idx → Elt Ideal .bf16) (ix2 R k) := fun k =>
    X0_apply pf hT m ρ c t _ _ (by rw [ets]; exact hR) rfl
  have hg : ∀ k : Fin 2048, W pf hT m ρ c t (ix2 k ⟨l.val, by omega⟩) = (m ((c : Thread nD τ).loc main_arg1) : S16x2048x7168.Idx → Elt Ideal .f32) (ix3 (ex pf hT ⟨R.val / 1024, by omega⟩) k C) := fun k =>
    (wcat_low _ _ k l).trans (X1_apply pf hT m ρ c t _ _ (by rw [hk]; rfl) rfl hC)
  have hu : ∀ k : Fin 2048, W pf hT m ρ c t (ix2 k ⟨512 + l.val, by omega⟩) = (m ((c : Thread nD τ).loc main_arg2) : S16x2048x7168.Idx → Elt Ideal .f32) (ix3 (ex pf hT ⟨R.val / 1024, by omega⟩) k C) := fun k =>
    (wcat_high _ _ k l).trans (X2_apply pf hT m ρ c t _ _ (by rw [hk]; rfl) rfl hC)
  unfold liveO spec dot
  by_cases h2 : ent (nl pf) (tl pf hT t) = 2#32
  · rw [if_pos h2]
    refine (pay3_apply _ _ r l).trans ?_
    simp only [hx, hg, hu]
  · have h1 : ent (nl pf) (tl pf hT t) = 1#32 := by
      rcases hT.nl_mem (tl pf hT t) with h | h | h
      · exact absurd h hl
      · exact h
      · exact absurd h h2
    rw [if_neg h2]
    have hr : r.val < 512 := by
      rw [h1] at hm
      have : r.val / 512 < 1 := hm
      omega
    unfold halfO
    refine (dif_pos (show r.val < 512 from hr)).trans ?_
    refine (pay4_apply _ _ ⟨r.val, hr⟩ l).trans ?_
    have hx' : ∀ k : Fin 2048, upper (X0 pf hT m ρ c t) (ix2 ⟨r.val, hr⟩ k) = (m ((c : Thread nD τ).loc main_arg0) : S23552x2048.Idx → Elt Ideal .bf16) (ix2 R k) := fun k =>
      (upper_apply _ _ k).trans (hx k)
    simp only [hx', hg, hu]

/-- From any point on there is a write-back of that point's block. -/
theorem exists_flush : ∀ (n : ℕ) (t : Fin (cfgA pf hT).N), 322 - t.val = n → ∃ u : Fin (cfgA pf hT).N, ((cfgA pf hT).win (3 : Fin 4)).flush u = true
      ∧ ((cfgA pf hT).win (3 : Fin 4)).index u = ((cfgA pf hT).win (3 : Fin 4)).index t
  | 0, t, h => by have : t.val < 322 := t.isLt; omega
  | n + 1, t, h => by
    by_cases hf : ((cfgA pf hT).win (3 : Fin 4)).flush t = true
    · exact ⟨t, hf, rfl⟩
    · rw [Bool.not_eq_true] at hf
      unfold Pipeline.Window.flush at hf
      have ho : ((cfgA pf hT).win (3 : Fin 4)).isOut = true := rfl
      rw [ho, Bool.true_and, Bool.or_eq_false_iff] at hf
      have hN : ¬ t.val + 1 = 322 := of_decide_eq_false hf.1
      have hi := of_decide_eq_false hf.2
      have ht : t.val < 322 := t.isLt
      have h1 : t.val + 1 < (cfgA pf hT).N := by show t.val + 1 < 322; omega
      have e : ((cfgA pf hT).win (3 : Fin 4)).index ⟨t.val + 1, h1⟩ = ((cfgA pf hT).win (3 : Fin 4)).index t := by
        by_contra hne
        exact hi ⟨h1, hne⟩
      obtain ⟨u, hu, hue⟩ := exists_flush n ⟨t.val + 1, h1⟩ (by show 322 - (t.val + 1) = n; omega)
      exact ⟨u, hu, hue.trans e⟩

/-- Where an element of the result's block lies in the result. -/
theorem emb3 (t : Fin (cfgA pf hT).N) (y : S1024x512.Idx) :
    ((((cfgA pf hT).win (3 : Fin 4)).rect t).emb y 0).val = (ent (ts pf) (tl pf hT t)).toNat * 1024 + (y 0).val
      ∧ ((((cfgA pf hT).win (3 : Fin 4)).rect t).emb y 1).val = (crd pf hT t 0).val * 512 + (y 1).val := by
  constructor
  · refine (Pipeline.Window.rect_emb_val ((cfgA pf hT).win (3 : Fin 4)) t y 0).trans ?_
    rw [index3]; rfl
  · refine (Pipeline.Window.rect_emb_val ((cfgA pf hT).win (3 : Fin 4)) t y 1).trans ?_
    rw [index3]; rfl

/-- After the run, a row its tile holds is the result's. -/
theorem arr_spec (c : Dev nD) (R : Fin 23552) (C : Fin 7168) (hm : R.val % 1024 / 512 < (ent (nl pf) ⟨R.val / 1024, by omega⟩).toNat) :
    ((dats pf hT m ρ 0 c).arrAt (3 : Fin 4) (cfgA pf hT).N : S23552x7168.Idx → Elt Ideal .bf16) (ix2 R C) = spec pf hT m c R C := by
  let P : S23552x7168.Idx → Elt Ideal .bf16 → Prop := fun i v =>
    (i 0).val % 1024 / 512 < (ent (nl pf) ⟨(i 0).val / 1024, by have : (i 0).val < 23552 := (i 0).isLt; omega⟩).toNat → v = spec pf hT m c (i 0) (i 1)
  have hP : ∀ t : Fin (cfgA pf hT).N, ((cfgA pf hT).win (3 : Fin 4)).flush t = true → ∀ y : S1024x512.Idx,
      P ((((cfgA pf hT).win (3 : Fin 4)).rect t).emb y) ((dats pf hT m ρ 0 c).after (3 : Fin 4) t y) := by
    intro t _ y hh
    rw [after0_3]
    obtain ⟨e0, e1⟩ := emb3 pf hT t y
    generalize (((cfgA pf hT).win (3 : Fin 4)).rect t).emb y = i at *
    have hy0 : (y 0).val < 1024 := (y 0).isLt
    have hs := tl_src pf hT t
    have hi : (i 0).val < 23552 := (i 0).isLt
    have hk : (⟨(i 0).val / 1024, by omega⟩ : Fin 23) = tl pf hT (src pf hT t) := Fin.ext (by show (i 0).val / 1024 = (tl pf hT (src pf hT t)).val; omega)
    rw [hk] at hh
    rw [eq_ix2 (n0 := 1024) (n1 := 512) y]
    refine liveO_apply pf hT m ρ c (src pf hT t) (live_src pf hT t) (y 0) (y 1) (i 0) (i 1) (by rw [hs]; exact e0) (by rw [col_src]; exact e1) ?_
    have e : (i 0).val % 1024 = (y 0).val := by omega
    rw [e] at hh
    exact hh
  have hC : C.val < 7168 := C.isLt
  have hR : R.val < 23552 := R.isLt
  let t₀ : Fin (cfgA pf hT).N := ⟨C.val / 512 * 23 + R.val / 1024, by show C.val / 512 * 23 + R.val / 1024 < 322; omega⟩
  have ht₀ : t₀.val = C.val / 512 * 23 + R.val / 1024 := rfl
  have htl : tl pf hT t₀ = ⟨R.val / 1024, by omega⟩ := Fin.ext (by rw [tl_val, ht₀]; show _ = R.val / 1024; omega)
  have hcr : (crd pf hT t₀ 0).val = C.val / 512 := by rw [crd_0, ht₀]; omega
  have hl : Live pf hT t₀ := by
    rw [Live, htl]
    intro h0
    rw [h0] at hm
    exact absurd hm (Nat.not_lt_zero _)
  obtain ⟨u, hu, hue⟩ := exists_flush pf hT _ t₀ rfl
  have ets := hT.ts_live _ hl
  rw [index3, index3, ets, hcr, htl] at hue
  have hu0 : (ent (ts pf) (tl pf hT u)).toNat = R.val / 1024 := congrFun hue 0
  have hu1 : (crd pf hT u 0).val = C.val / 512 := congrFun hue 1
  have hin : (ix2 R C : S23552x7168.Idx) ∈ (((cfgA pf hT).win (3 : Fin 4)).blk u).view.set := by
    refine Finset.mem_map.mpr ⟨(ix2 ⟨R.val % 1024, by omega⟩ ⟨C.val % 512, by omega⟩ : S1024x512.Idx), Finset.mem_univ _, ?_⟩
    obtain ⟨e0, e1⟩ := emb3 pf hT u (ix2 ⟨R.val % 1024, by omega⟩ ⟨C.val % 512, by omega⟩)
    show (((cfgA pf hT).win (3 : Fin 4)).rect u).emb (ix2 ⟨R.val % 1024, _⟩ ⟨C.val % 512, _⟩) = ix2 R C
    funext a
    apply Fin.ext
    match a with
    | ⟨0, _⟩ => refine e0.trans ?_; rw [hu0]; show R.val / 1024 * 1024 + R.val % 1024 = R.val; omega
    | ⟨1, _⟩ => refine e1.trans ?_; rw [hu1]; show C.val / 512 * 512 + C.val % 512 = C.val; omega
  exact (dats pf hT m ρ 0 c).arrAt_forall_of_flushed (3 : Fin 4) P hP (cfgA pf hT).N u (ix2 R C) u.isLt hu hin hm

end Cert.Kernel2Ideal.Up

end
-- ==== Proof.UpRef.lean ====
module

public import proofs.«01_k».proof.Proof.Gen.Reference2Ideal.Read
public import proofs.«01_k».proof.Proof.Gen.Reference2Ideal
public import proofs.«01_k».proof.On_rows_held
public import proofs.«01_k».proof.Proof.Gen.On_rows_held
public import Idealize.ShloMosaic.Lib.Pointwise
public import Idealize.ShloMosaic.Lib.ValueIdxCore
public import Idealize.ShloMosaic.Lib.StableHlo.Predicate

@[expose] public section

set_option maxRecDepth 16384
set_option Elab.async false

noncomputable section

namespace Cert.Reference2Ideal.Up

open Cert.Reference2Ideal Cert.Reference2Ideal.Gen Cert.Reference2Ideal.Read
open Idealize.ShloMosaic

/-- The expert of a row: its tile's. -/
theorem expert_apply (x3 : S23.Idx → BitVec 32) (i : S23552x1.Idx) (k : Fin 23) (hk : (i 0).val / 1024 = k.val) :
    val_main_call0_v0 (F := Ideal) x3 i = x3 (fun a => ⟨k.val, by fin_cases a; exact k.isLt⟩) := by
  rw [val_main_call0_v0_apply, val_main_v2_apply, val_main_v1_apply, val_main_v0_apply]
  show x3 _ = x3 _
  congr 1
  funext a
  match a with
  | ⟨0, _⟩ => exact Fin.ext hk

/-- Naming an expert among sixteen, the gather's clamp changes nothing. -/
theorem clamp_expert : ∀ e : Fin 16, min (BitVec.ofNat 32 e.val).toInt.toNat 15 = e.val := by decide

/-- The gather read at an index: each row takes the whole matrix its index names. -/
theorem gather_apply (x : S16x2048x7168.Idx → EReal) (idx : IVec S23552x1 32) (y : S23552x2048x7168.Idx) (e : Fin 16)
    (he : idx (ix2 (y 0) 0) = BitVec.ofNat 32 e.val) :
    Host.gather gather_S16x2048x7168_S23552x1_S23552x2048x7168_12_0_n_n_0_1_120487168 x idx y = x (ix3 e (y 1) (y 2)) := by
  unfold Host.gather
  congr 1
  funext a
  refine Fin.ext ?_
  show (gather_S16x2048x7168_S23552x1_S23552x2048x7168_12_0_n_n_0_1_120487168).start y idx a
    + (gather_S16x2048x7168_S23552x1_S23552x2048x7168_12_0_n_n_0_1_120487168).batchCoord y a
    + (gather_S16x2048x7168_S23552x1_S23552x2048x7168_12_0_n_n_0_1_120487168).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (gather_S16x2048x7168_S23552x1_S23552x2048x7168_12_0_n_n_0_1_120487168).startIndexMap from List.mem_singleton.mpr rfl)]
    have hsi : (gather_S16x2048x7168_S23552x1_S23552x2048x7168_12_0_n_n_0_1_120487168).siIdx y ⟨List.idxOf (0 : Fin 3) (gather_S16x2048x7168_S23552x1_S23552x2048x7168_12_0_n_n_0_1_120487168).startIndexMap,
        List.idxOf_lt_length_iff.2 (List.mem_singleton.mpr rfl)⟩ = ix2 (y 0) 0 := by
      funext b; refine Fin.ext ?_
      match b with
      | ⟨0, _⟩ => rfl
      | ⟨1, _⟩ => rfl
    have hd : idx ((gather_S16x2048x7168_S23552x1_S23552x2048x7168_12_0_n_n_0_1_120487168).siIdx y ⟨List.idxOf (0 : Fin 3) (gather_S16x2048x7168_S23552x1_S23552x2048x7168_12_0_n_n_0_1_120487168).startIndexMap,
        List.idxOf_lt_length_iff.2 (List.mem_singleton.mpr rfl)⟩) = BitVec.ofNat 32 e.val := (congrArg idx hsi).trans he
    exact (congrArg (fun w : BitVec 32 => min w.toInt.toNat 15) hd).trans (clamp_expert e)
  | ⟨1, _⟩ =>
    have h0 : (gather_S16x2048x7168_S23552x1_S23552x2048x7168_12_0_n_n_0_1_120487168).start y idx ⟨1, by decide⟩ = 0 := by
      unfold GatherDims.start
      exact dif_neg (by decide)
    have h1 : (gather_S16x2048x7168_S23552x1_S23552x2048x7168_12_0_n_n_0_1_120487168).offCoord y (1 : Fin 3) = (y 1).val := by
      unfold GatherDims.offCoord
      rw [dif_pos (show (1 : Fin 3) ∈ (gather_S16x2048x7168_S23552x1_S23552x2048x7168_12_0_n_n_0_1_120487168).sKept by decide)]
      rfl
    rw [h0]
    exact (Nat.zero_add _).trans h1
  | ⟨2, _⟩ =>
    have h0 : (gather_S16x2048x7168_S23552x1_S23552x2048x7168_12_0_n_n_0_1_120487168).start y idx ⟨2, by decide⟩ = 0 := by
      unfold GatherDims.start
      exact dif_neg (by decide)
    have h1 : (gather_S16x2048x7168_S23552x1_S23552x2048x7168_12_0_n_n_0_1_120487168).offCoord y (2 : Fin 3) = (y 2).val := by
      unfold GatherDims.offCoord
      rw [dif_pos (show (2 : Fin 3) ∈ (gather_S16x2048x7168_S23552x1_S23552x2048x7168_12_0_n_n_0_1_120487168).sKept by decide)]
      rfl
    rw [h0]
    exact (Nat.zero_add _).trans h1

/-- The mask: an entry counts where its row is among those its tile holds. -/
theorem held_iff (x0 : FVec Ideal On_rows_held.S23552x2048 .bf16) (x1 x2 : FVec Ideal On_rows_held.S16x2048x7168 .f32) (x3 x4 x5 : IVec On_rows_held.S23 32)
    (R : Fin 23552) (C : Fin 7168) :
    On_rows_held.fn (F := Ideal) x0 x1 x2 x3 x4 x5 (ix2 R C)
      = IntOp.cmpi .sgt (x4 (fun a => ⟨R.val / 1024, by fin_cases a; show R.val / 1024 < 23; omega⟩)) (BitVec.ofNat 32 (R.val % 1024 / 512)) := by
  dsimp only [On_rows_held.fn]
  pointwise
  have e : R.val / 512 % 2 = R.val % 1024 / 512 := by omega
  exact congrArg₂ (IntOp.cmpi .sgt) (congrArg x4 (funext fun a => match a with | ⟨0, _⟩ => rfl)) (congrArg (BitVec.ofNat 32) e)

/-- Row `R` of the tokens times column `C` of expert `e`'s weights. -/
def dot (x : S23552x2048.Idx → EReal) (w : S16x2048x7168.Idx → EReal) (e : Fin 16) (R : Fin 23552) (C : Fin 7168) : EReal :=
  ∑ k : Fin 2048, x (ix2 R k) * w (ix3 e k C)

/-- The reference's result at an index. -/
theorem ref_apply (x0 : S23552x2048.Idx → EReal) (x1 x2 : S16x2048x7168.Idx → EReal) (x3 : S23.Idx → BitVec 32) (R : Fin 23552) (C : Fin 7168) (e : Fin 16)
    (he : x3 (fun a => ⟨R.val / 1024, by fin_cases a; show R.val / 1024 < 23; omega⟩) = BitVec.ofNat 32 e.val) :
    val_main_v10 (F := Ideal) x0 x1 x2 x3 (ix2 R C) = dot x0 x1 e R C * Ideal.logistic (dot x0 x1 e R C) * dot x0 x2 e R C := by
  have hg : val_main_v5 (F := Ideal) x0 x1 x3 (ix2 R C) = dot x0 x1 e R C := by
    rw [val_main_v5_apply]
    refine Finset.sum_congr rfl fun k _ => ?_
    exact congrArg₂ (· * ·) (congrArg x0 (funext fun a => match a with | ⟨0, _⟩ => rfl | ⟨1, _⟩ => rfl))
      ((gather_apply x1 _ _ e ((expert_apply x3 _ ⟨R.val / 1024, by omega⟩ rfl).trans he)).trans
        (congrArg x1 (funext fun a => match a with | ⟨0, _⟩ => rfl | ⟨1, _⟩ => rfl | ⟨2, _⟩ => rfl)))
  have hu : val_main_v7 (F := Ideal) x0 x2 x3 (ix2 R C) = dot x0 x2 e R C := by
    rw [val_main_v7_apply]
    refine Finset.sum_congr rfl fun k _ => ?_
    exact congrArg₂ (· * ·) (congrArg x0 (funext fun a => match a with | ⟨0, _⟩ => rfl | ⟨1, _⟩ => rfl))
      ((gather_apply x2 _ _ e ((expert_apply x3 _ ⟨R.val / 1024, by omega⟩ rfl).trans he)).trans
        (congrArg x2 (funext fun a => match a with | ⟨0, _⟩ => rfl | ⟨1, _⟩ => rfl | ⟨2, _⟩ => rfl)))
  have h1 : ∀ i, val_main_call2_v2 (F := Ideal) i = 1 := fun i => (val_main_call2_v2_apply i).trans (by rw [val_main_call2_cst_apply]; exact Ideal.ofBits_one_f32)
  have h2 : ∀ i, val_main_call2_v4 (F := Ideal) i = 1 := fun i => (val_main_call2_v4_apply i).trans (by rw [val_main_call2_cst_0_apply]; exact Ideal.ofBits_one_f32)
  rw [val_main_v10_apply, val_main_v9_apply, val_main_v8_apply, val_main_call2_v5_apply, val_main_call2_v3_apply, val_main_call2_v1_apply, val_main_call2_v0_apply, h1, h2, hg, hu]
  rfl

end Cert.Reference2Ideal.Up

end
-- ==== Proof.UpPreI.lean ====
module

public import proofs.«01_k».proof.Proof.UpTabI
public import proofs.«01_k».proof.Pre_tiles_first
public import proofs.«01_k».proof.Proof.Gen.Pre_tiles_first
public import Idealize.ShloMosaic.Lib.ReduceAll
public import Idealize.ShloMosaic.Lib.StableHlo.Predicate

@[expose] public section

set_option maxRecDepth 16384
set_option Elab.async false

noncomputable section

namespace Cert.Kernel2Ideal.Up

open Cert.Kernel2Ideal
open Idealize.ShloMosaic

/-- A word that is not negative and below a small bound, as a number. -/
theorem toNat_lt_of_cmp {w : BitVec 32} {n : ℕ} (hn : n < 2 ^ 31) (h0 : IntOp.cmpi .sge w 0#32 = 1#1) (h1 : w.toInt < n) : w.toNat < n := by
  have h0' := IntOp.cmpi_sge.mp h0
  have e0 : (0#32 : BitVec 32).toInt = 0 := by decide
  have e := BitVec.toInt_eq_toNat_cond w
  have hw := w.isLt
  split at e <;> omega

/-- A word from zero to two. -/
theorem nl_cases {w : BitVec 32} (h0 : IntOp.cmpi .sge w 0#32 = 1#1) (h1 : IntOp.cmpi .sle w 2#32 = 1#1) : w = 0#32 ∨ w = 1#32 ∨ w = 2#32 := by
  have h1' := IntOp.cmpi_sle.mp h1
  have e2 : (2#32 : BitVec 32).toInt = 2 := by decide
  have h := toNat_lt_of_cmp (n := 3) (by norm_num) h0 (by push_cast; omega)
  have hc : w.toNat = 0 ∨ w.toNat = 1 ∨ w.toNat = 2 := by omega
  rcases hc with e | e | e
  · exact Or.inl (BitVec.eq_of_toNat_eq e)
  · exact Or.inr (Or.inl (BitVec.eq_of_toNat_eq e))
  · exact Or.inr (Or.inr (BitVec.eq_of_toNat_eq e))

/-- Among the halves' counts, being positive is being other than zero. -/
theorem pos_iff {w : BitVec 32} (h : w = 0#32 ∨ w = 1#32 ∨ w = 2#32) : IntOp.cmpi .sgt w 0#32 = 1#1 ↔ w ≠ 0#32 := by
  rcases h with h | h | h <;> rw [h] <;> decide

/-- Among the halves' counts, not being positive is being zero. -/
theorem nonpos_iff {w : BitVec 32} (h : w = 0#32 ∨ w = 1#32 ∨ w = 2#32) : IntOp.cmpi .sle w 0#32 = 1#1 ↔ w = 0#32 := by
  rcases h with h | h | h <;> rw [h] <;> decide

/-- Entry `k` among the tiles but the first. -/
abbrev ix22 (k : Fin 22) : Pre_tiles_first.S22.Idx := fun a => ⟨k.val, by fin_cases a; exact k.isLt⟩

/-- The entries but the first. -/
theorem slice_tail (T : S23.Idx → BitVec 32) (h : Pre_tiles_first.S23.Slices ![1] Pre_tiles_first.S22) (k : Fin 22) :
    extractStridedSlice Pre_tiles_first.S22 ![1] T h (ix22 k) = ent T ⟨k.val + 1, by omega⟩ := by
  show T _ = T _
  congr 1
  funext a
  fin_cases a
  apply Fin.ext
  show 1 + k.val = k.val + 1
  omega

/-- The entries but the last. -/
theorem slice_init (T : S23.Idx → BitVec 32) (h : Pre_tiles_first.S23.Slices ![0] Pre_tiles_first.S22) (k : Fin 22) :
    extractStridedSlice Pre_tiles_first.S22 ![0] T h (ix22 k) = ent T ⟨k.val, by omega⟩ := by
  show T _ = T _
  congr 1
  funext a
  fin_cases a
  apply Fin.ext
  show 0 + k.val = k.val
  omega

/-- The first entry. -/
theorem slice_first (T : S23.Idx → BitVec 32) (h : Pre_tiles_first.S23.Slices ![0] Pre_tiles_first.S1) (i : Pre_tiles_first.S1.Idx) :
    extractStridedSlice Pre_tiles_first.S1 ![0] T h i = ent T 0 := by
  show T _ = T _
  congr 1
  funext a
  fin_cases a
  apply Fin.ext
  have : (i 0).val < 1 := (i 0).isLt
  show 0 + (i 0).val = 0
  omega

/-- The precondition, as what it says of the tables. -/
theorem tables_of_pre (x0 : FVec Ideal Pre_tiles_first.S23552x2048 .bf16) (x1 x2 : FVec Ideal Pre_tiles_first.S16x2048x7168 .f32) (T0 T1 T2 : S23.Idx → Elt Ideal .i32)
    (h : Pre_tiles_first.fn (F := Ideal) x0 x1 x2 T0 T1 T2 = fun _ => 1#1) : Tables T0 T1 T2 := by
  dsimp only [Pre_tiles_first.fn, Pre_tiles_first.fn_part1, Pre_tiles_first.fn_part2, Pre_tiles_first.fn_where] at h
  have h41 := congrFun h (fun a => a.elim0)
  obtain ⟨h32, h40⟩ := IntOp.andi_eq_one.mp h41
  obtain ⟨h23, h31⟩ := IntOp.andi_eq_one.mp h32
  obtain ⟨h16, h22⟩ := IntOp.andi_eq_one.mp h23
  obtain ⟨h12, h15⟩ := IntOp.andi_eq_one.mp h16
  obtain ⟨h8, h11⟩ := IntOp.andi_eq_one.mp h12
  haveI : Subsingleton Pre_tiles_first.S_.Idx := ⟨fun _ _ => funext fun a => a.elim0⟩
  have r8 := fun k : Fin 23 => IntOp.andi_eq_one.mp (Host.reduce_andi_all _ _ _ _ _ h8 (fun a => ⟨k.val, by fin_cases a; exact k.isLt⟩))
  have r22 := fun k : Fin 23 => IntOp.andi_eq_one.mp (Host.reduce_andi_all _ _ _ _ _ h22 (fun a => ⟨k.val, by fin_cases a; exact k.isLt⟩))
  have r31 := fun k : Fin 22 => Host.reduce_andi_all _ _ _ _ _ h31 (ix22 k)
  have r40 := fun k : Fin 22 => Host.reduce_andi_all _ _ _ _ _ h40 (ix22 k)
  have hnl : ∀ k, ent T1 k = 0#32 ∨ ent T1 k = 1#32 ∨ ent T1 k = 2#32 := fun k => nl_cases (r22 k).1 (r22 k).2
  have p1 : IntOp.cmpi .sgt (ent T1 0) 0#32 = 1#1 := by
    have e : IntOp.cmpi .sgt (extractStridedSlice Pre_tiles_first.S1 ![0] T1 _ _) 0#32 = 1#1 := h11
    rwa [slice_first] at e
  have p2 : IntOp.cmpi .eq (ent T2 0) 0#32 = 1#1 := by
    have e : IntOp.cmpi .eq (extractStridedSlice Pre_tiles_first.S1 ![0] T2 _ _) 0#32 = 1#1 := h15
    rwa [slice_first] at e
  have p3 : ∀ k : Fin 22, IntOp.ori (IntOp.cmpi .sle (ent T1 ⟨k.val + 1, by omega⟩) 0#32) (IntOp.cmpi .sgt (ent T1 ⟨k.val, by omega⟩) 0#32) = 1#1 := fun k => by
    have e : IntOp.ori (IntOp.cmpi .sle (extractStridedSlice Pre_tiles_first.S22 ![1] T1 _ (ix22 k)) 0#32) (IntOp.cmpi .sgt (extractStridedSlice Pre_tiles_first.S22 ![0] T1 _ (ix22 k)) 0#32) = 1#1 := r31 k
    rwa [slice_tail, slice_init] at e
  have p4 : ∀ k : Fin 22, ent T2 ⟨k.val + 1, by omega⟩ = if IntOp.cmpi .sgt (ent T1 ⟨k.val + 1, by omega⟩) 0#32 = 1#1 then 1#32 + BitVec.ofNat 32 k.val else ent T2 ⟨k.val, by omega⟩ := fun k => by
    have e : IntOp.cmpi .eq (extractStridedSlice Pre_tiles_first.S22 ![1] T2 _ (ix22 k))
      (if IntOp.cmpi .sgt (extractStridedSlice Pre_tiles_first.S22 ![1] T1 _ (ix22 k)) 0#32 = 1#1 then 1#32 + BitVec.ofNat 32 k.val else extractStridedSlice Pre_tiles_first.S22 ![0] T2 _ (ix22 k)) = 1#1 := r40 k
    rw [slice_tail, slice_tail, slice_init] at e
    exact StableHlo.Predicate.cmpi_eq_iff.mp e
  refine ⟨fun k => ?_, hnl, (pos_iff (hnl 0)).mp p1, fun k hk hl => ?_, fun k hl => ?_, fun k hk hl => ?_⟩
  · have h1 := IntOp.cmpi_slt.mp (r8 k).2
    have e : (16#32 : BitVec 32).toInt = 16 := by decide
    exact toNat_lt_of_cmp (n := 16) (by norm_num) (r8 k).1 (by push_cast; exact lt_of_lt_of_eq h1 e)
  · obtain ⟨n, hn⟩ := k
    obtain _ | n := n
    · exact absurd rfl hk
    · rcases IntOp.ori_eq_one.mp (p3 ⟨n, by omega⟩) with h | h
      · exact absurd ((nonpos_iff (hnl _)).mp h) hl
      · exact (pos_iff (hnl _)).mp h
  · obtain ⟨n, hn⟩ := k
    obtain _ | n := n
    · have e := StableHlo.Predicate.cmpi_eq_iff.mp p2
      exact congrArg BitVec.toNat e
    · have e := p4 ⟨n, by omega⟩
      rw [if_pos ((pos_iff (hnl _)).mpr hl)] at e
      refine (congrArg BitVec.toNat e).trans ?_
      rw [BitVec.toNat_add, BitVec.toNat_ofNat, BitVec.toNat_ofNat]
      show (1 % 2 ^ 32 + n % 2 ^ 32) % 2 ^ 32 = n + 1
      omega
  · obtain ⟨n, hn⟩ := k
    obtain _ | n := n
    · exact absurd rfl hk
    · have e := p4 ⟨n, by omega⟩
      rwa [if_neg (fun hh => (pos_iff (hnl _)).mp hh hl)] at e

end Cert.Kernel2Ideal.Up

end
-- ==== Proof.UpRunB.lean ====
module

public import proofs.«01_k».proof.Proof.Gen.Kernel2.Skeleton
public import proofs.«01_k».proof.Proof.Gen.Kernel2.Launch
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.ValueIdxCore
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.Kernel2.Up

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-- The resource algebra the kernel is proved over. -/
abbrev MM := MT nD τ sig Unit (Elt Bits) ℕ (UR sig nD τ) ℕ

/-- The tables of the tiles' experts and of the halves that hold rows, and the place of the weights kept between steps. -/
abbrev teM : Memref sig .tc .smem S23 .i32 := Memref.whole main_arg3
/-- The table of the tiles' halves that hold rows. -/
abbrev nlM : Memref sig .tc .smem S23 .i32 := Memref.whole main_arg4
/-- The table of the tiles' places. -/
abbrev tsM : Memref sig .tc .smem S23 .i32 := Memref.whole main_arg5
/-- The kept weights. -/
abbrev wM : Memref sig .tc .vmem S2048x1024 .bf16 := Memref.whole cc0_scratch0

/-- Entry `k` of a table over the tiles. -/
abbrev ent (T : S23.Idx → Elt Bits .i32) (k : Fin 23) : BitVec 32 := T (fun a => ⟨k.val, by fin_cases a; exact k.isLt⟩)

/-- The tile of a grid point, and the tile before it (the first tile itself at the first). -/
abbrev tile (i : grid0.Coords) : Fin 23 := ⟨(i 1).val, (i 1).isLt⟩
/-- The tile before. -/
abbrev tileP (i : grid0.Coords) : Fin 23 := ⟨(i 1).val - 1, lt_of_le_of_lt (Nat.sub_le _ _) (i 1).isLt⟩

/-- The first read of a table is at the tile. -/
theorem off1_tile (i : grid0.Coords) : k0_off1 i 0 = (tile i).val := by
  have h : ∀ k : Fin 23, (Scalar.indexCast (BitVec.ofNat 32 k.val)).toNat = k.val := by decide
  exact h (tile i)

/-- The second read is at the tile. -/
theorem off2_tile (i : grid0.Coords) : k0_off2 i 0 = (tile i).val := off1_tile i

/-- The third read is at the tile before. -/
theorem off3_tile (i : grid0.Coords) : k0_off3 i 0 = (tileP i).val := by
  have h : ∀ k : Fin 23, (Scalar.indexCast (Scalar.maxsi (Scalar.subi (BitVec.ofNat 32 k.val) 1#32) 0#32)).toNat = k.val - 1 := by decide
  exact h (tile i)

/-- A scalar read of the table of the experts through a rectangle of one entry is that entry. -/
theorem word_te (T : S23.Idx → Elt Bits .i32) (off : Fin 1 → ℕ) (inb) (k : Fin 23) (h : off 0 = k.val) :
    View.readAt (Elt Bits) teM.view (Rect.unit (s := S23) off S1.size inb).toLoadRect T (Shape.Idx.first (numel1_S1.symm ▸ Nat.one_pos)) = ent T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A scalar read of the table of the halves through a rectangle of one entry is that entry. -/
theorem word_nl (T : S23.Idx → Elt Bits .i32) (off : Fin 1 → ℕ) (inb) (k : Fin 23) (h : off 0 = k.val) :
    View.readAt (Elt Bits) nlM.view (Rect.unit (s := S23) off S1.size inb).toLoadRect T (Shape.Idx.first (numel1_S1.symm ▸ Nat.one_pos)) = ent T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- The weights are brought in at the first tile and where the tile's expert is not the tile before's. -/
abbrev reload (i : grid0.Coords) (T0 : S23.Idx → Elt Bits .i32) : Prop := (tile i).val = 0 ∨ ent T0 (tile i) ≠ ent T0 (tileP i)

/-- The printed decision on bringing the weights in, read as `reload`. -/
theorem reload_iff (k : Fin 23) (p q : BitVec 32) :
    Scalar.cmpi .ne (Scalar.extui (Scalar.ori (Scalar.cmpi .eq (BitVec.ofNat 32 k.val) 0#32) (Scalar.cmpi .ne p q)) : BitVec 32) 0#32 = 1#1 ↔ k.val = 0 ∨ p ≠ q := by
  have key : ∀ (k : Fin 23) (b : Bool), Scalar.cmpi .ne (Scalar.extui (Scalar.ori (Scalar.cmpi .eq (BitVec.ofNat 32 k.val) 0#32) (BitVec.ofBool b)) : BitVec 32) 0#32 = 1#1 ↔ k.val = 0 ∨ b = true := by decide
  have hb : Scalar.cmpi .ne p q = BitVec.ofBool (p != q) := rfl
  rw [hb, key]
  simp

/-- The weights kept between steps: the gate's columns before the upward projection's. -/
def wcat (x1 x2 : S1x2048x512.Idx → Elt Bits .f32) : S2048x1024.Idx → Elt Bits .bf16 := fun y =>
  if h : (y 1).val < 512 then k0_pay1 x1 (ix2 ⟨(y 0).val, (y 0).isLt⟩ ⟨(y 1).val, h⟩)
  else k0_pay2 x2 (ix2 ⟨(y 0).val, (y 0).isLt⟩ ⟨(y 1).val - 512, by have : (y 1).val < 1024 := (y 1).isLt; omega⟩)

/-- The two stores of the weights leave the weights side by side, through any view of their shape. -/
theorem read_wcat (v : View sig .tc .vmem S2048x1024 .bf16) (f : v.ty.Contents (Elt Bits)) (x1 x2 : S1x2048x512.Idx → Elt Bits .f32) (h h') :
    v.read (Elt Bits) (v.writes (Elt Bits) f [⟨Rect.unit (s := S2048x1024) ![0, 512] S2048x512.size h, k0_pay2 x2⟩, ⟨Rect.unit (s := S2048x1024) ![0, 0] S2048x512.size h', k0_pay1 x1⟩]) = wcat x1 x2 := by
  funext y
  by_cases hy : (y 1).val < 512
  · rw [View.read_writes_cons_miss_of_axis _ _ _ _ y 1 512 512 rfl rfl rfl (Or.inl hy), wcat, dif_pos hy]
    refine View.read_writes_cons_hit_of_coords _ _ _ _ _ _ _ fun a => ?_
    fin_cases a <;> simp [Rect.unit]
  · rw [wcat, dif_neg hy]
    refine View.read_writes_cons_hit_of_coords _ _ _ _ _ _ _ fun a => ?_
    have : (y 1).val < 1024 := (y 1).isLt
    fin_cases a
    · simp [Rect.unit]
    · show (y 1).val = 512 + 1 * ((y 1).val - 512)
      omega

/-- The two stores into the kept weights. -/
theorem writes_wcat (a : S2048x1024.Idx → Elt Bits .bf16) (x1 x2 : S1x2048x512.Idx → Elt Bits .f32) (h h') :
    wM.view.writes (Elt Bits) a [⟨Rect.unit (s := S2048x1024) ![0, 512] S2048x512.size h, k0_pay2 x2⟩, ⟨Rect.unit (s := S2048x1024) ![0, 0] S2048x512.size h', k0_pay1 x1⟩] = wcat x1 x2 := by
  have e := read_wcat wM.view a x1 x2 h h'
  have hr : ∀ f : S2048x1024.Idx → Elt Bits .bf16, wM.view.read (Elt Bits) f = f := fun _ => rfl
  exact (hr _).symm.trans e

/-- The upper half of a tile's rows. -/
abbrev upper (x0 : S1024x2048.Idx → Elt Bits .bf16) : S512x2048.Idx → Elt Bits .bf16 :=
  VecWindow.window (s := S1024x2048) x0 ![0, 0] S512x2048.size inb_S1024x2048_S512x2048_0_0

/-- What a tile with rows in its upper half alone leaves: that half's result over zeros. -/
def halfO (x0 : S1024x2048.Idx → Elt Bits .bf16) (w : S2048x1024.Idx → Elt Bits .bf16) : S1024x512.Idx → Elt Bits .bf16 := fun y =>
  if h : (y 0).val < 512 then k0_pay4 (upper x0) w (ix2 ⟨(y 0).val, h⟩ ⟨(y 1).val, (y 1).isLt⟩)
  else k0_pay5 (F := Bits) (ix2 ⟨(y 0).val - 512, by have : (y 0).val < 1024 := (y 0).isLt; omega⟩ ⟨(y 1).val, (y 1).isLt⟩)

/-- The two stores of the halves leave the upper half's result over zeros. -/
theorem writes_half (v : View sig .tc .vmem S1024x512 .bf16) (f : v.ty.Contents (Elt Bits)) (x0 : S1024x2048.Idx → Elt Bits .bf16) (w : S2048x1024.Idx → Elt Bits .bf16) (h h') :
    v.read (Elt Bits) (v.writes (Elt Bits) f [⟨Rect.unit (s := S1024x512) ![512, 0] S512x512.size h, k0_pay5 (F := Bits)⟩, ⟨Rect.unit (s := S1024x512) ![0, 0] S512x512.size h', k0_pay4 (upper x0) w⟩]) = halfO x0 w := by
  funext y
  by_cases hy : (y 0).val < 512
  · rw [View.read_writes_cons_miss_of_axis _ _ _ _ y 0 512 512 rfl rfl rfl (Or.inl hy), halfO, dif_pos hy]
    refine View.read_writes_cons_hit_of_coords _ _ _ _ _ _ _ fun a => ?_
    fin_cases a <;> simp [Rect.unit]
  · rw [halfO, dif_neg hy]
    refine View.read_writes_cons_hit_of_coords _ _ _ _ _ _ _ fun a => ?_
    have : (y 0).val < 1024 := (y 0).isLt
    fin_cases a
    · show (y 0).val = 512 + 1 * ((y 0).val - 512)
      omega
    · simp [Rect.unit]

open Classical in
/-- The kept weights after a step. -/
def stepW (i : grid0.Coords) (T0 T1 : S23.Idx → Elt Bits .i32) (x1 x2 : S1x2048x512.Idx → Elt Bits .f32) (a : S2048x1024.Idx → Elt Bits .bf16) : S2048x1024.Idx → Elt Bits .bf16 :=
  if ent T1 (tile i) ≠ 0#32 ∧ reload i T0 then wcat x1 x2 else a

/-- The result's block after a step. -/
def stepO (i : grid0.Coords) (T1 : S23.Idx → Elt Bits .i32) (x0 : S1024x2048.Idx → Elt Bits .bf16) (w : S2048x1024.Idx → Elt Bits .bf16) (d : S1024x512.Idx → Elt Bits .bf16) : S1024x512.Idx → Elt Bits .bf16 :=
  if ent T1 (tile i) = 2#32 then k0_pay3 x0 w else if ent T1 (tile i) = 1#32 then halfO x0 w else d

set_option maxHeartbeats 8000000 in
/-- One step of the kernel: its inputs and tables as they were, the result's block and the kept weights as `stepO` and `stepW` say. -/
theorem run_step (c : Dev nD) (i : grid0.Coords) (arg5 : Memref sig .tc .vmem S1024x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S1024x512 .bf16) (harg8 : arg8.IsWhole)
    (T0 T1 T2 : S23.Idx → Elt Bits .i32) (x0 : S1024x2048.Idx → Elt Bits .bf16) (x1 x2 : S1x2048x512.Idx → Elt Bits .f32)
    (hn : ent T1 (tile i) = 0#32 ∨ ent T1 (tile i) = 1#32 ∨ ent T1 (tile i) = 2#32) (d : S1024x512.Idx → Elt Bits .bf16) (a : Buf (Elt Bits) ((c : Thread nD τ).loc cc0_scratch0)) (K : PUnit → sProp MM) :
    iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (teM.view.loc (c : Thread nD τ) ↦{fullShare.right} T0)
          ∗ (nlM.view.loc (c : Thread nD τ) ↦{fullShare.right} T1)
          ∗ (tsM.view.loc (c : Thread nD τ) ↦{fullShare.right} T2)
          ∗ owns (c : Thread nD τ) arg8 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (teM.view.loc (c : Thread nD τ) ↦{fullShare.right} T0)
              ∗ (nlM.view.loc (c : Thread nD τ) ↦{fullShare.right} T1)
              ∗ (tsM.view.loc (c : Thread nD τ) ↦{fullShare.right} T2)
              ∗ owns (c : Thread nD τ) arg8 fullShare (stepO i T1 x0 (stepW i T0 T1 x1 x2 a) d)
              ∗ (wM.view.loc (c : Thread nD τ) ↦{fullShare} stepW i T0 T1 x1 x2 a)) -∗ K ⟨⟩))
          ⊢ wp frame (wpE (defs₀ (F := Bits)) Variants.none c none) Set.univ (cc0_ffn_up i teM (Memref.isWhole_whole _) nlM (Memref.isWhole_whole _) tsM (Memref.isWhole_whole _) arg5 harg5 arg6 harg6 arg7 harg7 arg8 harg8 wM (Memref.isWhole_whole _)) K := by
  unfold owns
  rw [cc0_ffn_up_eq_skeleton]; unfold cc0_ffn_up_skel
  iintro ⟨H0, H1, H2, HT0, HT1, HT2, ⟨%f3, %hf3, HO3⟩, HS0, Hk⟩
  have hS0 : wM.IsWhole := Memref.isWhole_whole _
  have hT0 : teM.IsWhole := Memref.isWhole_whole _
  have hT1 : nlM.IsWhole := Memref.isWhole_whole _
  have hT2 : tsM.IsWhole := Memref.isWhole_whole _
  sl_exec! (disch := fail)
  sl_step
  iapply Hk
  isplitl [H0]; · iexact H0
  isplitl [H1]; · iexact H1
  isplitl [H2]; · iexact H2
  isplitl [HT0]; · iexact HT0
  isplitl [HT1]; · iexact HT1
  isplitl [HT2]; · iexact HT2
  have e1 : ∀ h, View.readAt (Elt Bits) arg5.view (Rect.unit (s := S1024x2048) ![0, 0] S1024x2048.size h).toLoadRect (arg5.view.rep x0) = x0 := fun h => View.readAt_rep_full _ _ _
  have e2 : ∀ h, View.readAt (Elt Bits) arg6.view (Rect.unit (s := S1x2048x512) ![0, 0, 0] S1x2048x512.size h).toLoadRect (arg6.view.rep x1) = x1 := fun h => View.readAt_rep_full _ _ _
  have e3 : ∀ h, View.readAt (Elt Bits) arg7.view (Rect.unit (s := S1x2048x512) ![0, 0, 0] S1x2048x512.size h).toLoadRect (arg7.view.rep x2) = x2 := fun h => View.readAt_rep_full _ _ _
  have e4 : ∀ h, View.readAt (Elt Bits) arg5.view (Rect.unit (s := S1024x2048) ![0, 0] S512x2048.size h).toLoadRect (arg5.view.rep x0) = upper x0 := fun h => View.readAt_rep_unit _ _ _ rfl _
  have e5 : ∀ h (b : S2048x1024.Idx → Elt Bits .bf16), View.readAt (Elt Bits) wM.view (Rect.unit (s := S2048x1024) ![0, 0] S2048x1024.size h).toLoadRect b = b := fun h b => View.readAt_full wM.view b h
  have eT : run_step.sl.r i T1 = ent T1 (tile i) := word_nl T1 _ _ _ (off1_tile i)
  have eR : run_step.sl.v15 i T0 = 1#1 ↔ reload i T0 := by
    unfold run_step.sl.v15 run_step.sl.v14 run_step.sl.v13 run_step.sl.v12
    exact (iff_of_eq (congrArg₂ (fun p q => Scalar.cmpi .ne (Scalar.extui (Scalar.ori (Scalar.cmpi .eq (BitVec.ofNat 32 (tile i).val) 0#32) (Scalar.cmpi .ne p q)) : BitVec 32) 0#32 = 1#1)
      (word_te T0 _ _ _ (off2_tile i)) (word_te T0 _ _ _ (off3_tile i)))).trans (reload_iff (tile i) _ _)
  have eW : (if hc : run_step.sl.v15 i T0 = 1#1 then
        wM.view.writes (Elt Bits) a
          [⟨Rect.unit (s := S2048x1024) ![0, 512] S2048x512.size inb_S2048x1024_S2048x512_0_512, k0_pay2 (View.readAt (Elt Bits) arg7.view (Rect.unit (s := S1x2048x512) ![0, 0, 0] S1x2048x512.size inb_S1x2048x512_S1x2048x512_0_0_0).toLoadRect (arg7.view.rep x2))⟩,
            ⟨Rect.unit (s := S2048x1024) ![0, 0] S2048x512.size inb_S2048x1024_S2048x512_0_0, k0_pay1 (View.readAt (Elt Bits) arg6.view (Rect.unit (s := S1x2048x512) ![0, 0, 0] S1x2048x512.size inb_S1x2048x512_S1x2048x512_0_0_0).toLoadRect (arg6.view.rep x1))⟩]
      else a) = stepW i T0 (fun _ => 1#32) x1 x2 a := by
    rw [e2, e3, writes_wcat]
    unfold stepW
    simp only [eR]
    simp
  unfold run_step.sl.v23
  simp only [eT, eW, e1, e4, e5]
  have eZ : ent T1 (tile i) ≠ 0#32 → stepW i T0 (fun _ => 1#32) x1 x2 a = stepW i T0 T1 x1 x2 a := fun h => by
    unfold stepW; simp [h]
  rcases hn with h | h | h
  · have eA : stepW i T0 T1 x1 x2 a = a := by unfold stepW; simp [h]
    have c1 : ¬ k0_cond1 0#32 = 1#1 := by decide
    simp only [eA, h, c1, dif_neg, not_false_eq_true]
    isplitl [HO3]
    · iexists f3
      isplitr
      · ipureintro; rw [hf3]; unfold stepO; simp [h]
      · iexact HO3
    · iexact HS0
  · rw [eZ (by rw [h]; decide)]
    have c1 : k0_cond1 1#32 = 1#1 := by decide
    have c3 : ¬ k0_cond3 1#32 = 1#1 := by decide
    have c4 : k0_cond4 1#32 = 1#1 := by decide
    simp only [h, c1, c3, c4, dif_neg, dif_pos, not_false_eq_true]
    isplitl [HO3]
    · iexists _
      isplitr
      swap
      · iexact HO3
      · ipureintro; rw [writes_half]; unfold stepO; simp [h]
    · iexact HS0
  · rw [eZ (by rw [h]; decide)]
    have c1 : k0_cond1 2#32 = 1#1 := by decide
    have c3 : k0_cond3 2#32 = 1#1 := by decide
    have c4 : ¬ k0_cond4 2#32 = 1#1 := by decide
    simp only [h, c1, c3, c4, dif_neg, dif_pos, not_false_eq_true]
    isplitl [HO3]
    · iexists _
      isplitr
      swap
      · iexact HO3
      · ipureintro
        refine (View.read_writes_full arg8.view f3 inb_S1024x512_S1024x512_0_0 _ []).trans ?_
        unfold stepO; simp [h]
    · iexact HS0

end Cert.Kernel2.Up

end
-- ==== Proof.UpDatB.lean ====
module

public import proofs.«01_k».proof.Proof.UpTabB
public import Idealize.ShloMosaic.Lib.Pipeline.Quiescent
public import Idealize.ShloMosaic.Lib.Pipeline.Value
public import Idealize.ShloMosaic.Lib.Claim
public import Idealize.ShloMosaic.Adequacy
public import Idealize.ShloMosaic.Init

@[expose] public section

set_option maxRecDepth 16384
set_option Elab.async false

noncomputable section

namespace Cert.Kernel2.Up

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (pf : pre0.Contents (Elt Bits)) (hT : Tables (te pf) (nl pf) (ts pf))

/-- The pipeline at the run's tables. -/
abbrev adm : (pcfg0 (F := Bits)).Adm := ⟨pf, ok pf hT⟩
/-- The pipeline of the launch at the run's tables. -/
abbrev cfgA : Pipeline.Cfg sig Λ₀ := cfg0 (adm pf hT)
/-- The one pipeline of the program. -/
abbrev pcs : Fin 1 → Pipeline.Cfg sig Λ₀ := Pipeline.pin (pcfgs (F := Bits)) fun _ => adm pf hT
/-- The coordinates of a point. -/
abbrev crd (t : Fin (cfgA pf hT).N) : grid0.Coords := (cfgA pf hT).grid.coords t

/-! ## The grid: 14 blocks of columns, 23 tiles each -/

/-- The number of points. -/
theorem N_eq : (cfgA pf hT).N = 322 := rfl

/-- The block of columns of a point. -/
theorem crd_0 (t : Fin (cfgA pf hT).N) : (crd pf hT t 0).val = t.val / 23 := by
  have h : t.val < 322 := t.isLt
  have e := Pipeline.Grid.coords_val (G := grid0) t 0 (S := 23) (B := 14) (by decide) rfl
  have e' : (crd pf hT t 0).val = t.val / 23 % 14 := e
  omega

/-- The second coordinate of a point is its tile. -/
theorem crd_1 (t : Fin (cfgA pf hT).N) : (crd pf hT t 1).val = t.val % 23 := by
  have e := Pipeline.Grid.coords_val (G := grid0) t 1 (S := 1) (B := 23) (by decide) rfl
  have e' : (crd pf hT t 1).val = t.val / 1 % 23 := e
  omega

/-- The tile of a point. -/
abbrev tl (t : Fin (cfgA pf hT).N) : Fin 23 := tile (crd pf hT t)

/-- The tile of a point, as a number. -/
theorem tl_val (t : Fin (cfgA pf hT).N) : (tl pf hT t).val = t.val % 23 := crd_1 pf hT t

/-- The point before. -/
abbrev back (t : Fin (cfgA pf hT).N) : Fin (cfgA pf hT).N := ⟨t.val - 1, lt_of_le_of_lt (Nat.sub_le _ _) t.isLt⟩

/-- The point before a tile other than the first is at the tile before. -/
theorem tl_back (t : Fin (cfgA pf hT).N) (h : (tl pf hT t).val ≠ 0) : tl pf hT (back pf hT t) = ⟨(tl pf hT t).val - 1, by omega⟩ := by
  apply Fin.ext
  have e1 := tl_val pf hT t
  have e2 := tl_val pf hT (back pf hT t)
  have e3 : (back pf hT t).val = t.val - 1 := rfl
  show (tl pf hT (back pf hT t)).val = (tl pf hT t).val - 1
  omega

/-- The point before a tile other than the first is at the same columns. -/
theorem col_back (t : Fin (cfgA pf hT).N) (h : (tl pf hT t).val ≠ 0) : (crd pf hT (back pf hT t) 0).val = (crd pf hT t 0).val := by
  have e1 := tl_val pf hT t
  have e2 := crd_0 pf hT t
  have e3 := crd_0 pf hT (back pf hT t)
  have e4 : (back pf hT t).val = t.val - 1 := rfl
  omega

/-- Whether a point's tile holds rows. -/
abbrev Live (t : Fin (cfgA pf hT).N) : Prop := ent (nl pf) (tl pf hT t) ≠ 0#32

/-- A tile without rows is not the first. -/
theorem tl_ne_of_dead (t : Fin (cfgA pf hT).N) (h : ¬ Live pf hT t) : (tl pf hT t).val ≠ 0 := fun e => by
  have : tl pf hT t = 0 := Fin.ext e
  rw [Live, this] at h
  exact h hT.first

/-- A point of a tile other than the first is not the first point. -/
theorem ne_of_tl (t : Fin (cfgA pf hT).N) (h : (tl pf hT t).val ≠ 0) : t.val ≠ 0 := fun e => by
  rw [tl_val, e] at h; exact h rfl

/-! ## Where the windows' blocks lie -/

/-- The rows' block of a point. -/
theorem index0 (t : Fin (cfgA pf hT).N) : ((cfgA pf hT).win (0 : Fin 4)).index t = ![(ent (ts pf) (tl pf hT t)).toNat, 0] := tr0 pf (crd pf hT t)
/-- The block of the gate's weights of a point. -/
theorem index1 (t : Fin (cfgA pf hT).N) : ((cfgA pf hT).win (1 : Fin 4)).index t = ![(ent (te pf) (tl pf hT t)).toNat, 0, (crd pf hT t 0).val] := tr1 pf (crd pf hT t)
/-- The block of the other weights of a point. -/
theorem index2 (t : Fin (cfgA pf hT).N) : ((cfgA pf hT).win (2 : Fin 4)).index t = ![(ent (te pf) (tl pf hT t)).toNat, 0, (crd pf hT t 0).val] := tr2 pf (crd pf hT t)
/-- The result's block of a point. -/
theorem index3 (t : Fin (cfgA pf hT).N) : ((cfgA pf hT).win (3 : Fin 4)).index t = ![(ent (ts pf) (tl pf hT t)).toNat, (crd pf hT t 0).val] := tr3 pf (crd pf hT t)

/-! ## The schedule of the result's window -/

/-- The result's block is left alone exactly at a tile without rows. -/
theorem idle3 (t : Fin (cfgA pf hT).N) : (cfgA pf hT).idle (3 : Fin 4) ((cfgA pf hT).grid.coords t) = decide (ent (nl pf) (tl pf hT t) = 0#32) :=
  idle_iff pf (crd pf hT t) (hT.nl_mem _)

/-- A tile without rows has the place of the tile before. -/
theorem ts_back (t : Fin (cfgA pf hT).N) (h : ¬ Live pf hT t) : ent (ts pf) (tl pf hT t) = ent (ts pf) (tl pf hT (back pf hT t)) := by
  have h0 := tl_ne_of_dead pf hT t h
  rw [tl_back pf hT t h0]
  exact hT.ts_dead _ h0 (not_not.mp h)

/-- Before a tile without rows nothing is written back. -/
theorem flush_back (t : Fin (cfgA pf hT).N) (h : ¬ Live pf hT t) : ((cfgA pf hT).win (3 : Fin 4)).flush (back pf hT t) = false := by
  have h0 := tl_ne_of_dead pf hT t h
  have ht := ne_of_tl pf hT t h0
  have hN : t.val < (cfgA pf hT).N := t.isLt
  have e : t.val - 1 + 1 = t.val := by omega
  unfold Pipeline.Window.flush
  have hi : ∀ hh : t.val - 1 + 1 < (cfgA pf hT).N, ((cfgA pf hT).win (3 : Fin 4)).index ⟨t.val - 1 + 1, hh⟩ = ((cfgA pf hT).win (3 : Fin 4)).index (back pf hT t) := by
    intro hh
    have e' : (⟨t.val - 1 + 1, hh⟩ : Fin (cfgA pf hT).N) = t := Fin.ext e
    rw [e', index3, index3, ts_back pf hT t h, col_back pf hT t h0]
  rw [Bool.and_eq_false_iff]
  right
  rw [Bool.or_eq_false_iff]
  constructor
  · exact decide_eq_false (by show ¬ (t.val - 1 + 1 = (cfgA pf hT).N); omega)
  · exact decide_eq_false (fun ⟨hh, hne⟩ => hne (hi hh))

/-- At a tile without rows the result's buffer still holds the last tile's block. -/
theorem fresh_dead : ∀ (n : ℕ) (hn : n < (cfgA pf hT).N), ¬ Live pf hT ⟨n, hn⟩ → (cfgA pf hT).fresh (3 : Fin 4) n = false
  | 0, hn, h => absurd rfl (ne_of_tl pf hT ⟨0, hn⟩ (tl_ne_of_dead pf hT _ h))
  | n + 1, hn, h => by
    have hn' : n < (cfgA pf hT).N := by omega
    rw [(cfgA pf hT).fresh_succ (3 : Fin 4) n hn']
    have hf := flush_back pf hT ⟨n + 1, hn⟩ h
    have hf' : ((cfgA pf hT).win (3 : Fin 4)).flush ⟨n, hn'⟩ = false := hf
    rw [hf', Bool.false_or, idle3]
    by_cases hl : Live pf hT ⟨n, hn'⟩
    · rw [decide_eq_false hl, Bool.false_and]
    · rw [fresh_dead n hn' hl, Bool.and_false]

/-- The point whose block the result's buffer holds: the one of the tile's place. -/
def src (t : Fin (cfgA pf hT).N) : Fin (cfgA pf hT).N :=
  ⟨t.val / 23 * 23 + (ent (ts pf) (tl pf hT t)).toNat, by
    have h1 := hT.ts_lt (tl pf hT t)
    have h2 : t.val < 322 := t.isLt
    show _ < 322
    omega⟩

/-- The tile of the point whose block the buffer holds is the place of this tile. -/
theorem tl_src (t : Fin (cfgA pf hT).N) : (tl pf hT (src pf hT t)).val = (ent (ts pf) (tl pf hT t)).toNat := by
  have h1 := hT.ts_lt (tl pf hT t)
  rw [tl_val]
  show (t.val / 23 * 23 + (ent (ts pf) (tl pf hT t)).toNat) % 23 = _
  omega

/-- That point is at the same columns. -/
theorem col_src (t : Fin (cfgA pf hT).N) : (crd pf hT (src pf hT t) 0).val = (crd pf hT t 0).val := by
  have h1 := hT.ts_lt (tl pf hT t)
  rw [crd_0, crd_0]
  show (t.val / 23 * 23 + (ent (ts pf) (tl pf hT t)).toNat) / 23 = _
  omega

/-- At a tile with rows it is the point itself. -/
theorem src_live (t : Fin (cfgA pf hT).N) (h : Live pf hT t) : src pf hT t = t := by
  apply Fin.ext
  show t.val / 23 * 23 + (ent (ts pf) (tl pf hT t)).toNat = t.val
  rw [hT.ts_live _ h, tl_val]
  omega

/-- At a tile without rows it is the one of the point before. -/
theorem src_dead (t : Fin (cfgA pf hT).N) (h : ¬ Live pf hT t) : src pf hT t = src pf hT (back pf hT t) := by
  apply Fin.ext
  show t.val / 23 * 23 + (ent (ts pf) (tl pf hT t)).toNat = (t.val - 1) / 23 * 23 + (ent (ts pf) (tl pf hT (back pf hT t))).toNat
  have h0 := tl_ne_of_dead pf hT t h
  have e := tl_val pf hT t
  rw [ts_back pf hT t h]
  omega

/-- Its tile holds rows. -/
theorem live_src (t : Fin (cfgA pf hT).N) : Live pf hT (src pf hT t) := by
  have e : tl pf hT (src pf hT t) = ⟨(ent (ts pf) (tl pf hT t)).toNat, hT.ts_lt _⟩ := Fin.ext (tl_src pf hT t)
  rw [Live, e]
  exact hT.live_ts (tl pf hT t).val (tl pf hT t).isLt

/-! ## The blocks the inputs' windows hold -/

variable (m : (ℓ : Loc nD τ sig) → Buf (Elt Bits) ℓ) (ρ : Dev nD → PrngReg)

/-- The array's block an input's window holds at a point. -/
def iblk (c : Dev nD) (w : Fin (cfgA pf hT).W) (t : Fin (cfgA pf hT).N) : (((cfgA pf hT).win w).xblock ((cfgA pf hT).grid.coords t)).Idx → Elt Bits ((cfgA pf hT).win w).elt :=
  (((cfgA pf hT).win w).blk t).view.read _ ((s₀ m ρ).mem (((cfgA pf hT).win w).arr.view.loc (c : Thread nD τ)))

/-- The rows a point is given. -/
abbrev X0 (c : Dev nD) (t : Fin (cfgA pf hT).N) : S1024x2048.Idx → Elt Bits .bf16 := iblk pf hT m ρ c (0 : Fin 4) t
/-- The gate's weights a point is given. -/
abbrev X1 (c : Dev nD) (t : Fin (cfgA pf hT).N) : S1x2048x512.Idx → Elt Bits .f32 := iblk pf hT m ρ c (1 : Fin 4) t
/-- The other weights a point is given. -/
abbrev X2 (c : Dev nD) (t : Fin (cfgA pf hT).N) : S1x2048x512.Idx → Elt Bits .f32 := iblk pf hT m ρ c (2 : Fin 4) t

/-- The rows' block, entry by entry. -/
theorem X0_apply (c : Dev nD) (t : Fin (cfgA pf hT).N) (y : S1024x2048.Idx) (i : S23552x2048.Idx)
    (h0 : (i 0).val = (ent (ts pf) (tl pf hT t)).toNat * 1024 + (y 0).val) (h1 : (i 1).val = (y 1).val) :
    X0 pf hT m ρ c t y = (m ((c : Thread nD τ).loc main_arg0) : S23552x2048.Idx → Elt Bits .bf16) i := by
  show (m ((c : Thread nD τ).loc main_arg0) : S23552x2048.Idx → Elt Bits .bf16) ((((cfgA pf hT).win (0 : Fin 4)).rect t).emb y) = _
  congr 1
  funext a
  apply Fin.ext
  have e := Pipeline.Window.rect_emb_val ((cfgA pf hT).win (0 : Fin 4)) t y a
  refine e.trans ?_
  rw [index0]
  fin_cases a
  · exact h0.symm
  · show 0 * 2048 + (y 1).val = (i 1).val
    omega

/-- The gate's weights' block, entry by entry. -/
theorem X1_apply (c : Dev nD) (t : Fin (cfgA pf hT).N) (y : S1x2048x512.Idx) (i : S16x2048x7168.Idx)
    (h0 : (i 0).val = (ent (te pf) (tl pf hT t)).toNat) (h1 : (i 1).val = (y 1).val) (h2 : (i 2).val = (crd pf hT t 0).val * 512 + (y 2).val) :
    X1 pf hT m ρ c t y = (m ((c : Thread nD τ).loc main_arg1) : S16x2048x7168.Idx → Elt Bits .f32) i := by
  show (m ((c : Thread nD τ).loc main_arg1) : S16x2048x7168.Idx → Elt Bits .f32) ((((cfgA pf hT).win (1 : Fin 4)).rect t).emb y) = _
  congr 1
  funext a
  apply Fin.ext
  have e := Pipeline.Window.rect_emb_val ((cfgA pf hT).win (1 : Fin 4)) t y a
  refine e.trans ?_
  rw [index1]
  have hy : (y 0).val < 1 := (y 0).isLt
  fin_cases a
  · show (ent (te pf) (tl pf hT t)).toNat * 1 + (y 0).val = (i 0).val
    omega
  · show 0 * 2048 + (y 1).val = (i 1).val
    omega
  · exact h2.symm

/-- The upward projection's weights' block, entry by entry. -/
theorem X2_apply (c : Dev nD) (t : Fin (cfgA pf hT).N) (y : S1x2048x512.Idx) (i : S16x2048x7168.Idx)
    (h0 : (i 0).val = (ent (te pf) (tl pf hT t)).toNat) (h1 : (i 1).val = (y 1).val) (h2 : (i 2).val = (crd pf hT t 0).val * 512 + (y 2).val) :
    X2 pf hT m ρ c t y = (m ((c : Thread nD τ).loc main_arg2) : S16x2048x7168.Idx → Elt Bits .f32) i := by
  show (m ((c : Thread nD τ).loc main_arg2) : S16x2048x7168.Idx → Elt Bits .f32) ((((cfgA pf hT).win (2 : Fin 4)).rect t).emb y) = _
  congr 1
  funext a
  apply Fin.ext
  have e := Pipeline.Window.rect_emb_val ((cfgA pf hT).win (2 : Fin 4)) t y a
  refine e.trans ?_
  rw [index2]
  have hy : (y 0).val < 1 := (y 0).isLt
  fin_cases a
  · show (ent (te pf) (tl pf hT t)).toNat * 1 + (y 0).val = (i 0).val
    omega
  · show 0 * 2048 + (y 1).val = (i 1).val
    omega
  · exact h2.symm

/-- The element of an array of weights a block's element is. -/
abbrev wIdx (t : Fin (cfgA pf hT).N) (y : S1x2048x512.Idx) : S16x2048x7168.Idx :=
  ix3 ⟨(ent (te pf) (tl pf hT t)).toNat, hT.te_lt _⟩ ⟨(y 1).val, (y 1).isLt⟩ ⟨(crd pf hT t 0).val * 512 + (y 2).val, by
    have h1 : (crd pf hT t 0).val < 14 := (crd pf hT t 0).isLt
    have h2 : (y 2).val < 512 := (y 2).isLt
    omega⟩

/-- Two neighbouring points of one expert and one block of columns hold the same weights. -/
theorem X1_back (c : Dev nD) (t : Fin (cfgA pf hT).N) (h : (tl pf hT t).val ≠ 0) (he : ent (te pf) (tl pf hT t) = ent (te pf) (tl pf hT (back pf hT t))) :
    X1 pf hT m ρ c (back pf hT t) = X1 pf hT m ρ c t := by
  funext y
  rw [X1_apply pf hT m ρ c t y (wIdx pf hT t y) rfl rfl rfl]
  exact X1_apply pf hT m ρ c _ y _ (congrArg BitVec.toNat he) rfl (by rw [col_back pf hT t h])

/-- Equal experts, equal blocks of the other weights. -/
theorem X2_back (c : Dev nD) (t : Fin (cfgA pf hT).N) (h : (tl pf hT t).val ≠ 0) (he : ent (te pf) (tl pf hT t) = ent (te pf) (tl pf hT (back pf hT t))) :
    X2 pf hT m ρ c (back pf hT t) = X2 pf hT m ρ c t := by
  funext y
  rw [X2_apply pf hT m ρ c t y (wIdx pf hT t y) rfl rfl rfl]
  exact X2_apply pf hT m ρ c _ y _ (congrArg BitVec.toNat he) rfl (by rw [col_back pf hT t h])

/-- The weights a point's tile is multiplied by. -/
abbrev W (c : Dev nD) (t : Fin (cfgA pf hT).N) : S2048x1024.Idx → Elt Bits .bf16 := wcat (X1 pf hT m ρ c t) (X2 pf hT m ρ c t)

/-- The block a point whose tile holds rows leaves. -/
def liveO (c : Dev nD) (t : Fin (cfgA pf hT).N) : S1024x512.Idx → Elt Bits .bf16 :=
  if ent (nl pf) (tl pf hT t) = 2#32 then k0_pay3 (X0 pf hT m ρ c t) (W pf hT m ρ c t) else halfO (X0 pf hT m ρ c t) (W pf hT m ρ c t)

/-- At a point whose tile holds rows the step uses that point's weights, if the kept ones are the tile before's wherever that tile holds rows. -/
theorem stepW_live (c : Dev nD) (t : Fin (cfgA pf hT).N) (h : Live pf hT t) (a : S2048x1024.Idx → Elt Bits .bf16)
    (ha : t.val ≠ 0 → Live pf hT (back pf hT t) → a = W pf hT m ρ c (back pf hT t)) :
    stepW (crd pf hT t) (te pf) (nl pf) (X1 pf hT m ρ c t) (X2 pf hT m ρ c t) a = W pf hT m ρ c t := by
  unfold stepW
  by_cases hr : reload (crd pf hT t) (te pf)
  · exact if_pos ⟨h, hr⟩
  · rw [if_neg (fun hh => hr hh.2)]
    have h0 : (tl pf hT t).val ≠ 0 := fun e => hr (Or.inl e)
    have he : ent (te pf) (tl pf hT t) = ent (te pf) (tl pf hT (back pf hT t)) := by
      rw [tl_back pf hT t h0]
      exact not_not.mp (fun e => hr (Or.inr e))
    have hb : Live pf hT (back pf hT t) := by
      rw [Live, tl_back pf hT t h0]
      exact hT.front _ h0 h
    rw [ha (ne_of_tl pf hT t h0) hb]
    show wcat _ _ = wcat _ _
    rw [X1_back pf hT m ρ c t h0 he, X2_back pf hT m ρ c t h0 he]

/-- At a tile with rows the step leaves that point's block. -/
theorem stepO_live (c : Dev nD) (t : Fin (cfgA pf hT).N) (h : Live pf hT t) (d : S1024x512.Idx → Elt Bits .bf16) :
    stepO (crd pf hT t) (nl pf) (X0 pf hT m ρ c t) (W pf hT m ρ c t) d = liveO pf hT m ρ c t := by
  unfold stepO liveO
  by_cases h2 : ent (nl pf) (tl pf hT t) = 2#32
  · exact (if_pos h2).trans (if_pos h2).symm
  · have h1 : ent (nl pf) (tl pf hT t) = 1#32 := by
      rcases hT.nl_mem (tl pf hT t) with e | e | e
      · exact absurd e h
      · exact e
      · exact absurd e h2
    exact (if_neg h2).trans ((if_pos h1).trans (if_neg h2).symm)

/-- At a tile without rows the weights are kept. -/
theorem stepW_dead (t : Fin (cfgA pf hT).N) (h : ¬ Live pf hT t) (x1 x2 : S1x2048x512.Idx → Elt Bits .f32) (a : S2048x1024.Idx → Elt Bits .bf16) :
    stepW (crd pf hT t) (te pf) (nl pf) x1 x2 a = a := by
  unfold stepW
  exact if_neg fun hh => h hh.1

/-- At a tile without rows the result's block is kept. -/
theorem stepO_dead (t : Fin (cfgA pf hT).N) (h : ¬ Live pf hT t) (x0 : S1024x2048.Idx → Elt Bits .bf16) (w : S2048x1024.Idx → Elt Bits .bf16) (d : S1024x512.Idx → Elt Bits .bf16) :
    stepO (crd pf hT t) (nl pf) x0 w d = d := by
  unfold stepO
  have e : ent (nl pf) (tile (crd pf hT t)) = 0#32 := not_not.mp h
  rw [e]
  exact (if_neg (by decide)).trans (if_neg (by decide))

end Cert.Kernel2.Up

end
-- ==== Proof.UpFrameB.lean ====
module

public import proofs.«01_k».proof.Proof.UpDatB

@[expose] public section

set_option maxRecDepth 16384
set_option Elab.async false

noncomputable section

namespace Cert.Kernel2.Up

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- The algebra's part the pipeline's cells live in. -/
abbrev EP : Emb (UR sig nD τ) MM := emb₁

variable (pf : pre0.Contents (Elt Bits)) (hT : Tables (te pf) (nl pf) (ts pf))
variable (m : (ℓ : Loc nD τ sig) → Buf (Elt Bits) ℓ) (ρ : Dev nD → PrngReg)

/-! ## The staging buffers at a point -/

/-- The rows' buffer. -/
abbrev ms0_0 (t : Fin (cfgA pf hT).N) : Memref sig .tc .vmem S1024x2048 .bf16 := spec0_0.stage ((cfgA pf hT).slots t (0 : Fin 4))
/-- The gate's weights' buffer. -/
abbrev ms0_1 (t : Fin (cfgA pf hT).N) : Memref sig .tc .vmem S1x2048x512 .f32 := spec0_1.stage ((cfgA pf hT).slots t (1 : Fin 4))
/-- The other weights' buffer. -/
abbrev ms0_2 (t : Fin (cfgA pf hT).N) : Memref sig .tc .vmem S1x2048x512 .f32 := spec0_2.stage ((cfgA pf hT).slots t (2 : Fin 4))
/-- The result's buffer. -/
abbrev ms0_3 (t : Fin (cfgA pf hT).N) : Memref sig .tc .vmem S1024x512 .bf16 := spec0_3.stage ((cfgA pf hT).slots t (3 : Fin 4))
/-- The rows' buffer is a whole buffer. -/
abbrev hs0_0 (t : Fin (cfgA pf hT).N) : (ms0_0 pf hT t).IsWhole := hstage0_0 (((cfgA pf hT).slots t (0 : Fin 4)).cast nbuf0_0)
/-- The gate's weights' buffer is a whole buffer. -/
abbrev hs0_1 (t : Fin (cfgA pf hT).N) : (ms0_1 pf hT t).IsWhole := hstage0_1 (((cfgA pf hT).slots t (1 : Fin 4)).cast nbuf0_1)
/-- The other weights' buffer is a whole buffer. -/
abbrev hs0_2 (t : Fin (cfgA pf hT).N) : (ms0_2 pf hT t).IsWhole := hstage0_2 (((cfgA pf hT).slots t (2 : Fin 4)).cast nbuf0_2)
/-- The result's buffer is a whole buffer. -/
abbrev hs0_3 (t : Fin (cfgA pf hT).N) : (ms0_3 pf hT t).IsWhole := hstage0_3 (((cfgA pf hT).slots t (3 : Fin 4)).cast nbuf0_3)

/-! ## What holds between the steps -/

/-- The kept weights before step `n` are those of the point before, if its tile holds rows. -/
def Kept (c : Dev nD) (n : ℕ) (a : S2048x1024.Idx → Elt Bits .bf16) : Prop :=
  ∀ (h : n - 1 < (cfgA pf hT).N), n ≠ 0 → Live pf hT ⟨n - 1, h⟩ → a = W pf hT m ρ c ⟨n - 1, h⟩

/-- Between two steps: the kept weights, and the body's halves of the tables. -/
def Phi (c : Dev nD) (t : Fin ((cfgA pf hT).N + 1)) : sProp MM :=
  iprop((∃ a, ⌜Kept pf hT m ρ c t.val a⌝ ∗ (wM.view.loc (c : Thread nD τ) ↦{fullShare} a)) ∗ (teM.view.loc (c : Thread nD τ) ↦{fullShare.right} pf 0) ∗ (nlM.view.loc (c : Thread nD τ) ↦{fullShare.right} pf 1) ∗ (tsM.view.loc (c : Thread nD τ) ↦{fullShare.right} pf 2))

/-- What the pipeline's windows hold after each step: the inputs their blocks, the result the block of the tile's place. -/
def dats (_ : Fin 1) (c : Dev nD) : Dat τ (Elt Bits) Unit ℕ (UR sig nD τ) ℕ (cfgA pf hT) c where
  A w := (s₀ m ρ).mem (((cfgA pf hT).win w).arr.view.loc (c : Thread nD τ))
  after w t := match w with
    | ⟨0, _⟩ => iblk pf hT m ρ c (0 : Fin 4) t
    | ⟨1, _⟩ => iblk pf hT m ρ c (1 : Fin 4) t
    | ⟨2, _⟩ => iblk pf hT m ρ c (2 : Fin 4) t
    | ⟨3, _⟩ => liveO pf hT m ρ c (src pf hT t)
  Φ t := Phi pf hT m ρ c t
  q _ := fullShare
  owed _ := 0

/-- After a step the rows' buffer holds its block. -/
theorem after0_0 (c : Dev nD) (t : Fin (cfgA pf hT).N) : (dats pf hT m ρ 0 c).after (0 : Fin 4) t = iblk pf hT m ρ c (0 : Fin 4) t := rfl
/-- After a step the gate's weights' buffer holds its block. -/
theorem after0_1 (c : Dev nD) (t : Fin (cfgA pf hT).N) : (dats pf hT m ρ 0 c).after (1 : Fin 4) t = iblk pf hT m ρ c (1 : Fin 4) t := rfl
/-- After a step the other weights' buffer holds its block. -/
theorem after0_2 (c : Dev nD) (t : Fin (cfgA pf hT).N) : (dats pf hT m ρ 0 c).after (2 : Fin 4) t = iblk pf hT m ρ c (2 : Fin 4) t := rfl
/-- After a step the result's buffer holds the block of the tile's place. -/
theorem after0_3 (c : Dev nD) (t : Fin (cfgA pf hT).N) : (dats pf hT m ρ 0 c).after (3 : Fin 4) t = liveO pf hT m ρ c (src pf hT t) := rfl

/-- Before a step the rows' buffer holds its block. -/
theorem before0_0 (c : Dev nD) (t : Fin (cfgA pf hT).N) (d) : (dats pf hT m ρ 0 c).before (0 : Fin 4) t d = iblk pf hT m ρ c (0 : Fin 4) t :=
  ((dats pf hT m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Before a step the gate's weights' buffer holds its block. -/
theorem before0_1 (c : Dev nD) (t : Fin (cfgA pf hT).N) (d) : (dats pf hT m ρ 0 c).before (1 : Fin 4) t d = iblk pf hT m ρ c (1 : Fin 4) t :=
  ((dats pf hT m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Before a step the other weights' buffer holds its block. -/
theorem before0_2 (c : Dev nD) (t : Fin (cfgA pf hT).N) (d) : (dats pf hT m ρ 0 c).before (2 : Fin 4) t d = iblk pf hT m ρ c (2 : Fin 4) t :=
  ((dats pf hT m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- A tile without rows keeps the block the result's buffer holds. -/
theorem hcarry0_3 (c : Dev nD) : ∀ (t : Fin (cfgA pf hT).N) (ht : t.val ≠ 0), (cfgA pf hT).idle (3 : Fin 4) ((cfgA pf hT).grid.coords t) = true → (cfgA pf hT).fresh (3 : Fin 4) t.val = false →
    (dats pf hT m ρ 0 c).after (3 : Fin 4) t = (dats pf hT m ρ 0 c).after (3 : Fin 4) ⟨t.val - 1, by omega⟩ := by
  intro t ht hi _
  rw [idle3] at hi
  have hd : ¬ Live pf hT t := not_not.mpr (of_decide_eq_true hi)
  rw [after0_3, after0_3, src_dead pf hT t hd]

/-- At a tile without rows the result's buffer holds the block of the tile's place. -/
theorem before0_3_dead (c : Dev nD) (t : Fin (cfgA pf hT).N) (h : ¬ Live pf hT t) (d) :
    (dats pf hT m ρ 0 c).before (3 : Fin 4) t d = liveO pf hT m ρ c (src pf hT t) := by
  rw [(dats pf hT m ρ 0 c).before_out_traj (3 : Fin 4) rfl (fun _ _ => rfl) (hcarry0_3 pf hT m ρ c) t.val t rfl d, fresh_dead pf hT t.val t.isLt h]
  rw [if_neg Bool.false_ne_true, after0_3, src_dead pf hT t h]

/-- The body at a point on its staging buffers. -/
abbrev bodyAt0 (t : Fin (cfgA pf hT).N) : Prog (TpuEff nD τ sig (Elt Bits) Λ₀ .tc) PUnit :=
  cc0_ffn_up (crd pf hT t) teM (Memref.isWhole_whole _) nlM (Memref.isWhole_whole _) tsM (Memref.isWhole_whole _) (ms0_0 pf hT t) (hs0_0 pf hT t) (ms0_1 pf hT t) (hs0_1 pf hT t) (ms0_2 pf hT t) (hs0_2 pf hT t) (ms0_3 pf hT t) (hs0_3 pf hT t) wM (Memref.isWhole_whole _)

/-- A point's own weights are what the next point may find. -/
theorem kept_live (c : Dev nD) (t : Fin (cfgA pf hT).N) : Kept pf hT m ρ c (t.val + 1) (W pf hT m ρ c t) := fun _ _ _ => rfl

/-- After a tile without rows any weights will do. -/
theorem kept_dead (c : Dev nD) (t : Fin (cfgA pf hT).N) (h : ¬ Live pf hT t) (a) : Kept pf hT m ρ c (t.val + 1) a := fun _ _ hl => absurd hl h

set_option maxHeartbeats 4000000 in
/-- The body at a point does what the data say. -/
theorem sound_body (c : Dev nD) (t : Fin (cfgA pf hT).N) :
    iprop((dats pf hT m ρ 0 c).Φ t.castSucc ∗ (dats pf hT m ρ 0 c).owesAt () t.castSucc
        ∗ (∃ d, owns (c : Thread nD τ) (ms0_0 pf hT t) fullShare ((dats pf hT m ρ 0 c).before (0 : Fin 4) t d))
        ∗ (∃ d, owns (c : Thread nD τ) (ms0_1 pf hT t) fullShare ((dats pf hT m ρ 0 c).before (1 : Fin 4) t d))
        ∗ (∃ d, owns (c : Thread nD τ) (ms0_2 pf hT t) fullShare ((dats pf hT m ρ 0 c).before (2 : Fin 4) t d))
        ∗ (∃ d, owns (c : Thread nD τ) (ms0_3 pf hT t) fullShare ((dats pf hT m ρ 0 c).before (3 : Fin 4) t d)))
      ⊢ wp frame (wpE (defs₀ (F := Bits)) Variants.none c none) Set.univ (bodyAt0 pf hT t) fun _ =>
          iprop((dats pf hT m ρ 0 c).Φ t.succ ∗ (dats pf hT m ρ 0 c).owesAt () t.succ
            ∗ bigSep Finset.univ fun w : Fin (cfgA pf hT).W =>
                match (cfgA pf hT).idle w ((cfgA pf hT).grid.coords t) with
                | true =>
                  match ((cfgA pf hT).win w).flush t with
                  | false => iprop(∃ d, owns (c : Thread nD τ) (((cfgA pf hT).win w).stage ((cfgA pf hT).slots t w)) fullShare ((dats pf hT m ρ 0 c).before w t d))
                  | true => owns (c : Thread nD τ) (((cfgA pf hT).win w).stage ((cfgA pf hT).slots t w)) fullShare ((dats pf hT m ρ 0 c).after w t)
                | false => owns (c : Thread nD τ) (((cfgA pf hT).win w).stage ((cfgA pf hT).slots t w)) fullShare ((dats pf hT m ρ 0 c).after w t)) := by
  rw [bigSep_W0]
  rewrite [idle3, show (dats pf hT m ρ 0 c).Φ t.succ = Phi pf hT m ρ c t.succ from rfl, show (dats pf hT m ρ 0 c).Φ t.castSucc = Phi pf hT m ρ c t.castSucc from rfl,
      show (dats pf hT m ρ 0 c).owesAt () t.succ = (dats pf hT m ρ 0 c).owesAt () t.castSucc from rfl]
  by_cases hl : Live pf hT t
  · rewrite [decide_eq_false hl]
    simp only [before0_0, before0_1, before0_2, after0_0, after0_1, after0_2, after0_3]
    rewrite [src_live pf hT t hl]
    unfold Phi; simp only [Fin.val_castSucc, Fin.val_succ]
    iintro ⟨⟨⟨%a, %ha, HS0⟩, HT0, HT1, HT2⟩, Ho, ⟨%d0, H0⟩, ⟨%d1, H1⟩, ⟨%d2, H2⟩, ⟨%d3, H3⟩⟩
    have eW := stepW_live pf hT m ρ c t hl a (fun h hb => ha (back pf hT t).isLt h hb)
    iapply (run_step c (crd pf hT t) (ms0_0 pf hT t) (hs0_0 pf hT t) (ms0_1 pf hT t) (hs0_1 pf hT t) (ms0_2 pf hT t) (hs0_2 pf hT t) (ms0_3 pf hT t) (hs0_3 pf hT t) (te pf) (nl pf) (ts pf) (X0 pf hT m ρ c t) (X1 pf hT m ρ c t) (X2 pf hT m ρ c t) (hT.nl_mem _) _ a _)
    rw [eW, stepO_live pf hT m ρ c t hl]
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexact H3
    isplitl [HS0]; · iexact HS0
    iintro ⟨H0, H1, H2, HT0, HT1, HT2, H3, HS0⟩
    isplitl [HS0 HT0 HT1 HT2]
    · isplitl [HS0]
      · iexists _; isplitr; swap
        · iexact HS0
        · ipureintro; exact kept_live pf hT m ρ c t
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    iexact H3
  · rewrite [decide_eq_true (not_not.mp hl)]
    simp only [before0_0, before0_1, before0_2, before0_3_dead pf hT m ρ c t hl, after0_0, after0_1, after0_2, after0_3]
    unfold Phi; simp only [Fin.val_castSucc, Fin.val_succ]
    iintro ⟨⟨⟨%a, %ha, HS0⟩, HT0, HT1, HT2⟩, Ho, ⟨%d0, H0⟩, ⟨%d1, H1⟩, ⟨%d2, H2⟩, ⟨%d3, H3⟩⟩
    iapply (run_step c (crd pf hT t) (ms0_0 pf hT t) (hs0_0 pf hT t) (ms0_1 pf hT t) (hs0_1 pf hT t) (ms0_2 pf hT t) (hs0_2 pf hT t) (ms0_3 pf hT t) (hs0_3 pf hT t) (te pf) (nl pf) (ts pf) (X0 pf hT m ρ c t) (X1 pf hT m ρ c t) (X2 pf hT m ρ c t) (hT.nl_mem _) _ a _)
    rw [stepW_dead pf hT t hl, stepO_dead pf hT t hl]
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [H3]; · iexact H3
    isplitl [HS0]; · iexact HS0
    iintro ⟨H0, H1, H2, HT0, HT1, HT2, H3, HS0⟩
    isplitl [HS0 HT0 HT1 HT2]
    · isplitl [HS0]
      · iexists _; isplitr; swap
        · iexact HS0
        · ipureintro; exact kept_dead pf hT m ρ c t hl a
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    cases ((cfgA pf hT).win (3 : Fin 4)).flush t
    · iexists d3; iexact H3
    · iexact H3

/-- The body does at every point what the data say. -/
theorem body_obligation (c : Dev nD) : BodyObligation (dats pf hT m ρ 0 c) (defs₀ (F := Bits)) Variants.none () Set.univ := fun t => by
  rw [bigSep_W0]
  exact sound_body pf hT m ρ c t

/-! ## The launch -/

/-- The launch's element of the algebra. -/
def u₀ : UR sig nD τ :=
  initOf (Pipeline.cells (pcs pf hT) ((launch0 (F := Bits)).cellOf_inj fun _ => adm pf hT))
    (Pipeline.launchToks (pcs pf hT) ((launch0 (F := Bits)).cellOf_inj fun _ => adm pf hT))

/-- Every window's array is held whole. -/
theorem share_eq (c : Dev nD) (w : Fin (cfgA pf hT).W) : (dats pf hT m ρ 0 c).share w = fullShare := by unfold Dat.share; split <;> rfl

/-- The tables as the launch hands them over, one by one. -/
theorem prefHeld_eq (c : Dev nD) (q : Fin 3 → PosShare TreeShare) (v : pre0.Contents (Elt Bits)) :
    (Pipeline.prefHeld (Ix := Unit) (Name := ℕ) (U := UR sig nD τ) (Lvl := ℕ) pre0 c q v : sProp MM)
      = iprop((((c : Thread nD τ).loc main_arg3) ↦{q 0} v 0) ∗ (((c : Thread nD τ).loc main_arg4) ↦{q 1} v 1) ∗ (((c : Thread nD τ).loc main_arg5) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the launch hands over is what holds before the first step. -/
theorem phi0_intro (c : Dev nD) :
    iprop(BI.emp ∗ Pipeline.prefHeld pre0 c (fun _ => fullShare.right) (adm pf hT).1 ∗ Pipeline.scopedRest spec0 c) ⊢ (dats pf hT m ρ 0 c).Φ 0 := by
  rw [prefHeld_eq, scopedRest0_eq, show (dats pf hT m ρ 0 c).Φ 0 = Phi pf hT m ρ c 0 from rfl]
  unfold Phi
  iintro ⟨-, ⟨HT0, HT1, HT2⟩, ⟨%a0, HS0⟩⟩
  isplitl [HS0]
  · iexists a0; isplitr; swap
    · iexact HS0
    · ipureintro; intro _ h; exact absurd rfl h
  isplitl [HT0]
  · iexact HT0
  isplitl [HT1]
  · iexact HT1
  iexact HT2

/-- What holds after the last step gives the scratch buffer back. -/
theorem phiN_exit (c : Dev nD) : (dats pf hT m ρ 0 c).Φ (Fin.last (cfgA pf hT).N) ⊢ iprop(BI.emp ∗ Pipeline.scopedRest spec0 c) := by
  rw [scopedRest0_eq, show (dats pf hT m ρ 0 c).Φ (Fin.last (cfgA pf hT).N) = Phi pf hT m ρ c (Fin.last _) from rfl]
  unfold Phi
  iintro ⟨⟨%a0, -, HS0⟩, -, -, -⟩
  isplitr; · iempintro
  iexists a0; iexact HS0

/-- After the run: every array as the data say, every table as it was. -/
def QC : PUnit × MemSt nD τ sig (Elt Bits) → Prop := fun r =>
  ∀ c : Dev nD, (∀ w : Fin (cfgA pf hT).W, r.2.mem (((cfgA pf hT).win w).arr.view.loc (c : Thread nD τ)) = (dats pf hT m ρ 0 c).arrAt w (cfgA pf hT).N)
    ∧ ∀ j, r.2.mem ((c : Thread nD τ).loc (pre0.ref j)) = (adm pf hT).1 j

/-- The tables of the memory are the run's. -/
abbrev Pinned : Prop := ∀ (c : Dev nD) (j : Fin 3), m ((c : Thread nD τ).loc (pre0.ref j)) = pf j

set_option backward.isDefEq.respectTransparency.types false in
set_option maxHeartbeats 4000000 in
/-- Every run ends, with every array as the data say and every counter at zero. -/
theorem run_main_quiescent (hp : Pinned pf m) : θ_run (defs (F := Bits)) (onTc (τ := τ) (main (F := Bits))) (s₀ m ρ) (fun r => QC pf hT m ρ r ∧ r.2.sem = fun _ => 0) :=
  Pipeline.θ_run_region_noSem_pf_quiescent pcfgs (fun _ => adm pf hT) (dats pf hT m ρ) () ((launch0 (F := Bits)).cellOf_inj fun _ => adm pf hT) (0 : Fin 1)
    (launch0 (F := Bits)).win.to₀ (launch0 (F := Bits)).pre EP defs₀ Variants.none m ρ main
    (hbody := fun c => (body_obligation pf hT m ρ c).loose) (hne := (launch0 (F := Bits)).block_pos)
    (harr := (launch0 (F := Bits)).arr_whole) (hstage := (launch0 (F := Bits)).stage_whole) (howed := fun _ _ => rfl)
    (u₀ := u₀ pf hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hT) (dats pf hT m ρ) 0 (launch0 (F := Bits)).win.arr_inj c (launch0 (F := Bits)).arr_whole
      (share_eq pf hT m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro pf hT m ρ)
    (hout := phiN_exit pf hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run leaves the arguments as they were, and the result as the data say. -/
theorem result (hp : Pinned pf m) :
    θ_run (defs (F := Bits)) (onTc (τ := τ) (main (F := Bits))) ⟨m, fun _ => 0, ρ⟩ (fun r => (∀ c : Dev nD,
      (r.2.mem ((c.tc : Thread nD τ).loc main_v0) = (dats pf hT m ρ 0 c).arrAt (3 : Fin 4) (cfgA pf hT).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (3 : Fin 4),
    ((h.1 c).1 (0 : Fin 4)).trans ((dats pf hT m ρ 0 c).arrAt_in (0 : Fin 4) rfl _), ((h.1 c).1 (1 : Fin 4)).trans ((dats pf hT m ρ 0 c).arrAt_in (1 : Fin 4) rfl _), ((h.1 c).1 (2 : Fin 4)).trans ((dats pf hT m ρ 0 c).arrAt_in (2 : Fin 4) rfl _),
    ((h.1 c).2 0).trans (hp c 0).symm, ((h.1 c).2 1).trans (hp c 1).symm, ((h.1 c).2 2).trans (hp c 2).symm⟩, h.2⟩) (run_main_quiescent pf hT m ρ hp)

include hT in
/-- The frame: every run ends with the arguments as they were and every counter at zero. -/
theorem frame (hp : Pinned pf m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (result pf hT m ρ hp)

end Cert.Kernel2.Up

end
-- ==== Proof.UpFinal.lean ====
module

public import proofs.«01_k».proof.Proof.UpVal
public import proofs.«01_k».proof.Proof.UpRef
public import proofs.«01_k».proof.Proof.UpPreI
public import proofs.«01_k».proof.Proof.UpPreB
public import proofs.«01_k».proof.Proof.UpFrameB
public import proofs.«01_k».proof.Proof.Gen.Reference2Ideal.Run
public import proofs.«01_k».proof.Defs

@[expose] public section

set_option maxRecDepth 16384
set_option Elab.async false

noncomputable section

namespace Cert.Up

open Idealize.ShloMosaic Idealize.ShloMosaic.TcCoe Idealize.SL.Sem

/-- Every run of the kernel from tables the precondition admits ends with the arguments as they were and every counter at zero. -/
theorem frame : Cert.quiescent_Kernel2 := fun m ρ hpre => by
  let pf : Kernel2.pre0.Contents (Elt Bits) := fun j => m (((0 : Dev Kernel2.nD) : Thread Kernel2.nD Kernel2.τ).loc (Kernel2.pre0.ref j))
  have hT : Kernel2.Up.Tables (Kernel2.Up.te pf) (Kernel2.Up.nl pf) (Kernel2.Up.ts pf) := Kernel2.Up.tables_of_pre _ _ _ _ _ _ (hpre 0)
  have hp : Kernel2.Up.Pinned pf m := fun c j => by
    obtain rfl : c = 0 := Subsingleton.elim (α := Fin 1) _ _
    rfl
  exact Kernel2.Up.frame pf hT m ρ hp

/-- The same of the idealized kernel. -/
theorem frame_ideal : Cert.quiescent_Kernel2Ideal := fun m ρ hpre => by
  let pf : Kernel2Ideal.pre0.Contents (Elt Ideal) := fun j => m (((0 : Dev Kernel2Ideal.nD) : Thread Kernel2Ideal.nD Kernel2Ideal.τ).loc (Kernel2Ideal.pre0.ref j))
  have hT : Kernel2Ideal.Up.Tables (Kernel2Ideal.Up.te pf) (Kernel2Ideal.Up.nl pf) (Kernel2Ideal.Up.ts pf) := Kernel2Ideal.Up.tables_of_pre _ _ _ _ _ _ (hpre 0)
  have hp : Kernel2Ideal.Up.Pinned pf m := fun c j => by
    obtain rfl : c = 0 := Subsingleton.elim (α := Fin 1) _ _
    rfl
  exact Kernel2Ideal.Up.frame pf hT m ρ hp

/-- The idealized reference runs, leaves its arguments and ends with every counter at zero. -/
theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- A row counts among those its tile holds exactly where the tile's number of halves passes the row's half. -/
theorem lt_of_held {w : BitVec 32} {n : ℕ} (hn : n < 2) (hw : w = 0#32 ∨ w = 1#32 ∨ w = 2#32) (h : IntOp.cmpi .sgt w (BitVec.ofNat 32 n) = 1#1) : n < w.toNat := by
  have h' := IntOp.cmpi_sgt.mp h
  have hc : n = 0 ∨ n = 1 := by omega
  rcases hc with rfl | rfl <;> rcases hw with rfl | rfl | rfl <;> revert h' <;> decide

/-- A word is the word of its number. -/
theorem word_ofNat (w : BitVec 32) : BitVec.ofNat 32 w.toNat = w := BitVec.eq_of_toNat_eq (by rw [BitVec.toNat_ofNat]; exact Nat.mod_eq_of_lt w.isLt)

/-- The idealized kernel and the idealized reference end with equal results on the rows the tiles hold. -/
theorem algebraic : Cert.algebraic_Kernel2Ideal_Reference2Ideal_on_rows_held := by
  intro m ρ m' ρ' hpre hag
  let pf : Kernel2Ideal.pre0.Contents (Elt Ideal) := fun j => m (((0 : Dev Kernel2Ideal.nD) : Thread Kernel2Ideal.nD Kernel2Ideal.τ).loc (Kernel2Ideal.pre0.ref j))
  have hT : Kernel2Ideal.Up.Tables (Kernel2Ideal.Up.te pf) (Kernel2Ideal.Up.nl pf) (Kernel2Ideal.Up.ts pf) := Kernel2Ideal.Up.tables_of_pre _ _ _ _ _ _ (hpre 0)
  have hp : Kernel2Ideal.Up.Pinned pf m := fun c j => by
    obtain rfl : c = 0 := Subsingleton.elim (α := Fin 1) _ _
    rfl
  refine ⟨fun c => (Kernel2Ideal.Up.dats pf hT m ρ 0 c).arrAt (3 : Fin 4) (Kernel2Ideal.Up.cfgA pf hT).N, ?_, ?_⟩
  · exact (θ_run Cert.Kernel2Ideal.defs _ _).mono (fun r h c => ⟨fun i _ => congrFun (h.1 c).1 i, (h.1 c).2⟩) (Kernel2Ideal.Up.result pf hT m ρ hp)
  · refine (θ_run Cert.Reference2Ideal.defs _ _).mono (fun r h c => ⟨fun i hi => ?_, (h c).2⟩) (Cert.Reference2Ideal.Value.run m' ρ')
    refine (congrFun ((h c).1.trans (Cert.Reference2Ideal.Read.val_main_v10_eq _ _ _ _)) i).trans ?_
    obtain ⟨e0, e1, e2, e3, e4, e5⟩ := hag c
    rw [e0, e1, e2, e3]
    obtain rfl : c = 0 := Subsingleton.elim (α := Fin 1) _ _
    obtain ⟨R, C, rfl⟩ : ∃ R C, i = ix2 (n0 := 23552) (n1 := 7168) R C := ⟨i 0, i 1, eq_ix2 _⟩
    rw [Cert.Reference2Ideal.Up.held_iff] at hi
    have hk : R.val % 1024 / 512 < 2 := by omega
    have hm := lt_of_held hk (hT.nl_mem ⟨R.val / 1024, by omega⟩) hi
    refine (Cert.Reference2Ideal.Up.ref_apply _ _ _ _ R C (Kernel2Ideal.Up.ex pf hT ⟨R.val / 1024, by omega⟩) ?_).trans
      (Kernel2Ideal.Up.arr_spec pf hT m ρ 0 R C hm).symm
    exact (word_ofNat (Kernel2Ideal.Up.ent (Kernel2Ideal.Up.te pf) ⟨R.val / 1024, by omega⟩)).symm

end Cert.Up

end
-- ==== Proof.DownRunI.lean ====
module

public import proofs.«01_k».proof.Proof.Gen.Kernel3Ideal.Skeleton
public import proofs.«01_k».proof.Proof.Gen.Kernel3Ideal.Launch
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.ValueIdxCore
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-- The resource algebra the kernel is proved over. -/
abbrev MM := MT nD τ sig Unit (Elt Ideal) ℕ (UR sig nD τ) ℕ

/-- The table of the tiles' experts. -/
abbrev teM : Memref sig .tc .smem S23 .i32 := Memref.whole main_arg2
/-- The table of the halves' rows held. -/
abbrev hlM : Memref sig .tc .smem S46 .i32 := Memref.whole main_arg3
/-- The table of the halves' places. -/
abbrev hsM : Memref sig .tc .smem S46 .i32 := Memref.whole main_arg4
/-- The kept weights. -/
abbrev wM : Memref sig .tc .vmem S7168x512 .bf16 := Memref.whole cc0_scratch0

/-- Entry `k` of a table over the tiles. -/
abbrev ent (T : S23.Idx → Elt Ideal .i32) (k : Fin 23) : BitVec 32 := T (fun a => ⟨k.val, by fin_cases a; exact k.isLt⟩)
/-- Entry `k` of a table over the halves. -/
abbrev ent46 (T : S46.Idx → Elt Ideal .i32) (k : Fin 46) : BitVec 32 := T (fun a => ⟨k.val, by fin_cases a; exact k.isLt⟩)

/-- The half of a grid point. -/
abbrev half (i : grid0.Coords) : Fin 46 := ⟨(i 1).val, (i 1).isLt⟩
/-- The tile of a half. -/
abbrev tileOf (k : Fin 46) : Fin 23 := ⟨k.val / 2, by omega⟩
/-- The tile before a half's (the first tile itself at the first). -/
abbrev tilePOf (k : Fin 46) : Fin 23 := ⟨k.val / 2 - 1, by omega⟩

/-- The grid's point of the first block of columns and a given half. -/
abbrev pt (k : Fin 46) : grid0.Coords := fun a => match a with | ⟨0, _⟩ => ⟨0, Nat.succ_pos 3⟩ | ⟨1, _⟩ => k

/-- The read of the tables over the halves is at the half. -/
theorem off1_half (i : grid0.Coords) : k0_off1 i 0 = (half i).val := by
  have h : ∀ k : Fin 46, k0_off1 (pt k) 0 = k.val := by decide +kernel
  exact h (half i)

/-- The first read of the experts is at the half's tile. -/
theorem off3_tile (i : grid0.Coords) : k0_off3 i 0 = (tileOf (half i)).val := by
  have h : ∀ k : Fin 46, k0_off3 (pt k) 0 = k.val / 2 := by decide +kernel
  exact h (half i)

/-- The second read of the experts is at the tile before. -/
theorem off4_tile (i : grid0.Coords) : k0_off4 i 0 = (tilePOf (half i)).val := by
  have h : ∀ k : Fin 46, k0_off4 (pt k) 0 = k.val / 2 - 1 := by decide +kernel
  exact h (half i)

/-- A scalar read of the table of the experts through a rectangle of one entry is that entry. -/
theorem word_te (T : S23.Idx → Elt Ideal .i32) (off : Fin 1 → ℕ) (inb) (k : Fin 23) (h : off 0 = k.val) :
    View.readAt (Elt Ideal) teM.view (Rect.unit (s := S23) off S1.size inb).toLoadRect T (Shape.Idx.first (numel1_S1.symm ▸ Nat.one_pos)) = ent T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A scalar read of the table of the rows held through a rectangle of one entry is that entry. -/
theorem word_hl (T : S46.Idx → Elt Ideal .i32) (off : Fin 1 → ℕ) (inb) (k : Fin 46) (h : off 0 = k.val) :
    View.readAt (Elt Ideal) hlM.view (Rect.unit (s := S46) off S1.size inb).toLoadRect T (Shape.Idx.first (numel1_S1.symm ▸ Nat.one_pos)) = ent46 T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A half holds rows. -/
abbrev live (T1 : S46.Idx → Elt Ideal .i32) (k : Fin 46) : Prop := k0_cond1 (ent46 T1 k) = 1#1

/-- The weights are brought in at the first half and at a tile's first half whose expert is not the tile before's. -/
abbrev reload (k : Fin 46) (T0 : S23.Idx → Elt Ideal .i32) : Prop := k.val = 0 ∨ k.val % 2 = 0 ∧ ent T0 (tileOf k) ≠ ent T0 (tilePOf k)

/-- A half's number is even, as the kernel's words decide it. -/
abbrev evenWord (arg1 : BitVec 32) : BitVec 1 :=
  let v41 : BitVec 32 := Scalar.select (Scalar.cmpi .eq 2#32 0#32) 1#32 2#32
  let v42 : BitVec 32 := Scalar.remsi arg1 v41
  let v43 : BitVec 1 := Scalar.cmpi .ne v42 0#32
  let v44 : BitVec 1 := Scalar.cmpi .slt v42 0#32
  let v45 : BitVec 1 := Scalar.cmpi .slt v41 0#32
  let v46 : BitVec 1 := Scalar.xori v44 v45
  let v47 : BitVec 1 := Scalar.andi v46 v43
  let v48 : BitVec 32 := Scalar.addi v42 v41
  let v49 : BitVec 32 := Scalar.select v47 v48 v42
  Scalar.cmpi .eq v49 0#32

/-- The printed decision on bringing the weights in, read as `reload`. -/
theorem reload_iff (k : Fin 46) (p q : BitVec 32) :
    Scalar.cmpi .ne (Scalar.extui (Scalar.ori (Scalar.cmpi .eq (BitVec.ofNat 32 k.val) 0#32) (Scalar.andi (evenWord (BitVec.ofNat 32 k.val)) (Scalar.cmpi .ne p q))) : BitVec 32) 0#32 = 1#1 ↔ k.val = 0 ∨ k.val % 2 = 0 ∧ p ≠ q := by
  have key : ∀ (k : Fin 46) (b : Bool), Scalar.cmpi .ne (Scalar.extui (Scalar.ori (Scalar.cmpi .eq (BitVec.ofNat 32 k.val) 0#32) (Scalar.andi (evenWord (BitVec.ofNat 32 k.val)) (BitVec.ofBool b))) : BitVec 32) 0#32 = 1#1 ↔ k.val = 0 ∨ k.val % 2 = 0 ∧ b = true := by decide +kernel
  have hb : Scalar.cmpi .ne p q = BitVec.ofBool (p != q) := rfl
  rw [hb, key]
  simp

/-- What a half that holds rows leaves: its product with the weights, as four slabs of 128 columns. -/
def downO (x0 : S512x7168.Idx → Elt Ideal .bf16) (w : S7168x512.Idx → Elt Ideal .bf16) : S4x512x128.Idx → Elt Ideal .f32 := fun y =>
  if (y 0).val = 0 then k0_pay5 x0 w (ix3 ⟨0, by decide⟩ ⟨(y 1).val, (y 1).isLt⟩ ⟨(y 2).val, (y 2).isLt⟩)
  else if (y 0).val = 1 then k0_pay6 x0 w (ix3 ⟨0, by decide⟩ ⟨(y 1).val, (y 1).isLt⟩ ⟨(y 2).val, (y 2).isLt⟩)
  else if (y 0).val = 2 then k0_pay1 (k0_pay7 x0 w) (ix3 ⟨0, by decide⟩ ⟨(y 1).val, (y 1).isLt⟩ ⟨(y 2).val, (y 2).isLt⟩)
  else k0_pay2 (k0_pay4 x0 w) (ix3 ⟨0, by decide⟩ ⟨(y 1).val, (y 1).isLt⟩ ⟨(y 2).val, (y 2).isLt⟩)

/-- The four stores of the slabs leave the half's product. -/
theorem writes_down (v : View sig .tc .vmem S4x512x128 .f32) (f : v.ty.Contents (Elt Ideal)) (x0 : S512x7168.Idx → Elt Ideal .bf16) (w : S7168x512.Idx → Elt Ideal .bf16) (h3 h2 h1 h0) :
    v.read (Elt Ideal) (v.writes (Elt Ideal) f [⟨Rect.unit (s := S4x512x128) ![3, 0, 0] S1x512x128.size h3, k0_pay2 (k0_pay4 x0 w)⟩,
      ⟨Rect.unit (s := S4x512x128) ![2, 0, 0] S1x512x128.size h2, k0_pay1 (k0_pay7 x0 w)⟩,
      ⟨Rect.unit (s := S4x512x128) ![1, 0, 0] S1x512x128.size h1, k0_pay6 x0 w⟩,
      ⟨Rect.unit (s := S4x512x128) ![0, 0, 0] S1x512x128.size h0, k0_pay5 x0 w⟩]) = downO x0 w := by
  funext y
  have hy : (y 0).val < 4 := (y 0).isLt
  unfold downO
  by_cases e3 : (y 0).val = 3
  · rw [if_neg (by omega), if_neg (by omega), if_neg (by omega)]
    refine View.read_writes_cons_hit_of_coords _ _ _ _ _ _ _ fun a => ?_
    fin_cases a
    · show (y 0).val = 3 + 1 * 0
      omega
    · simp [Rect.unit]
    · simp [Rect.unit]
  rw [View.read_writes_cons_miss_of_axis _ _ _ _ y 0 3 1 rfl rfl rfl (Or.inl (by omega))]
  by_cases e2 : (y 0).val = 2
  · rw [if_neg (by omega), if_neg (by omega), if_pos e2]
    refine View.read_writes_cons_hit_of_coords _ _ _ _ _ _ _ fun a => ?_
    fin_cases a
    · show (y 0).val = 2 + 1 * 0
      omega
    · simp [Rect.unit]
    · simp [Rect.unit]
  rw [View.read_writes_cons_miss_of_axis _ _ _ _ y 0 2 1 rfl rfl rfl (Or.inl (by omega))]
  by_cases e1 : (y 0).val = 1
  · rw [if_neg (by omega), if_pos e1]
    refine View.read_writes_cons_hit_of_coords _ _ _ _ _ _ _ fun a => ?_
    fin_cases a
    · show (y 0).val = 1 + 1 * 0
      omega
    · simp [Rect.unit]
    · simp [Rect.unit]
  rw [View.read_writes_cons_miss_of_axis _ _ _ _ y 0 1 1 rfl rfl rfl (Or.inl (by omega))]
  rw [if_pos (by omega)]
  refine View.read_writes_cons_hit_of_coords _ _ _ _ _ _ _ fun a => ?_
  fin_cases a
  · show (y 0).val = 0 + 1 * 0
    omega
  · simp [Rect.unit]
  · simp [Rect.unit]

/-- The store into the kept weights. -/
theorem writes_w (a w : S7168x512.Idx → Elt Ideal .bf16) (h) :
    wM.view.writes (Elt Ideal) a [⟨Rect.unit (s := S7168x512) ![0, 0] S7168x512.size h, w⟩] = w := by
  have e := View.read_writes_full wM.view a h w []
  have hr : ∀ f : S7168x512.Idx → Elt Ideal .bf16, wM.view.read (Elt Ideal) f = f := fun _ => rfl
  exact (hr _).symm.trans e

/-- The kept weights read back after their store. -/
theorem readCov_w (w : S7168x512.Idx → Elt Ideal .bf16) (h h') :
    @Eq (S7168x512.Idx → Elt Ideal .bf16) ((View.whole cc0_scratch0).readCov (Val := Elt Ideal) [⟨Rect.unit (s := S7168x512) ![0, 0] S7168x512.size h, w⟩] (Rect.unit (s := S7168x512) ![0, 0] S7168x512.size h').toLoadRect) w := by
  unfold View.readCov
  rw [show (View.whole cc0_scratch0).writes (Elt Ideal) (View.whole cc0_scratch0).junk [⟨Rect.unit (s := S7168x512) ![0, 0] S7168x512.size h, w⟩] = w from writes_w _ w h]
  exact View.readAt_full wM.view w h'

open Classical in
/-- The kept weights after a step. -/
def stepW (i : grid0.Coords) (T0 : S23.Idx → Elt Ideal .i32) (T1 : S46.Idx → Elt Ideal .i32) (x1 : S1x7168x512.Idx → Elt Ideal .f32) (a : S7168x512.Idx → Elt Ideal .bf16) : S7168x512.Idx → Elt Ideal .bf16 :=
  if live T1 (half i) ∧ reload (half i) T0 then k0_pay3 x1 else a

/-- The result's block after a step. -/
def stepO (i : grid0.Coords) (T1 : S46.Idx → Elt Ideal .i32) (x0 : S512x7168.Idx → Elt Ideal .bf16) (w : S7168x512.Idx → Elt Ideal .bf16) (d : S4x512x128.Idx → Elt Ideal .f32) : S4x512x128.Idx → Elt Ideal .f32 :=
  if live T1 (half i) then downO x0 w else d

/-- The run's own condition on a half: it holds rows. -/
abbrev liveRun (i : grid0.Coords) (T1 : S46.Idx → Elt Ideal .i32) : Prop := k0_cond1 (View.readAt (Elt Ideal) hlM.view (Rect.unit (s := S46) (k0_off1 i) S1.size (k0_off1_inb i)).toLoadRect T1 (Shape.Idx.first (numel1_S1.symm ▸ Nat.one_pos))) = 1#1

/-- The run's own condition on bringing the weights in. -/
abbrev reloadRun (i : grid0.Coords) (T0 : S23.Idx → Elt Ideal .i32) : Prop :=
  Scalar.cmpi .ne (Scalar.extui (Scalar.ori (Scalar.cmpi .eq (BitVec.ofNat 32 (i 1).val) 0#32) (Scalar.andi (evenWord (BitVec.ofNat 32 (i 1).val)) (Scalar.cmpi .ne (View.readAt (Elt Ideal) teM.view (Rect.unit (s := S23) (k0_off3 i) S1.size (k0_off3_inb i)).toLoadRect T0 (Shape.Idx.first (numel1_S1.symm ▸ Nat.one_pos))) (View.readAt (Elt Ideal) teM.view (Rect.unit (s := S23) (k0_off4 i) S1.size (k0_off4_inb i)).toLoadRect T0 (Shape.Idx.first (numel1_S1.symm ▸ Nat.one_pos)))))) : BitVec 32) 0#32 = 1#1

/-- The run's condition on a half, read as `live`. -/
theorem liveRun_iff (i : grid0.Coords) (T1 : S46.Idx → Elt Ideal .i32) : liveRun i T1 ↔ live T1 (half i) :=
  iff_of_eq (congrArg (fun p => k0_cond1 p = 1#1) (word_hl T1 _ _ _ (off1_half i)))

/-- The run's condition on bringing the weights in, read as `reload`. -/
theorem reloadRun_iff (i : grid0.Coords) (T0 : S23.Idx → Elt Ideal .i32) : reloadRun i T0 ↔ reload (half i) T0 :=
  (iff_of_eq (congrArg₂ (fun p q => Scalar.cmpi .ne (Scalar.extui (Scalar.ori (Scalar.cmpi .eq (BitVec.ofNat 32 (half i).val) 0#32) (Scalar.andi (evenWord (BitVec.ofNat 32 (half i).val)) (Scalar.cmpi .ne p q))) : BitVec 32) 0#32 = 1#1)
    (word_te T0 _ _ _ (off3_tile i)) (word_te T0 _ _ _ (off4_tile i)))).trans (reload_iff (half i) _ _)

set_option maxHeartbeats 800000 in
/-- A step that brings the weights in. -/
theorem run_reload (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Ideal .i32) (T1 T2 : S46.Idx → Elt Ideal .i32) (x0 : S512x7168.Idx → Elt Ideal .bf16) (x1 : S1x7168x512.Idx → Elt Ideal .f32)
    (d : S4x512x128.Idx → Elt Ideal .f32) (a : Buf (Elt Ideal) ((c : Thread nD τ).loc cc0_scratch0)) (K : PUnit → sProp MM)
    (hl : liveRun i T1) (hr : reloadRun i T0) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare (downO x0 (k0_pay3 x1))
              ∗ (wM.view.loc (c : Thread nD τ) ↦{fullShare} k0_pay3 x1)) -∗ K ⟨⟩))
          ⊢ wp frame (wpE (defs₀ (F := Ideal)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  unfold owns
  rw [cc0_ffn_down_routed_eq_skeleton]; unfold cc0_ffn_down_routed_skel
  rw [k0_part1_eq_skeleton]
  iintro ⟨H0, H1, HT0, HT1, HT2, ⟨%f3, %hf3, HO3⟩, HS0, Hk⟩
  have hS0 : wM.IsWhole := Memref.isWhole_whole _
  have hT0 : teM.IsWhole := Memref.isWhole_whole _
  have hT1 : hlM.IsWhole := Memref.isWhole_whole _
  have hT2 : hsM.IsWhole := Memref.isWhole_whole _
  sl_exec!
  sl_step
  iapply Hk
  isplitl [H0]; · iexact H0
  isplitl [H1]; · iexact H1
  isplitl [HT0]; · iexact HT0
  isplitl [HT1]; · iexact HT1
  isplitl [HT2]; · iexact HT2
  have e1 : ∀ h, View.readAt (Elt Ideal) arg5.view (Rect.unit (s := S512x7168) ![0, 0] S512x7168.size h).toLoadRect (arg5.view.rep x0) = x0 := fun h => View.readAt_rep_full _ _ _
  have e2 : ∀ h, View.readAt (Elt Ideal) arg6.view (Rect.unit (s := S1x7168x512) ![0, 0, 0] S1x7168x512.size h).toLoadRect (arg6.view.rep x1) = x1 := fun h => View.readAt_rep_full _ _ _
  sl_unfold_run_names
  rw [e1, e2]
  isplitl [HO3]
  · iexists _
    isplitr
    swap
    · iexact HO3
    · ipureintro
      rw [readCov_w]
      exact writes_down _ _ _ _ _ _ _ _
  · rw [show (View.whole cc0_scratch0).writes (Elt Ideal) (View.whole cc0_scratch0).junk [⟨Rect.unit (s := S7168x512) ![0, 0] S7168x512.size inb_S7168x512_S7168x512_0_0, k0_pay3 x1⟩] = k0_pay3 x1 from writes_w _ _ _]
    iexact HS0

set_option maxHeartbeats 800000 in
/-- A step that uses the weights kept. -/
theorem run_keep (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Ideal .i32) (T1 T2 : S46.Idx → Elt Ideal .i32) (x0 : S512x7168.Idx → Elt Ideal .bf16) (x1 : S1x7168x512.Idx → Elt Ideal .f32)
    (d : S4x512x128.Idx → Elt Ideal .f32) (a : Buf (Elt Ideal) ((c : Thread nD τ).loc cc0_scratch0)) (K : PUnit → sProp MM)
    (hl : liveRun i T1) (hr : ¬ reloadRun i T0) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare (downO x0 a)
              ∗ (wM.view.loc (c : Thread nD τ) ↦{fullShare} a)) -∗ K ⟨⟩))
          ⊢ wp frame (wpE (defs₀ (F := Ideal)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  unfold owns
  rw [cc0_ffn_down_routed_eq_skeleton]; unfold cc0_ffn_down_routed_skel
  rw [k0_part1_eq_skeleton]
  iintro ⟨H0, H1, HT0, HT1, HT2, ⟨%f3, %hf3, HO3⟩, HS0, Hk⟩
  have hS0 : wM.IsWhole := Memref.isWhole_whole _
  have hT0 : teM.IsWhole := Memref.isWhole_whole _
  have hT1 : hlM.IsWhole := Memref.isWhole_whole _
  have hT2 : hsM.IsWhole := Memref.isWhole_whole _
  sl_exec!
  sl_step
  iapply Hk
  isplitl [H0]; · iexact H0
  isplitl [H1]; · iexact H1
  isplitl [HT0]; · iexact HT0
  isplitl [HT1]; · iexact HT1
  isplitl [HT2]; · iexact HT2
  have e1 : ∀ h, View.readAt (Elt Ideal) arg5.view (Rect.unit (s := S512x7168) ![0, 0] S512x7168.size h).toLoadRect (arg5.view.rep x0) = x0 := fun h => View.readAt_rep_full _ _ _
  have e5 : ∀ h (b : S7168x512.Idx → Elt Ideal .bf16), View.readAt (Elt Ideal) wM.view (Rect.unit (s := S7168x512) ![0, 0] S7168x512.size h).toLoadRect b = b := fun h b => View.readAt_full wM.view b h
  sl_unfold_run_names
  simp only [e1, e5]
  isplitl [HO3]
  · iexists _
    isplitr
    swap
    · iexact HO3
    · ipureintro
      exact writes_down _ _ _ _ _ _ _ _
  · iexact HS0

set_option maxHeartbeats 800000 in
/-- A step whose half holds no rows. -/
theorem run_dead (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Ideal .i32) (T1 T2 : S46.Idx → Elt Ideal .i32) (x0 : S512x7168.Idx → Elt Ideal .bf16) (x1 : S1x7168x512.Idx → Elt Ideal .f32)
    (d : S4x512x128.Idx → Elt Ideal .f32) (a : Buf (Elt Ideal) ((c : Thread nD τ).loc cc0_scratch0)) (K : PUnit → sProp MM)
    (hl : ¬ liveRun i T1) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare d
              ∗ (wM.view.loc (c : Thread nD τ) ↦{fullShare} a)) -∗ K ⟨⟩))
          ⊢ wp frame (wpE (defs₀ (F := Ideal)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  unfold owns
  rw [cc0_ffn_down_routed_eq_skeleton]; unfold cc0_ffn_down_routed_skel
  rw [k0_part1_eq_skeleton]
  iintro ⟨H0, H1, HT0, HT1, HT2, ⟨%f3, %hf3, HO3⟩, HS0, Hk⟩
  have hS0 : wM.IsWhole := Memref.isWhole_whole _
  have hT0 : teM.IsWhole := Memref.isWhole_whole _
  have hT1 : hlM.IsWhole := Memref.isWhole_whole _
  have hT2 : hsM.IsWhole := Memref.isWhole_whole _
  sl_exec!
  sl_step
  iapply Hk
  isplitl [H0]; · iexact H0
  isplitl [H1]; · iexact H1
  isplitl [HT0]; · iexact HT0
  isplitl [HT1]; · iexact HT1
  isplitl [HT2]; · iexact HT2
  isplitl [HO3]
  · iexists f3
    isplitr
    · ipureintro; exact hf3
    · iexact HO3
  · iexact HS0

set_option maxHeartbeats 800000 in
/-- One step of the kernel: its inputs and tables as they were, the result's block and the kept weights as `stepO` and `stepW` say. -/
theorem run_step (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Ideal .i32) (T1 T2 : S46.Idx → Elt Ideal .i32) (x0 : S512x7168.Idx → Elt Ideal .bf16) (x1 : S1x7168x512.Idx → Elt Ideal .f32)
    (d : S4x512x128.Idx → Elt Ideal .f32) (a : Buf (Elt Ideal) ((c : Thread nD τ).loc cc0_scratch0)) (K : PUnit → sProp MM) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare (stepO i T1 x0 (stepW i T0 T1 x1 a) d)
              ∗ (wM.view.loc (c : Thread nD τ) ↦{fullShare} stepW i T0 T1 x1 a)) -∗ K ⟨⟩))
          ⊢ wp frame (wpE (defs₀ (F := Ideal)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  by_cases hl : liveRun i T1
  · have hl' := (liveRun_iff i T1).mp hl
    by_cases hr : reloadRun i T0
    · have hr' := (reloadRun_iff i T0).mp hr
      have e1 : stepW i T0 T1 x1 a = k0_pay3 x1 := if_pos ⟨hl', hr'⟩
      have e2 : stepO i T1 x0 (k0_pay3 x1) d = downO x0 (k0_pay3 x1) := if_pos hl'
      rw [e1, e2]
      exact run_reload c i arg5 harg5 arg6 harg6 arg7 harg7 T0 T1 T2 x0 x1 d a K hl hr
    · have hr' := fun h => hr ((reloadRun_iff i T0).mpr h)
      have e1 : stepW i T0 T1 x1 a = a := if_neg fun h => hr' h.2
      have e2 : stepO i T1 x0 a d = downO x0 a := if_pos hl'
      rw [e1, e2]
      exact run_keep c i arg5 harg5 arg6 harg6 arg7 harg7 T0 T1 T2 x0 x1 d a K hl hr
  · have hl' := fun h => hl ((liveRun_iff i T1).mpr h)
    have e1 : stepW i T0 T1 x1 a = a := if_neg fun h => hl' h.1
    have e2 : stepO i T1 x0 a d = d := if_neg hl'
    rw [e1, e2]
    exact run_dead c i arg5 harg5 arg6 harg6 arg7 harg7 T0 T1 T2 x0 x1 d a K hl

end Cert.Kernel3Ideal.Down

end
-- ==== Proof.DownTabI.lean ====
module

public import proofs.«01_k».proof.Proof.DownRunI
public import Idealize.ShloMosaic.Lib.Affine
public import Idealize.ShloMosaic.Lib.Pipeline.Kit

@[expose] public section

set_option maxRecDepth 16384
set_option Elab.async false

noncomputable section

namespace Cert.Kernel3Ideal.Down

open Cert.Kernel3Ideal Cert.Kernel3Ideal.Gen
open Idealize.ShloMosaic
open Idealize.ShloMosaic.TcCoe Idealize.ShloMosaic.Tactic
open Idealize.ShloMosaic.ValueIdx

/-- The place a half's rows and its result are taken from and written to: its own where it holds rows, else the table's. -/
def place (T1 T2 : S46.Idx → Elt Ideal .i32) (k : Fin 46) : ℕ := if live T1 k then k.val else (ent46 T2 k).toNat

/-- A half with rows has its own place. -/
theorem place_live {T1 T2 : S46.Idx → Elt Ideal .i32} {k : Fin 46} (h : live T1 k) : place T1 T2 k = k.val := if_pos h

/-- What the precondition says of the tables: experts in range, the halves with rows first (the first half and a tile's first half before its second, the tiles with rows before the others), a half without rows at the place of the half before it. -/
structure Tables (T0 : S23.Idx → Elt Ideal .i32) (T1 T2 : S46.Idx → Elt Ideal .i32) : Prop where
  te_lt : ∀ k, (ent T0 k).toNat < 16
  first : live T1 0
  odd : ∀ k : Fin 46, k.val % 2 = 1 → live T1 k → live T1 ⟨k.val - 1, by omega⟩
  front : ∀ k : Fin 46, k.val ≠ 0 → k.val % 2 = 0 → live T1 k → live T1 ⟨k.val - 2, by omega⟩
  hs_dead : ∀ k : Fin 46, k.val ≠ 0 → ¬ live T1 k → place T1 T2 k = place T1 T2 ⟨k.val - 1, by omega⟩

/-- A half's place is not past the half. -/
theorem Tables.place_le {T0 : S23.Idx → Elt Ideal .i32} {T1 T2 : S46.Idx → Elt Ideal .i32} (h : Tables T0 T1 T2) : ∀ (n : ℕ) (hn : n < 46), place T1 T2 ⟨n, hn⟩ ≤ n
  | 0, hn => le_of_eq (place_live (k := ⟨0, hn⟩) h.first)
  | n + 1, hn => by
    by_cases hl : live T1 ⟨n + 1, hn⟩
    · exact le_of_eq (place_live hl)
    · rw [h.hs_dead ⟨n + 1, hn⟩ (Nat.succ_ne_zero n) hl]
      exact le_trans (h.place_le n (by omega)) (Nat.le_succ n)

/-- A place is a half. -/
theorem Tables.place_lt {T0 : S23.Idx → Elt Ideal .i32} {T1 T2 : S46.Idx → Elt Ideal .i32} (h : Tables T0 T1 T2) (k : Fin 46) : place T1 T2 k < 46 :=
  lt_of_le_of_lt (h.place_le k.val k.isLt) k.isLt

/-- The half at a half's place holds rows. -/
theorem Tables.live_place {T0 : S23.Idx → Elt Ideal .i32} {T1 T2 : S46.Idx → Elt Ideal .i32} (h : Tables T0 T1 T2) : ∀ (n : ℕ) (hn : n < 46), live T1 ⟨place T1 T2 ⟨n, hn⟩, h.place_lt _⟩
  | 0, hn => by
    have e : (⟨place T1 T2 ⟨0, hn⟩, h.place_lt _⟩ : Fin 46) = 0 := Fin.ext (place_live (k := ⟨0, hn⟩) h.first)
    rw [e]; exact h.first
  | n + 1, hn => by
    by_cases hl : live T1 ⟨n + 1, hn⟩
    · have e : (⟨place T1 T2 ⟨n + 1, hn⟩, h.place_lt _⟩ : Fin 46) = ⟨n + 1, hn⟩ := Fin.ext (place_live hl)
      rw [e]; exact hl
    · have e : (⟨place T1 T2 ⟨n + 1, hn⟩, h.place_lt _⟩ : Fin 46) = ⟨place T1 T2 ⟨n, by omega⟩, h.place_lt _⟩ :=
        Fin.ext (h.hs_dead ⟨n + 1, hn⟩ (Nat.succ_ne_zero n) hl)
      rw [e]; exact h.live_place n (by omega)

variable (pf : pre0.Contents (Elt Ideal))

/-- The tables of the run, by name: the tiles' experts. -/
abbrev te : S23.Idx → Elt Ideal .i32 := pf 0
/-- The halves' rows held. -/
abbrev hlT : S46.Idx → Elt Ideal .i32 := pf 1
/-- The halves' places. -/
abbrev hsT : S46.Idx → Elt Ideal .i32 := pf 2

/-- A read of the experts' table. -/
theorem at_te (off : Fin 1 → ℕ) (k : Fin 23) (e : off 0 = k.val) (h : ∀ a, off a + S1.size a ≤ S23.size a) : pf.at 0 (Rect.unit (s := S23) off S1.size h) numel1_S1 = ent (te pf) k := by
  show pf 0 _ = pf 0 _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A read of the table of the rows held. -/
theorem at_hl (off : Fin 1 → ℕ) (k : Fin 46) (e : off 0 = k.val) (h : ∀ a, off a + S1.size a ≤ S46.size a) : pf.at 1 (Rect.unit (s := S46) off S1.size h) numel1_S1 = ent46 (hlT pf) k := by
  show pf 1 _ = pf 1 _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A read of the places' table. -/
theorem at_hs (off : Fin 1 → ℕ) (k : Fin 46) (e : off 0 = k.val) (h : ∀ a, off a + S1.size a ≤ S46.size a) : pf.at 2 (Rect.unit (s := S46) off S1.size h) numel1_S1 = ent46 (hsT pf) k := by
  show pf 2 _ = pf 2 _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A block of columns, as a word and back. -/
theorem col (i : grid0.Coords) : (BitVec.ofNat 32 (i 0).val).toNat = (i 0).val := by
  have : (i 0).val < 4 := (i 0).isLt
  rw [BitVec.toNat_ofNat]; omega

/-- The word a block's place is chosen as. -/
abbrev placeWord (n w z : BitVec 32) : BitVec 32 := Scalar.select (Scalar.cmpi .sgt w 0#32) n (Scalar.subi (Scalar.addi (Scalar.muli z 1#32) 1#32) 1#32)

/-- That word is the place. -/
theorem placeWord_val (k : Fin 46) (w z : BitVec 32) : (placeWord (BitVec.ofNat 32 k.val) w z).toNat = if k0_cond1 w = 1#1 then k.val else z.toNat := by
  have hz : Scalar.subi (Scalar.addi (Scalar.muli z 1#32) 1#32) 1#32 = z := by
    show z * 1#32 + 1#32 - 1#32 = z
    rw [BitVec.mul_one]
    exact BitVec.add_sub_cancel z 1#32
  have hk : (BitVec.ofNat 32 k.val).toNat = k.val := by
    rw [BitVec.toNat_ofNat]; have := k.isLt; omega
  have hc : ∀ b : BitVec 1, Scalar.cmpi .ne (Scalar.extui b : BitVec 32) 0#32 = b := by decide
  unfold placeWord
  rw [hz, show k0_cond1 w = Scalar.cmpi .sgt w 0#32 from hc _]
  by_cases hb : Scalar.cmpi .sgt w 0#32 = 1#1
  · rw [if_pos hb]
    exact (congrArg BitVec.toNat (if_pos hb)).trans hk
  · rw [if_neg hb]
    exact congrArg BitVec.toNat (if_neg hb)

/-- Where each window's block lies at a grid point: the rows. -/
theorem tr0 (i : grid0.Coords) : cc0_transform_0 k0_off1_inb numel1_S1 pf i = ![place (hlT pf) (hsT pf) (half i), 0] := by
  unfold cc0_transform_0
  exact (congrArg₂ (fun w z : BitVec 32 => ![(placeWord (BitVec.ofNat 32 (i 1).val) w z).toNat, 0]) (at_hl pf (k0_off1 i) (half i) (off1_half i) (k0_off1_inb i)) (at_hs pf (k0_off1 i) (half i) (off1_half i) (k0_off1_inb i))).trans
    (congrArg (fun n : ℕ => ![n, 0]) (placeWord_val (half i) _ _))

/-- The read of a step's expert for its weights' block is at its tile. -/
theorem off2_tile (i : grid0.Coords) : k0_off2 i 0 = (tileOf (half i)).val := off3_tile i

/-- The weights. -/
theorem tr1 (i : grid0.Coords) : cc0_transform_1 k0_off2_inb numel1_S1 pf i = ![(ent (te pf) (tileOf (half i))).toNat, 0, (i 0).val] := by
  unfold cc0_transform_1
  exact congrArg₂ (fun (w : BitVec 32) (n : ℕ) => ![w.toNat, 0, n]) (at_te pf (k0_off2 i) (tileOf (half i)) (off2_tile i) (k0_off2_inb i)) (col i)

/-- The result. -/
theorem tr2 (i : grid0.Coords) : cc0_transform_2 k0_off1_inb numel1_S1 pf i = ![(i 0).val, place (hlT pf) (hsT pf) (half i), 0] := by
  unfold cc0_transform_2
  exact ((congrArg₂ (fun w z : BitVec 32 => ![(BitVec.ofNat 32 (i 0).val).toNat, (placeWord (BitVec.ofNat 32 (i 1).val) w z).toNat, 0]) (at_hl pf (k0_off1 i) (half i) (off1_half i) (k0_off1_inb i)) (at_hs pf (k0_off1 i) (half i) (off1_half i) (k0_off1_inb i))).trans
    (congrArg (fun n : ℕ => ![(BitVec.ofNat 32 (i 0).val).toNat, n, 0]) (placeWord_val (half i) _ _))).trans (congrArg (fun n : ℕ => ![n, place (hlT pf) (hsT pf) (half i), 0]) (col i))

variable (hT : Tables (te pf) (hlT pf) (hsT pf))
include hT

/-- Every block lies inside its array. -/
theorem ok : ok0 pf := by
  unfold ok0
  refine ⟨fun i => ?_, fun i => ?_, fun i => ?_⟩
  · have hb : ∀ a, (cc0_transform_0 k0_off1_inb numel1_S1 pf i a + 1) * S512x7168.size a ≤ S23552x7168.size a := by
      rw [tr0]; have := hT.place_lt (half i)
      intro a; fin_cases a
      · show (place (hlT pf) (hsT pf) (half i) + 1) * 512 ≤ 23552; omega
      · show (0 + 1) * 7168 ≤ 7168; omega
    exact ⟨hb, .inr (Affine.block_words_dvd (by decide) (by decide))⟩
  · have hb : ∀ a, (cc0_transform_1 k0_off2_inb numel1_S1 pf i a + 1) * S1x7168x512.size a ≤ S16x7168x2048.size a := by
      rw [tr1]; have := hT.te_lt (tileOf (half i))
      have h0 : (i 0).val < 4 := (i 0).isLt
      intro a; fin_cases a
      · show ((ent (te pf) (tileOf (half i))).toNat + 1) * 1 ≤ 16; omega
      · show (0 + 1) * 7168 ≤ 7168; omega
      · show ((i 0).val + 1) * 512 ≤ 2048; omega
    exact ⟨hb, .inl rfl⟩
  · have hb : ∀ a, (cc0_transform_2 k0_off1_inb numel1_S1 pf i a + 1) * S4x512x128.size a ≤ S16x23552x128.size a := by
      rw [tr2]; have := hT.place_lt (half i)
      have h0 : (i 0).val < 4 := (i 0).isLt
      intro a; fin_cases a
      · show ((i 0).val + 1) * 4 ≤ 16; omega
      · show (place (hlT pf) (hsT pf) (half i) + 1) * 512 ≤ 23552; omega
      · show (0 + 1) * 128 ≤ 128; omega
    exact ⟨hb, .inl rfl⟩

omit hT

/-- The output's window is idle exactly where the half holds no rows. -/
theorem idle_iff (i : grid0.Coords) : idle0 pf 2 i = decide (¬ live (hlT pf) (half i)) := by
  have h : pf.atD 1 (k0_off1 i) = ent46 (hlT pf) (half i) := by
    have h1 : ∀ a : Fin 1, k0_off1 i a + 1 ≤ (pre0.ref 1).ty.shape.size a := fun a => by
      fin_cases a
      show k0_off1 i 0 + 1 ≤ 46
      rw [off1_half]; have := (half i).isLt; omega
    refine (dif_pos h1).trans ?_
    show hlT pf _ = hlT pf _
    congr 1
    funext a
    fin_cases a
    exact Fin.ext (off1_half i)
  show (!(k0_cond1 (pf.atD 1 (k0_off1 i)) == 1#1)) = _
  rw [h]
  have key : ∀ b : BitVec 1, (!(b == 1#1)) = decide (¬ b = 1#1) := by decide
  exact key _

end Cert.Kernel3Ideal.Down

end
-- ==== Proof.DownDatI.lean ====
module

public import proofs.«01_k».proof.Proof.DownTabI
public import Idealize.ShloMosaic.Lib.Pipeline.Quiescent
public import Idealize.ShloMosaic.Lib.Pipeline.Value
public import Idealize.ShloMosaic.Lib.Claim
public import Idealize.ShloMosaic.Adequacy
public import Idealize.ShloMosaic.Init

@[expose] public section

set_option maxRecDepth 16384
set_option Elab.async false

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (pf : pre0.Contents (Elt Ideal)) (hT : Tables (te pf) (hlT pf) (hsT pf))

/-- The pipeline at the run's tables. -/
abbrev adm : (pcfg0 (F := Ideal)).Adm := ⟨pf, ok pf hT⟩
/-- The pipeline of the launch at the run's tables. -/
abbrev cfgA : Pipeline.Cfg sig Λ₀ := cfg0 (adm pf hT)
/-- The one pipeline of the program. -/
abbrev pcs : Fin 1 → Pipeline.Cfg sig Λ₀ := Pipeline.pin (pcfgs (F := Ideal)) fun _ => adm pf hT
/-- The coordinates of a point. -/
abbrev crd (t : Fin (cfgA pf hT).N) : grid0.Coords := (cfgA pf hT).grid.coords t

/-! ## The grid: 4 blocks of columns, 46 halves each -/

/-- The number of points. -/
theorem N_eq : (cfgA pf hT).N = 184 := rfl

/-- The block of columns of a point. -/
theorem crd_0 (t : Fin (cfgA pf hT).N) : (crd pf hT t 0).val = t.val / 46 := by
  have h : t.val < 184 := t.isLt
  have e := Pipeline.Grid.coords_val (G := grid0) t 0 (S := 46) (B := 4) (by decide) rfl
  have e' : (crd pf hT t 0).val = t.val / 46 % 4 := e
  omega

/-- The second coordinate of a point is its half. -/
theorem crd_1 (t : Fin (cfgA pf hT).N) : (crd pf hT t 1).val = t.val % 46 := by
  have e := Pipeline.Grid.coords_val (G := grid0) t 1 (S := 1) (B := 46) (by decide) rfl
  have e' : (crd pf hT t 1).val = t.val / 1 % 46 := e
  omega

/-- The half of a point. -/
abbrev hf (t : Fin (cfgA pf hT).N) : Fin 46 := half (crd pf hT t)

/-- The half of a point, as a number. -/
theorem hf_val (t : Fin (cfgA pf hT).N) : (hf pf hT t).val = t.val % 46 := crd_1 pf hT t

/-- The point before. -/
abbrev back (t : Fin (cfgA pf hT).N) : Fin (cfgA pf hT).N := ⟨t.val - 1, lt_of_le_of_lt (Nat.sub_le _ _) t.isLt⟩

/-- The point before a half other than the first is at the half before. -/
theorem hf_back (t : Fin (cfgA pf hT).N) (h : (hf pf hT t).val ≠ 0) : hf pf hT (back pf hT t) = ⟨(hf pf hT t).val - 1, by omega⟩ := by
  apply Fin.ext
  have e1 := hf_val pf hT t
  have e2 := hf_val pf hT (back pf hT t)
  have e3 : (back pf hT t).val = t.val - 1 := rfl
  show (hf pf hT (back pf hT t)).val = (hf pf hT t).val - 1
  omega

/-- The point before a half other than the first is at the same columns. -/
theorem col_back (t : Fin (cfgA pf hT).N) (h : (hf pf hT t).val ≠ 0) : (crd pf hT (back pf hT t) 0).val = (crd pf hT t 0).val := by
  have e1 := hf_val pf hT t
  have e2 := crd_0 pf hT t
  have e3 := crd_0 pf hT (back pf hT t)
  have e4 : (back pf hT t).val = t.val - 1 := rfl
  omega

/-- Whether a point's half holds rows. -/
abbrev Live (t : Fin (cfgA pf hT).N) : Prop := live (hlT pf) (hf pf hT t)

/-- A half without rows is not the first. -/
theorem hf_ne_of_dead (t : Fin (cfgA pf hT).N) (h : ¬ Live pf hT t) : (hf pf hT t).val ≠ 0 := fun e => by
  have : hf pf hT t = 0 := Fin.ext e
  rw [Live, this] at h
  exact h hT.first

/-- A point of a half other than the first is not the first point. -/
theorem ne_of_hf (t : Fin (cfgA pf hT).N) (h : (hf pf hT t).val ≠ 0) : t.val ≠ 0 := fun e => by
  rw [hf_val, e] at h; exact h rfl

/-! ## Where the windows' blocks lie -/

/-- The rows' block of a point. -/
theorem index0 (t : Fin (cfgA pf hT).N) : ((cfgA pf hT).win (0 : Fin 3)).index t = ![place (hlT pf) (hsT pf) (hf pf hT t), 0] := tr0 pf (crd pf hT t)
/-- The weights' block of a point. -/
theorem index1 (t : Fin (cfgA pf hT).N) : ((cfgA pf hT).win (1 : Fin 3)).index t = ![(ent (te pf) (tileOf (hf pf hT t))).toNat, 0, (crd pf hT t 0).val] := tr1 pf (crd pf hT t)
/-- The result's block of a point. -/
theorem index2 (t : Fin (cfgA pf hT).N) : ((cfgA pf hT).win (2 : Fin 3)).index t = ![(crd pf hT t 0).val, place (hlT pf) (hsT pf) (hf pf hT t), 0] := tr2 pf (crd pf hT t)

/-! ## The schedule of the result's window -/

/-- The result's block is left alone exactly at a half without rows. -/
theorem idle2 (t : Fin (cfgA pf hT).N) : (cfgA pf hT).idle (2 : Fin 3) ((cfgA pf hT).grid.coords t) = decide (¬ Live pf hT t) :=
  idle_iff pf (crd pf hT t)

/-- A half without rows has the place of the half before. -/
theorem place_back (t : Fin (cfgA pf hT).N) (h : ¬ Live pf hT t) : place (hlT pf) (hsT pf) (hf pf hT t) = place (hlT pf) (hsT pf) (hf pf hT (back pf hT t)) := by
  have h0 := hf_ne_of_dead pf hT t h
  rw [hf_back pf hT t h0]
  exact hT.hs_dead _ h0 h

/-- Before a half without rows nothing is written back. -/
theorem flush_back (t : Fin (cfgA pf hT).N) (h : ¬ Live pf hT t) : ((cfgA pf hT).win (2 : Fin 3)).flush (back pf hT t) = false := by
  have h0 := hf_ne_of_dead pf hT t h
  have ht := ne_of_hf pf hT t h0
  have hN : t.val < (cfgA pf hT).N := t.isLt
  have e : t.val - 1 + 1 = t.val := by omega
  unfold Pipeline.Window.flush
  have hi : ∀ hh : t.val - 1 + 1 < (cfgA pf hT).N, ((cfgA pf hT).win (2 : Fin 3)).index ⟨t.val - 1 + 1, hh⟩ = ((cfgA pf hT).win (2 : Fin 3)).index (back pf hT t) := by
    intro hh
    have e' : (⟨t.val - 1 + 1, hh⟩ : Fin (cfgA pf hT).N) = t := Fin.ext e
    rw [e', index2, index2, place_back pf hT t h, col_back pf hT t h0]
  rw [Bool.and_eq_false_iff]
  right
  rw [Bool.or_eq_false_iff]
  constructor
  · exact decide_eq_false (by show ¬ (t.val - 1 + 1 = (cfgA pf hT).N); omega)
  · exact decide_eq_false (fun ⟨hh, hne⟩ => hne (hi hh))

/-- At a half without rows the result's buffer still holds the last half's block. -/
theorem fresh_dead : ∀ (n : ℕ) (hn : n < (cfgA pf hT).N), ¬ Live pf hT ⟨n, hn⟩ → (cfgA pf hT).fresh (2 : Fin 3) n = false
  | 0, hn, h => absurd rfl (ne_of_hf pf hT ⟨0, hn⟩ (hf_ne_of_dead pf hT _ h))
  | n + 1, hn, h => by
    have hn' : n < (cfgA pf hT).N := by omega
    rw [(cfgA pf hT).fresh_succ (2 : Fin 3) n hn']
    have hf := flush_back pf hT ⟨n + 1, hn⟩ h
    have hf' : ((cfgA pf hT).win (2 : Fin 3)).flush ⟨n, hn'⟩ = false := hf
    rw [hf', Bool.false_or, idle2]
    by_cases hl : Live pf hT ⟨n, hn'⟩
    · rw [decide_eq_false (not_not.mpr hl), Bool.false_and]
    · rw [fresh_dead n hn' hl, Bool.and_false]

/-- The point whose block the result's buffer holds: the one of the half's place. -/
def src (t : Fin (cfgA pf hT).N) : Fin (cfgA pf hT).N :=
  ⟨t.val / 46 * 46 + place (hlT pf) (hsT pf) (hf pf hT t), by
    have h1 := hT.place_lt (hf pf hT t)
    have h2 : t.val < 184 := t.isLt
    show _ < 184
    omega⟩

/-- The half of the point whose block the buffer holds is the place of this half. -/
theorem hf_src (t : Fin (cfgA pf hT).N) : (hf pf hT (src pf hT t)).val = place (hlT pf) (hsT pf) (hf pf hT t) := by
  have h1 := hT.place_lt (hf pf hT t)
  rw [hf_val]
  show (t.val / 46 * 46 + place (hlT pf) (hsT pf) (hf pf hT t)) % 46 = _
  omega

/-- That point is at the same columns. -/
theorem col_src (t : Fin (cfgA pf hT).N) : (crd pf hT (src pf hT t) 0).val = (crd pf hT t 0).val := by
  have h1 := hT.place_lt (hf pf hT t)
  rw [crd_0, crd_0]
  show (t.val / 46 * 46 + place (hlT pf) (hsT pf) (hf pf hT t)) / 46 = _
  omega

/-- At a half with rows it is the point itself. -/
theorem src_live (t : Fin (cfgA pf hT).N) (h : Live pf hT t) : src pf hT t = t := by
  apply Fin.ext
  show t.val / 46 * 46 + place (hlT pf) (hsT pf) (hf pf hT t) = t.val
  rw [place_live h, hf_val]
  omega

/-- At a half without rows it is the one of the point before. -/
theorem src_dead (t : Fin (cfgA pf hT).N) (h : ¬ Live pf hT t) : src pf hT t = src pf hT (back pf hT t) := by
  apply Fin.ext
  show t.val / 46 * 46 + place (hlT pf) (hsT pf) (hf pf hT t) = (t.val - 1) / 46 * 46 + place (hlT pf) (hsT pf) (hf pf hT (back pf hT t))
  have h0 := hf_ne_of_dead pf hT t h
  have e := hf_val pf hT t
  rw [place_back pf hT t h]
  omega

/-- Its half holds rows. -/
theorem live_src (t : Fin (cfgA pf hT).N) : Live pf hT (src pf hT t) := by
  have e : hf pf hT (src pf hT t) = ⟨place (hlT pf) (hsT pf) (hf pf hT t), hT.place_lt _⟩ := Fin.ext (hf_src pf hT t)
  rw [Live, e]
  exact hT.live_place (hf pf hT t).val (hf pf hT t).isLt

/-! ## The blocks the inputs' windows hold -/

variable (m : (ℓ : Loc nD τ sig) → Buf (Elt Ideal) ℓ) (ρ : Dev nD → PrngReg)

/-- The array's block an input's window holds at a point. -/
def iblk (c : Dev nD) (w : Fin (cfgA pf hT).W) (t : Fin (cfgA pf hT).N) : (((cfgA pf hT).win w).xblock ((cfgA pf hT).grid.coords t)).Idx → Elt Ideal ((cfgA pf hT).win w).elt :=
  (((cfgA pf hT).win w).blk t).view.read _ ((s₀ m ρ).mem (((cfgA pf hT).win w).arr.view.loc (c : Thread nD τ)))

/-- The rows a point is given. -/
abbrev X0 (c : Dev nD) (t : Fin (cfgA pf hT).N) : S512x7168.Idx → Elt Ideal .bf16 := iblk pf hT m ρ c (0 : Fin 3) t
/-- The weights a point is given. -/
abbrev X1 (c : Dev nD) (t : Fin (cfgA pf hT).N) : S1x7168x512.Idx → Elt Ideal .f32 := iblk pf hT m ρ c (1 : Fin 3) t

/-- The rows' block, entry by entry. -/
theorem X0_apply (c : Dev nD) (t : Fin (cfgA pf hT).N) (y : S512x7168.Idx) (i : S23552x7168.Idx)
    (h0 : (i 0).val = place (hlT pf) (hsT pf) (hf pf hT t) * 512 + (y 0).val) (h1 : (i 1).val = (y 1).val) :
    X0 pf hT m ρ c t y = (m ((c : Thread nD τ).loc main_arg0) : S23552x7168.Idx → Elt Ideal .bf16) i := by
  show (m ((c : Thread nD τ).loc main_arg0) : S23552x7168.Idx → Elt Ideal .bf16) ((((cfgA pf hT).win (0 : Fin 3)).rect t).emb y) = _
  congr 1
  funext a
  apply Fin.ext
  have e := Pipeline.Window.rect_emb_val ((cfgA pf hT).win (0 : Fin 3)) t y a
  refine e.trans ?_
  rw [index0]
  fin_cases a
  · exact h0.symm
  · show 0 * 7168 + (y 1).val = (i 1).val
    omega

/-- The weights' block, entry by entry. -/
theorem X1_apply (c : Dev nD) (t : Fin (cfgA pf hT).N) (y : S1x7168x512.Idx) (i : S16x7168x2048.Idx)
    (h0 : (i 0).val = (ent (te pf) (tileOf (hf pf hT t))).toNat) (h1 : (i 1).val = (y 1).val) (h2 : (i 2).val = (crd pf hT t 0).val * 512 + (y 2).val) :
    X1 pf hT m ρ c t y = (m ((c : Thread nD τ).loc main_arg1) : S16x7168x2048.Idx → Elt Ideal .f32) i := by
  show (m ((c : Thread nD τ).loc main_arg1) : S16x7168x2048.Idx → Elt Ideal .f32) ((((cfgA pf hT).win (1 : Fin 3)).rect t).emb y) = _
  congr 1
  funext a
  apply Fin.ext
  have e := Pipeline.Window.rect_emb_val ((cfgA pf hT).win (1 : Fin 3)) t y a
  refine e.trans ?_
  rw [index1]
  have hy : (y 0).val < 1 := (y 0).isLt
  fin_cases a
  · show (ent (te pf) (tileOf (hf pf hT t))).toNat * 1 + (y 0).val = (i 0).val
    omega
  · show 0 * 7168 + (y 1).val = (i 1).val
    omega
  · exact h2.symm

/-- The element of the array of weights a block's element is. -/
abbrev wIdx (t : Fin (cfgA pf hT).N) (y : S1x7168x512.Idx) : S16x7168x2048.Idx :=
  ix3 ⟨(ent (te pf) (tileOf (hf pf hT t))).toNat, hT.te_lt _⟩ ⟨(y 1).val, (y 1).isLt⟩ ⟨(crd pf hT t 0).val * 512 + (y 2).val, by
    have h1 : (crd pf hT t 0).val < 4 := (crd pf hT t 0).isLt
    have h2 : (y 2).val < 512 := (y 2).isLt
    omega⟩

/-- The weights a point's half is multiplied by. -/
abbrev W (c : Dev nD) (t : Fin (cfgA pf hT).N) : S7168x512.Idx → Elt Ideal .bf16 := k0_pay3 (X1 pf hT m ρ c t)

/-- Two points of one expert and one block of columns have the same weights. -/
theorem W_back (c : Dev nD) (t : Fin (cfgA pf hT).N) (h : (hf pf hT t).val ≠ 0) (he : ent (te pf) (tileOf (hf pf hT t)) = ent (te pf) (tileOf (hf pf hT (back pf hT t)))) :
    W pf hT m ρ c (back pf hT t) = W pf hT m ρ c t := by
  refine congrArg k0_pay3 ?_
  funext y
  rw [X1_apply pf hT m ρ c t y (wIdx pf hT t y) rfl rfl rfl]
  exact X1_apply pf hT m ρ c _ y _ (congrArg BitVec.toNat he) rfl (by rw [col_back pf hT t h])

/-- The block a point whose half holds rows leaves. -/
def liveO (c : Dev nD) (t : Fin (cfgA pf hT).N) : S4x512x128.Idx → Elt Ideal .f32 := downO (X0 pf hT m ρ c t) (W pf hT m ρ c t)

/-- The point of the first half of a point's tile. -/
abbrev firstP (t : Fin (cfgA pf hT).N) : Fin (cfgA pf hT).N := ⟨t.val - t.val % 2, lt_of_le_of_lt (Nat.sub_le _ _) t.isLt⟩

/-- At a second half, the half before is of the same tile. -/
theorem tile_back (t : Fin (cfgA pf hT).N) (h : (hf pf hT t).val % 2 = 1) : tileOf (hf pf hT t) = tileOf (hf pf hT (back pf hT t)) := by
  have h0 : (hf pf hT t).val ≠ 0 := by omega
  rw [hf_back pf hT t h0]
  apply Fin.ext
  show (hf pf hT t).val / 2 = ((hf pf hT t).val - 1) / 2
  omega

/-- At a point whose half holds rows the step uses that point's weights, if the kept ones are those of the point before wherever that point's tile holds rows. -/
theorem stepW_live (c : Dev nD) (t : Fin (cfgA pf hT).N) (h : Live pf hT t) (a : S7168x512.Idx → Elt Ideal .bf16)
    (ha : t.val ≠ 0 → Live pf hT (firstP pf hT (back pf hT t)) → a = W pf hT m ρ c (back pf hT t)) :
    stepW (crd pf hT t) (te pf) (hlT pf) (X1 pf hT m ρ c t) a = W pf hT m ρ c t := by
  unfold stepW
  by_cases hr : reload (hf pf hT t) (te pf)
  · exact if_pos ⟨h, hr⟩
  · rw [if_neg (fun hh => hr hh.2)]
    have h0 : (hf pf hT t).val ≠ 0 := fun e => hr (Or.inl e)
    have ht := ne_of_hf pf hT t h0
    have e1 := hf_val pf hT t
    have e3 : (back pf hT t).val = t.val - 1 := rfl
    by_cases hp : (hf pf hT t).val % 2 = 1
    · have eb : firstP pf hT (back pf hT t) = back pf hT t := Fin.ext (by
        show (back pf hT t).val - (back pf hT t).val % 2 = (back pf hT t).val
        omega)
      have hb : Live pf hT (firstP pf hT (back pf hT t)) := by
        rw [eb, Live, hf_back pf hT t h0]
        exact hT.odd _ hp h
      rw [ha ht hb]
      exact W_back pf hT m ρ c t h0 (congrArg _ (tile_back pf hT t hp))
    · have he : ent (te pf) (tileOf (hf pf hT t)) = ent (te pf) (tilePOf (hf pf hT t)) :=
        not_not.mp (fun e => hr (Or.inr ⟨by omega, e⟩))
      have et : tilePOf (hf pf hT t) = tileOf (hf pf hT (back pf hT t)) := by
        rw [hf_back pf hT t h0]
        apply Fin.ext
        show (hf pf hT t).val / 2 - 1 = ((hf pf hT t).val - 1) / 2
        omega
      have hb : Live pf hT (firstP pf hT (back pf hT t)) := by
        have e2 := hf_val pf hT (firstP pf hT (back pf hT t))
        have e4 : (firstP pf hT (back pf hT t)).val = (back pf hT t).val - (back pf hT t).val % 2 := rfl
        have e5 : hf pf hT (firstP pf hT (back pf hT t)) = ⟨(hf pf hT t).val - 2, by omega⟩ := Fin.ext (by
          show (hf pf hT (firstP pf hT (back pf hT t))).val = (hf pf hT t).val - 2
          omega)
        rw [Live, e5]
        exact hT.front _ h0 (by omega) h
      rw [ha ht hb]
      exact W_back pf hT m ρ c t h0 (he.trans (congrArg _ et))

/-- At a half with rows the step leaves that point's block. -/
theorem stepO_live (c : Dev nD) (t : Fin (cfgA pf hT).N) (h : Live pf hT t) (d : S4x512x128.Idx → Elt Ideal .f32) :
    stepO (crd pf hT t) (hlT pf) (X0 pf hT m ρ c t) (W pf hT m ρ c t) d = liveO pf hT m ρ c t := if_pos h

/-- At a half without rows the weights are kept. -/
theorem stepW_dead (t : Fin (cfgA pf hT).N) (h : ¬ Live pf hT t) (x1 : S1x7168x512.Idx → Elt Ideal .f32) (a : S7168x512.Idx → Elt Ideal .bf16) :
    stepW (crd pf hT t) (te pf) (hlT pf) x1 a = a := if_neg fun hh => h hh.1

/-- At a half without rows the result's block is kept. -/
theorem stepO_dead (t : Fin (cfgA pf hT).N) (h : ¬ Live pf hT t) (x0 : S512x7168.Idx → Elt Ideal .bf16) (w : S7168x512.Idx → Elt Ideal .bf16) (d : S4x512x128.Idx → Elt Ideal .f32) :
    stepO (crd pf hT t) (hlT pf) x0 w d = d := if_neg h

end Cert.Kernel3Ideal.Down

end
-- ==== Proof.DownPay.lean ====
module

public import proofs.«01_k».proof.Proof.DownDatI
public import Idealize.ShloMosaic.Lib.Pointwise
public import Idealize.ShloMosaic.Lib.ValueIdxCore

@[expose] public section

set_option maxRecDepth 16384
set_option Elab.async false

noncomputable section

namespace Cert.Kernel3Ideal.Down

open Cert.Kernel3Ideal Cert.Kernel3Ideal.Gen
open Idealize.ShloMosaic

/-- A half's product with the weights at an index. -/
theorem pay4_apply (x0 : FVec Ideal S512x7168 .bf16) (w : FVec Ideal S7168x512 .bf16) (r : Fin 512) (l : Fin 512) :
    k0_pay4 (F := Ideal) x0 w (ix2 r l) = ∑ k : Fin 7168, x0 (ix2 r k) * w (ix2 k l) := by
  pointwise [k0_pay4]

/-- The first slab of 128 columns at an index. -/
theorem pay5_apply (x0 : FVec Ideal S512x7168 .bf16) (w : FVec Ideal S7168x512 .bf16) (r : Fin 512) (l : Fin 128) :
    k0_pay5 (F := Ideal) x0 w (ix3 0 r l) = ∑ k : Fin 7168, x0 (ix2 r k) * w (ix2 k ⟨l.val, by omega⟩) := by
  refine Eq.trans ?_ (pay4_apply x0 w r ⟨l.val, by omega⟩)
  unfold k0_pay5
  generalize k0_pay4 (F := Ideal) x0 w = y
  pointwise

/-- The second slab at an index. -/
theorem pay6_apply (x0 : FVec Ideal S512x7168 .bf16) (w : FVec Ideal S7168x512 .bf16) (r : Fin 512) (l : Fin 128) :
    k0_pay6 (F := Ideal) x0 w (ix3 0 r l) = ∑ k : Fin 7168, x0 (ix2 r k) * w (ix2 k ⟨128 + l.val, by omega⟩) := by
  refine Eq.trans ?_ (pay4_apply x0 w r ⟨128 + l.val, by omega⟩)
  unfold k0_pay6
  generalize k0_pay4 (F := Ideal) x0 w = y
  pointwise

/-- The third slab at an index. -/
theorem pay7_apply (x0 : FVec Ideal S512x7168 .bf16) (w : FVec Ideal S7168x512 .bf16) (r : Fin 512) (l : Fin 128) :
    k0_pay1 (F := Ideal) (k0_pay7 (F := Ideal) x0 w) (ix3 0 r l) = ∑ k : Fin 7168, x0 (ix2 r k) * w (ix2 k ⟨256 + l.val, by omega⟩) := by
  refine Eq.trans ?_ (pay4_apply x0 w r ⟨256 + l.val, by omega⟩)
  unfold k0_pay1 k0_pay7
  generalize k0_pay4 (F := Ideal) x0 w = y
  pointwise

/-- The fourth slab at an index. -/
theorem pay2_apply (x0 : FVec Ideal S512x7168 .bf16) (w : FVec Ideal S7168x512 .bf16) (r : Fin 512) (l : Fin 128) :
    k0_pay2 (F := Ideal) (k0_pay4 (F := Ideal) x0 w) (ix3 0 r l) = ∑ k : Fin 7168, x0 (ix2 r k) * w (ix2 k ⟨384 + l.val, by omega⟩) := by
  refine Eq.trans ?_ (pay4_apply x0 w r ⟨384 + l.val, by omega⟩)
  unfold k0_pay2
  generalize k0_pay4 (F := Ideal) x0 w = y
  pointwise

/-- The weights as the kernel keeps them: the block's own entries. -/
theorem pay3_apply (x : FVec Ideal S1x7168x512 .f32) (k : Fin 7168) (l : Fin 512) : k0_pay3 (F := Ideal) x (ix2 k l) = x (ix3 0 k l) := by
  pointwise [k0_pay3]

/-- A half's block at an index: slab `j` holds the columns from `128 j` on. -/
theorem downO_apply (x0 : FVec Ideal S512x7168 .bf16) (w : FVec Ideal S7168x512 .bf16) (j : Fin 4) (r : Fin 512) (l : Fin 128) (C : Fin 512)
    (hC : C.val = j.val * 128 + l.val) :
    downO x0 w (ix3 j r l) = ∑ k : Fin 7168, x0 (ix2 r k) * w (ix2 k C) := by
  unfold downO
  by_cases h0 : j.val = 0
  · refine (if_pos h0).trans ((pay5_apply x0 w r l).trans ?_)
    rw [show C = ⟨l.val, by omega⟩ from Fin.ext (by show C.val = l.val; omega)]
  · refine (if_neg h0).trans ?_
    by_cases h1 : j.val = 1
    · refine (if_pos h1).trans ((pay6_apply x0 w r l).trans ?_)
      rw [show C = ⟨128 + l.val, by omega⟩ from Fin.ext (by show C.val = 128 + l.val; omega)]
    · refine (if_neg h1).trans ?_
      by_cases h2 : j.val = 2
      · refine (if_pos h2).trans ((pay7_apply x0 w r l).trans ?_)
        rw [show C = ⟨256 + l.val, by omega⟩ from Fin.ext (by show C.val = 256 + l.val; omega)]
      · refine (if_neg h2).trans ((pay2_apply x0 w r l).trans ?_)
        have := j.isLt
        rw [show C = ⟨384 + l.val, by omega⟩ from Fin.ext (by show C.val = 384 + l.val; omega)]

end Cert.Kernel3Ideal.Down

end
-- ==== Proof.DownFrameI.lean ====
module

public import proofs.«01_k».proof.Proof.DownDatI

@[expose] public section

set_option maxRecDepth 16384
set_option Elab.async false

noncomputable section

namespace Cert.Kernel3Ideal.Down

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- The algebra's part the pipeline's cells live in. -/
abbrev EP : Emb (UR sig nD τ) MM := emb₁

variable (pf : pre0.Contents (Elt Ideal)) (hT : Tables (te pf) (hlT pf) (hsT pf))
variable (m : (ℓ : Loc nD τ sig) → Buf (Elt Ideal) ℓ) (ρ : Dev nD → PrngReg)

/-! ## The staging buffers at a point -/

/-- The rows' buffer. -/
abbrev ms0_0 (t : Fin (cfgA pf hT).N) : Memref sig .tc .vmem S512x7168 .bf16 := spec0_0.stage ((cfgA pf hT).slots t (0 : Fin 3))
/-- The weights' buffer. -/
abbrev ms0_1 (t : Fin (cfgA pf hT).N) : Memref sig .tc .vmem S1x7168x512 .f32 := spec0_1.stage ((cfgA pf hT).slots t (1 : Fin 3))
/-- The result's buffer. -/
abbrev ms0_2 (t : Fin (cfgA pf hT).N) : Memref sig .tc .vmem S4x512x128 .f32 := spec0_2.stage ((cfgA pf hT).slots t (2 : Fin 3))
/-- The rows' buffer is a whole buffer. -/
abbrev hs0_0 (t : Fin (cfgA pf hT).N) : (ms0_0 pf hT t).IsWhole := hstage0_0 (((cfgA pf hT).slots t (0 : Fin 3)).cast nbuf0_0)
/-- The weights' buffer is a whole buffer. -/
abbrev hs0_1 (t : Fin (cfgA pf hT).N) : (ms0_1 pf hT t).IsWhole := hstage0_1 (((cfgA pf hT).slots t (1 : Fin 3)).cast nbuf0_1)
/-- The result's buffer is a whole buffer. -/
abbrev hs0_2 (t : Fin (cfgA pf hT).N) : (ms0_2 pf hT t).IsWhole := hstage0_2 (((cfgA pf hT).slots t (2 : Fin 3)).cast nbuf0_2)

/-! ## What holds between the steps -/

/-- The kept weights before step `n` are those of the point before, if the first half of its tile holds rows. -/
def Kept (c : Dev nD) (n : ℕ) (a : S7168x512.Idx → Elt Ideal .bf16) : Prop :=
  ∀ (h : n - 1 < (cfgA pf hT).N), n ≠ 0 → Live pf hT (firstP pf hT ⟨n - 1, h⟩) → a = W pf hT m ρ c ⟨n - 1, h⟩

/-- Between two steps: the kept weights, and the body's halves of the tables. -/
def Phi (c : Dev nD) (t : Fin ((cfgA pf hT).N + 1)) : sProp MM :=
  iprop((∃ a, ⌜Kept pf hT m ρ c t.val a⌝ ∗ (wM.view.loc (c : Thread nD τ) ↦{fullShare} a)) ∗ (teM.view.loc (c : Thread nD τ) ↦{fullShare.right} pf 0) ∗ (hlM.view.loc (c : Thread nD τ) ↦{fullShare.right} pf 1) ∗ (hsM.view.loc (c : Thread nD τ) ↦{fullShare.right} pf 2))

/-- What the pipeline's windows hold after each step: the inputs their blocks, the result the block of the half's place. -/
def dats (_ : Fin 1) (c : Dev nD) : Dat τ (Elt Ideal) Unit ℕ (UR sig nD τ) ℕ (cfgA pf hT) c where
  A w := (s₀ m ρ).mem (((cfgA pf hT).win w).arr.view.loc (c : Thread nD τ))
  after w t := match w with
    | ⟨0, _⟩ => iblk pf hT m ρ c (0 : Fin 3) t
    | ⟨1, _⟩ => iblk pf hT m ρ c (1 : Fin 3) t
    | ⟨2, _⟩ => liveO pf hT m ρ c (src pf hT t)
  Φ t := Phi pf hT m ρ c t
  q _ := fullShare
  owed _ := 0

/-- After a step the rows' buffer holds its block. -/
theorem after0_0 (c : Dev nD) (t : Fin (cfgA pf hT).N) : (dats pf hT m ρ 0 c).after (0 : Fin 3) t = iblk pf hT m ρ c (0 : Fin 3) t := rfl
/-- After a step the weights' buffer holds its block. -/
theorem after0_1 (c : Dev nD) (t : Fin (cfgA pf hT).N) : (dats pf hT m ρ 0 c).after (1 : Fin 3) t = iblk pf hT m ρ c (1 : Fin 3) t := rfl
/-- After a step the result's buffer holds the block of the half's place. -/
theorem after0_2 (c : Dev nD) (t : Fin (cfgA pf hT).N) : (dats pf hT m ρ 0 c).after (2 : Fin 3) t = liveO pf hT m ρ c (src pf hT t) := rfl

/-- Before a step the rows' buffer holds its block. -/
theorem before0_0 (c : Dev nD) (t : Fin (cfgA pf hT).N) (d) : (dats pf hT m ρ 0 c).before (0 : Fin 3) t d = iblk pf hT m ρ c (0 : Fin 3) t :=
  ((dats pf hT m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- Before a step the weights' buffer holds its block. -/
theorem before0_1 (c : Dev nD) (t : Fin (cfgA pf hT).N) (d) : (dats pf hT m ρ 0 c).before (1 : Fin 3) t d = iblk pf hT m ρ c (1 : Fin 3) t :=
  ((dats pf hT m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- A half without rows keeps the block the result's buffer holds. -/
theorem hcarry0_2 (c : Dev nD) : ∀ (t : Fin (cfgA pf hT).N) (ht : t.val ≠ 0), (cfgA pf hT).idle (2 : Fin 3) ((cfgA pf hT).grid.coords t) = true → (cfgA pf hT).fresh (2 : Fin 3) t.val = false →
    (dats pf hT m ρ 0 c).after (2 : Fin 3) t = (dats pf hT m ρ 0 c).after (2 : Fin 3) ⟨t.val - 1, by omega⟩ := by
  intro t ht hi _
  rw [idle2] at hi
  have hd : ¬ Live pf hT t := of_decide_eq_true hi
  rw [after0_2, after0_2, src_dead pf hT t hd]

/-- At a half without rows the result's buffer holds the block of the half's place. -/
theorem before0_2_dead (c : Dev nD) (t : Fin (cfgA pf hT).N) (h : ¬ Live pf hT t) (d) :
    (dats pf hT m ρ 0 c).before (2 : Fin 3) t d = liveO pf hT m ρ c (src pf hT t) := by
  rw [(dats pf hT m ρ 0 c).before_out_traj (2 : Fin 3) rfl (fun _ _ => rfl) (hcarry0_2 pf hT m ρ c) t.val t rfl d, fresh_dead pf hT t.val t.isLt h]
  rw [if_neg Bool.false_ne_true, after0_2, src_dead pf hT t h]

/-- The body at a point on its staging buffers. -/
abbrev bodyAt0 (t : Fin (cfgA pf hT).N) : Prog (TpuEff nD τ sig (Elt Ideal) Λ₀ .tc) PUnit :=
  cc0_ffn_down_routed (crd pf hT t) teM (Memref.isWhole_whole _) hlM (Memref.isWhole_whole _) hsM (Memref.isWhole_whole _) (ms0_0 pf hT t) (hs0_0 pf hT t) (ms0_1 pf hT t) (hs0_1 pf hT t) (ms0_2 pf hT t) (hs0_2 pf hT t) wM (Memref.isWhole_whole _)

/-- A point's own weights are what the next point may find. -/
theorem kept_live (c : Dev nD) (t : Fin (cfgA pf hT).N) : Kept pf hT m ρ c (t.val + 1) (W pf hT m ρ c t) := fun _ _ _ => rfl

/-- After a half without rows the weights kept are still its tile's, if the tile's first half holds rows. -/
theorem kept_dead (c : Dev nD) (t : Fin (cfgA pf hT).N) (h : ¬ Live pf hT t) (a) (ha : Kept pf hT m ρ c t.val a) : Kept pf hT m ρ c (t.val + 1) a := fun _ _ hv => by
  have e1 := hf_val pf hT t
  have e2 : (firstP pf hT t).val = t.val - t.val % 2 := rfl
  have hv' : Live pf hT (firstP pf hT t) := hv
  have hp : t.val % 2 = 1 := by
    by_contra hne
    have : firstP pf hT t = t := Fin.ext (by omega)
    rw [this] at hv'
    exact h hv'
  have h1 : (hf pf hT t).val % 2 = 1 := by omega
  have h0 : (hf pf hT t).val ≠ 0 := by omega
  have e3 : (back pf hT t).val = t.val - 1 := rfl
  have eb : firstP pf hT (back pf hT t) = firstP pf hT t := Fin.ext (by
    show (back pf hT t).val - (back pf hT t).val % 2 = t.val - t.val % 2
    omega)
  have hb : Live pf hT (firstP pf hT (back pf hT t)) := by rw [eb]; exact hv'
  exact (ha (back pf hT t).isLt (by omega) hb).trans (W_back pf hT m ρ c t h0 (congrArg _ (tile_back pf hT t h1)))

set_option maxHeartbeats 4000000 in
/-- The body at a point does what the data say. -/
theorem sound_body (c : Dev nD) (t : Fin (cfgA pf hT).N) :
    iprop((dats pf hT m ρ 0 c).Φ t.castSucc ∗ (dats pf hT m ρ 0 c).owesAt () t.castSucc
        ∗ (∃ d, owns (c : Thread nD τ) (ms0_0 pf hT t) fullShare ((dats pf hT m ρ 0 c).before (0 : Fin 3) t d))
        ∗ (∃ d, owns (c : Thread nD τ) (ms0_1 pf hT t) fullShare ((dats pf hT m ρ 0 c).before (1 : Fin 3) t d))
        ∗ (∃ d, owns (c : Thread nD τ) (ms0_2 pf hT t) fullShare ((dats pf hT m ρ 0 c).before (2 : Fin 3) t d)))
      ⊢ wp frame (wpE (defs₀ (F := Ideal)) Variants.none c none) Set.univ (bodyAt0 pf hT t) fun _ =>
          iprop((dats pf hT m ρ 0 c).Φ t.succ ∗ (dats pf hT m ρ 0 c).owesAt () t.succ
            ∗ bigSep Finset.univ fun w : Fin (cfgA pf hT).W =>
                match (cfgA pf hT).idle w ((cfgA pf hT).grid.coords t) with
                | true =>
                  match ((cfgA pf hT).win w).flush t with
                  | false => iprop(∃ d, owns (c : Thread nD τ) (((cfgA pf hT).win w).stage ((cfgA pf hT).slots t w)) fullShare ((dats pf hT m ρ 0 c).before w t d))
                  | true => owns (c : Thread nD τ) (((cfgA pf hT).win w).stage ((cfgA pf hT).slots t w)) fullShare ((dats pf hT m ρ 0 c).after w t)
                | false => owns (c : Thread nD τ) (((cfgA pf hT).win w).stage ((cfgA pf hT).slots t w)) fullShare ((dats pf hT m ρ 0 c).after w t)) := by
  rw [bigSep_W0]
  rewrite [idle2, show (dats pf hT m ρ 0 c).Φ t.succ = Phi pf hT m ρ c t.succ from rfl, show (dats pf hT m ρ 0 c).Φ t.castSucc = Phi pf hT m ρ c t.castSucc from rfl,
      show (dats pf hT m ρ 0 c).owesAt () t.succ = (dats pf hT m ρ 0 c).owesAt () t.castSucc from rfl]
  by_cases hl : Live pf hT t
  · rewrite [decide_eq_false (not_not.mpr hl)]
    simp only [before0_0, before0_1, after0_0, after0_1, after0_2]
    rewrite [src_live pf hT t hl]
    unfold Phi; simp only [Fin.val_castSucc, Fin.val_succ]
    iintro ⟨⟨⟨%a, %ha, HS0⟩, HT0, HT1, HT2⟩, Ho, ⟨%d0, H0⟩, ⟨%d1, H1⟩, ⟨%d2, H2⟩⟩
    have eW := stepW_live pf hT m ρ c t hl a (fun h hb => ha (back pf hT t).isLt h hb)
    iapply (run_step c (crd pf hT t) (ms0_0 pf hT t) (hs0_0 pf hT t) (ms0_1 pf hT t) (hs0_1 pf hT t) (ms0_2 pf hT t) (hs0_2 pf hT t) (te pf) (hlT pf) (hsT pf) (X0 pf hT m ρ c t) (X1 pf hT m ρ c t) _ a _)
    rw [eW, stepO_live pf hT m ρ c t hl]
    isplitl [H0]; · iapply rep_of_owns; iexact H0
    isplitl [H1]; · iapply rep_of_owns; iexact H1
    isplitl [HT0]; · iexact HT0
    isplitl [HT1]; · iexact HT1
    isplitl [HT2]; · iexact HT2
    isplitl [H2]; · iexact H2
    isplitl [HS0]; · iexact HS0
    iintro ⟨H0, H1, HT0, HT1, HT2, H2, HS0⟩
    isplitl [HS0 HT0 HT1 HT2]
    · isplitl [HS0]
      · iexists _; isplitr; swap
        · iexact HS0
        · ipureintro; exact kept_live pf hT m ρ c t
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    iexact H2
  · rewrite [decide_eq_true hl]
    simp only [before0_0, before0_1, before0_2_dead pf hT m ρ c t hl, after0_0, after0_1, after0_2]
    unfold Phi; simp only [Fin.val_castSucc, Fin.val_succ]
    iintro ⟨⟨⟨%a, %ha, HS0⟩, HT0, HT1, HT2⟩, Ho, ⟨%d0, H0⟩, ⟨%d1, H1⟩, ⟨%d2, H2⟩⟩
    iapply (run_step c (crd pf hT t) (ms0_0 pf hT t) (hs0_0 pf hT t) (ms0_1 pf hT t) (hs0_1 pf hT t) (ms0_2 pf hT t) (hs0_2 pf hT t) (te pf) (hlT pf) (hsT pf) (X0 pf hT m ρ c t) (X1 pf hT m ρ c t) _ a _)
    rw [stepW_dead pf hT t hl, stepO_dead pf hT t hl]
    isplitl [H0]; · iapply rep_of_owns; iexact H0
    isplitl [H1]; · iapply rep_of_owns; iexact H1
    isplitl [HT0]; · iexact HT0
    isplitl [HT1]; · iexact HT1
    isplitl [HT2]; · iexact HT2
    isplitl [H2]; · iexact H2
    isplitl [HS0]; · iexact HS0
    iintro ⟨H0, H1, HT0, HT1, HT2, H2, HS0⟩
    isplitl [HS0 HT0 HT1 HT2]
    · isplitl [HS0]
      · iexists _; isplitr; swap
        · iexact HS0
        · ipureintro; exact kept_dead pf hT m ρ c t hl a ha
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    cases ((cfgA pf hT).win (2 : Fin 3)).flush t
    · iexists d2; iexact H2
    · iexact H2

/-- The body does at every point what the data say. -/
theorem body_obligation (c : Dev nD) : BodyObligation (dats pf hT m ρ 0 c) (defs₀ (F := Ideal)) Variants.none () Set.univ := fun t => by
  rw [bigSep_W0]
  exact sound_body pf hT m ρ c t

/-! ## The launch -/

/-- The launch's element of the algebra. -/
def u₀ : UR sig nD τ :=
  initOf (Pipeline.cells (pcs pf hT) ((launch0 (F := Ideal)).cellOf_inj fun _ => adm pf hT))
    (Pipeline.launchToks (pcs pf hT) ((launch0 (F := Ideal)).cellOf_inj fun _ => adm pf hT))

/-- Every window's array is held whole. -/
theorem share_eq (c : Dev nD) (w : Fin (cfgA pf hT).W) : (dats pf hT m ρ 0 c).share w = fullShare := by unfold Dat.share; split <;> rfl

/-- The tables as the launch hands them over, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp MM)
      = iprop((((c : Thread nD τ).loc main_arg2) ↦{q 0} v 0) ∗ (((c : Thread nD τ).loc main_arg3) ↦{q 1} v 1) ∗ (((c : Thread nD τ).loc main_arg4) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the launch hands over is what holds before the first step. -/
theorem phi0_intro (c : Dev nD) :
    iprop(BI.emp ∗ Pipeline.prefHeld pre0 c (fun _ => fullShare.right) (adm pf hT).1 ∗ Pipeline.scopedRest spec0 c) ⊢ (dats pf hT m ρ 0 c).Φ 0 := by
  rw [prefHeld_eq, scopedRest0_eq, show (dats pf hT m ρ 0 c).Φ 0 = Phi pf hT m ρ c 0 from rfl]
  unfold Phi
  iintro ⟨-, ⟨HT0, HT1, HT2⟩, ⟨%a0, HS0⟩⟩
  isplitl [HS0]
  · iexists a0; isplitr; swap
    · iexact HS0
    · ipureintro; intro _ h; exact absurd rfl h
  isplitl [HT0]
  · iexact HT0
  isplitl [HT1]
  · iexact HT1
  iexact HT2

/-- What holds after the last step gives the scratch buffer back. -/
theorem phiN_exit (c : Dev nD) : (dats pf hT m ρ 0 c).Φ (Fin.last (cfgA pf hT).N) ⊢ iprop(BI.emp ∗ Pipeline.scopedRest spec0 c) := by
  rw [scopedRest0_eq, show (dats pf hT m ρ 0 c).Φ (Fin.last (cfgA pf hT).N) = Phi pf hT m ρ c (Fin.last _) from rfl]
  unfold Phi
  iintro ⟨⟨%a0, -, HS0⟩, -, -, -⟩
  isplitr; · iempintro
  iexists a0; iexact HS0

/-- After the run: every array as the data say, every table as it was. -/
def QC : PUnit × MemSt nD τ sig (Elt Ideal) → Prop := fun r =>
  ∀ c : Dev nD, (∀ w : Fin (cfgA pf hT).W, r.2.mem (((cfgA pf hT).win w).arr.view.loc (c : Thread nD τ)) = (dats pf hT m ρ 0 c).arrAt w (cfgA pf hT).N)
    ∧ ∀ j, r.2.mem ((c : Thread nD τ).loc (pre0.ref j)) = (adm pf hT).1 j

/-- The tables of the memory are the run's. -/
abbrev Pinned : Prop := ∀ (c : Dev nD) (j : Fin 3), m ((c : Thread nD τ).loc (pre0.ref j)) = pf j

set_option backward.isDefEq.respectTransparency.types false in
set_option maxHeartbeats 4000000 in
/-- Every run ends, with every array as the data say and every counter at zero. -/
theorem run_main_quiescent (hp : Pinned pf m) : θ_run (defs (F := Ideal)) (onTc (τ := τ) (main (F := Ideal))) (s₀ m ρ) (fun r => QC pf hT m ρ r ∧ r.2.sem = fun _ => 0) :=
  Pipeline.θ_run_region_noSem_pf_quiescent pcfgs (fun _ => adm pf hT) (dats pf hT m ρ) () ((launch0 (F := Ideal)).cellOf_inj fun _ => adm pf hT) (0 : Fin 1)
    (launch0 (F := Ideal)).win.to₀ (launch0 (F := Ideal)).pre EP defs₀ Variants.none m ρ main
    (hbody := fun c => (body_obligation pf hT m ρ c).loose) (hne := (launch0 (F := Ideal)).block_pos)
    (harr := (launch0 (F := Ideal)).arr_whole) (hstage := (launch0 (F := Ideal)).stage_whole) (howed := fun _ _ => rfl)
    (u₀ := u₀ pf hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pf hT) (dats pf hT m ρ) 0 (launch0 (F := Ideal)).win.arr_inj c (launch0 (F := Ideal)).arr_whole
      (share_eq pf hT m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro pf hT m ρ)
    (hout := phiN_exit pf hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run leaves the arguments as they were, and the result as the data say. -/
theorem result (hp : Pinned pf m) :
    θ_run (defs (F := Ideal)) (onTc (τ := τ) (main (F := Ideal))) ⟨m, fun _ => 0, ρ⟩ (fun r => (∀ c : Dev nD,
      (r.2.mem ((c.tc : Thread nD τ).loc main_v0) = (dats pf hT m ρ 0 c).arrAt (2 : Fin 3) (cfgA pf hT).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (2 : Fin 3),
    ((h.1 c).1 (0 : Fin 3)).trans ((dats pf hT m ρ 0 c).arrAt_in (0 : Fin 3) rfl _), ((h.1 c).1 (1 : Fin 3)).trans ((dats pf hT m ρ 0 c).arrAt_in (1 : Fin 3) rfl _),
    ((h.1 c).2 0).trans (hp c 0).symm, ((h.1 c).2 1).trans (hp c 1).symm, ((h.1 c).2 2).trans (hp c 2).symm⟩, h.2⟩) (run_main_quiescent pf hT m ρ hp)

include hT in
/-- The frame: every run ends with the arguments as they were and every counter at zero. -/
theorem frame (hp : Pinned pf m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (result pf hT m ρ hp)

end Cert.Kernel3Ideal.Down

end
-- ==== Proof.DownVal.lean ====
module

public import proofs.«01_k».proof.Proof.DownPay
public import proofs.«01_k».proof.Proof.DownFrameI

@[expose] public section

set_option maxRecDepth 16384
set_option Elab.async false

noncomputable section

namespace Cert.Kernel3Ideal.Down

open Cert.Kernel3Ideal Cert.Kernel3Ideal.Gen
open Idealize.ShloMosaic Idealize.ShloMosaic.TcCoe Idealize.SL.Sem
open Idealize.ShloMosaic.Pipeline (Dat)

/-- Row `R` of the experts' first half times column `C` of expert `e`'s weights. -/
def dot (x : S23552x7168.Idx → EReal) (w : S16x7168x2048.Idx → EReal) (e : Fin 16) (R : Fin 23552) (C : Fin 2048) : EReal :=
  ∑ k : Fin 7168, x (ix2 R k) * w (ix3 e k C)

variable (pf : pre0.Contents (Elt Ideal)) (hT : Tables (te pf) (hlT pf) (hsT pf))
variable (m : (ℓ : Loc nD τ sig) → Buf (Elt Ideal) ℓ) (ρ : Dev nD → PrngReg)

/-- The tile's expert. -/
abbrev ex (k : Fin 23) : Fin 16 := ⟨(ent (te pf) k).toNat, hT.te_lt k⟩

/-- The result's entry: row `R` uses the expert of its tile, and slab `s` holds the columns from `128 s` on. -/
def spec (c : Dev nD) (s : Fin 16) (R : Fin 23552) (l : Fin 128) : EReal :=
  dot (m ((c : Thread nD τ).loc main_arg0)) (m ((c : Thread nD τ).loc main_arg1)) (ex pf hT ⟨R.val / 1024, by omega⟩) R ⟨s.val * 128 + l.val, by omega⟩

/-- The block of a half that holds rows is the result's entries. -/
theorem liveO_apply (c : Dev nD) (t : Fin (cfgA pf hT).N) (hl : Live pf hT t) (j : Fin 4) (r : Fin 512) (l : Fin 128) (s : Fin 16) (R : Fin 23552) (l' : Fin 128)
    (hs : s.val = (crd pf hT t 0).val * 4 + j.val) (hR : R.val = (hf pf hT t).val * 512 + r.val) (hl' : l'.val = l.val) :
    liveO pf hT m ρ c t (ix3 j r l) = spec pf hT m c s R l' := by
  have ep : place (hlT pf) (hsT pf) (hf pf hT t) = (hf pf hT t).val := place_live hl
  have hk : (⟨R.val / 1024, by omega⟩ : Fin 23) = tileOf (hf pf hT t) := Fin.ext (by show R.val / 1024 = (hf pf hT t).val / 2; omega)
  have hx : ∀ k : Fin 7168, X0 pf hT m ρ c t (ix2 r k) = (m ((c : Thread nD τ).loc main_arg0) : S23552x7168.Idx → Elt Ideal .bf16) (ix2 R k) := fun k =>
    X0_apply pf hT m ρ c t _ _ (by rw [ep]; exact hR) rfl
  have hw : ∀ k : Fin 7168, W pf hT m ρ c t (ix2 k ⟨j.val * 128 + l.val, by omega⟩)
      = (m ((c : Thread nD τ).loc main_arg1) : S16x7168x2048.Idx → Elt Ideal .f32) (ix3 (ex pf hT ⟨R.val / 1024, by omega⟩) k ⟨s.val * 128 + l'.val, by omega⟩) := fun k =>
    (pay3_apply _ k _).trans (X1_apply pf hT m ρ c t _ _ (by rw [hk]; rfl) rfl (by
      show s.val * 128 + l'.val = (crd pf hT t 0).val * 512 + (j.val * 128 + l.val)
      omega))
  unfold liveO spec dot
  refine (downO_apply _ _ j r l ⟨j.val * 128 + l.val, by omega⟩ rfl).trans ?_
  simp only [hx, hw]

/-- From any point on there is a write-back of that point's block. -/
theorem exists_flush : ∀ (n : ℕ) (t : Fin (cfgA pf hT).N), 184 - t.val = n → ∃ u : Fin (cfgA pf hT).N, ((cfgA pf hT).win (2 : Fin 3)).flush u = true
      ∧ ((cfgA pf hT).win (2 : Fin 3)).index u = ((cfgA pf hT).win (2 : Fin 3)).index t
  | 0, t, h => by have : t.val < 184 := t.isLt; omega
  | n + 1, t, h => by
    by_cases hf : ((cfgA pf hT).win (2 : Fin 3)).flush t = true
    · exact ⟨t, hf, rfl⟩
    · rw [Bool.not_eq_true] at hf
      unfold Pipeline.Window.flush at hf
      have ho : ((cfgA pf hT).win (2 : Fin 3)).isOut = true := rfl
      rw [ho, Bool.true_and, Bool.or_eq_false_iff] at hf
      have hN : ¬ t.val + 1 = 184 := of_decide_eq_false hf.1
      have hi := of_decide_eq_false hf.2
      have ht : t.val < 184 := t.isLt
      have h1 : t.val + 1 < (cfgA pf hT).N := by show t.val + 1 < 184; omega
      have e : ((cfgA pf hT).win (2 : Fin 3)).index ⟨t.val + 1, h1⟩ = ((cfgA pf hT).win (2 : Fin 3)).index t := by
        by_contra hne
        exact hi ⟨h1, hne⟩
      obtain ⟨u, hu, hue⟩ := exists_flush n ⟨t.val + 1, h1⟩ (by show 184 - (t.val + 1) = n; omega)
      exact ⟨u, hu, hue.trans e⟩

/-- Where an element of the result's block lies in the result. -/
theorem emb2 (t : Fin (cfgA pf hT).N) (y : S4x512x128.Idx) :
    ((((cfgA pf hT).win (2 : Fin 3)).rect t).emb y 0).val = (crd pf hT t 0).val * 4 + (y 0).val
      ∧ ((((cfgA pf hT).win (2 : Fin 3)).rect t).emb y 1).val = place (hlT pf) (hsT pf) (hf pf hT t) * 512 + (y 1).val
      ∧ ((((cfgA pf hT).win (2 : Fin 3)).rect t).emb y 2).val = (y 2).val := by
  refine ⟨?_, ?_, ?_⟩
  · refine (Pipeline.Window.rect_emb_val ((cfgA pf hT).win (2 : Fin 3)) t y 0).trans ?_
    rw [index2]; rfl
  · refine (Pipeline.Window.rect_emb_val ((cfgA pf hT).win (2 : Fin 3)) t y 1).trans ?_
    rw [index2]; rfl
  · refine (Pipeline.Window.rect_emb_val ((cfgA pf hT).win (2 : Fin 3)) t y 2).trans ?_
    rw [index2]
    show 0 * 128 + (y 2).val = (y 2).val
    omega

/-- After the run, a row of a half that holds rows is the result's. -/
theorem arr_spec (c : Dev nD) (s : Fin 16) (R : Fin 23552) (l : Fin 128) (hm : live (hlT pf) ⟨R.val / 512, by omega⟩) :
    ((dats pf hT m ρ 0 c).arrAt (2 : Fin 3) (cfgA pf hT).N : S16x23552x128.Idx → Elt Ideal .f32) (ix3 s R l) = spec pf hT m c s R l := by
  let P : S16x23552x128.Idx → Elt Ideal .f32 → Prop := fun i v => v = spec pf hT m c (i 0) (i 1) (i 2)
  have hP : ∀ t : Fin (cfgA pf hT).N, ((cfgA pf hT).win (2 : Fin 3)).flush t = true → ∀ y : S4x512x128.Idx,
      P ((((cfgA pf hT).win (2 : Fin 3)).rect t).emb y) ((dats pf hT m ρ 0 c).after (2 : Fin 3) t y) := by
    intro t _ y
    rw [after0_2]
    obtain ⟨e0, e1, e2⟩ := emb2 pf hT t y
    generalize (((cfgA pf hT).win (2 : Fin 3)).rect t).emb y = i at *
    rw [eq_ix3 (n0 := 4) (n1 := 512) (n2 := 128) y]
    exact liveO_apply pf hT m ρ c (src pf hT t) (live_src pf hT t) (y 0) (y 1) (y 2) (i 0) (i 1) (i 2) (by rw [col_src]; exact e0) (by rw [hf_src]; exact e1) e2
  have hs : s.val < 16 := s.isLt
  have hR : R.val < 23552 := R.isLt
  have hl : l.val < 128 := l.isLt
  let t₀ : Fin (cfgA pf hT).N := ⟨s.val / 4 * 46 + R.val / 512, by show s.val / 4 * 46 + R.val / 512 < 184; omega⟩
  have ht₀ : t₀.val = s.val / 4 * 46 + R.val / 512 := rfl
  have hhf : hf pf hT t₀ = ⟨R.val / 512, by omega⟩ := Fin.ext (by rw [hf_val, ht₀]; show _ = R.val / 512; omega)
  have hcr : (crd pf hT t₀ 0).val = s.val / 4 := by rw [crd_0, ht₀]; omega
  have hp : place (hlT pf) (hsT pf) (hf pf hT t₀) = R.val / 512 := by rw [hhf]; exact place_live hm
  obtain ⟨u, hu, hue⟩ := exists_flush pf hT _ t₀ rfl
  rw [index2, index2, hp, hcr] at hue
  have hu0 : (crd pf hT u 0).val = s.val / 4 := congrFun hue 0
  have hu1 : place (hlT pf) (hsT pf) (hf pf hT u) = R.val / 512 := congrFun hue 1
  have hin : (ix3 s R l : S16x23552x128.Idx) ∈ (((cfgA pf hT).win (2 : Fin 3)).blk u).view.set := by
    refine Finset.mem_map.mpr ⟨(ix3 ⟨s.val % 4, by omega⟩ ⟨R.val % 512, by omega⟩ l : S4x512x128.Idx), Finset.mem_univ _, ?_⟩
    obtain ⟨e0, e1, e2⟩ := emb2 pf hT u (ix3 ⟨s.val % 4, by omega⟩ ⟨R.val % 512, by omega⟩ l)
    show (((cfgA pf hT).win (2 : Fin 3)).rect u).emb (ix3 ⟨s.val % 4, _⟩ ⟨R.val % 512, _⟩ l) = ix3 s R l
    funext a
    apply Fin.ext
    match a with
    | ⟨0, _⟩ => refine e0.trans ?_; rw [hu0]; show s.val / 4 * 4 + s.val % 4 = s.val; omega
    | ⟨1, _⟩ => refine e1.trans ?_; rw [hu1]; show R.val / 512 * 512 + R.val % 512 = R.val; omega
    | ⟨2, _⟩ => exact e2
  exact (dats pf hT m ρ 0 c).arrAt_forall_of_flushed (2 : Fin 3) P hP (cfgA pf hT).N u (ix3 s R l) u.isLt hu hin

end Cert.Kernel3Ideal.Down

end
-- ==== Proof.DownRef.lean ====
module

public import proofs.«01_k».proof.Proof.Gen.Reference3Ideal.Read
public import proofs.«01_k».proof.Proof.Gen.Reference3Ideal
public import proofs.«01_k».proof.On_halves_held
public import proofs.«01_k».proof.Proof.Gen.On_halves_held
public import Idealize.ShloMosaic.Lib.Pointwise
public import Idealize.ShloMosaic.Lib.ValueIdxCore
public import Idealize.ShloMosaic.Lib.StableHlo.Predicate

@[expose] public section

set_option maxRecDepth 16384
set_option Elab.async false

noncomputable section

namespace Cert.Reference3Ideal.Down

open Cert.Reference3Ideal Cert.Reference3Ideal.Gen Cert.Reference3Ideal.Read
open Idealize.ShloMosaic

/-- The expert of a row: its tile's. -/
theorem expert_apply (x2 : S23.Idx → BitVec 32) (i : S23552x1.Idx) (k : Fin 23) (hk : (i 0).val / 1024 = k.val) :
    val_main_call0_v0 (F := Ideal) x2 i = x2 (fun a => ⟨k.val, by fin_cases a; exact k.isLt⟩) := by
  rw [val_main_call0_v0_apply, val_main_v2_apply, val_main_v1_apply, val_main_v0_apply]
  show x2 _ = x2 _
  congr 1
  funext a
  match a with
  | ⟨0, _⟩ => exact Fin.ext hk

/-- Naming an expert among sixteen, the gather's clamp changes nothing. -/
theorem clamp_expert : ∀ e : Fin 16, min (BitVec.ofNat 32 e.val).toInt.toNat 15 = e.val := by decide

/-- The gather read at an index: each row takes the whole matrix its index names. -/
theorem gather_apply (x : S16x7168x2048.Idx → EReal) (idx : IVec S23552x1 32) (y : S23552x7168x2048.Idx) (e : Fin 16)
    (he : idx (ix2 (y 0) 0) = BitVec.ofNat 32 e.val) :
    Host.gather gather_S16x7168x2048_S23552x1_S23552x7168x2048_12_0_n_n_0_1_171682048 x idx y = x (ix3 e (y 1) (y 2)) := by
  unfold Host.gather
  congr 1
  funext a
  refine Fin.ext ?_
  show (gather_S16x7168x2048_S23552x1_S23552x7168x2048_12_0_n_n_0_1_171682048).start y idx a
    + (gather_S16x7168x2048_S23552x1_S23552x7168x2048_12_0_n_n_0_1_171682048).batchCoord y a
    + (gather_S16x7168x2048_S23552x1_S23552x7168x2048_12_0_n_n_0_1_171682048).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (gather_S16x7168x2048_S23552x1_S23552x7168x2048_12_0_n_n_0_1_171682048).startIndexMap from List.mem_singleton.mpr rfl)]
    have hsi : (gather_S16x7168x2048_S23552x1_S23552x7168x2048_12_0_n_n_0_1_171682048).siIdx y ⟨List.idxOf (0 : Fin 3) (gather_S16x7168x2048_S23552x1_S23552x7168x2048_12_0_n_n_0_1_171682048).startIndexMap,
        List.idxOf_lt_length_iff.2 (List.mem_singleton.mpr rfl)⟩ = ix2 (y 0) 0 := by
      funext b; refine Fin.ext ?_
      match b with
      | ⟨0, _⟩ => rfl
      | ⟨1, _⟩ => rfl
    have hd : idx ((gather_S16x7168x2048_S23552x1_S23552x7168x2048_12_0_n_n_0_1_171682048).siIdx y ⟨List.idxOf (0 : Fin 3) (gather_S16x7168x2048_S23552x1_S23552x7168x2048_12_0_n_n_0_1_171682048).startIndexMap,
        List.idxOf_lt_length_iff.2 (List.mem_singleton.mpr rfl)⟩) = BitVec.ofNat 32 e.val := (congrArg idx hsi).trans he
    exact (congrArg (fun w : BitVec 32 => min w.toInt.toNat 15) hd).trans (clamp_expert e)
  | ⟨1, _⟩ =>
    have h0 : (gather_S16x7168x2048_S23552x1_S23552x7168x2048_12_0_n_n_0_1_171682048).start y idx ⟨1, by decide⟩ = 0 := by
      unfold GatherDims.start
      exact dif_neg (by decide)
    have h1 : (gather_S16x7168x2048_S23552x1_S23552x7168x2048_12_0_n_n_0_1_171682048).offCoord y (1 : Fin 3) = (y 1).val := by
      unfold GatherDims.offCoord
      rw [dif_pos (show (1 : Fin 3) ∈ (gather_S16x7168x2048_S23552x1_S23552x7168x2048_12_0_n_n_0_1_171682048).sKept by decide)]
      rfl
    rw [h0]
    exact (Nat.zero_add _).trans h1
  | ⟨2, _⟩ =>
    have h0 : (gather_S16x7168x2048_S23552x1_S23552x7168x2048_12_0_n_n_0_1_171682048).start y idx ⟨2, by decide⟩ = 0 := by
      unfold GatherDims.start
      exact dif_neg (by decide)
    have h1 : (gather_S16x7168x2048_S23552x1_S23552x7168x2048_12_0_n_n_0_1_171682048).offCoord y (2 : Fin 3) = (y 2).val := by
      unfold GatherDims.offCoord
      rw [dif_pos (show (2 : Fin 3) ∈ (gather_S16x7168x2048_S23552x1_S23552x7168x2048_12_0_n_n_0_1_171682048).sKept by decide)]
      rfl
    rw [h0]
    exact (Nat.zero_add _).trans h1

/-- The mask: an entry counts where its row's half holds rows. -/
theorem held_iff (x0 : FVec Ideal On_halves_held.S23552x7168 .bf16) (x1 : FVec Ideal On_halves_held.S16x7168x2048 .f32) (x2 : IVec On_halves_held.S23 32) (x3 x4 : IVec On_halves_held.S46 32)
    (s : Fin 16) (R : Fin 23552) (l : Fin 128) :
    On_halves_held.fn (F := Ideal) x0 x1 x2 x3 x4 (ix3 s R l)
      = IntOp.cmpi .sgt (x3 (fun a => ⟨R.val / 512, by fin_cases a; show R.val / 512 < 46; omega⟩)) 0#32 := by
  dsimp only [On_halves_held.fn]
  pointwise
  exact congrArg₂ (IntOp.cmpi .sgt) (congrArg x3 (funext fun a => match a with | ⟨0, _⟩ => rfl)) rfl

/-- Row `R` of the experts' first half times column `C` of expert `e`'s weights. -/
def dot (x : S23552x7168.Idx → EReal) (w : S16x7168x2048.Idx → EReal) (e : Fin 16) (R : Fin 23552) (C : Fin 2048) : EReal :=
  ∑ k : Fin 7168, x (ix2 R k) * w (ix3 e k C)

/-- The reference's result at an index: slab `s` holds the columns from `128 s` on. -/
theorem ref_apply (x0 : S23552x7168.Idx → EReal) (x1 : S16x7168x2048.Idx → EReal) (x2 : S23.Idx → BitVec 32) (s : Fin 16) (R : Fin 23552) (l : Fin 128) (C : Fin 2048) (e : Fin 16)
    (hC : C.val = s.val * 128 + l.val) (he : x2 (fun a => ⟨R.val / 1024, by fin_cases a; show R.val / 1024 < 23; omega⟩) = BitVec.ofNat 32 e.val) :
    val_main_v7 (F := Ideal) x0 x1 x2 (ix3 s R l) = dot x0 x1 e R C := by
  rw [val_main_v7_apply, val_main_v6_apply]
  have hi : idx_main_v6 (idx_main_v7 (ix3 s R l)) = ix2 R C := by
    funext a
    apply Fin.ext
    match a with
    | ⟨0, _⟩ => show ((R.val * 16 + s.val) * 128 + l.val) / 2048 = R.val; omega
    | ⟨1, _⟩ => show ((R.val * 16 + s.val) * 128 + l.val) % 2048 = C.val; omega
  rw [hi, val_main_v5_apply]
  refine Finset.sum_congr rfl fun k _ => ?_
  exact congrArg₂ (· * ·) (congrArg x0 (funext fun a => match a with | ⟨0, _⟩ => rfl | ⟨1, _⟩ => rfl))
    ((gather_apply x1 _ _ e ((expert_apply x2 _ ⟨R.val / 1024, by omega⟩ rfl).trans he)).trans
      (congrArg x1 (funext fun a => match a with | ⟨0, _⟩ => rfl | ⟨1, _⟩ => rfl | ⟨2, _⟩ => rfl)))

end Cert.Reference3Ideal.Down

end
-- ==== Proof.DownPreI.lean ====
module

public import proofs.«01_k».proof.Proof.DownTabI
public import proofs.«01_k».proof.Pre_halves_first
public import proofs.«01_k».proof.Proof.Gen.Pre_halves_first
public import Idealize.ShloMosaic.Lib.ReduceAll
public import Idealize.ShloMosaic.Lib.StableHlo.Predicate
public import Idealize.ShloMosaic.Lib.Pipeline.Value

@[expose] public section

set_option maxRecDepth 16384
set_option Elab.async false

noncomputable section

namespace Cert.Kernel3Ideal.Down

open Cert.Kernel3Ideal
open Idealize.ShloMosaic

/-- A word that is not negative and below a small bound, as a number. -/
theorem toNat_lt_of_cmp {w : BitVec 32} {n : ℕ} (hn : n < 2 ^ 31) (h0 : IntOp.cmpi .sge w 0#32 = 1#1) (h1 : w.toInt < n) : w.toNat < n := by
  have h0' := IntOp.cmpi_sge.mp h0
  have e0 : (0#32 : BitVec 32).toInt = 0 := by decide
  have e := BitVec.toInt_eq_toNat_cond w
  have hw := w.isLt
  split at e <;> omega

/-- A half holds rows where its number of rows is positive. -/
theorem live_iff {T1 : S46.Idx → Elt Ideal .i32} {k : Fin 46} : live T1 k ↔ IntOp.cmpi .sgt (ent46 T1 k) 0#32 = 1#1 := by
  have hc : ∀ b : BitVec 1, Scalar.cmpi .ne (Scalar.extui b : BitVec 32) 0#32 = b := by decide
  have e : k0_cond1 (ent46 T1 k) = IntOp.cmpi .sgt (ent46 T1 k) 0#32 := hc _
  unfold live
  rw [e]

/-- A half with rows has no number of rows that is zero or less. -/
theorem not_le_of_live {T1 : S46.Idx → Elt Ideal .i32} {k : Fin 46} (h : live T1 k) : ¬ IntOp.cmpi .sle (ent46 T1 k) 0#32 = 1#1 := fun hs => by
  have h1 := IntOp.cmpi_sgt.mp (live_iff.mp h)
  have h2 := IntOp.cmpi_sle.mp hs
  omega

/-- Entry `k` among the halves but one. -/
abbrev ix45 (k : Fin 45) : Pre_halves_first.S45.Idx := fun a => ⟨k.val, by fin_cases a; exact k.isLt⟩
/-- Entry `k` among the tiles. -/
abbrev ix23 (k : Fin 23) : Pre_halves_first.S23.Idx := fun a => ⟨k.val, by fin_cases a; exact k.isLt⟩
/-- Entry `k` among the tiles but one. -/
abbrev ix22 (k : Fin 22) : Pre_halves_first.S22.Idx := fun a => ⟨k.val, by fin_cases a; exact k.isLt⟩

/-- The entries but the first. -/
theorem slice_tail (T : S46.Idx → BitVec 32) (h : Pre_halves_first.S46.Slices ![1] Pre_halves_first.S45) (k : Fin 45) :
    extractStridedSlice Pre_halves_first.S45 ![1] T h (ix45 k) = ent46 T ⟨k.val + 1, by omega⟩ := by
  show T _ = T _
  congr 1
  funext a
  fin_cases a
  apply Fin.ext
  show 1 + k.val = k.val + 1
  omega

/-- The entries but the last. -/
theorem slice_init (T : S46.Idx → BitVec 32) (h : Pre_halves_first.S46.Slices ![0] Pre_halves_first.S45) (k : Fin 45) :
    extractStridedSlice Pre_halves_first.S45 ![0] T h (ix45 k) = ent46 T ⟨k.val, by omega⟩ := by
  show T _ = T _
  congr 1
  funext a
  fin_cases a
  apply Fin.ext
  show 0 + k.val = k.val
  omega

/-- The first entry. -/
theorem slice_first (T : S46.Idx → BitVec 32) (h : Pre_halves_first.S46.Slices ![0] Pre_halves_first.S1) (i : Pre_halves_first.S1.Idx) :
    extractStridedSlice Pre_halves_first.S1 ![0] T h i = ent46 T 0 := by
  show T _ = T _
  congr 1
  funext a
  fin_cases a
  apply Fin.ext
  have : (i 0).val < 1 := (i 0).isLt
  show 0 + (i 0).val = 0
  omega

/-- The halves laid out two to a tile, at tile `p` and half `j` of it. -/
theorem pair_apply (T : S46.Idx → BitVec 32) (h : Pre_halves_first.S46.ShapeCasts Pre_halves_first.S23x2) (i : Pre_halves_first.S23x2.Idx) (k : Fin 46)
    (hk : k.val = (i 0).val * 2 + (i 1).val) : shapeCast Pre_halves_first.S23x2 T h i = ent46 T k := by
  refine shapeCast_apply T h i _ ?_
  rw [Shape.rowMajor_val_one, Shape.rowMajor_val_two]
  exact hk

/-- A column of the tiles' halves, read at a tile. -/
theorem col23 (X : Pre_halves_first.S23x1.Idx → BitVec 32) (h : Pre_halves_first.S23x1.ShapeCasts Pre_halves_first.S23) (k : Fin 23) :
    shapeCast Pre_halves_first.S23 X h (ix23 k) = X (fun a => match a with | ⟨0, _⟩ => k | ⟨1, _⟩ => (0 : Fin 1)) := by
  refine shapeCast_apply X h (ix23 k) _ ?_
  rw [Shape.rowMajor_val_one, Shape.rowMajor_val_two]
  show k.val * 1 + 0 = k.val
  omega

/-- The same of a column without one tile. -/
theorem col22 (X : Pre_halves_first.S22x1.Idx → BitVec 32) (h : Pre_halves_first.S22x1.ShapeCasts Pre_halves_first.S22) (k : Fin 22) :
    shapeCast Pre_halves_first.S22 X h (ix22 k) = X (fun a => match a with | ⟨0, _⟩ => k | ⟨1, _⟩ => (0 : Fin 1)) := by
  refine shapeCast_apply X h (ix22 k) _ ?_
  rw [Shape.rowMajor_val_one, Shape.rowMajor_val_two]
  show k.val * 1 + 0 = k.val
  omega

/-- The second half of a tile. -/
theorem second_apply (T : S46.Idx → BitVec 32) (h h' h'') (k : Fin 23) :
    shapeCast Pre_halves_first.S23 (extractStridedSlice Pre_halves_first.S23x1 ![0, 1] (shapeCast Pre_halves_first.S23x2 T h) h') h'' (ix23 k) = ent46 T ⟨2 * k.val + 1, by omega⟩ := by
  rw [col23]
  refine pair_apply T h _ _ ?_
  show 2 * k.val + 1 = (0 + k.val) * 2 + (1 + 0)
  omega

/-- The first half of a tile. -/
theorem first_apply (T : S46.Idx → BitVec 32) (h h' h'') (k : Fin 23) :
    shapeCast Pre_halves_first.S23 (extractStridedSlice Pre_halves_first.S23x1 ![0, 0] (shapeCast Pre_halves_first.S23x2 T h) h') h'' (ix23 k) = ent46 T ⟨2 * k.val, by omega⟩ := by
  rw [col23]
  refine pair_apply T h _ _ ?_
  show 2 * k.val = (0 + k.val) * 2 + (0 + 0)
  omega

/-- The first half of the tile after. -/
theorem next_apply (T : S46.Idx → BitVec 32) (h h' h'') (k : Fin 22) :
    shapeCast Pre_halves_first.S22 (extractStridedSlice Pre_halves_first.S22x1 ![1, 0] (shapeCast Pre_halves_first.S23x2 T h) h') h'' (ix22 k) = ent46 T ⟨2 * k.val + 2, by omega⟩ := by
  rw [col22]
  refine pair_apply T h _ _ ?_
  show 2 * k.val + 2 = (1 + k.val) * 2 + (0 + 0)
  omega

/-- The first half of a tile but the last. -/
theorem this_apply (T : S46.Idx → BitVec 32) (h h' h'') (k : Fin 22) :
    shapeCast Pre_halves_first.S22 (extractStridedSlice Pre_halves_first.S22x1 ![0, 0] (shapeCast Pre_halves_first.S23x2 T h) h') h'' (ix22 k) = ent46 T ⟨2 * k.val, by omega⟩ := by
  rw [col22]
  refine pair_apply T h _ _ ?_
  show 2 * k.val = (0 + k.val) * 2 + (0 + 0)
  omega

/-- The precondition, as what it says of the tables. -/
theorem tables_of_pre (x0 : FVec Ideal Pre_halves_first.S23552x7168 .bf16) (x1 : FVec Ideal Pre_halves_first.S16x7168x2048 .f32) (T0 : S23.Idx → Elt Ideal .i32) (T1 T2 : S46.Idx → Elt Ideal .i32)
    (h : Pre_halves_first.fn (F := Ideal) x0 x1 T0 T1 T2 = fun _ => 1#1) : Tables T0 T1 T2 := by
  dsimp only [Pre_halves_first.fn, Pre_halves_first.fn_part1, Pre_halves_first.fn_part2, Pre_halves_first.fn_where] at h
  have h46 := congrFun h (fun a => a.elim0)
  obtain ⟨h33, h45⟩ := IntOp.andi_eq_one.mp h46
  obtain ⟨h22, h32⟩ := IntOp.andi_eq_one.mp h33
  obtain ⟨h11, h21⟩ := IntOp.andi_eq_one.mp h22
  obtain ⟨h7, h10⟩ := IntOp.andi_eq_one.mp h11
  haveI : Subsingleton Pre_halves_first.S_.Idx := ⟨fun _ _ => funext fun a => a.elim0⟩
  have r7 := fun k : Fin 23 => IntOp.andi_eq_one.mp (Host.reduce_andi_all _ _ _ _ _ h7 (ix23 k))
  have r21 := fun k : Fin 23 => Host.reduce_andi_all _ _ _ _ _ h21 (ix23 k)
  have r32 := fun k : Fin 22 => Host.reduce_andi_all _ _ _ _ _ h32 (ix22 k)
  have r45 := fun k : Fin 45 => Host.reduce_andi_all _ _ _ _ _ h45 (ix45 k)
  have p1 : IntOp.cmpi .sgt (ent46 T1 0) 0#32 = 1#1 := by
    have e : IntOp.cmpi .sgt (extractStridedSlice Pre_halves_first.S1 ![0] T1 _ _) 0#32 = 1#1 := h10
    rwa [slice_first] at e
  have p2 : ∀ k : Fin 23, IntOp.ori (IntOp.cmpi .sle (ent46 T1 ⟨2 * k.val + 1, by omega⟩) 0#32) (IntOp.cmpi .sgt (ent46 T1 ⟨2 * k.val, by omega⟩) 0#32) = 1#1 := fun k => by
    have e : IntOp.ori (IntOp.cmpi .sle (shapeCast Pre_halves_first.S23 (extractStridedSlice Pre_halves_first.S23x1 ![0, 1] (shapeCast Pre_halves_first.S23x2 T1 _) _) _ (ix23 k)) 0#32)
      (IntOp.cmpi .sgt (shapeCast Pre_halves_first.S23 (extractStridedSlice Pre_halves_first.S23x1 ![0, 0] (shapeCast Pre_halves_first.S23x2 T1 _) _) _ (ix23 k)) 0#32) = 1#1 := r21 k
    rwa [second_apply, first_apply] at e
  have p3 : ∀ k : Fin 22, IntOp.ori (IntOp.cmpi .sle (ent46 T1 ⟨2 * k.val + 2, by omega⟩) 0#32) (IntOp.cmpi .sgt (ent46 T1 ⟨2 * k.val, by omega⟩) 0#32) = 1#1 := fun k => by
    have e : IntOp.ori (IntOp.cmpi .sle (shapeCast Pre_halves_first.S22 (extractStridedSlice Pre_halves_first.S22x1 ![1, 0] (shapeCast Pre_halves_first.S23x2 T1 _) _) _ (ix22 k)) 0#32)
      (IntOp.cmpi .sgt (shapeCast Pre_halves_first.S22 (extractStridedSlice Pre_halves_first.S22x1 ![0, 0] (shapeCast Pre_halves_first.S23x2 T1 _) _) _ (ix22 k)) 0#32) = 1#1 := r32 k
    rwa [next_apply, this_apply] at e
  have p4 : ∀ k : Fin 45, IntOp.ori (IntOp.cmpi .sgt (ent46 T1 ⟨k.val + 1, by omega⟩) 0#32)
      (IntOp.cmpi .eq (ent46 T2 ⟨k.val + 1, by omega⟩) (if IntOp.cmpi .sgt (ent46 T1 ⟨k.val, by omega⟩) 0#32 = 1#1 then BitVec.ofNat 32 k.val else ent46 T2 ⟨k.val, by omega⟩)) = 1#1 := fun k => by
    have e : IntOp.ori (IntOp.cmpi .sgt (extractStridedSlice Pre_halves_first.S45 ![1] T1 _ (ix45 k)) 0#32)
      (IntOp.cmpi .eq (extractStridedSlice Pre_halves_first.S45 ![1] T2 _ (ix45 k))
        (if IntOp.cmpi .sgt (extractStridedSlice Pre_halves_first.S45 ![0] T1 _ (ix45 k)) 0#32 = 1#1 then BitVec.ofNat 32 k.val else extractStridedSlice Pre_halves_first.S45 ![0] T2 _ (ix45 k))) = 1#1 := r45 k
    rwa [slice_tail, slice_tail, slice_init, slice_init] at e
  refine ⟨fun k => ?_, live_iff.mpr p1, fun k hk hl => ?_, fun k hk h2 hl => ?_, fun k hk hl => ?_⟩
  · have h1 := IntOp.cmpi_slt.mp (r7 k).2
    have e : (16#32 : BitVec 32).toInt = 16 := by decide
    exact toNat_lt_of_cmp (n := 16) (by norm_num) (r7 k).1 (by push_cast; exact lt_of_lt_of_eq h1 e)
  · have e1 : k = ⟨2 * (k.val / 2) + 1, by omega⟩ := Fin.ext (by show k.val = 2 * (k.val / 2) + 1; omega)
    have e0 : (⟨k.val - 1, by omega⟩ : Fin 46) = ⟨2 * (k.val / 2), by omega⟩ := Fin.ext (by show k.val - 1 = 2 * (k.val / 2); omega)
    rw [e1] at hl
    rw [e0]
    rcases IntOp.ori_eq_one.mp (p2 ⟨k.val / 2, by omega⟩) with h | h
    · exact absurd h (not_le_of_live hl)
    · exact live_iff.mpr h
  · have e1 : k = ⟨2 * (k.val / 2 - 1) + 2, by omega⟩ := Fin.ext (by show k.val = 2 * (k.val / 2 - 1) + 2; omega)
    have e0 : (⟨k.val - 2, by omega⟩ : Fin 46) = ⟨2 * (k.val / 2 - 1), by omega⟩ := Fin.ext (by show k.val - 2 = 2 * (k.val / 2 - 1); omega)
    rw [e1] at hl
    rw [e0]
    rcases IntOp.ori_eq_one.mp (p3 ⟨k.val / 2 - 1, by omega⟩) with h | h
    · exact absurd h (not_le_of_live hl)
    · exact live_iff.mpr h
  · obtain ⟨n, hn⟩ := k
    obtain _ | n := n
    · exact absurd rfl hk
    · rcases IntOp.ori_eq_one.mp (p4 ⟨n, by omega⟩) with h | h
      · exact absurd (live_iff.mpr h) hl
      · have e := StableHlo.Predicate.cmpi_eq_iff.mp h
        show place T1 T2 ⟨n + 1, hn⟩ = place T1 T2 ⟨n, by omega⟩
        unfold place
        rw [if_neg hl]
        refine (congrArg BitVec.toNat e).trans ?_
        by_cases hb : live T1 ⟨n, by omega⟩
        · rw [if_pos (live_iff.mp hb), if_pos hb, BitVec.toNat_ofNat]
          exact Nat.mod_eq_of_lt (by omega)
        · rw [if_neg (fun hh => hb (live_iff.mpr hh)), if_neg hb]

end Cert.Kernel3Ideal.Down

end
-- ==== Proof.DownRunB.lean ====
module

public import proofs.«01_k».proof.Proof.Gen.Kernel3.Skeleton
public import proofs.«01_k».proof.Proof.Gen.Kernel3.Launch
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.ValueIdxCore
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.Kernel3.Down

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-- The resource algebra the kernel is proved over. -/
abbrev MM := MT nD τ sig Unit (Elt Bits) ℕ (UR sig nD τ) ℕ

/-- The table of the tiles' experts. -/
abbrev teM : Memref sig .tc .smem S23 .i32 := Memref.whole main_arg2
/-- The table of the halves' rows held. -/
abbrev hlM : Memref sig .tc .smem S46 .i32 := Memref.whole main_arg3
/-- The table of the halves' places. -/
abbrev hsM : Memref sig .tc .smem S46 .i32 := Memref.whole main_arg4
/-- The kept weights. -/
abbrev wM : Memref sig .tc .vmem S7168x512 .bf16 := Memref.whole cc0_scratch0

/-- Entry `k` of a table over the tiles. -/
abbrev ent (T : S23.Idx → Elt Bits .i32) (k : Fin 23) : BitVec 32 := T (fun a => ⟨k.val, by fin_cases a; exact k.isLt⟩)
/-- Entry `k` of a table over the halves. -/
abbrev ent46 (T : S46.Idx → Elt Bits .i32) (k : Fin 46) : BitVec 32 := T (fun a => ⟨k.val, by fin_cases a; exact k.isLt⟩)

/-- The half of a grid point. -/
abbrev half (i : grid0.Coords) : Fin 46 := ⟨(i 1).val, (i 1).isLt⟩
/-- The tile of a half. -/
abbrev tileOf (k : Fin 46) : Fin 23 := ⟨k.val / 2, by omega⟩
/-- The tile before a half's (the first tile itself at the first). -/
abbrev tilePOf (k : Fin 46) : Fin 23 := ⟨k.val / 2 - 1, by omega⟩

/-- The grid's point of the first block of columns and a given half. -/
abbrev pt (k : Fin 46) : grid0.Coords := fun a => match a with | ⟨0, _⟩ => ⟨0, Nat.succ_pos 3⟩ | ⟨1, _⟩ => k

/-- The read of the tables over the halves is at the half. -/
theorem off1_half (i : grid0.Coords) : k0_off1 i 0 = (half i).val := by
  have h : ∀ k : Fin 46, k0_off1 (pt k) 0 = k.val := by decide +kernel
  exact h (half i)

/-- The first read of the experts is at the half's tile. -/
theorem off3_tile (i : grid0.Coords) : k0_off3 i 0 = (tileOf (half i)).val := by
  have h : ∀ k : Fin 46, k0_off3 (pt k) 0 = k.val / 2 := by decide +kernel
  exact h (half i)

/-- The second read of the experts is at the tile before. -/
theorem off4_tile (i : grid0.Coords) : k0_off4 i 0 = (tilePOf (half i)).val := by
  have h : ∀ k : Fin 46, k0_off4 (pt k) 0 = k.val / 2 - 1 := by decide +kernel
  exact h (half i)

/-- A scalar read of the table of the experts through a rectangle of one entry is that entry. -/
theorem word_te (T : S23.Idx → Elt Bits .i32) (off : Fin 1 → ℕ) (inb) (k : Fin 23) (h : off 0 = k.val) :
    View.readAt (Elt Bits) teM.view (Rect.unit (s := S23) off S1.size inb).toLoadRect T (Shape.Idx.first (numel1_S1.symm ▸ Nat.one_pos)) = ent T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A scalar read of the table of the rows held through a rectangle of one entry is that entry. -/
theorem word_hl (T : S46.Idx → Elt Bits .i32) (off : Fin 1 → ℕ) (inb) (k : Fin 46) (h : off 0 = k.val) :
    View.readAt (Elt Bits) hlM.view (Rect.unit (s := S46) off S1.size inb).toLoadRect T (Shape.Idx.first (numel1_S1.symm ▸ Nat.one_pos)) = ent46 T k := by
  rw [View.readAt_apply]
  show T _ = T _
  congr 1
  funext a
  fin_cases a
  apply Fin.ext
  have h0 : ((Shape.Idx.first (s := S1) (numel1_S1.symm ▸ Nat.one_pos)) 0).val < 1 := Fin.isLt _
  show off 0 + ((Shape.Idx.first (s := S1) (numel1_S1.symm ▸ Nat.one_pos)) 0).val * 1 = k.val
  omega

/-- A half holds rows. -/
abbrev live (T1 : S46.Idx → Elt Bits .i32) (k : Fin 46) : Prop := k0_cond1 (ent46 T1 k) = 1#1

/-- The weights are brought in at the first half and at a tile's first half whose expert is not the tile before's. -/
abbrev reload (k : Fin 46) (T0 : S23.Idx → Elt Bits .i32) : Prop := k.val = 0 ∨ k.val % 2 = 0 ∧ ent T0 (tileOf k) ≠ ent T0 (tilePOf k)

/-- A half's number is even, as the kernel's words decide it. -/
abbrev evenWord (arg1 : BitVec 32) : BitVec 1 :=
  let v41 : BitVec 32 := Scalar.select (Scalar.cmpi .eq 2#32 0#32) 1#32 2#32
  let v42 : BitVec 32 := Scalar.remsi arg1 v41
  let v43 : BitVec 1 := Scalar.cmpi .ne v42 0#32
  let v44 : BitVec 1 := Scalar.cmpi .slt v42 0#32
  let v45 : BitVec 1 := Scalar.cmpi .slt v41 0#32
  let v46 : BitVec 1 := Scalar.xori v44 v45
  let v47 : BitVec 1 := Scalar.andi v46 v43
  let v48 : BitVec 32 := Scalar.addi v42 v41
  let v49 : BitVec 32 := Scalar.select v47 v48 v42
  Scalar.cmpi .eq v49 0#32

/-- The printed decision on bringing the weights in, read as `reload`. -/
theorem reload_iff (k : Fin 46) (p q : BitVec 32) :
    Scalar.cmpi .ne (Scalar.extui (Scalar.ori (Scalar.cmpi .eq (BitVec.ofNat 32 k.val) 0#32) (Scalar.andi (evenWord (BitVec.ofNat 32 k.val)) (Scalar.cmpi .ne p q))) : BitVec 32) 0#32 = 1#1 ↔ k.val = 0 ∨ k.val % 2 = 0 ∧ p ≠ q := by
  have key : ∀ (k : Fin 46) (b : Bool), Scalar.cmpi .ne (Scalar.extui (Scalar.ori (Scalar.cmpi .eq (BitVec.ofNat 32 k.val) 0#32) (Scalar.andi (evenWord (BitVec.ofNat 32 k.val)) (BitVec.ofBool b))) : BitVec 32) 0#32 = 1#1 ↔ k.val = 0 ∨ k.val % 2 = 0 ∧ b = true := by decide +kernel
  have hb : Scalar.cmpi .ne p q = BitVec.ofBool (p != q) := rfl
  rw [hb, key]
  simp

/-- What a half that holds rows leaves: its product with the weights, as four slabs of 128 columns. -/
def downO (x0 : S512x7168.Idx → Elt Bits .bf16) (w : S7168x512.Idx → Elt Bits .bf16) : S4x512x128.Idx → Elt Bits .f32 := fun y =>
  if (y 0).val = 0 then k0_pay5 x0 w (ix3 ⟨0, by decide⟩ ⟨(y 1).val, (y 1).isLt⟩ ⟨(y 2).val, (y 2).isLt⟩)
  else if (y 0).val = 1 then k0_pay6 x0 w (ix3 ⟨0, by decide⟩ ⟨(y 1).val, (y 1).isLt⟩ ⟨(y 2).val, (y 2).isLt⟩)
  else if (y 0).val = 2 then k0_pay1 (k0_pay7 x0 w) (ix3 ⟨0, by decide⟩ ⟨(y 1).val, (y 1).isLt⟩ ⟨(y 2).val, (y 2).isLt⟩)
  else k0_pay2 (k0_pay4 x0 w) (ix3 ⟨0, by decide⟩ ⟨(y 1).val, (y 1).isLt⟩ ⟨(y 2).val, (y 2).isLt⟩)

/-- The four stores of the slabs leave the half's product. -/
theorem writes_down (v : View sig .tc .vmem S4x512x128 .f32) (f : v.ty.Contents (Elt Bits)) (x0 : S512x7168.Idx → Elt Bits .bf16) (w : S7168x512.Idx → Elt Bits .bf16) (h3 h2 h1 h0) :
    v.read (Elt Bits) (v.writes (Elt Bits) f [⟨Rect.unit (s := S4x512x128) ![3, 0, 0] S1x512x128.size h3, k0_pay2 (k0_pay4 x0 w)⟩,
      ⟨Rect.unit (s := S4x512x128) ![2, 0, 0] S1x512x128.size h2, k0_pay1 (k0_pay7 x0 w)⟩,
      ⟨Rect.unit (s := S4x512x128) ![1, 0, 0] S1x512x128.size h1, k0_pay6 x0 w⟩,
      ⟨Rect.unit (s := S4x512x128) ![0, 0, 0] S1x512x128.size h0, k0_pay5 x0 w⟩]) = downO x0 w := by
  funext y
  have hy : (y 0).val < 4 := (y 0).isLt
  unfold downO
  by_cases e3 : (y 0).val = 3
  · rw [if_neg (by omega), if_neg (by omega), if_neg (by omega)]
    refine View.read_writes_cons_hit_of_coords _ _ _ _ _ _ _ fun a => ?_
    fin_cases a
    · show (y 0).val = 3 + 1 * 0
      omega
    · simp [Rect.unit]
    · simp [Rect.unit]
  rw [View.read_writes_cons_miss_of_axis _ _ _ _ y 0 3 1 rfl rfl rfl (Or.inl (by omega))]
  by_cases e2 : (y 0).val = 2
  · rw [if_neg (by omega), if_neg (by omega), if_pos e2]
    refine View.read_writes_cons_hit_of_coords _ _ _ _ _ _ _ fun a => ?_
    fin_cases a
    · show (y 0).val = 2 + 1 * 0
      omega
    · simp [Rect.unit]
    · simp [Rect.unit]
  rw [View.read_writes_cons_miss_of_axis _ _ _ _ y 0 2 1 rfl rfl rfl (Or.inl (by omega))]
  by_cases e1 : (y 0).val = 1
  · rw [if_neg (by omega), if_pos e1]
    refine View.read_writes_cons_hit_of_coords _ _ _ _ _ _ _ fun a => ?_
    fin_cases a
    · show (y 0).val = 1 + 1 * 0
      omega
    · simp [Rect.unit]
    · simp [Rect.unit]
  rw [View.read_writes_cons_miss_of_axis _ _ _ _ y 0 1 1 rfl rfl rfl (Or.inl (by omega))]
  rw [if_pos (by omega)]
  refine View.read_writes_cons_hit_of_coords _ _ _ _ _ _ _ fun a => ?_
  fin_cases a
  · show (y 0).val = 0 + 1 * 0
    omega
  · simp [Rect.unit]
  · simp [Rect.unit]

/-- The store into the kept weights. -/
theorem writes_w (a w : S7168x512.Idx → Elt Bits .bf16) (h) :
    wM.view.writes (Elt Bits) a [⟨Rect.unit (s := S7168x512) ![0, 0] S7168x512.size h, w⟩] = w := by
  have e := View.read_writes_full wM.view a h w []
  have hr : ∀ f : S7168x512.Idx → Elt Bits .bf16, wM.view.read (Elt Bits) f = f := fun _ => rfl
  exact (hr _).symm.trans e

/-- The kept weights read back after their store. -/
theorem readCov_w (w : S7168x512.Idx → Elt Bits .bf16) (h h') :
    @Eq (S7168x512.Idx → Elt Bits .bf16) ((View.whole cc0_scratch0).readCov (Val := Elt Bits) [⟨Rect.unit (s := S7168x512) ![0, 0] S7168x512.size h, w⟩] (Rect.unit (s := S7168x512) ![0, 0] S7168x512.size h').toLoadRect) w := by
  unfold View.readCov
  rw [show (View.whole cc0_scratch0).writes (Elt Bits) (View.whole cc0_scratch0).junk [⟨Rect.unit (s := S7168x512) ![0, 0] S7168x512.size h, w⟩] = w from writes_w _ w h]
  exact View.readAt_full wM.view w h'

open Classical in
/-- The kept weights after a step. -/
def stepW (i : grid0.Coords) (T0 : S23.Idx → Elt Bits .i32) (T1 : S46.Idx → Elt Bits .i32) (x1 : S1x7168x512.Idx → Elt Bits .f32) (a : S7168x512.Idx → Elt Bits .bf16) : S7168x512.Idx → Elt Bits .bf16 :=
  if live T1 (half i) ∧ reload (half i) T0 then k0_pay3 x1 else a

/-- The result's block after a step. -/
def stepO (i : grid0.Coords) (T1 : S46.Idx → Elt Bits .i32) (x0 : S512x7168.Idx → Elt Bits .bf16) (w : S7168x512.Idx → Elt Bits .bf16) (d : S4x512x128.Idx → Elt Bits .f32) : S4x512x128.Idx → Elt Bits .f32 :=
  if live T1 (half i) then downO x0 w else d

/-- The run's own condition on a half: it holds rows. -/
abbrev liveRun (i : grid0.Coords) (T1 : S46.Idx → Elt Bits .i32) : Prop := k0_cond1 (View.readAt (Elt Bits) hlM.view (Rect.unit (s := S46) (k0_off1 i) S1.size (k0_off1_inb i)).toLoadRect T1 (Shape.Idx.first (numel1_S1.symm ▸ Nat.one_pos))) = 1#1

/-- The run's own condition on bringing the weights in. -/
abbrev reloadRun (i : grid0.Coords) (T0 : S23.Idx → Elt Bits .i32) : Prop :=
  Scalar.cmpi .ne (Scalar.extui (Scalar.ori (Scalar.cmpi .eq (BitVec.ofNat 32 (i 1).val) 0#32) (Scalar.andi (evenWord (BitVec.ofNat 32 (i 1).val)) (Scalar.cmpi .ne (View.readAt (Elt Bits) teM.view (Rect.unit (s := S23) (k0_off3 i) S1.size (k0_off3_inb i)).toLoadRect T0 (Shape.Idx.first (numel1_S1.symm ▸ Nat.one_pos))) (View.readAt (Elt Bits) teM.view (Rect.unit (s := S23) (k0_off4 i) S1.size (k0_off4_inb i)).toLoadRect T0 (Shape.Idx.first (numel1_S1.symm ▸ Nat.one_pos)))))) : BitVec 32) 0#32 = 1#1

/-- The run's condition on a half, read as `live`. -/
theorem liveRun_iff (i : grid0.Coords) (T1 : S46.Idx → Elt Bits .i32) : liveRun i T1 ↔ live T1 (half i) :=
  iff_of_eq (congrArg (fun p => k0_cond1 p = 1#1) (word_hl T1 _ _ _ (off1_half i)))

/-- The run's condition on bringing the weights in, read as `reload`. -/
theorem reloadRun_iff (i : grid0.Coords) (T0 : S23.Idx → Elt Bits .i32) : reloadRun i T0 ↔ reload (half i) T0 :=
  (iff_of_eq (congrArg₂ (fun p q => Scalar.cmpi .ne (Scalar.extui (Scalar.ori (Scalar.cmpi .eq (BitVec.ofNat 32 (half i).val) 0#32) (Scalar.andi (evenWord (BitVec.ofNat 32 (half i).val)) (Scalar.cmpi .ne p q))) : BitVec 32) 0#32 = 1#1)
    (word_te T0 _ _ _ (off3_tile i)) (word_te T0 _ _ _ (off4_tile i)))).trans (reload_iff (half i) _ _)

set_option maxHeartbeats 800000 in
/-- A step that brings the weights in. -/
theorem run_reload (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Bits .i32) (T1 T2 : S46.Idx → Elt Bits .i32) (x0 : S512x7168.Idx → Elt Bits .bf16) (x1 : S1x7168x512.Idx → Elt Bits .f32)
    (d : S4x512x128.Idx → Elt Bits .f32) (a : Buf (Elt Bits) ((c : Thread nD τ).loc cc0_scratch0)) (K : PUnit → sProp MM)
    (hl : liveRun i T1) (hr : reloadRun i T0) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare (downO x0 (k0_pay3 x1))
              ∗ (wM.view.loc (c : Thread nD τ) ↦{fullShare} k0_pay3 x1)) -∗ K ⟨⟩))
          ⊢ wp frame (wpE (defs₀ (F := Bits)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  unfold owns
  rw [cc0_ffn_down_routed_eq_skeleton]; unfold cc0_ffn_down_routed_skel
  rw [k0_part1_eq_skeleton]
  iintro ⟨H0, H1, HT0, HT1, HT2, ⟨%f3, %hf3, HO3⟩, HS0, Hk⟩
  have hS0 : wM.IsWhole := Memref.isWhole_whole _
  have hT0 : teM.IsWhole := Memref.isWhole_whole _
  have hT1 : hlM.IsWhole := Memref.isWhole_whole _
  have hT2 : hsM.IsWhole := Memref.isWhole_whole _
  sl_exec!
  sl_step
  iapply Hk
  isplitl [H0]; · iexact H0
  isplitl [H1]; · iexact H1
  isplitl [HT0]; · iexact HT0
  isplitl [HT1]; · iexact HT1
  isplitl [HT2]; · iexact HT2
  have e1 : ∀ h, View.readAt (Elt Bits) arg5.view (Rect.unit (s := S512x7168) ![0, 0] S512x7168.size h).toLoadRect (arg5.view.rep x0) = x0 := fun h => View.readAt_rep_full _ _ _
  have e2 : ∀ h, View.readAt (Elt Bits) arg6.view (Rect.unit (s := S1x7168x512) ![0, 0, 0] S1x7168x512.size h).toLoadRect (arg6.view.rep x1) = x1 := fun h => View.readAt_rep_full _ _ _
  sl_unfold_run_names
  rw [e1, e2]
  isplitl [HO3]
  · iexists _
    isplitr
    swap
    · iexact HO3
    · ipureintro
      rw [readCov_w]
      exact writes_down _ _ _ _ _ _ _ _
  · rw [show (View.whole cc0_scratch0).writes (Elt Bits) (View.whole cc0_scratch0).junk [⟨Rect.unit (s := S7168x512) ![0, 0] S7168x512.size inb_S7168x512_S7168x512_0_0, k0_pay3 x1⟩] = k0_pay3 x1 from writes_w _ _ _]
    iexact HS0

set_option maxHeartbeats 800000 in
/-- A step that uses the weights kept. -/
theorem run_keep (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Bits .i32) (T1 T2 : S46.Idx → Elt Bits .i32) (x0 : S512x7168.Idx → Elt Bits .bf16) (x1 : S1x7168x512.Idx → Elt Bits .f32)
    (d : S4x512x128.Idx → Elt Bits .f32) (a : Buf (Elt Bits) ((c : Thread nD τ).loc cc0_scratch0)) (K : PUnit → sProp MM)
    (hl : liveRun i T1) (hr : ¬ reloadRun i T0) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare (downO x0 a)
              ∗ (wM.view.loc (c : Thread nD τ) ↦{fullShare} a)) -∗ K ⟨⟩))
          ⊢ wp frame (wpE (defs₀ (F := Bits)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  unfold owns
  rw [cc0_ffn_down_routed_eq_skeleton]; unfold cc0_ffn_down_routed_skel
  rw [k0_part1_eq_skeleton]
  iintro ⟨H0, H1, HT0, HT1, HT2, ⟨%f3, %hf3, HO3⟩, HS0, Hk⟩
  have hS0 : wM.IsWhole := Memref.isWhole_whole _
  have hT0 : teM.IsWhole := Memref.isWhole_whole _
  have hT1 : hlM.IsWhole := Memref.isWhole_whole _
  have hT2 : hsM.IsWhole := Memref.isWhole_whole _
  sl_exec!
  sl_step
  iapply Hk
  isplitl [H0]; · iexact H0
  isplitl [H1]; · iexact H1
  isplitl [HT0]; · iexact HT0
  isplitl [HT1]; · iexact HT1
  isplitl [HT2]; · iexact HT2
  have e1 : ∀ h, View.readAt (Elt Bits) arg5.view (Rect.unit (s := S512x7168) ![0, 0] S512x7168.size h).toLoadRect (arg5.view.rep x0) = x0 := fun h => View.readAt_rep_full _ _ _
  have e5 : ∀ h (b : S7168x512.Idx → Elt Bits .bf16), View.readAt (Elt Bits) wM.view (Rect.unit (s := S7168x512) ![0, 0] S7168x512.size h).toLoadRect b = b := fun h b => View.readAt_full wM.view b h
  sl_unfold_run_names
  simp only [e1, e5]
  isplitl [HO3]
  · iexists _
    isplitr
    swap
    · iexact HO3
    · ipureintro
      exact writes_down _ _ _ _ _ _ _ _
  · iexact HS0

set_option maxHeartbeats 800000 in
/-- A step whose half holds no rows. -/
theorem run_dead (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Bits .i32) (T1 T2 : S46.Idx → Elt Bits .i32) (x0 : S512x7168.Idx → Elt Bits .bf16) (x1 : S1x7168x512.Idx → Elt Bits .f32)
    (d : S4x512x128.Idx → Elt Bits .f32) (a : Buf (Elt Bits) ((c : Thread nD τ).loc cc0_scratch0)) (K : PUnit → sProp MM)
    (hl : ¬ liveRun i T1) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare d
              ∗ (wM.view.loc (c : Thread nD τ) ↦{fullShare} a)) -∗ K ⟨⟩))
          ⊢ wp frame (wpE (defs₀ (F := Bits)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  unfold owns
  rw [cc0_ffn_down_routed_eq_skeleton]; unfold cc0_ffn_down_routed_skel
  rw [k0_part1_eq_skeleton]
  iintro ⟨H0, H1, HT0, HT1, HT2, ⟨%f3, %hf3, HO3⟩, HS0, Hk⟩
  have hS0 : wM.IsWhole := Memref.isWhole_whole _
  have hT0 : teM.IsWhole := Memref.isWhole_whole _
  have hT1 : hlM.IsWhole := Memref.isWhole_whole _
  have hT2 : hsM.IsWhole := Memref.isWhole_whole _
  sl_exec!
  sl_step
  iapply Hk
  isplitl [H0]; · iexact H0
  isplitl [H1]; · iexact H1
  isplitl [HT0]; · iexact HT0
  isplitl [HT1]; · iexact HT1
  isplitl [HT2]; · iexact HT2
  isplitl [HO3]
  · iexists f3
    isplitr
    · ipureintro; exact hf3
    · iexact HO3
  · iexact HS0

set_option maxHeartbeats 800000 in
/-- One step of the kernel: its inputs and tables as they were, the result's block and the kept weights as `stepO` and `stepW` say. -/
theorem run_step (c : Dev nD) (i : grid0.Coords) (arg5 : Memref sig .tc .vmem S512x7168 .bf16) (harg5 : arg5.IsWhole) (arg6 : Memref sig .tc .vmem S1x7168x512 .f32) (harg6 : arg6.IsWhole) (arg7 : Memref sig .tc .vmem S4x512x128 .f32) (harg7 : arg7.IsWhole)
    (T0 : S23.Idx → Elt Bits .i32) (T1 T2 : S46.Idx → Elt Bits .i32) (x0 : S512x7168.Idx → Elt Bits .bf16) (x1 : S1x7168x512.Idx → Elt Bits .f32)
    (d : S4x512x128.Idx → Elt Bits .f32) (a : Buf (Elt Bits) ((c : Thread nD τ).loc cc0_scratch0)) (K : PUnit → sProp MM) :
    iprop((arg5.view.loc (c : Thread nD τ) ↦[arg5.view.set]{fullShare} arg5.view.rep x0)
          ∗ (arg6.view.loc (c : Thread nD τ) ↦[arg6.view.set]{fullShare} arg6.view.rep x1)
          ∗ (teM.view.loc (c : Thread nD τ) ↦{fullShare.right} T0)
          ∗ (hlM.view.loc (c : Thread nD τ) ↦{fullShare.right} T1)
          ∗ (hsM.view.loc (c : Thread nD τ) ↦{fullShare.right} T2)
          ∗ owns (c : Thread nD τ) arg7 fullShare d
          ∗ (wM.view.loc (c : Thread nD τ) ↦{fullShare} a)
          ∗ (iprop((arg5.view.loc (c : Thread nD τ) ↦[arg5.view.set]{fullShare} arg5.view.rep x0)
              ∗ (arg6.view.loc (c : Thread nD τ) ↦[arg6.view.set]{fullShare} arg6.view.rep x1)
              ∗ (teM.view.loc (c : Thread nD τ) ↦{fullShare.right} T0)
              ∗ (hlM.view.loc (c : Thread nD τ) ↦{fullShare.right} T1)
              ∗ (hsM.view.loc (c : Thread nD τ) ↦{fullShare.right} T2)
              ∗ owns (c : Thread nD τ) arg7 fullShare (stepO i T1 x0 (stepW i T0 T1 x1 a) d)
              ∗ (wM.view.loc (c : Thread nD τ) ↦{fullShare} stepW i T0 T1 x1 a)) -∗ K ⟨⟩))
          ⊢ wp frame (wpE (defs₀ (F := Bits)) Variants.none c none) Set.univ (cc0_ffn_down_routed i teM (Memref.isWhole_whole _) hlM (Memref.isWhole_whole _) hsM (Memref.isWhole_whole _) arg5 harg5 arg6 harg6 arg7 harg7 wM (Memref.isWhole_whole _)) K := by
  by_cases hl : liveRun i T1
  · have hl' := (liveRun_iff i T1).mp hl
    by_cases hr : reloadRun i T0
    · have hr' := (reloadRun_iff i T0).mp hr
      have e1 : stepW i T0 T1 x1 a = k0_pay3 x1 := if_pos ⟨hl', hr'⟩
      have e2 : stepO i T1 x0 (k0_pay3 x1) d = downO x0 (k0_pay3 x1) := if_pos hl'
      rw [e1, e2]
      exact run_reload c i arg5 harg5 arg6 harg6 arg7 harg7 T0 T1 T2 x0 x1 d a K hl hr
    · have hr' := fun h => hr ((reloadRun_iff i T0).mpr h)
      have e1 : stepW i T0 T1 x1 a = a := if_neg fun h => hr' h.2
      have e2 : stepO i T1 x0 a d = downO x0 a := if_pos hl'
      rw [e1, e2]
      exact run_keep c i arg5 harg5 arg6 harg6 arg7 harg7 T0 T1 T2 x0 x1 d a K hl hr
  · have hl' := fun h => hl ((liveRun_iff i T1).mpr h)
    have e1 : stepW i T0 T1 x1 a = a := if_neg fun h => hl' h.1
    have e2 : stepO i T1 x0 a d = d := if_neg hl'
    rw [e1, e2]
    exact run_dead c i arg5 harg5 arg6 harg6 arg7 harg7 T0 T1 T2 x0 x1 d a K hl

end Cert.Kernel3.Down

end
-- ==== Proof.DownDatB.lean ====
module

public import proofs.«01_k».proof.Proof.DownTabB
public import Idealize.ShloMosaic.Lib.Pipeline.Quiescent
public import Idealize.ShloMosaic.Lib.Pipeline.Value
public import Idealize.ShloMosaic.Lib.Claim
public import Idealize.ShloMosaic.Adequacy
public import Idealize.ShloMosaic.Init

@[expose] public section

set_option maxRecDepth 16384
set_option Elab.async false

noncomputable section

namespace Cert.Kernel3.Down

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (pf : pre0.Contents (Elt Bits)) (hT : Tables (te pf) (hlT pf) (hsT pf))

/-- The pipeline at the run's tables. -/
abbrev adm : (pcfg0 (F := Bits)).Adm := ⟨pf, ok pf hT⟩
/-- The pipeline of the launch at the run's tables. -/
abbrev cfgA : Pipeline.Cfg sig Λ₀ := cfg0 (adm pf hT)
/-- The one pipeline of the program. -/
abbrev pcs : Fin 1 → Pipeline.Cfg sig Λ₀ := Pipeline.pin (pcfgs (F := Bits)) fun _ => adm pf hT
/-- The coordinates of a point. -/
abbrev crd (t : Fin (cfgA pf hT).N) : grid0.Coords := (cfgA pf hT).grid.coords t

/-! ## The grid: 4 blocks of columns, 46 halves each -/

/-- The number of points. -/
theorem N_eq : (cfgA pf hT).N = 184 := rfl

/-- The block of columns of a point. -/
theorem crd_0 (t : Fin (cfgA pf hT).N) : (crd pf hT t 0).val = t.val / 46 := by
  have h : t.val < 184 := t.isLt
  have e := Pipeline.Grid.coords_val (G := grid0) t 0 (S := 46) (B := 4) (by decide) rfl
  have e' : (crd pf hT t 0).val = t.val / 46 % 4 := e
  omega

/-- The second coordinate of a point is its half. -/
theorem crd_1 (t : Fin (cfgA pf hT).N) : (crd pf hT t 1).val = t.val % 46 := by
  have e := Pipeline.Grid.coords_val (G := grid0) t 1 (S := 1) (B := 46) (by decide) rfl
  have e' : (crd pf hT t 1).val = t.val / 1 % 46 := e
  omega

/-- The half of a point. -/
abbrev hf (t : Fin (cfgA pf hT).N) : Fin 46 := half (crd pf hT t)

/-- The half of a point, as a number. -/
theorem hf_val (t : Fin (cfgA pf hT).N) : (hf pf hT t).val = t.val % 46 := crd_1 pf hT t

/-- The point before. -/
abbrev back (t : Fin (cfgA pf hT).N) : Fin (cfgA pf hT).N := ⟨t.val - 1, lt_of_le_of_lt (Nat.sub_le _ _) t.isLt⟩

/-- The point before a half other than the first is at the half before. -/
theorem hf_back (t : Fin (cfgA pf hT).N) (h : (hf pf hT t).val ≠ 0) : hf pf hT (back pf hT t) = ⟨(hf pf hT t).val - 1, by omega⟩ := by
  apply Fin.ext
  have e1 := hf_val pf hT t
  have e2 := hf_val pf hT (back pf hT t)
  have e3 : (back pf hT t).val = t.val - 1 := rfl
  show (hf pf hT (back pf hT t)).val = (hf pf hT t).val - 1
  omega

/-- The point before a half other than the first is at the same columns. -/
theorem col_back (t : Fin (cfgA pf hT).N) (h : (hf pf hT t).val ≠ 0) : (crd pf hT (back pf hT t) 0).val = (crd pf hT t 0).val := by
  have e1 := hf_val pf hT t
  have e2 := crd_0 pf hT t
  have e3 := crd_0 pf hT (back pf hT t)
  have e4 : (back pf hT t).val = t.val - 1 := rfl
  omega

/-- Whether a point's half holds rows. -/
abbrev Live (t : Fin (cfgA pf hT).N) : Prop := live (hlT pf) (hf pf hT t)

/-- A half without rows is not the first. -/
theorem hf_ne_of_dead (t : Fin (cfgA pf hT).N) (h : ¬ Live pf hT t) : (hf pf hT t).val ≠ 0 := fun e => by
  have : hf pf hT t = 0 := Fin.ext e
  rw [Live, this] at h
  exact h hT.first

/-- A point of a half other than the first is not the first point. -/
theorem ne_of_hf (t : Fin (cfgA pf hT).N) (h : (hf pf hT t).val ≠ 0) : t.val ≠ 0 := fun e => by
  rw [hf_val, e] at h; exact h rfl

/-! ## Where the windows' blocks lie -/

/-- The rows' block of a point. -/
theorem index0 (t : Fin (cfgA pf hT).N) : ((cfgA pf hT).win (0 : Fin 3)).index t = ![place (hlT pf) (hsT pf) (hf pf hT t), 0] := tr0 pf (crd pf hT t)
/-- The weights' block of a point. -/
theorem index1 (t : Fin (cfgA pf hT).N) : ((cfgA pf hT).win (1 : Fin 3)).index t = ![(ent (te pf) (tileOf (hf pf hT t))).toNat, 0, (crd pf hT t 0).val] := tr1 pf (crd pf hT t)
/-- The result's block of a point. -/
theorem index2 (t : Fin (cfgA pf hT).N) : ((cfgA pf hT).win (2 : Fin 3)).index t = ![(crd pf hT t 0).val, place (hlT pf) (hsT pf) (hf pf hT t), 0] := tr2 pf (crd pf hT t)

/-! ## The schedule of the result's window -/

/-- The result's block is left alone exactly at a half without rows. -/
theorem idle2 (t : Fin (cfgA pf hT).N) : (cfgA pf hT).idle (2 : Fin 3) ((cfgA pf hT).grid.coords t) = decide (¬ Live pf hT t) :=
  idle_iff pf (crd pf hT t)

/-- A half without rows has the place of the half before. -/
theorem place_back (t : Fin (cfgA pf hT).N) (h : ¬ Live pf hT t) : place (hlT pf) (hsT pf) (hf pf hT t) = place (hlT pf) (hsT pf) (hf pf hT (back pf hT t)) := by
  have h0 := hf_ne_of_dead pf hT t h
  rw [hf_back pf hT t h0]
  exact hT.hs_dead _ h0 h

/-- Before a half without rows nothing is written back. -/
theorem flush_back (t : Fin (cfgA pf hT).N) (h : ¬ Live pf hT t) : ((cfgA pf hT).win (2 : Fin 3)).flush (back pf hT t) = false := by
  have h0 := hf_ne_of_dead pf hT t h
  have ht := ne_of_hf pf hT t h0
  have hN : t.val < (cfgA pf hT).N := t.isLt
  have e : t.val - 1 + 1 = t.val := by omega
  unfold Pipeline.Window.flush
  have hi : ∀ hh : t.val - 1 + 1 < (cfgA pf hT).N, ((cfgA pf hT).win (2 : Fin 3)).index ⟨t.val - 1 + 1, hh⟩ = ((cfgA pf hT).win (2 : Fin 3)).index (back pf hT t) := by
    intro hh
    have e' : (⟨t.val - 1 + 1, hh⟩ : Fin (cfgA pf hT).N) = t := Fin.ext e
    rw [e', index2, index2, place_back pf hT t h, col_back pf hT t h0]
  rw [Bool.and_eq_false_iff]
  right
  rw [Bool.or_eq_false_iff]
  constructor
  · exact decide_eq_false (by show ¬ (t.val - 1 + 1 = (cfgA pf hT).N); omega)
  · exact decide_eq_false (fun ⟨hh, hne⟩ => hne (hi hh))

/-- At a half without rows the result's buffer still holds the last half's block. -/
theorem fresh_dead : ∀ (n : ℕ) (hn : n < (cfgA pf hT).N), ¬ Live pf hT ⟨n, hn⟩ → (cfgA pf hT).fresh (2 : Fin 3) n = false
  | 0, hn, h => absurd rfl (ne_of_hf pf hT ⟨0, hn⟩ (hf_ne_of_dead pf hT _ h))
  | n + 1, hn, h => by
    have hn' : n < (cfgA pf hT).N := by omega
    rw [(cfgA pf hT).fresh_succ (2 : Fin 3) n hn']
    have hf := flush_back pf hT ⟨n + 1, hn⟩ h
    have hf' : ((cfgA pf hT).win (2 : Fin 3)).flush ⟨n, hn'⟩ = false := hf
    rw [hf', Bool.false_or, idle2]
    by_cases hl : Live pf hT ⟨n, hn'⟩
    · rw [decide_eq_false (not_not.mpr hl), Bool.false_and]
    · rw [fresh_dead n hn' hl, Bool.and_false]

/-- The point whose block the result's buffer holds: the one of the half's place. -/
def src (t : Fin (cfgA pf hT).N) : Fin (cfgA pf hT).N :=
  ⟨t.val / 46 * 46 + place (hlT pf) (hsT pf) (hf pf hT t), by
    have h1 := hT.place_lt (hf pf hT t)
    have h2 : t.val < 184 := t.isLt
    show _ < 184
    omega⟩

/-- The half of the point whose block the buffer holds is the place of this half. -/
theorem hf_src (t : Fin (cfgA pf hT).N) : (hf pf hT (src pf hT t)).val = place (hlT pf) (hsT pf) (hf pf hT t) := by
  have h1 := hT.place_lt (hf pf hT t)
  rw [hf_val]
  show (t.val / 46 * 46 + place (hlT pf) (hsT pf) (hf pf hT t)) % 46 = _
  omega

/-- That point is at the same columns. -/
theorem col_src (t : Fin (cfgA pf hT).N) : (crd pf hT (src pf hT t) 0).val = (crd pf hT t 0).val := by
  have h1 := hT.place_lt (hf pf hT t)
  rw [crd_0, crd_0]
  show (t.val / 46 * 46 + place (hlT pf) (hsT pf) (hf pf hT t)) / 46 = _
  omega

/-- At a half with rows it is the point itself. -/
theorem src_live (t : Fin (cfgA pf hT).N) (h : Live pf hT t) : src pf hT t = t := by
  apply Fin.ext
  show t.val / 46 * 46 + place (hlT pf) (hsT pf) (hf pf hT t) = t.val
  rw [place_live h, hf_val]
  omega

/-- At a half without rows it is the one of the point before. -/
theorem src_dead (t : Fin (cfgA pf hT).N) (h : ¬ Live pf hT t) : src pf hT t = src pf hT (back pf hT t) := by
  apply Fin.ext
  show t.val / 46 * 46 + place (hlT pf) (hsT pf) (hf pf hT t) = (t.val - 1) / 46 * 46 + place (hlT pf) (hsT pf) (hf pf hT (back pf hT t))
  have h0 := hf_ne_of_dead pf hT t h
  have e := hf_val pf hT t
  rw [place_back pf hT t h]
  omega

/-- Its half holds rows. -/
theorem live_src (t : Fin (cfgA pf hT).N) : Live pf hT (src pf hT t) := by
  have e : hf pf hT (src pf hT t) = ⟨place (hlT pf) (hsT pf) (hf pf hT t), hT.place_lt _⟩ := Fin.ext (hf_src pf hT t)
  rw [Live, e]
  exact hT.live_place (hf pf hT t).val (hf pf hT t).isLt

/-! ## The blocks the inputs' windows hold -/

variable (m : (ℓ : Loc nD τ sig) → Buf (Elt Bits) ℓ) (ρ : Dev nD → PrngReg)

/-- The array's block an input's window holds at a point. -/
def iblk (c : Dev nD) (w : Fin (cfgA pf hT).W) (t : Fin (cfgA pf hT).N) : (((cfgA pf hT).win w).xblock ((cfgA pf hT).grid.coords t)).Idx → Elt Bits ((cfgA pf hT).win w).elt :=
  (((cfgA pf hT).win w).blk t).view.read _ ((s₀ m ρ).mem (((cfgA pf hT).win w).arr.view.loc (c : Thread nD τ)))

/-- The rows a point is given. -/
abbrev X0 (c : Dev nD) (t : Fin (cfgA pf hT).N) : S512x7168.Idx → Elt Bits .bf16 := iblk pf hT m ρ c (0 : Fin 3) t
/-- The weights a point is given. -/
abbrev X1 (c : Dev nD) (t : Fin (cfgA pf hT).N) : S1x7168x512.Idx → Elt Bits .f32 := iblk pf hT m ρ c (1 : Fin 3) t

/-- The rows' block, entry by entry. -/
theorem X0_apply (c : Dev nD) (t : Fin (cfgA pf hT).N) (y : S512x7168.Idx) (i : S23552x7168.Idx)
    (h0 : (i 0).val = place (hlT pf) (hsT pf) (hf pf hT t) * 512 + (y 0).val) (h1 : (i 1).val = (y 1).val) :
    X0 pf hT m ρ c t y = (m ((c : Thread nD τ).loc main_arg0) : S23552x7168.Idx → Elt Bits .bf16) i := by
  show (m ((c : Thread nD τ).loc main_arg0) : S23552x7168.Idx → Elt Bits .bf16) ((((cfgA pf hT).win (0 : Fin 3)).rect t).emb y) = _
  congr 1
  funext a
  apply Fin.ext
  have e := Pipeline.Window.rect_emb_val ((cfgA pf hT).win (0 : Fin 3)) t y a
  refine e.trans ?_
  rw [index0]
  fin_cases a
  · exact h0.symm
  · show 0 * 7168 + (y 1).val = (i 1).val
    omega

/-- The weights' block, entry by entry. -/
theorem X1_apply (c : Dev nD) (t : Fin (cfgA pf hT).N) (y : S1x7168x512.Idx) (i : S16x7168x2048.Idx)
    (h0 : (i 0).val = (ent (te pf) (tileOf (hf pf hT t))).toNat) (h1 : (i 1).val = (y 1).val) (h2 : (i 2).val = (crd pf hT t 0).val * 512 + (y 2).val) :
    X1 pf hT m ρ c t y = (m ((c : Thread nD τ).loc main_arg1) : S16x7168x2048.Idx → Elt Bits .f32) i := by
  show (m ((c : Thread nD τ).loc main_arg1) : S16x7168x2048.Idx → Elt Bits .f32) ((((cfgA pf hT).win (1 : Fin 3)).rect t).emb y) = _
  congr 1
  funext a
  apply Fin.ext
  have e := Pipeline.Window.rect_emb_val ((cfgA pf hT).win (1 : Fin 3)) t y a
  refine e.trans ?_
  rw [index1]
  have hy : (y 0).val < 1 := (y 0).isLt
  fin_cases a
  · show (ent (te pf) (tileOf (hf pf hT t))).toNat * 1 + (y 0).val = (i 0).val
    omega
  · show 0 * 7168 + (y 1).val = (i 1).val
    omega
  · exact h2.symm

/-- The element of the array of weights a block's element is. -/
abbrev wIdx (t : Fin (cfgA pf hT).N) (y : S1x7168x512.Idx) : S16x7168x2048.Idx :=
  ix3 ⟨(ent (te pf) (tileOf (hf pf hT t))).toNat, hT.te_lt _⟩ ⟨(y 1).val, (y 1).isLt⟩ ⟨(crd pf hT t 0).val * 512 + (y 2).val, by
    have h1 : (crd pf hT t 0).val < 4 := (crd pf hT t 0).isLt
    have h2 : (y 2).val < 512 := (y 2).isLt
    omega⟩

/-- The weights a point's half is multiplied by. -/
abbrev W (c : Dev nD) (t : Fin (cfgA pf hT).N) : S7168x512.Idx → Elt Bits .bf16 := k0_pay3 (X1 pf hT m ρ c t)

/-- Two points of one expert and one block of columns have the same weights. -/
theorem W_back (c : Dev nD) (t : Fin (cfgA pf hT).N) (h : (hf pf hT t).val ≠ 0) (he : ent (te pf) (tileOf (hf pf hT t)) = ent (te pf) (tileOf (hf pf hT (back pf hT t)))) :
    W pf hT m ρ c (back pf hT t) = W pf hT m ρ c t := by
  refine congrArg k0_pay3 ?_
  funext y
  rw [X1_apply pf hT m ρ c t y (wIdx pf hT t y) rfl rfl rfl]
  exact X1_apply pf hT m ρ c _ y _ (congrArg BitVec.toNat he) rfl (by rw [col_back pf hT t h])

/-- The block a point whose half holds rows leaves. -/
def liveO (c : Dev nD) (t : Fin (cfgA pf hT).N) : S4x512x128.Idx → Elt Bits .f32 := downO (X0 pf hT m ρ c t) (W pf hT m ρ c t)

/-- The point of the first half of a point's tile. -/
abbrev firstP (t : Fin (cfgA pf hT).N) : Fin (cfgA pf hT).N := ⟨t.val - t.val % 2, lt_of_le_of_lt (Nat.sub_le _ _) t.isLt⟩

/-- At a second half, the half before is of the same tile. -/
theorem tile_back (t : Fin (cfgA pf hT).N) (h : (hf pf hT t).val % 2 = 1) : tileOf (hf pf hT t) = tileOf (hf pf hT (back pf hT t)) := by
  have h0 : (hf pf hT t).val ≠ 0 := by omega
  rw [hf_back pf hT t h0]
  apply Fin.ext
  show (hf pf hT t).val / 2 = ((hf pf hT t).val - 1) / 2
  omega

/-- At a point whose half holds rows the step uses that point's weights, if the kept ones are those of the point before wherever that point's tile holds rows. -/
theorem stepW_live (c : Dev nD) (t : Fin (cfgA pf hT).N) (h : Live pf hT t) (a : S7168x512.Idx → Elt Bits .bf16)
    (ha : t.val ≠ 0 → Live pf hT (firstP pf hT (back pf hT t)) → a = W pf hT m ρ c (back pf hT t)) :
    stepW (crd pf hT t) (te pf) (hlT pf) (X1 pf hT m ρ c t) a = W pf hT m ρ c t := by
  unfold stepW
  by_cases hr : reload (hf pf hT t) (te pf)
  · exact if_pos ⟨h, hr⟩
  · rw [if_neg (fun hh => hr hh.2)]
    have h0 : (hf pf hT t).val ≠ 0 := fun e => hr (Or.inl e)
    have ht := ne_of_hf pf hT t h0
    have e1 := hf_val pf hT t
    have e3 : (back pf hT t).val = t.val - 1 := rfl
    by_cases hp : (hf pf hT t).val % 2 = 1
    · have eb : firstP pf hT (back pf hT t) = back pf hT t := Fin.ext (by
        show (back pf hT t).val - (back pf hT t).val % 2 = (back pf hT t).val
        omega)
      have hb : Live pf hT (firstP pf hT (back pf hT t)) := by
        rw [eb, Live, hf_back pf hT t h0]
        exact hT.odd _ hp h
      rw [ha ht hb]
      exact W_back pf hT m ρ c t h0 (congrArg _ (tile_back pf hT t hp))
    · have he : ent (te pf) (tileOf (hf pf hT t)) = ent (te pf) (tilePOf (hf pf hT t)) :=
        not_not.mp (fun e => hr (Or.inr ⟨by omega, e⟩))
      have et : tilePOf (hf pf hT t) = tileOf (hf pf hT (back pf hT t)) := by
        rw [hf_back pf hT t h0]
        apply Fin.ext
        show (hf pf hT t).val / 2 - 1 = ((hf pf hT t).val - 1) / 2
        omega
      have hb : Live pf hT (firstP pf hT (back pf hT t)) := by
        have e2 := hf_val pf hT (firstP pf hT (back pf hT t))
        have e4 : (firstP pf hT (back pf hT t)).val = (back pf hT t).val - (back pf hT t).val % 2 := rfl
        have e5 : hf pf hT (firstP pf hT (back pf hT t)) = ⟨(hf pf hT t).val - 2, by omega⟩ := Fin.ext (by
          show (hf pf hT (firstP pf hT (back pf hT t))).val = (hf pf hT t).val - 2
          omega)
        rw [Live, e5]
        exact hT.front _ h0 (by omega) h
      rw [ha ht hb]
      exact W_back pf hT m ρ c t h0 (he.trans (congrArg _ et))

/-- At a half with rows the step leaves that point's block. -/
theorem stepO_live (c : Dev nD) (t : Fin (cfgA pf hT).N) (h : Live pf hT t) (d : S4x512x128.Idx → Elt Bits .f32) :
    stepO (crd pf hT t) (hlT pf) (X0 pf hT m ρ c t) (W pf hT m ρ c t) d = liveO pf hT m ρ c t := if_pos h

/-- At a half without rows the weights are kept. -/
theorem stepW_dead (t : Fin (cfgA pf hT).N) (h : ¬ Live pf hT t) (x1 : S1x7168x512.Idx → Elt Bits .f32) (a : S7168x512.Idx → Elt Bits .bf16) :
    stepW (crd pf hT t) (te pf) (hlT pf) x1 a = a := if_neg fun hh => h hh.1

/-- At a half without rows the result's block is kept. -/
theorem stepO_dead (t : Fin (cfgA pf hT).N) (h : ¬ Live pf hT t) (x0 : S512x7168.Idx → Elt Bits .bf16) (w : S7168x512.Idx → Elt Bits .bf16) (d : S4x512x128.Idx → Elt Bits .f32) :
    stepO (crd pf hT t) (hlT pf) x0 w d = d := if_neg h

end Cert.Kernel3.Down

end
-- ==== Proof.DownFinal.lean ====
module

public import proofs.«01_k».proof.Proof.DownVal
public import proofs.«01_k».proof.Proof.DownRef
public import proofs.«01_k».proof.Proof.DownPreI
public import proofs.«01_k».proof.Proof.DownPreB
public import proofs.«01_k».proof.Proof.DownFrameB
public import proofs.«01_k».proof.Proof.Gen.Reference3Ideal.Run
public import proofs.«01_k».proof.Defs

@[expose] public section

set_option maxRecDepth 16384
set_option Elab.async false

noncomputable section

namespace Cert.Down

open Idealize.ShloMosaic Idealize.ShloMosaic.TcCoe Idealize.SL.Sem

/-- Every run of the kernel from tables the precondition admits ends with the arguments as they were and every counter at zero. -/
theorem frame : Cert.quiescent_Kernel3 := fun m ρ hpre => by
  let pf : Kernel3.pre0.Contents (Elt Bits) := fun j => m (((0 : Dev Kernel3.nD) : Thread Kernel3.nD Kernel3.τ).loc (Kernel3.pre0.ref j))
  have hT : Kernel3.Down.Tables (Kernel3.Down.te pf) (Kernel3.Down.hlT pf) (Kernel3.Down.hsT pf) := Kernel3.Down.tables_of_pre _ _ _ _ _ (hpre 0)
  have hp : Kernel3.Down.Pinned pf m := fun c j => by
    obtain rfl : c = 0 := Subsingleton.elim (α := Fin 1) _ _
    rfl
  exact Kernel3.Down.frame pf hT m ρ hp

/-- The same of the idealized kernel. -/
theorem frame_ideal : Cert.quiescent_Kernel3Ideal := fun m ρ hpre => by
  let pf : Kernel3Ideal.pre0.Contents (Elt Ideal) := fun j => m (((0 : Dev Kernel3Ideal.nD) : Thread Kernel3Ideal.nD Kernel3Ideal.τ).loc (Kernel3Ideal.pre0.ref j))
  have hT : Kernel3Ideal.Down.Tables (Kernel3Ideal.Down.te pf) (Kernel3Ideal.Down.hlT pf) (Kernel3Ideal.Down.hsT pf) := Kernel3Ideal.Down.tables_of_pre _ _ _ _ _ (hpre 0)
  have hp : Kernel3Ideal.Down.Pinned pf m := fun c j => by
    obtain rfl : c = 0 := Subsingleton.elim (α := Fin 1) _ _
    rfl
  exact Kernel3Ideal.Down.frame pf hT m ρ hp

/-- The idealized reference runs, leaves its arguments and ends with every counter at zero. -/
theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- A word is the word of its number. -/
theorem word_ofNat (w : BitVec 32) : BitVec.ofNat 32 w.toNat = w := BitVec.eq_of_toNat_eq (by rw [BitVec.toNat_ofNat]; exact Nat.mod_eq_of_lt w.isLt)

/-- The idealized kernel and the idealized reference end with equal results on the rows of the halves that hold rows. -/
theorem algebraic : Cert.algebraic_Kernel3Ideal_Reference3Ideal_on_halves_held := by
  intro m ρ m' ρ' hpre hag
  let pf : Kernel3Ideal.pre0.Contents (Elt Ideal) := fun j => m (((0 : Dev Kernel3Ideal.nD) : Thread Kernel3Ideal.nD Kernel3Ideal.τ).loc (Kernel3Ideal.pre0.ref j))
  have hT : Kernel3Ideal.Down.Tables (Kernel3Ideal.Down.te pf) (Kernel3Ideal.Down.hlT pf) (Kernel3Ideal.Down.hsT pf) := Kernel3Ideal.Down.tables_of_pre _ _ _ _ _ (hpre 0)
  have hp : Kernel3Ideal.Down.Pinned pf m := fun c j => by
    obtain rfl : c = 0 := Subsingleton.elim (α := Fin 1) _ _
    rfl
  refine ⟨fun c => (Kernel3Ideal.Down.dats pf hT m ρ 0 c).arrAt (2 : Fin 3) (Kernel3Ideal.Down.cfgA pf hT).N, ?_, ?_⟩
  · exact (θ_run Cert.Kernel3Ideal.defs _ _).mono (fun r h c => ⟨fun i _ => congrFun (h.1 c).1 i, (h.1 c).2⟩) (Kernel3Ideal.Down.result pf hT m ρ hp)
  · refine (θ_run Cert.Reference3Ideal.defs _ _).mono (fun r h c => ⟨fun i hi => ?_, (h c).2⟩) (Cert.Reference3Ideal.Value.run m' ρ')
    refine (congrFun ((h c).1.trans (Cert.Reference3Ideal.Read.val_main_v7_eq _ _ _)) i).trans ?_
    obtain ⟨e0, e1, e2, e3, e4⟩ := hag c
    rw [e0, e1, e2]
    obtain rfl : c = 0 := Subsingleton.elim (α := Fin 1) _ _
    obtain ⟨s, R, l, rfl⟩ : ∃ s R l, i = ix3 (n0 := 16) (n1 := 23552) (n2 := 128) s R l := ⟨i 0, i 1, i 2, eq_ix3 _⟩
    rw [Cert.Reference3Ideal.Down.held_iff] at hi
    have hm : Kernel3Ideal.Down.live (Kernel3Ideal.Down.hlT pf) ⟨R.val / 512, by omega⟩ := Kernel3Ideal.Down.live_iff.mpr hi
    refine (Cert.Reference3Ideal.Down.ref_apply _ _ _ s R l ⟨s.val * 128 + l.val, by omega⟩ (Kernel3Ideal.Down.ex pf hT ⟨R.val / 1024, by omega⟩) rfl ?_).trans
      (Kernel3Ideal.Down.arr_spec pf hT m ρ 0 s R l hm).symm
    exact (word_ofNat (Kernel3Ideal.Down.ent (Kernel3Ideal.Down.te pf) ⟨R.val / 1024, by omega⟩)).symm

end Cert.Down

end
-- ==== Proof.SconvPay.lean ====
module

public import proofs.«01_k».proof.Proof.Gen.Kernel4Ideal.Value
public import Idealize.ShloMosaic.Lib.Pointwise
public import Idealize.ShloMosaic.Lib.ValueIdxCore
public import Idealize.ShloMosaic.Lib.WordArith

@[expose] public section

set_option maxRecDepth 16384

noncomputable section

namespace Cert.Sconv

open Cert.Kernel4Ideal Cert.Kernel4Ideal.Gen
open Idealize.ShloMosaic

/-- The gated input at an index. -/
theorem pay3_apply (g u : FVec Ideal S512x2048 .f32) (r : Fin 512) (l : Fin 2048) : k0_pay3 (F := Ideal) g u (ix2 r l) = g (ix2 r l) * u (ix2 r l) := by
  pointwise [k0_pay3]

/-- The eight gated rows before the block: zero at the start of a sequence. -/
theorem pay4_apply (i : grid0.Coords) (g u : FVec Ideal S8x2048 .f32) (r : Fin 8) (l : Fin 2048) :
    k0_pay4 (F := Ideal) i g u (ix2 r l) = if 0 < (i 1).val then g (ix2 r l) * u (ix2 r l) else Ideal.ofBits .f32 0x00000000#32 := by
  have hi : (i 1).val < 8 := (i 1).isLt
  by_cases h : 0 < (i 1).val
  · rw [if_pos h]
    have e : Scalar.cmpi .sgt (BitVec.ofNat 32 (i 1).val) 0#32 = 1#1 := by
      have : ∀ n : Fin 8, 0 < n.val → Scalar.cmpi .sgt (BitVec.ofNat 32 n.val) 0#32 = 1#1 := by decide
      exact this ⟨(i 1).val, hi⟩ h
    unfold k0_pay4
    rw [e]
    rfl
  · rw [if_neg h]
    have e : Scalar.cmpi .sgt (BitVec.ofNat 32 (i 1).val) 0#32 = 0#1 := by
      rw [show (i 1).val = 0 by omega]; decide
    unfold k0_pay4
    rw [e]
    rfl

/-- The first tap's weights, spread over the rows. -/
theorem pay7_apply (w : FVec Ideal S1x1x2048 .f32) (r : Fin 512) (l : Fin 2048) : k0_pay7 (F := Ideal) w (ix2 r l) = w (ix3 0 0 l) := by
  pointwise [k0_pay7]

/-- A step's result at an index. -/
theorem pay1_apply (cu s1 t2 w1 : FVec Ideal S512x2048 .f32) (w2 : FVec Ideal S1x1x2048 .f32) (g : FVec Ideal S512x2048 .f32) (r : Fin 512) (l : Fin 2048) :
    k0_pay1 (F := Ideal) cu s1 t2 w1 w2 g (ix2 r l) = g (ix2 r l) * (t2 (ix2 r l) + w1 (ix2 r l) * s1 (ix2 r l) + w2 (ix3 0 0 l) * cu (ix2 r l)) := by
  pointwise [k0_pay1]

/-- A step's last eight gated rows. -/
theorem pay2_apply (cu : FVec Ideal S512x2048 .f32) (r : Fin 8) (l : Fin 2048) : k0_pay2 (F := Ideal) cu (ix3 0 r l) = cu (ix2 ⟨504 + r.val, by omega⟩ l) := by
  pointwise [k0_pay2]

/-- Choosing by the test of a row's number. -/
theorem select_row {α : Type} (r : Fin 512) (n : ℕ) (hn : n < 512) (a b : α) :
    Scalar.select (IntOp.cmpi .eq (BitVec.ofNat 32 r.val) (BitVec.ofNat 32 n)) a b = if r.val = n then a else b := by
  have hr := r.isLt
  have e : IntOp.cmpi .eq (BitVec.ofNat 32 r.val) (BitVec.ofNat 32 n) = 1#1 ↔ r.val = n := by
    rw [IntOp.cmpi_eq]
    constructor
    · intro h
      have h' := congrArg BitVec.toNat h
      rw [BitVec.toNat_ofNat, BitVec.toNat_ofNat] at h'
      omega
    · intro h
      rw [h]
  unfold Scalar.select
  by_cases h : r.val = n
  · rw [if_pos h]
    exact if_pos (e.mpr h)
  · rw [if_neg h]
    exact if_neg (fun h' => h (e.mp h'))

/-- The rows one before, at an index. -/
theorem pay5_apply (i : grid0.Coords) (g u : FVec Ideal S512x2048 .f32) (gp up : FVec Ideal S8x2048 .f32) (r : Fin 512) (l : Fin 2048) :
    k0_pay5 (F := Ideal) i g u gp up (ix2 r l)
      = if h : r.val = 0 then k0_pay4 (F := Ideal) i gp up (ix2 7 l) else k0_pay3 (F := Ideal) g u (ix2 ⟨r.val - 1, by omega⟩ l) := by
  unfold k0_pay5
  generalize k0_pay4 (F := Ideal) i gp up = p
  generalize k0_pay3 (F := Ideal) g u = q
  pointwise
  rw [select_row r 0 (by omega)]
  by_cases h : r.val = 0
  · rw [if_pos h, dif_pos h]
  · rw [if_neg h, dif_neg h]
    exact congrArg (fun k => q (ix2 k l)) (Fin.ext (by show (r.val + 512 - 1) % 512 = r.val - 1; omega))

/-- The first tap's term, at an index. -/
theorem pay6_apply (i : grid0.Coords) (g u : FVec Ideal S512x2048 .f32) (gp up : FVec Ideal S8x2048 .f32) (w : FVec Ideal S1x1x2048 .f32) (r : Fin 512) (l : Fin 2048) :
    k0_pay6 (F := Ideal) i g u gp up w (ix2 r l)
      = w (ix3 0 0 l) * (if h : r.val = 0 then k0_pay4 (F := Ideal) i gp up (ix2 6 l) else if r.val = 1 then k0_pay4 (F := Ideal) i gp up (ix2 7 l)
          else k0_pay3 (F := Ideal) g u (ix2 ⟨r.val - 2, by omega⟩ l)) := by
  unfold k0_pay6
  generalize k0_pay4 (F := Ideal) i gp up = p
  generalize k0_pay3 (F := Ideal) g u = q
  pointwise
  rw [select_row r 0 (by omega), select_row r 1 (by omega)]
  by_cases h : r.val = 0
  · rw [if_pos h, dif_pos h]
  · rw [if_neg h, dif_neg h]
    by_cases h1 : r.val = 1
    · rw [if_pos h1, if_pos h1]
    · rw [if_neg h1, if_neg h1]
      exact congrArg (fun k => w (ix3 0 0 l) * q (ix2 k l)) (Fin.ext (by show (r.val + 512 - 2) % 512 = r.val - 2; omega))

end Cert.Sconv

end
-- ==== Proof.SconvVal.lean ====
module

public import proofs.«01_k».proof.Proof.SconvPay

@[expose] public section

set_option maxRecDepth 16384

noncomputable section

namespace Cert.Sconv

open Idealize.ShloMosaic Idealize.ShloMosaic.TcCoe Idealize.SL.Sem

/-- The projections' shape. -/
abbrev SProj : Shape := ⟨2, ![8192, 6144]⟩
/-- The weights' shape. -/
abbrev STaps : Shape := ⟨3, ![1, 3, 2048]⟩

/-- A row's gated input. -/
def cu (p : FVec Ideal SProj .f32) (R : Fin 8192) (l : Fin 2048) : EReal := p (ix2 R ⟨2048 + l.val, by omega⟩) * p (ix2 R ⟨4096 + l.val, by omega⟩)

/-- The gated input `d` rows earlier in the row's sequence of 4096, and zero before its start. -/
def earlier (p : FVec Ideal SProj .f32) (d : ℕ) (R : Fin 8192) (l : Fin 2048) : EReal :=
  if R.val % 4096 < d then Ideal.ofBits .f32 0x00000000#32 else cu p ⟨R.val - d, by omega⟩ l

/-- The short convolution of a row, gated. -/
def conv (p : FVec Ideal SProj .f32) (w : FVec Ideal STaps .f32) (R : Fin 8192) (l : Fin 2048) : EReal :=
  p (ix2 R ⟨l.val, by omega⟩) * (w (ix3 0 0 l) * earlier p 2 R l + w (ix3 0 1 l) * earlier p 1 R l + w (ix3 0 2 l) * cu p R l)

open Cert.Kernel4Ideal Cert.Kernel4Ideal.Gen

/-! ## The blocks -/

/-- The second grid coordinate of a step is the block's number within its sequence. -/
theorem coords_1 : ∀ t : Fin cfg0.N, (grid0.coords t 1).val = t.val % 8 :=
  (by decide +kernel : ∀ t : Fin grid0.N, (grid0.coords t 1).val = t.val % 8)
/-- Which block each step's first window visits. -/
theorem index_0 : ∀ t : Fin cfg0.N, win0_0.index t 0 = t.val ∧ win0_0.index t 1 = 0 :=
  (by decide +kernel : ∀ t : Fin grid0.N, win0_0.index t 0 = t.val ∧ win0_0.index t 1 = 0)
/-- Which block each step's second window visits. -/
theorem index_1 : ∀ t : Fin cfg0.N, win0_1.index t 0 = t.val ∧ win0_1.index t 1 = 1 :=
  (by decide +kernel : ∀ t : Fin grid0.N, win0_1.index t 0 = t.val ∧ win0_1.index t 1 = 1)
/-- Which block each step's third window visits. -/
theorem index_2 : ∀ t : Fin cfg0.N, win0_2.index t 0 = t.val ∧ win0_2.index t 1 = 2 :=
  (by decide +kernel : ∀ t : Fin grid0.N, win0_2.index t 0 = t.val ∧ win0_2.index t 1 = 2)
/-- Which eight rows each step's fourth window visits. -/
theorem index_3 : ∀ t : Fin cfg0.N, win0_3.index t 0 = 64 * t.val - 1 ∧ win0_3.index t 1 = 1 :=
  (by decide +kernel : ∀ t : Fin grid0.N, win0_3.index t 0 = 64 * t.val - 1 ∧ win0_3.index t 1 = 1)
/-- Which eight rows each step's fifth window visits. -/
theorem index_4 : ∀ t : Fin cfg0.N, win0_4.index t 0 = 64 * t.val - 1 ∧ win0_4.index t 1 = 2 :=
  (by decide +kernel : ∀ t : Fin grid0.N, win0_4.index t 0 = 64 * t.val - 1 ∧ win0_4.index t 1 = 2)
/-- Every step is handed all the weights. -/
theorem index_5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
/-- Which block of the first result each step visits. -/
theorem index_6 : ∀ t : Fin cfg0.N, win0_6.index t 0 = t.val ∧ win0_6.index t 1 = 0 :=
  (by decide +kernel : ∀ t : Fin grid0.N, win0_6.index t 0 = t.val ∧ win0_6.index t 1 = 0)
/-- Which block of the second result each step visits. -/
theorem index_7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

variable (m : (ℓ : Loc nD τ sig) → Buf (Elt Ideal) ℓ)

/-- The projections as the program is handed them. -/
abbrev proj (c : Dev nD) : FVec Ideal SProj .f32 := m ((c : Thread nD τ).loc main_arg0)
/-- The weights as the program is handed them. -/
abbrev taps (c : Dev nD) : FVec Ideal STaps .f32 := m ((c : Thread nD τ).loc main_arg1)

/-- A step's block of the first gate. -/
theorem iblk_0 (c : Dev nD) (t : Fin cfg0.N) (r : Fin 512) (l : Fin 2048) (R : Fin 8192) (L : Fin 6144) (hR : R.val = 512 * t.val + r.val) (hL : L.val = l.val) :
    (iblk m c 0 t : FVec Ideal S512x2048 .f32) (ix2 r l) = proj m c (ix2 R L) := by
  unfold proj
  rw [← V_main_arg0 m c]
  show V m c main_arg0 (((cfg0.win 0).blk t).view.emb (ix2 r l)) = V m c main_arg0 (ix2 R L)
  congr 1
  funext a
  refine Fin.ext ?_
  have h := index_0 t
  match a with
  | 0 => exact (Pipeline.Window.rect_emb_val win0_0 t (ix2 r l) 0).trans (by rw [h.1]; exact (congrArg (· + r.val) (Nat.mul_comm _ _)).trans hR.symm)
  | 1 => exact (Pipeline.Window.rect_emb_val_of_index_zero win0_0 t 1 h.2 (ix2 r l)).trans hL.symm

/-- A step's block of the second gate. -/
theorem iblk_1 (c : Dev nD) (t : Fin cfg0.N) (r : Fin 512) (l : Fin 2048) (R : Fin 8192) (L : Fin 6144) (hR : R.val = 512 * t.val + r.val) (hL : L.val = 2048 + l.val) :
    (iblk m c 1 t : FVec Ideal S512x2048 .f32) (ix2 r l) = proj m c (ix2 R L) := by
  unfold proj
  rw [← V_main_arg0 m c]
  show V m c main_arg0 (((cfg0.win 1).blk t).view.emb (ix2 r l)) = V m c main_arg0 (ix2 R L)
  congr 1
  funext a
  refine Fin.ext ?_
  have h := index_1 t
  match a with
  | 0 => exact (Pipeline.Window.rect_emb_val win0_1 t (ix2 r l) 0).trans (by rw [h.1]; exact (congrArg (· + r.val) (Nat.mul_comm _ _)).trans hR.symm)
  | 1 => exact (Pipeline.Window.rect_emb_val win0_1 t (ix2 r l) 1).trans (by rw [h.2]; exact hL.symm)

/-- A step's block of the convolution's input. -/
theorem iblk_2 (c : Dev nD) (t : Fin cfg0.N) (r : Fin 512) (l : Fin 2048) (R : Fin 8192) (L : Fin 6144) (hR : R.val = 512 * t.val + r.val) (hL : L.val = 4096 + l.val) :
    (iblk m c 2 t : FVec Ideal S512x2048 .f32) (ix2 r l) = proj m c (ix2 R L) := by
  unfold proj
  rw [← V_main_arg0 m c]
  show V m c main_arg0 (((cfg0.win 2).blk t).view.emb (ix2 r l)) = V m c main_arg0 (ix2 R L)
  congr 1
  funext a
  refine Fin.ext ?_
  have h := index_2 t
  match a with
  | 0 => exact (Pipeline.Window.rect_emb_val win0_2 t (ix2 r l) 0).trans (by rw [h.1]; exact (congrArg (· + r.val) (Nat.mul_comm _ _)).trans hR.symm)
  | 1 => exact (Pipeline.Window.rect_emb_val win0_2 t (ix2 r l) 1).trans (by rw [h.2]; exact hL.symm)

/-- The eight rows of the second gate before a step's block. -/
theorem iblk_3 (c : Dev nD) (t : Fin cfg0.N) (r : Fin 8) (l : Fin 2048) (R : Fin 8192) (L : Fin 6144) (hR : R.val = 8 * (64 * t.val - 1) + r.val) (hL : L.val = 2048 + l.val) :
    (iblk m c 3 t : FVec Ideal S8x2048 .f32) (ix2 r l) = proj m c (ix2 R L) := by
  unfold proj
  rw [← V_main_arg0 m c]
  show V m c main_arg0 (((cfg0.win 3).blk t).view.emb (ix2 r l)) = V m c main_arg0 (ix2 R L)
  congr 1
  funext a
  refine Fin.ext ?_
  have h := index_3 t
  match a with
  | 0 => exact (Pipeline.Window.rect_emb_val win0_3 t (ix2 r l) 0).trans (by rw [h.1]; exact (congrArg (· + r.val) (Nat.mul_comm _ _)).trans hR.symm)
  | 1 => exact (Pipeline.Window.rect_emb_val win0_3 t (ix2 r l) 1).trans (by rw [h.2]; exact hL.symm)

/-- The eight rows of the convolution's input before a step's block. -/
theorem iblk_4 (c : Dev nD) (t : Fin cfg0.N) (r : Fin 8) (l : Fin 2048) (R : Fin 8192) (L : Fin 6144) (hR : R.val = 8 * (64 * t.val - 1) + r.val) (hL : L.val = 4096 + l.val) :
    (iblk m c 4 t : FVec Ideal S8x2048 .f32) (ix2 r l) = proj m c (ix2 R L) := by
  unfold proj
  rw [← V_main_arg0 m c]
  show V m c main_arg0 (((cfg0.win 4).blk t).view.emb (ix2 r l)) = V m c main_arg0 (ix2 R L)
  congr 1
  funext a
  refine Fin.ext ?_
  have h := index_4 t
  match a with
  | 0 => exact (Pipeline.Window.rect_emb_val win0_4 t (ix2 r l) 0).trans (by rw [h.1]; exact (congrArg (· + r.val) (Nat.mul_comm _ _)).trans hR.symm)
  | 1 => exact (Pipeline.Window.rect_emb_val win0_4 t (ix2 r l) 1).trans (by rw [h.2]; exact hL.symm)

/-- Every step is handed all the weights. -/
theorem iblk_5 (c : Dev nD) (t : Fin cfg0.N) (k : Fin 3) (l : Fin 2048) : (iblk m c 5 t : FVec Ideal S1x3x2048 .f32) (ix3 0 k l) = taps m c (ix3 0 k l) := by
  unfold taps
  rw [← V_main_arg1 m c]
  show V m c main_arg1 (((cfg0.win 5).blk t).view.emb (ix3 0 k l)) = V m c main_arg1 (ix3 0 k l)
  congr 1
  funext a
  refine Fin.ext ?_
  have h := index_5 t
  match a with
  | 0 => exact Pipeline.Window.rect_emb_val_of_index_zero win0_5 t 0 h.1 (ix3 0 k l)
  | 1 => exact Pipeline.Window.rect_emb_val_of_index_zero win0_5 t 1 h.2.1 (ix3 0 k l)
  | 2 => exact Pipeline.Window.rect_emb_val_of_index_zero win0_5 t 2 h.2.2 (ix3 0 k l)

/-! ## What a step computes -/

/-- The gated input of a step's row. -/
theorem cu_eq (c : Dev nD) (t : Fin cfg0.N) (r : Fin 512) (l : Fin 2048) (R : Fin 8192) (hR : R.val = 512 * t.val + r.val) :
    k0_pay3 (F := Ideal) (iblk m c 1 t) (iblk m c 2 t) (ix2 r l) = cu (proj m c) R l := by
  refine (pay3_apply _ _ r l).trans ?_
  exact congrArg₂ _ (iblk_1 m c t r l R _ hR rfl) (iblk_2 m c t r l R _ hR rfl)

/-- The gated input of one of the eight rows before a step's block. -/
theorem prev_eq (c : Dev nD) (t : Fin cfg0.N) (r : Fin 8) (l : Fin 2048) (R : Fin 8192) (hR : 0 < t.val % 8 → R.val + 8 = 512 * t.val + r.val) :
    k0_pay4 (F := Ideal) (grid0.coords t) (iblk m c 3 t) (iblk m c 4 t) (ix2 r l)
      = if 0 < t.val % 8 then cu (proj m c) R l else Ideal.ofBits .f32 0x00000000#32 := by
  refine (pay4_apply _ _ _ r l).trans ?_
  rw [coords_1]
  by_cases h : 0 < t.val % 8
  · rw [if_pos h, if_pos h]
    have := hR h
    exact congrArg₂ _ (iblk_3 m c t r l R _ (by omega) rfl) (iblk_4 m c t r l R _ (by omega) rfl)
  · rw [if_neg h, if_neg h]

/-- The row one before a step's row. -/
theorem one_eq (c : Dev nD) (t : Fin cfg0.N) (r : Fin 512) (l : Fin 2048) (R : Fin 8192) (hR : R.val = 512 * t.val + r.val) :
    k0_pay5 (F := Ideal) (grid0.coords t) (iblk m c 1 t) (iblk m c 2 t) (iblk m c 3 t) (iblk m c 4 t) (ix2 r l) = earlier (proj m c) 1 R l := by
  refine (pay5_apply _ _ _ _ _ r l).trans ?_
  have hr := r.isLt
  unfold earlier
  by_cases h : r.val = 0
  · rw [dif_pos h]
    refine (prev_eq m c t 7 l ⟨R.val - 1, by omega⟩ (fun h8 => by show R.val - 1 + 8 = 512 * t.val + 7; omega)).trans ?_
    by_cases h8 : 0 < t.val % 8
    · rw [if_pos h8, if_neg (by omega)]
    · rw [if_neg h8, if_pos (by omega)]
  · rw [dif_neg h, if_neg (by omega)]
    exact cu_eq m c t _ l _ (by show R.val - 1 = 512 * t.val + (r.val - 1); omega)

/-- The first weight's term at a step's row. -/
theorem two_eq (c : Dev nD) (t : Fin cfg0.N) (w : FVec Ideal S1x1x2048 .f32) (r : Fin 512) (l : Fin 2048) (R : Fin 8192) (hR : R.val = 512 * t.val + r.val) :
    k0_pay6 (F := Ideal) (grid0.coords t) (iblk m c 1 t) (iblk m c 2 t) (iblk m c 3 t) (iblk m c 4 t) w (ix2 r l) = w (ix3 0 0 l) * earlier (proj m c) 2 R l := by
  refine (pay6_apply _ _ _ _ _ w r l).trans ?_
  have hr := r.isLt
  unfold earlier
  congr 1
  by_cases h : r.val = 0
  · rw [dif_pos h]
    refine (prev_eq m c t 6 l ⟨R.val - 2, by omega⟩ (fun h8 => by show R.val - 2 + 8 = 512 * t.val + 6; omega)).trans ?_
    by_cases h8 : 0 < t.val % 8
    · rw [if_pos h8, if_neg (by omega)]
    · rw [if_neg h8, if_pos (by omega)]
  · rw [dif_neg h]
    by_cases h1 : r.val = 1
    · rw [if_pos h1]
      refine (prev_eq m c t 7 l ⟨R.val - 2, by omega⟩ (fun h8 => by show R.val - 2 + 8 = 512 * t.val + 7; omega)).trans ?_
      by_cases h8 : 0 < t.val % 8
      · rw [if_pos h8, if_neg (by omega)]
      · rw [if_neg h8, if_pos (by omega)]
    · rw [if_neg h1, if_neg (by omega)]
      exact cu_eq m c t _ l _ (by show R.val - 2 = 512 * t.val + (r.val - 2); omega)

/-- Offsets of a whole two-axis block. -/
theorem off2 : (![0, 0] : Fin 2 → Nat) = fun _ => 0 := funext fun a => by fin_cases a <;> rfl
/-- Offsets of a whole three-axis block. -/
theorem off3 : (![0, 0, 0] : Fin 3 → Nat) = fun _ => 0 := funext fun a => by fin_cases a <;> rfl

/-- The first result's block, after a step. -/
theorem out6_eq (c : Dev nD) (t : Fin cfg0.N) (r : Fin 512) (l : Fin 2048) (R : Fin 8192) (hR : R.val = 512 * t.val + r.val) :
    (out0_6 (F := Ideal) (grid0.coords t) (iblk m c 0 t) (iblk m c 1 t) (iblk m c 2 t) (iblk m c 3 t) (iblk m c 4 t) (iblk m c 5 t) : FVec Ideal S512x2048 .bf16) (ix2 r l)
      = conv (proj m c) (taps m c) R l := by
  unfold_out out0_6
  rw [View.canon_unit_zero (S := S512x2048) off2]
  simp only [View.ld_unit_zero (S := S512x2048) off2, View.ld_unit_zero (S := S8x2048) off2]
  refine (pay1_apply _ _ _ _ _ _ r l).trans ?_
  unfold conv
  rw [iblk_0 m c t r l R ⟨l.val, by omega⟩ hR rfl]
  have e0 := iblk_5 m c t 0 l
  have e1 := iblk_5 m c t 1 l
  have e2 := iblk_5 m c t 2 l
  refine congrArg _ (congrArg₂ _ (congrArg₂ _ ((two_eq m c t _ r l R hR).trans (congrArg (· * _) ?_)) (congrArg₂ _ ((pay7_apply _ r l).trans ?_) (one_eq m c t r l R hR)))
    (congrArg₂ _ ?_ (cu_eq m c t r l R hR)))
  · refine Eq.trans ?_ e0
    exact congrArg (iblk m c 5 t) (funext fun a => by match a with | 0 => rfl | 1 => rfl | 2 => exact Fin.ext (by show 0 + 1 * l.val = l.val; omega))
  · refine Eq.trans ?_ e1
    exact congrArg (iblk m c 5 t) (funext fun a => by match a with | 0 => rfl | 1 => rfl | 2 => exact Fin.ext (by show 0 + 1 * l.val = l.val; omega))
  · refine Eq.trans ?_ e2
    exact congrArg (iblk m c 5 t) (funext fun a => by match a with | 0 => rfl | 1 => rfl | 2 => exact Fin.ext (by show 0 + 1 * l.val = l.val; omega))

/-- The second result's block, after a step. -/
theorem out7_eq (c : Dev nD) (t : Fin cfg0.N) (r : Fin 8) (l : Fin 2048) (R : Fin 8192) (hR : R.val = 512 * t.val + (504 + r.val)) :
    (out0_7 (F := Ideal) (grid0.coords t) (iblk m c 0 t) (iblk m c 1 t) (iblk m c 2 t) (iblk m c 3 t) (iblk m c 4 t) (iblk m c 5 t) : FVec Ideal S1x8x2048 .f32) (ix3 0 r l)
      = cu (proj m c) R l := by
  unfold_out out0_7
  rw [View.canon_unit_zero (S := S1x8x2048) off3]
  simp only [View.ld_unit_zero (S := S512x2048) off2]
  refine (pay2_apply _ r l).trans ?_
  exact cu_eq m c t _ l R hR

/-! ## The result arrays -/

/-- The first result is the gated convolution. -/
theorem arr6_apply (c : Dev nD) (R : Fin 8192) (l : Fin 2048) :
    ((dats m 0 c).arrAt 6 cfg0.N : FVec Ideal S8192x2048 .bf16) (ix2 R l) = conv (proj m c) (taps m c) R l := by
  have hN : cfg0.N = 16 := N_0
  let t : Fin cfg0.N := ⟨R.val / 512, by rw [hN]; omega⟩
  let r : Fin 512 := ⟨R.val % 512, by omega⟩
  have hR : R.val = 512 * t.val + r.val := by show R.val = 512 * (R.val / 512) + R.val % 512; omega
  have e : ((cfg0.win 6).blk t).view.emb (ix2 r l) = ix2 R l := by
    funext a
    refine Fin.ext ?_
    have h := index_6 t
    match a with
    | 0 => exact (Pipeline.Window.rect_emb_val win0_6 t (ix2 r l) 0).trans (by rw [h.1]; exact (congrArg (· + r.val) (Nat.mul_comm _ _)).trans hR.symm)
    | 1 => exact Pipeline.Window.rect_emb_val_of_index_zero win0_6 t 1 h.2 (ix2 r l)
  have h := (dats m 0 c).arrAt_emb_eq_flushed 6 Value.disjoint6 t (flush0_6 t) (ix2 r l)
  rw [e] at h
  refine h.trans ?_
  rw [Value.flushed6]
  refine Eq.trans ?_ (out6_eq m c t r l R hR)
  generalize out0_6 (F := Ideal) _ _ _ _ _ _ _ = b
  rfl

/-- The second result is the last eight gated inputs of every 512 rows. -/
theorem arr7_apply (c : Dev nD) (g : Fin 16) (r : Fin 8) (l : Fin 2048) (R : Fin 8192) (hR : R.val = 512 * g.val + (504 + r.val)) :
    ((dats m 0 c).arrAt 7 cfg0.N : FVec Ideal S16x8x2048 .f32) (ix3 g r l) = cu (proj m c) R l := by
  have hN : cfg0.N = 16 := N_0
  let t : Fin cfg0.N := ⟨g.val, by rw [hN]; exact g.isLt⟩
  have e : ((cfg0.win 7).blk t).view.emb (ix3 0 r l) = ix3 g r l := by
    funext a
    refine Fin.ext ?_
    have h := index_7 t
    match a with
    | 0 => exact (Pipeline.Window.rect_emb_val win0_7 t (ix3 0 r l) 0).trans (by rw [h.1]; show g.val * 1 + 0 = g.val; omega)
    | 1 => exact Pipeline.Window.rect_emb_val_of_index_zero win0_7 t 1 h.2.1 (ix3 0 r l)
    | 2 => exact Pipeline.Window.rect_emb_val_of_index_zero win0_7 t 2 h.2.2 (ix3 0 r l)
  have h := (dats m 0 c).arrAt_emb_eq_flushed 7 Value.disjoint7 t (flush0_7 t) (ix3 0 r l)
  rw [e] at h
  refine h.trans ?_
  rw [Value.flushed7]
  refine Eq.trans ?_ (out7_eq m c t r l R hR)
  generalize out0_7 (F := Ideal) _ _ _ _ _ _ _ = b
  rfl

end Cert.Sconv

end
-- ==== Proof.SconvFinal.lean ====
module

public import proofs.«01_k».proof.Defs
public import proofs.«01_k».proof.Proof.SconvVal
public import proofs.«01_k».proof.Proof.Gen.Reference4Ideal.Read

@[expose] public section

set_option maxRecDepth 16384

noncomputable section

namespace Cert.Sconv

open Idealize.ShloMosaic Idealize.ShloMosaic.TcCoe Idealize.SL.Sem
open Cert.Reference4Ideal Cert.Reference4Ideal.Gen Cert.Reference4Ideal.Read

/-! ## The reference, index by index

An index `i` of the sequences' shape stands for the row `4096 * i 0 + i 1` of the projections. -/

/-- The first gate. -/
theorem gate_apply (x : FVec Ideal SProj .f32) (i : S2x4096x2048.Idx) (R : Fin 8192) (l : Fin 2048) (hR : R.val = 4096 * (i 0).val + (i 1).val) (hl : l.val = (i 2).val) :
    val_main_v1 (F := Ideal) x i = x (ix2 R ⟨l.val, by omega⟩) := by
  rw [val_main_v1_apply, val_main_v0_apply]
  refine congrArg x (funext fun a => Fin.ext ?_)
  have h2 : (i 2).val < 2048 := (i 2).isLt
  match a with
  | 0 => show (((i 0).val * 4096 + (i 1).val) * 2048 + (i 2).val) / 2048 = R.val; omega
  | 1 => show (((i 0).val * 4096 + (i 1).val) * 2048 + (i 2).val) % 2048 = l.val; omega

/-- The gated input. -/
theorem input_apply (x : FVec Ideal SProj .f32) (i : S2x4096x2048.Idx) (R : Fin 8192) (l : Fin 2048) (hR : R.val = 4096 * (i 0).val + (i 1).val) (hl : l.val = (i 2).val) :
    val_main_v7 (F := Ideal) x i = cu x R l := by
  rw [val_main_v7_apply, val_main_v3_apply, val_main_v2_apply, val_main_v5_apply, val_main_v4_apply]
  have h2 : (i 2).val < 2048 := (i 2).isLt
  refine congrArg₂ (· * ·) (congrArg x (funext fun a => Fin.ext ?_)) (congrArg x (funext fun a => Fin.ext ?_))
  · match a with
    | 0 => show (((i 0).val * 4096 + (i 1).val) * 2048 + (i 2).val) / 2048 = R.val; omega
    | 1 => show 2048 + (((i 0).val * 4096 + (i 1).val) * 2048 + (i 2).val) % 2048 = 2048 + l.val; omega
  · match a with
    | 0 => show (((i 0).val * 4096 + (i 1).val) * 2048 + (i 2).val) / 2048 = R.val; omega
    | 1 => show 4096 + (((i 0).val * 4096 + (i 1).val) * 2048 + (i 2).val) % 2048 = 4096 + l.val; omega

/-- The gated input with two rows of zero before each sequence: `d` rows earlier. -/
theorem padded_apply (x : FVec Ideal SProj .f32) (j : S2x4098x2048.Idx) (d : ℕ) (hd : d ≤ 2) (R : Fin 8192) (l : Fin 2048) (p : ℕ) (hp : p < 4096)
    (hR : R.val = 4096 * (j 0).val + p) (hj : (j 1).val + d = p + 2) (hl : l.val = (j 2).val) :
    val_main_v8 (F := Ideal) x j = earlier x d R l := by
  unfold val_main_v8 earlier
  by_cases h : (j 1).val < 2
  · rw [if_pos (by omega)]
    refine (concatenate_pair_apply_left (s₁ := S2x2x2048) (s₂ := S2x4096x2048) 1 _ _ _ j rfl (ix3 (j 0) ⟨(j 1).val, h⟩ (j 2)) (fun b => ?_)).trans ?_
    · match b with
      | 0 => rfl
      | 1 => rfl
      | 2 => rfl
    · rw [val_main_v6_apply, val_main_cst_apply]
      rfl
  · rw [if_neg (by omega)]
    have h1 : (j 1).val < 4098 := (j 1).isLt
    refine (concatenate_pair_apply_right (s₁ := S2x2x2048) (s₂ := S2x4096x2048) 1 _ _ _ j rfl rfl (ix3 (j 0) ⟨(j 1).val - 2, by omega⟩ (j 2)) (fun b hb => ?_) ?_).trans ?_
    · match b with
      | 0 => rfl
      | 1 => exact absurd rfl hb
      | 2 => rfl
    · show (j 1).val - 2 + 2 = (j 1).val; omega
    · exact input_apply x _ _ l (by show R.val - d = 4096 * (j 0).val + ((j 1).val - 2); omega) hl

/-- The first weight, spread over the rows. -/
theorem tap0_apply (w : FVec Ideal STaps .f32) (i : S2x4096x2048.Idx) (l : Fin 2048) (hl : l.val = (i 2).val) : val_main_v14 (F := Ideal) w i = w (ix3 0 0 l) := by
  rw [val_main_v14_apply, val_main_v13_apply, val_main_v11_apply, val_main_v10_apply, val_main_v9_apply]
  refine congrArg w (funext fun a => Fin.ext ?_)
  have h2 : (i 2).val < 2048 := (i 2).isLt
  match a with
  | 0 => rfl
  | 1 => show (0 * 2048 + (i 2).val % 2048) / 2048 % 3 = 0; omega
  | 2 => show (0 * 2048 + (i 2).val % 2048) % 2048 = l.val; omega

/-- The second weight, spread over the rows. -/
theorem tap1_apply (w : FVec Ideal STaps .f32) (i : S2x4096x2048.Idx) (l : Fin 2048) (hl : l.val = (i 2).val) : val_main_v20 (F := Ideal) w i = w (ix3 0 1 l) := by
  rw [val_main_v20_apply, val_main_v19_apply, val_main_v17_apply, val_main_v16_apply, val_main_v9_apply]
  refine congrArg w (funext fun a => Fin.ext ?_)
  have h2 : (i 2).val < 2048 := (i 2).isLt
  match a with
  | 0 => rfl
  | 1 => show ((1 + 0) * 2048 + (i 2).val % 2048) / 2048 % 3 = 1; omega
  | 2 => show ((1 + 0) * 2048 + (i 2).val % 2048) % 2048 = l.val; omega

/-- The third weight, spread over the rows. -/
theorem tap2_apply (w : FVec Ideal STaps .f32) (i : S2x4096x2048.Idx) (l : Fin 2048) (hl : l.val = (i 2).val) : val_main_v27 (F := Ideal) w i = w (ix3 0 2 l) := by
  rw [val_main_v27_apply, val_main_v26_apply, val_main_v24_apply, val_main_v23_apply, val_main_v9_apply]
  refine congrArg w (funext fun a => Fin.ext ?_)
  have h2 : (i 2).val < 2048 := (i 2).isLt
  match a with
  | 0 => rfl
  | 1 => show ((2 + 0) * 2048 + (i 2).val % 2048) / 2048 % 3 = 2; omega
  | 2 => show ((2 + 0) * 2048 + (i 2).val % 2048) % 2048 = l.val; omega

/-- The reference's first result is the gated convolution. -/
theorem ref_conv (x : FVec Ideal SProj .f32) (w : FVec Ideal STaps .f32) (R : Fin 8192) (l : Fin 2048) : val_main_v32 (F := Ideal) x w (ix2 R l) = conv x w R l := by
  refine (val_main_v32_apply (F := Ideal) x w (ix2 R l)).trans ?_
  refine (val_main_v31_apply (F := Ideal) x w (ix2 R l)).trans ?_
  have hj : ∀ j : S2x4096x2048.Idx, R.val = 4096 * (j 0).val + (j 1).val → l.val = (j 2).val → val_main_v30 (F := Ideal) x w j = conv x w R l := by
    intro j hR hl
    have h1 : (j 1).val < 4096 := (j 1).isLt
    rw [val_main_v30_apply, val_main_v29_apply, val_main_v22_apply, val_main_v15_apply, val_main_v21_apply, val_main_v28_apply,
      val_main_v12_apply, val_main_v18_apply, val_main_v25_apply, gate_apply x j R l hR hl, tap0_apply w j l hl, tap1_apply w j l hl, tap2_apply w j l hl,
      padded_apply x (idx_main_v12 j) 2 (by omega) R l (j 1).val h1 hR rfl hl,
      padded_apply x (idx_main_v18 j) 1 (by omega) R l (j 1).val h1 hR (by show 1 + (j 1).val + 1 = (j 1).val + 2; omega) hl,
      padded_apply x (idx_main_v25 j) 0 (by omega) R l (j 1).val h1 hR (by show 2 + (j 1).val + 0 = (j 1).val + 2; omega) hl]
    have e : earlier x 0 R l = cu x R l := if_neg (Nat.not_lt_zero _)
    rw [e]
    rfl
  have hR := R.isLt
  have hl := l.isLt
  refine hj _ ?_ ?_
  · show R.val = 4096 * ((R.val * 2048 + l.val) / 8388608) + (R.val * 2048 + l.val) / 2048 % 4096; omega
  · show l.val = (R.val * 2048 + l.val) % 2048; omega

/-- The reference's second result is the last eight gated inputs of every 512 rows. -/
theorem ref_tail (x : FVec Ideal SProj .f32) (g : Fin 16) (r : Fin 8) (l : Fin 2048) (R : Fin 8192) (hR : R.val = 512 * g.val + (504 + r.val)) :
    val_main_v34 (F := Ideal) x (ix3 g r l) = cu x R l := by
  refine (val_main_v34_apply (F := Ideal) x (ix3 g r l)).trans ?_
  refine (val_main_v33_apply (F := Ideal) x _).trans ?_
  have hg := g.isLt
  have hr := r.isLt
  have hl := l.isLt
  refine input_apply x _ R l ?_ ?_
  · show R.val = 4096 * (((g.val * 512 + (504 + r.val)) * 2048 + l.val) / 8388608) + ((g.val * 512 + (504 + r.val)) * 2048 + l.val) / 2048 % 4096; omega
  · show l.val = ((g.val * 512 + (504 + r.val)) * 2048 + l.val) % 2048; omega

/-- The idealized kernel and the idealized reference end with equal results. -/
theorem algebraic : Cert.algebraic_Kernel4Ideal_Reference4Ideal := by
  intro m ρ m' ρ' _ hag
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    Cert.Kernel4Ideal.Value.run_blocks m ρ, ?_⟩
  refine (θ_run Cert.Reference4Ideal.defs _ _).mono (fun r h c => ⟨((h c).1.trans (val_main_v32_eq _ _)).trans ?_, ((h c).2.1.trans (val_main_v34_eq _)).trans ?_, (h c).2.2⟩)
    (Cert.Reference4Ideal.Value.run m' ρ')
  · obtain ⟨e0, e1⟩ := hag c
    rw [e0, e1]
    funext i
    obtain ⟨R, l, rfl⟩ : ∃ R l, i = ix2 R l := ⟨i 0, i 1, eq_ix2 i⟩
    exact (ref_conv _ _ R l).trans (arr6_apply m c R l).symm
  · obtain ⟨e0, -⟩ := hag c
    rw [e0]
    funext i
    obtain ⟨g, r, l, rfl⟩ : ∃ g r l, i = ix3 g r l := ⟨i 0, i 1, i 2, eq_ix3 i⟩
    have hg := g.isLt
    have hr := r.isLt
    exact (ref_tail _ g r l ⟨512 * g.val + (504 + r.val), by omega⟩ rfl).trans (arr7_apply m c g r l _ rfl).symm

/-- The idealized reference runs, leaves its arguments and ends with every semaphore at zero. -/
theorem frame_reference : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

end Cert.Sconv

end
-- ==== Proof.Mm.lean ====
module

public import proofs.«01_k».proof.Defs
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.ValueIdxCore

@[expose] public section

set_option maxRecDepth 16384

noncomputable section

namespace Cert.Mm

open Idealize.ShloMosaic Idealize.ShloMosaic.TcCoe Idealize.SL.Sem

section
open Cert.Kernel5Ideal Cert.Kernel5Ideal.Gen

/-! ## One step -/

/-- The weights as the kernel keeps them: the block's own entries. -/
theorem kept_apply (x : FVec Ideal S1x2048x1024 .f32) (k : Fin 2048) (l : Fin 1024) : k0_pay1 (F := Ideal) x (ix2 k l) = x (ix3 0 k l) := by
  pointwise [k0_pay1]

/-- The step's product at an index. -/
theorem product_apply (x : FVec Ideal S1024x2048 .bf16) (w : FVec Ideal S2048x1024 .bf16) (r : Fin 1024) (l : Fin 1024) :
    k0_pay2 (F := Ideal) x w (ix2 r l) = ∑ k : Fin 2048, x (ix2 r k) * w (ix2 k l) := by
  pointwise [k0_pay2]

/-- Offsets of a whole two-axis block. -/
theorem off2 : (![0, 0] : Fin 2 → Nat) = fun _ => 0 := funext fun a => by fin_cases a <;> rfl
/-- Offsets of a whole three-axis block. -/
theorem off3 : (![0, 0, 0] : Fin 3 → Nat) = fun _ => 0 := funext fun a => by fin_cases a <;> rfl

variable {F : FTy → Type} [FloatOps F]

/-- A step that reloads the weights leaves the rows' product with the weights it loaded. -/
theorem out_A (c : Dev nD) (i : grid0.Coords) (a2 : Memref sig .tc .vmem S1024x2048 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S2048x1024 .bf16) (h5 : a5.IsWhole) (hc : cond0_0 i)
    (x : Vec F S1024x2048 .bf16) (w : Vec F S1x2048x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x1024) off2, View.readCov_unit_zero (S := S2048x1024) _ off2]
  simp only [View.readAt_eq_ld, h2.read_unread, h3.read_unread, View.ld_unit_zero (S := S1024x2048) off2, View.ld_unit_zero (S := S1x2048x1024) off3]

/-- A step that reloads the weights keeps the weights it loaded. -/
theorem kept_A (c : Dev nD) (i : grid0.Coords) (a2 : Memref sig .tc .vmem S1024x2048 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S2048x1024 .bf16) (h5 : a5.IsWhole) (hc : cond0_0 i)
    (x : Vec F S1024x2048 .bf16) (w : Vec F S1x2048x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S2048x1024) off2]
  simp only [View.readAt_eq_ld, h3.read_unread, View.ld_unit_zero (S := S1x2048x1024) off3]

/-- Any other step leaves the rows' product with the weights kept. -/
theorem out_B (c : Dev nD) (i : grid0.Coords) (a2 : Memref sig .tc .vmem S1024x2048 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S2048x1024 .bf16) (h5 : a5.IsWhole) (hc : ¬cond0_0 i)
    (x : Vec F S1024x2048 .bf16) (w : Vec F S1x2048x1024 .f32) (k : Vec F S2048x1024 .bf16) :
    out0_B_2 c i a2 h2 a3 h3 a4 h4 a5 h5 hc x w k = k0_pay2 x k := by
  unfold out0_B_2
  rw [View.read_writes_eq_canon _ _ _ (cover0_B_2 c i a2 h2 a3 h3 a4 h4 a5 h5 hc x w k)]
  unfold kernelRun0_B
  dsimp only
  try sl_unfold_words
  rw [View.canon_unit_zero (S := S1024x1024) off2]
  simp only [View.readAt_eq_ld, h2.read_unread, h5.read_unread, View.ld_unit_zero (S := S1024x2048) off2, View.ld_unit_zero (S := S2048x1024) off2]

/-! ## The blocks -/

/-- Which block of rows each step visits. -/
theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
/-- Which block of weights each step visits. -/
theorem index_1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
/-- Which block of the result each step visits. -/
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

variable (m : (ℓ : Loc nD τ sig) → Buf (Elt Ideal) ℓ)

/-- The rows as the program is handed them. -/
abbrev rows (c : Dev nD) : FVec Ideal S8192x2048 .bf16 := m ((c : Thread nD τ).loc main_arg0)
/-- The weights as the program is handed them. -/
abbrev weights (c : Dev nD) : FVec Ideal S1x2048x6144 .f32 := m ((c : Thread nD τ).loc main_arg1)

/-- A step's block of rows. -/
theorem iblk_0 (c : Dev nD) (t : Fin cfg0.N) (r : Fin 1024) (k : Fin 2048) (R : Fin 8192) (hR : R.val = 1024 * (t.val % 8) + r.val) :
    (iblk m c 0 t : FVec Ideal S1024x2048 .bf16) (ix2 r k) = rows m c (ix2 R k) := by
  unfold rows
  rw [← V_main_arg0 m c]
  show V m c main_arg0 (((cfg0.win 0).blk t).view.emb (ix2 r k)) = V m c main_arg0 (ix2 R k)
  congr 1
  funext a
  refine Fin.ext ?_
  have h := index_0 t
  match a with
  | 0 => exact (Pipeline.Window.rect_emb_val win0_0 t (ix2 r k) 0).trans (by rw [h.1]; exact (congrArg (· + r.val) (Nat.mul_comm _ _)).trans hR.symm)
  | 1 => exact Pipeline.Window.rect_emb_val_of_index_zero win0_0 t 1 h.2 (ix2 r k)

/-- A step's block of weights. -/
theorem iblk_1 (c : Dev nD) (t : Fin cfg0.N) (k : Fin 2048) (l : Fin 1024) (L : Fin 6144) (hL : L.val = 1024 * (t.val / 8) + l.val) :
    (iblk m c 1 t : FVec Ideal S1x2048x1024 .f32) (ix3 0 k l) = weights m c (ix3 0 k L) := by
  unfold weights
  rw [← V_main_arg1 m c]
  show V m c main_arg1 (((cfg0.win 1).blk t).view.emb (ix3 0 k l)) = V m c main_arg1 (ix3 0 k L)
  congr 1
  funext a
  refine Fin.ext ?_
  have h := index_1 t
  match a with
  | 0 => exact Pipeline.Window.rect_emb_val_of_index_zero win0_1 t 0 h.1 (ix3 0 k l)
  | 1 => exact Pipeline.Window.rect_emb_val_of_index_zero win0_1 t 1 h.2.1 (ix3 0 k l)
  | 2 => exact (Pipeline.Window.rect_emb_val win0_1 t (ix3 0 k l) 2).trans (by rw [h.2.2]; exact (congrArg (· + l.val) (Nat.mul_comm _ _)).trans hL.symm)

/-! ## What every step leaves -/

/-- After each step the weights kept are those of the step's block of columns. -/
theorem kept_eq (c : Dev nD) : ∀ (n : ℕ) (h : n < cfg0.N) (k : Fin 2048) (l : Fin 1024) (L : Fin 6144), L.val = 1024 * (n / 8) + l.val →
    ((outsAt0 m c n h).2 : FVec Ideal S2048x1024 .bf16) (ix2 k l) = weights m c (ix3 0 k L) := by
  intro n
  induction n with
  | zero =>
    intro h k l L hL
    rw [outsAt0_A m c ⟨0, h⟩ rfl]
    dsimp only
    rw [kept_A]
    exact (kept_apply _ k l).trans (iblk_1 m c ⟨0, h⟩ k l L hL)
  | succ n ih =>
    intro h k l L hL
    by_cases h0 : (n + 1) % 8 = 0
    · rw [outsAt0_A m c ⟨n + 1, h⟩ h0]
      dsimp only
      rw [kept_A]
      exact (kept_apply _ k l).trans (iblk_1 m c ⟨n + 1, h⟩ k l L hL)
    · rw [outsAt0_B m c ⟨n + 1, h⟩ h0]
      exact ih (Nat.lt_of_succ_lt h) k l L (by omega)

/-- Every step leaves its block of the product. -/
theorem outs_eq (c : Dev nD) (t : Fin cfg0.N) (r l : Fin 1024) (R : Fin 8192) (L : Fin 6144) (hR : R.val = 1024 * (t.val % 8) + r.val)
    (hL : L.val = 1024 * (t.val / 8) + l.val) :
    ((outsAt0 m c t.val t.isLt).1 : FVec Ideal S1024x1024 .f32) (ix2 r l) = ∑ k : Fin 2048, rows m c (ix2 R k) * weights m c (ix3 0 k L) := by
  by_cases h0 : t.val % 8 = 0
  · rw [outsAt0_A m c t h0]
    dsimp only
    rw [out_A]
    refine (product_apply _ _ r l).trans (Finset.sum_congr rfl fun k _ => ?_)
    rw [iblk_0 m c t r k R hR]
    exact congrArg _ ((kept_apply _ k l).trans (iblk_1 m c t k l L hL))
  · rw [outsAt0_B m c t h0]
    dsimp only
    rw [out_B]
    refine (product_apply _ _ r l).trans (Finset.sum_congr rfl fun k _ => ?_)
    rw [iblk_0 m c t r k R hR]
    exact congrArg _ (kept_eq m c (t.val - 1) _ k l L (by omega))

/-- The result array is the product. -/
theorem arr_apply (c : Dev nD) (R : Fin 8192) (L : Fin 6144) :
    ((dats m 0 c).arrAt 2 cfg0.N : FVec Ideal S8192x6144 .f32) (ix2 R L) = ∑ k : Fin 2048, rows m c (ix2 R k) * weights m c (ix3 0 k L) := by
  have hN : cfg0.N = 48 := N_0
  let t : Fin cfg0.N := ⟨8 * (L.val / 1024) + R.val / 1024, by rw [hN]; omega⟩
  have ht : t.val = 8 * (L.val / 1024) + R.val / 1024 := rfl
  let r : Fin 1024 := ⟨R.val % 1024, by omega⟩
  let l : Fin 1024 := ⟨L.val % 1024, by omega⟩
  have hR : R.val = 1024 * (t.val % 8) + r.val := by show R.val = 1024 * (t.val % 8) + R.val % 1024; omega
  have hL : L.val = 1024 * (t.val / 8) + l.val := by show L.val = 1024 * (t.val / 8) + L.val % 1024; omega
  have e : ((cfg0.win 2).blk t).view.emb (ix2 r l) = ix2 R L := by
    funext a
    refine Fin.ext ?_
    have h := index_2 t
    match a with
    | 0 => exact (Pipeline.Window.rect_emb_val win0_2 t (ix2 r l) 0).trans (by rw [h.1]; exact (congrArg (· + r.val) (Nat.mul_comm _ _)).trans hR.symm)
    | 1 => exact (Pipeline.Window.rect_emb_val win0_2 t (ix2 r l) 1).trans (by rw [h.2]; exact (congrArg (· + l.val) (Nat.mul_comm _ _)).trans hL.symm)
  have h := (dats m 0 c).arrAt_emb_eq_flushed 2 Value.disjoint2 t (flush0_2 t) (ix2 r l)
  rw [e] at h
  refine h.trans ?_
  rw [Value.flushed2]
  exact outs_eq m c t r l R L hR hL

end

/-- The reference's result at an index is the same sum. -/
theorem ref_apply (x : FVec Ideal Cert.Reference5Ideal.S8192x2048 .bf16) (w : FVec Ideal Cert.Reference5Ideal.S1x2048x6144 .f32) (R : Fin 8192) (L : Fin 6144) :
    Cert.Reference5Ideal.Read.val_main_v2 (F := Ideal) x w (ix2 R L) = ∑ k : Fin 2048, x (ix2 R k) * w (ix3 0 k L) := by
  rw [Cert.Reference5Ideal.Read.val_main_v2_apply]
  refine Finset.sum_congr rfl fun k _ => ?_
  rw [Cert.Reference5Ideal.Read.val_main_v1_apply]
  refine congrArg₂ _ (congrArg x (funext fun a => by fin_cases a <;> rfl)) (congrArg w (funext fun a => Fin.ext ?_))
  have hk := k.isLt
  have hL := L.isLt
  match a with
  | 0 => rfl
  | 1 => show (k.val * 6144 + L.val) / 6144 % 2048 = k.val; omega
  | 2 => show (k.val * 6144 + L.val) % 6144 = L.val; omega

/-- The idealized kernel and the idealized reference end with equal results. -/
theorem algebraic : Cert.algebraic_Kernel5Ideal_Reference5Ideal := by
  intro m ρ m' ρ' _ hag
  refine ⟨fun c => (Cert.Kernel5Ideal.Gen.dats m 0 c).arrAt 2 Cert.Kernel5Ideal.cfg0.N, Cert.Kernel5Ideal.Value.run_blocks m ρ, ?_⟩
  refine (θ_run Cert.Reference5Ideal.defs _ _).mono (fun r h c => ⟨((h c).1.trans (Cert.Reference5Ideal.Read.val_main_v2_eq _ _)).trans ?_, (h c).2⟩)
    (Cert.Reference5Ideal.Value.run m' ρ')
  obtain ⟨e0, e1⟩ := hag c
  rw [e0, e1]
  funext i
  obtain ⟨R, L, rfl⟩ : ∃ R L, i = ix2 R L := ⟨i 0, i 1, eq_ix2 i⟩
  exact (ref_apply _ _ R L).trans (arr_apply m c R L).symm

/-- The idealized reference runs, leaves its arguments and ends with every semaphore at zero. -/
theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

end Cert.Mm

end
-- ==== Proof.Dense.lean ====
module

public import proofs.«01_k».proof.Defs
public import proofs.«01_k».proof.Proof.Gen.Kernel6Ideal.Flash
public import proofs.«01_k».proof.Proof.UpVal

@[expose] public section

set_option maxRecDepth 16384
set_option Elab.async false

noncomputable section

namespace Cert.Dense

open Idealize.ShloMosaic Idealize.ShloMosaic.TcCoe Idealize.SL.Sem

open Cert.Kernel6Ideal Cert.Kernel6Ideal.Gen

/-- A step's result, entry by entry. -/
theorem pay3_apply (x0 : FVec Ideal S1024x2048 .bf16) (w : FVec Ideal S2048x1024 .bf16) (r : Fin 1024) (l : Fin 512) :
    k0_pay3 (F := Ideal) x0 w (ix2 r l)
      = Kernel2Ideal.Up.swi (∑ k : Fin 2048, x0 (ix2 r k) * w (ix2 k ⟨l.val, by omega⟩)) (∑ k : Fin 2048, x0 (ix2 r k) * w (ix2 k ⟨512 + l.val, by omega⟩)) :=
  Kernel2Ideal.Up.pay3_apply x0 w r l

variable (ch : Fin 2) (m : (ℓ : Loc nD τ sig) → Buf (Elt Ideal) ℓ) (ρ : Dev nD → PrngReg)

/-- The two stores into the kept weights leave them side by side. -/
theorem writes_wcat (a : S2048x1024.Idx → Elt Ideal .bf16) (x1 x2 : S1x2048x512.Idx → Elt Ideal .f32) (h h') :
    (View.whole cc0_scratch0).writes (Elt Ideal) a [⟨Rect.unit (s := S2048x1024) ![0, 512] S2048x512.size h, k0_pay2 (F := Ideal) x2⟩, ⟨Rect.unit (s := S2048x1024) ![0, 0] S2048x512.size h', k0_pay1 (F := Ideal) x1⟩]
      = Kernel2Ideal.Up.wcat x1 x2 := by
  have e := Kernel2Ideal.Up.read_wcat (View.whole cc0_scratch0) a x1 x2 h h'
  have hr : ∀ f : S2048x1024.Idx → Elt Ideal .bf16, (View.whole cc0_scratch0).read (Elt Ideal) f = f := fun _ => rfl
  exact (hr _).symm.trans e

/-- Offsets of a whole two-axis block. -/
theorem off2 : (![0, 0] : Fin 2 → Nat) = fun _ => 0 := funext fun a => by fin_cases a <;> rfl

/-- A step that reloads the weights leaves its rows' result by the weights it loaded, and keeps them. -/
theorem step_A (c : Dev nD) (t : Fin (cfgA ch).N) (prev) (q0 : P0_0 ch t) :
    step0 ch m ρ c t prev = (k0_pay3 (F := Ideal) (iblk ch m ρ c (0 : Fin 4) t) (Kernel2Ideal.Up.wcat (iblk ch m ρ c (1 : Fin 4) t) (iblk ch m ρ c (2 : Fin 4) t)),
      Kernel2Ideal.Up.wcat (iblk ch m ρ c (1 : Fin 4) t) (iblk ch m ρ c (2 : Fin 4) t)) := by
  have e0 : ∀ h, View.readAt (Elt Ideal) (ms0_0 ch t).view (Rect.unit (s := S1024x2048) ![0, 0] S1024x2048.size h).toLoadRect ((ms0_0 ch t).view.rep (iblk ch m ρ c (0 : Fin 4) t)) = iblk ch m ρ c (0 : Fin 4) t := fun h => View.readAt_rep_full _ _ _
  have e1 : ∀ h, View.readAt (Elt Ideal) (ms0_1 ch t).view (Rect.unit (s := S1x2048x512) ![0, 0, 0] S1x2048x512.size h).toLoadRect ((ms0_1 ch t).view.rep (iblk ch m ρ c (1 : Fin 4) t)) = iblk ch m ρ c (1 : Fin 4) t := fun h => View.readAt_rep_full _ _ _
  have e2 : ∀ h, View.readAt (Elt Ideal) (ms0_2 ch t).view (Rect.unit (s := S1x2048x512) ![0, 0, 0] S1x2048x512.size h).toLoadRect ((ms0_2 ch t).view.rep (iblk ch m ρ c (2 : Fin 4) t)) = iblk ch m ρ c (2 : Fin 4) t := fun h => View.readAt_rep_full _ _ _
  rw [step0_A ch m ρ c t prev q0]
  refine Prod.ext ?_ ?_
  · dsimp only
    unfold out0_A_3
    rw [View.read_writes_eq_canon _ _ _ (cover0_A_3 _ _ _ _ _ _ _ _ _ _ _ _ _ _ _ _ _ _ _ _)]
    unfold kernelRun0_A
    dsimp only
    sl_unfold_words
    rw [View.canon_unit_zero (S := S1024x512) off2, e0, e1, e2]
    unfold View.readCov
    rw [View.readAt_full]
    exact congrArg _ (Kernel2Ideal.Up.read_wcat scM0_0.view _ _ _ _ _)
  · dsimp only
    unfold kernelRun0_A
    dsimp only
    sl_unfold_words
    rw [e1, e2]
    exact writes_wcat _ _ _ _ _

/-- Any other step leaves its rows' result by the weights kept, and keeps them. -/
theorem step_B (c : Dev nD) (t : Fin (cfgA ch).N) (prev) (q0 : ¬ P0_0 ch t) :
    step0 ch m ρ c t prev = (k0_pay3 (F := Ideal) (iblk ch m ρ c (0 : Fin 4) t) prev.2, prev.2) := by
  have e0 : ∀ h, View.readAt (Elt Ideal) (ms0_0 ch t).view (Rect.unit (s := S1024x2048) ![0, 0] S1024x2048.size h).toLoadRect ((ms0_0 ch t).view.rep (iblk ch m ρ c (0 : Fin 4) t)) = iblk ch m ρ c (0 : Fin 4) t := fun h => View.readAt_rep_full _ _ _
  rw [step0_B ch m ρ c t prev q0]
  refine Prod.ext ?_ ?_
  · dsimp only
    unfold out0_B_3
    rw [View.read_writes_eq_canon _ _ _ (cover0_B_3 _ _ _ _ _ _ _ _ _ _ _ _ _ _ _ _ _ _ _ _ _)]
    unfold kernelRun0_B
    dsimp only
    sl_unfold_words
    rw [View.canon_unit_zero (S := S1024x512) off2, e0, View.readAt_full]
    rfl
  · rfl

/-! ## The blocks -/

/-- The steps that reload the weights: the first of each block of columns. -/
theorem reloads : ∀ (ch : Fin 2) (t : Fin (cfgA ch).N), P0_0 ch t ↔ t.val % 8 = 0 := by decide +kernel
/-- Which block of rows each step visits. -/
theorem index_0 : ∀ (ch : Fin 2) (t : Fin (cfgA ch).N), ((cfgA ch).win (0 : Fin 4)).index t (0 : Fin 2) = t.val % 8 ∧ ((cfgA ch).win (0 : Fin 4)).index t (1 : Fin 2) = 0 := by decide +kernel
/-- Which block of the gate's weights each step visits. -/
theorem index_1 : ∀ (ch : Fin 2) (t : Fin (cfgA ch).N), ((cfgA ch).win (1 : Fin 4)).index t (0 : Fin 3) = ch.val ∧ ((cfgA ch).win (1 : Fin 4)).index t (1 : Fin 3) = 0 ∧ ((cfgA ch).win (1 : Fin 4)).index t (2 : Fin 3) = t.val / 8 := by decide +kernel
/-- Which block of the other weights each step visits. -/
theorem index_2 : ∀ (ch : Fin 2) (t : Fin (cfgA ch).N), ((cfgA ch).win (2 : Fin 4)).index t (0 : Fin 3) = ch.val ∧ ((cfgA ch).win (2 : Fin 4)).index t (1 : Fin 3) = 0 ∧ ((cfgA ch).win (2 : Fin 4)).index t (2 : Fin 3) = t.val / 8 := by decide +kernel
/-- Which block of the result each step visits. -/
theorem index_3 : ∀ (ch : Fin 2) (t : Fin (cfgA ch).N), ((cfgA ch).win (3 : Fin 4)).index t (0 : Fin 2) = t.val % 8 ∧ ((cfgA ch).win (3 : Fin 4)).index t (1 : Fin 2) = t.val / 8 := by decide +kernel

/-- The rows as the program is handed them. -/
abbrev rows (c : Dev nD) : FVec Ideal S8192x2048 .bf16 := m ((c : Thread nD τ).loc main_arg0)
/-- The gate's weights as the program is handed them. -/
abbrev gates (c : Dev nD) : FVec Ideal S2x2048x7168 .f32 := m ((c : Thread nD τ).loc main_arg1)
/-- The other weights as the program is handed them. -/
abbrev ups (c : Dev nD) : FVec Ideal S2x2048x7168 .f32 := m ((c : Thread nD τ).loc main_arg2)

/-- A step's block of rows. -/
theorem iblk_0 (c : Dev nD) (t : Fin (cfgA ch).N) (r : Fin 1024) (k : Fin 2048) (R : Fin 8192) (hR : R.val = 1024 * (t.val % 8) + r.val) :
    (iblk ch m ρ c (0 : Fin 4) t : FVec Ideal S1024x2048 .bf16) (ix2 r k) = rows m c (ix2 R k) := by
  show rows m c (((cfgA ch).win (0 : Fin 4)).blk t |>.view.emb (ix2 r k)) = rows m c (ix2 R k)
  congr 1
  funext a
  refine Fin.ext ?_
  have h := index_0 ch t
  match a with
  | 0 => exact (Pipeline.Window.rect_emb_val ((cfgA ch).win (0 : Fin 4)) t (ix2 r k) 0).trans (by rw [h.1]; exact (congrArg (· + r.val) (Nat.mul_comm _ _)).trans hR.symm)
  | 1 => exact Pipeline.Window.rect_emb_val_of_index_zero ((cfgA ch).win (0 : Fin 4)) t 1 h.2 (ix2 r k)

/-- A step's block of the gate's weights. -/
theorem iblk_1 (c : Dev nD) (t : Fin (cfgA ch).N) (k : Fin 2048) (l : Fin 512) (L : Fin 7168) (hL : L.val = 512 * (t.val / 8) + l.val) :
    (iblk ch m ρ c (1 : Fin 4) t : FVec Ideal S1x2048x512 .f32) (ix3 0 k l) = gates m c (ix3 ch k L) := by
  show gates m c (((cfgA ch).win (1 : Fin 4)).blk t |>.view.emb (ix3 0 k l)) = gates m c (ix3 ch k L)
  congr 1
  funext a
  refine Fin.ext ?_
  have h := index_1 ch t
  match a with
  | 0 => exact (Pipeline.Window.rect_emb_val ((cfgA ch).win (1 : Fin 4)) t (ix3 0 k l) 0).trans (by rw [h.1]; exact Nat.mul_one _)
  | 1 => exact Pipeline.Window.rect_emb_val_of_index_zero ((cfgA ch).win (1 : Fin 4)) t 1 h.2.1 (ix3 0 k l)
  | 2 => exact (Pipeline.Window.rect_emb_val ((cfgA ch).win (1 : Fin 4)) t (ix3 0 k l) 2).trans (by rw [h.2.2]; exact (congrArg (· + l.val) (Nat.mul_comm _ _)).trans hL.symm)

/-- A step's block of the other weights. -/
theorem iblk_2 (c : Dev nD) (t : Fin (cfgA ch).N) (k : Fin 2048) (l : Fin 512) (L : Fin 7168) (hL : L.val = 512 * (t.val / 8) + l.val) :
    (iblk ch m ρ c (2 : Fin 4) t : FVec Ideal S1x2048x512 .f32) (ix3 0 k l) = ups m c (ix3 ch k L) := by
  show ups m c (((cfgA ch).win (2 : Fin 4)).blk t |>.view.emb (ix3 0 k l)) = ups m c (ix3 ch k L)
  congr 1
  funext a
  refine Fin.ext ?_
  have h := index_2 ch t
  match a with
  | 0 => exact (Pipeline.Window.rect_emb_val ((cfgA ch).win (2 : Fin 4)) t (ix3 0 k l) 0).trans (by rw [h.1]; exact Nat.mul_one _)
  | 1 => exact Pipeline.Window.rect_emb_val_of_index_zero ((cfgA ch).win (2 : Fin 4)) t 1 h.2.1 (ix3 0 k l)
  | 2 => exact (Pipeline.Window.rect_emb_val ((cfgA ch).win (2 : Fin 4)) t (ix3 0 k l) 2).trans (by rw [h.2.2]; exact (congrArg (· + l.val) (Nat.mul_comm _ _)).trans hL.symm)

/-! ## What every step leaves -/

/-- After each step the weights kept are those of the step's block of columns, the gate's before the others. -/
theorem kept_eq (c : Dev nD) : ∀ (n : ℕ) (h : n < (cfgA ch).N) (k : Fin 2048) (l : Fin 512) (L : Fin 7168), L.val = 512 * (n / 8) + l.val →
    ((traj0 ch m ρ c n h).2 : FVec Ideal S2048x1024 .bf16) (ix2 k ⟨l.val, by omega⟩) = gates m c (ix3 ch k L)
      ∧ ((traj0 ch m ρ c n h).2 : FVec Ideal S2048x1024 .bf16) (ix2 k ⟨512 + l.val, by omega⟩) = ups m c (ix3 ch k L) := by
  have loaded : ∀ (t : Fin (cfgA ch).N) (k : Fin 2048) (l : Fin 512) (L : Fin 7168), L.val = 512 * (t.val / 8) + l.val →
      Kernel2Ideal.Up.wcat (iblk ch m ρ c (1 : Fin 4) t) (iblk ch m ρ c (2 : Fin 4) t) (ix2 k ⟨l.val, by omega⟩) = gates m c (ix3 ch k L)
        ∧ Kernel2Ideal.Up.wcat (iblk ch m ρ c (1 : Fin 4) t) (iblk ch m ρ c (2 : Fin 4) t) (ix2 k ⟨512 + l.val, by omega⟩) = ups m c (ix3 ch k L) := fun t k l L hL =>
    ⟨(Kernel2Ideal.Up.wcat_low _ _ k l).trans (iblk_1 ch m ρ c t k l L hL), (Kernel2Ideal.Up.wcat_high _ _ k l).trans (iblk_2 ch m ρ c t k l L hL)⟩
  intro n
  induction n with
  | zero =>
    intro h k l L hL
    rw [traj0_eq ch m ρ c ⟨0, h⟩, step_A ch m ρ c ⟨0, h⟩ _ ((reloads ch ⟨0, h⟩).mpr rfl)]
    exact loaded ⟨0, h⟩ k l L hL
  | succ n ih =>
    intro h k l L hL
    by_cases h0 : (n + 1) % 8 = 0
    · rw [traj0_eq ch m ρ c ⟨n + 1, h⟩, step_A ch m ρ c ⟨n + 1, h⟩ _ ((reloads ch ⟨n + 1, h⟩).mpr h0)]
      exact loaded ⟨n + 1, h⟩ k l L hL
    · rw [traj0_eq ch m ρ c ⟨n + 1, h⟩, step_B ch m ρ c ⟨n + 1, h⟩ _ (fun q => h0 ((reloads ch ⟨n + 1, h⟩).mp q))]
      exact ih (Nat.lt_of_succ_lt h) k l L (by omega)

/-- Every step leaves its block's result by the weights it keeps. -/
theorem out_eq (c : Dev nD) (t : Fin (cfgA ch).N) :
    (traj0 ch m ρ c t.val t.isLt).1 = k0_pay3 (F := Ideal) (iblk ch m ρ c (0 : Fin 4) t) (traj0 ch m ρ c t.val t.isLt).2 := by
  rw [traj0_eq ch m ρ c t]
  by_cases q0 : P0_0 ch t
  · rw [step_A ch m ρ c t _ q0]
  · rw [step_B ch m ρ c t _ q0]

/-- Row `R` of the tokens times column `C` of layer `e`'s weights. -/
def dot (x : S8192x2048.Idx → EReal) (w : S2x2048x7168.Idx → EReal) (e : Fin 2) (R : Fin 8192) (C : Fin 7168) : EReal :=
  ∑ k : Fin 2048, x (ix2 R k) * w (ix3 e k C)

/-- Every entry a step leaves is the result's. -/
theorem outs_apply (c : Dev nD) (t : Fin (cfgA ch).N) (r : Fin 1024) (l : Fin 512) (R : Fin 8192) (L : Fin 7168) (hR : R.val = 1024 * (t.val % 8) + r.val)
    (hL : L.val = 512 * (t.val / 8) + l.val) :
    ((traj0 ch m ρ c t.val t.isLt).1 : FVec Ideal S1024x512 .bf16) (ix2 r l) = Kernel2Ideal.Up.swi (dot (rows m c) (gates m c) ch R L) (dot (rows m c) (ups m c) ch R L) := by
  rw [out_eq]
  refine (pay3_apply _ _ r l).trans ?_
  unfold dot
  exact congrArg₂ Kernel2Ideal.Up.swi
    (Finset.sum_congr rfl fun k _ => congrArg₂ (· * ·) (iblk_0 ch m ρ c t r k R hR) (kept_eq ch m ρ c t.val t.isLt k l L hL).1)
    (Finset.sum_congr rfl fun k _ => congrArg₂ (· * ·) (iblk_0 ch m ρ c t r k R hR) (kept_eq ch m ρ c t.val t.isLt k l L hL).2)

/-- Every step writes its block back. -/
theorem flushes (t : Fin (cfgA ch).N) : ((cfgA ch).win (3 : Fin 4)).flush t = true := by
  by_cases q0 : P0_0 ch t
  · exact (sched0_A ch t q0).2.1
  · exact (sched0_B ch t q0).2.1

/-- Where an element of the result's block lies in the result. -/
theorem emb3 (t : Fin (cfgA ch).N) (y : S1024x512.Idx) :
    ((((cfgA ch).win (3 : Fin 4)).rect t).emb y (0 : Fin 2)).val = 1024 * (t.val % 8) + (y 0).val
      ∧ ((((cfgA ch).win (3 : Fin 4)).rect t).emb y (1 : Fin 2)).val = 512 * (t.val / 8) + (y 1).val := by
  have h := index_3 ch t
  constructor
  · exact (Pipeline.Window.rect_emb_val ((cfgA ch).win (3 : Fin 4)) t y 0).trans (by rw [h.1]; exact congrArg (· + (y 0).val) (Nat.mul_comm _ _))
  · exact (Pipeline.Window.rect_emb_val ((cfgA ch).win (3 : Fin 4)) t y 1).trans (by rw [h.2]; exact congrArg (· + (y 1).val) (Nat.mul_comm _ _))

/-- The result array, entry by entry. -/
theorem arr_apply (c : Dev nD) (R : Fin 8192) (C : Fin 7168) :
    ((dats ch m ρ 0 c).arrAt (3 : Fin 4) (cfgA ch).N : S8192x7168.Idx → Elt Ideal .bf16) (ix2 R C)
      = Kernel2Ideal.Up.swi (dot (rows m c) (gates m c) ch R C) (dot (rows m c) (ups m c) ch R C) := by
  let P : S8192x7168.Idx → Elt Ideal .bf16 → Prop := fun i v => v = Kernel2Ideal.Up.swi (dot (rows m c) (gates m c) ch (i 0) (i 1)) (dot (rows m c) (ups m c) ch (i 0) (i 1))
  have hP : ∀ t : Fin (cfgA ch).N, ((cfgA ch).win (3 : Fin 4)).flush t = true → ∀ y : S1024x512.Idx,
      P ((((cfgA ch).win (3 : Fin 4)).rect t).emb y) ((dats ch m ρ 0 c).after (3 : Fin 4) t y) := by
    intro t _ y
    rw [after0_3]
    obtain ⟨e0, e1⟩ := emb3 ch t y
    generalize (((cfgA ch).win (3 : Fin 4)).rect t).emb y = i at *
    rw [eq_ix2 (n0 := 1024) (n1 := 512) y]
    exact outs_apply ch m ρ c t (y 0) (y 1) (i 0) (i 1) e0 e1
  have hR : R.val < 8192 := R.isLt
  have hC : C.val < 7168 := C.isLt
  let t : Fin (cfgA ch).N := ⟨8 * (C.val / 512) + R.val / 1024, by show 8 * (C.val / 512) + R.val / 1024 < 112; omega⟩
  have ht : t.val = 8 * (C.val / 512) + R.val / 1024 := rfl
  have hin : (ix2 R C : S8192x7168.Idx) ∈ (((cfgA ch).win (3 : Fin 4)).blk t).view.set := by
    refine Finset.mem_map.mpr ⟨(ix2 ⟨R.val % 1024, by omega⟩ ⟨C.val % 512, by omega⟩ : S1024x512.Idx), Finset.mem_univ _, ?_⟩
    obtain ⟨e0, e1⟩ := emb3 ch t (ix2 ⟨R.val % 1024, by omega⟩ ⟨C.val % 512, by omega⟩)
    show (((cfgA ch).win (3 : Fin 4)).rect t).emb (ix2 ⟨R.val % 1024, _⟩ ⟨C.val % 512, _⟩) = ix2 R C
    funext a
    apply Fin.ext
    match a with
    | ⟨0, _⟩ => refine e0.trans ?_; rw [ht]; show 1024 * ((8 * (C.val / 512) + R.val / 1024) % 8) + R.val % 1024 = R.val; omega
    | ⟨1, _⟩ => refine e1.trans ?_; rw [ht]; show 512 * ((8 * (C.val / 512) + R.val / 1024) / 8) + C.val % 512 = C.val; omega
  exact (dats ch m ρ 0 c).arrAt_forall_of_flushed (3 : Fin 4) P hP (cfgA ch).N t (ix2 R C) t.isLt (flushes ch t) hin

end Cert.Dense

end
-- ==== Proof.DenseFinal.lean ====
module

public import proofs.«01_k».proof.Proof.Dense
public import proofs.«01_k».proof.Proof.Gen.Kernel6.Flash
public import proofs.«01_k».proof.Proof.Gen.Reference6Ideal.Run
public import proofs.«01_k».proof.Proof.Gen.Reference6Ideal.Read
public import proofs.«01_k».proof.Proof.Gen.Pre_dense_tables
public import Idealize.ShloMosaic.Lib.ReduceAll
public import Idealize.ShloMosaic.Lib.StableHlo.Predicate

@[expose] public section

set_option maxRecDepth 16384
set_option Elab.async false

noncomputable section

namespace Cert.Dense

open Idealize.ShloMosaic Idealize.ShloMosaic.TcCoe Idealize.SL.Sem

/-! ## The tables -/

/-- The first tile. -/
abbrev first8 : Pre_dense_tables.S8.Idx := fun a => ⟨0, by fin_cases a; decide⟩

/-- The first entry. -/
theorem slice_first (T : Pre_dense_tables.S8.Idx → BitVec 32) (h : Pre_dense_tables.S8.Slices ![0] Pre_dense_tables.S1) (i : Pre_dense_tables.S1.Idx) :
    extractStridedSlice Pre_dense_tables.S1 ![0] T h i = T first8 := by
  show T _ = T _
  congr 1
  funext a
  fin_cases a
  apply Fin.ext
  have : (i 0).val < 1 := (i 0).isLt
  show 0 + (i 0).val = 0
  omega

/-- The precondition, as what it says of the tables: one layer for every tile, two halves in each, and the tiles in order. -/
theorem tables_of_pre {F : FTy → Type} [FloatOps F] (x0 : FVec F Pre_dense_tables.S8192x2048 .bf16) (x1 x2 : FVec F Pre_dense_tables.S2x2048x7168 .f32)
    (T0 T1 T2 : Pre_dense_tables.S8.Idx → BitVec 32)
    (h : Pre_dense_tables.fn (F := F) x0 x1 x2 T0 T1 T2 = fun _ => 1#1) :
    ∃ ch : Fin 2, (T0 = fun _ => BitVec.ofNat 32 ch.val) ∧ (T1 = fun _ => 2#32) ∧ T2 = fun x => BitVec.ofNat 32 (x 0).val := by
  dsimp only [Pre_dense_tables.fn, Pre_dense_tables.fn_part1] at h
  have h20 := congrFun h (fun a => a.elim0)
  obtain ⟨h16, h19⟩ := IntOp.andi_eq_one.mp h20
  obtain ⟨h12, h15⟩ := IntOp.andi_eq_one.mp h16
  obtain ⟨h6, h11⟩ := IntOp.andi_eq_one.mp h12
  haveI : Subsingleton Pre_dense_tables.S_.Idx := ⟨fun _ _ => funext fun a => a.elim0⟩
  have r11 := fun i : Pre_dense_tables.S8.Idx => StableHlo.Predicate.cmpi_eq_iff.mp (Host.reduce_andi_all _ _ _ _ _ h11 i)
  have r15 := fun i : Pre_dense_tables.S8.Idx => StableHlo.Predicate.cmpi_eq_iff.mp (Host.reduce_andi_all _ _ _ _ _ h15 i)
  have r19 := fun i : Pre_dense_tables.S8.Idx => StableHlo.Predicate.cmpi_eq_iff.mp (Host.reduce_andi_all _ _ _ _ _ h19 i)
  have e0 : ∀ i, T0 i = T0 first8 := fun i => (r11 i).trans (slice_first T0 Pre_dense_tables.Facts.slices_S8_S1_0 _)
  have e6 : ∃ ch : Fin 2, T0 first8 = BitVec.ofNat 32 ch.val := by
    rcases IntOp.ori_eq_one.mp h6 with e | e
    · exact ⟨0, (slice_first T0 Pre_dense_tables.Facts.slices_S8_S1_0 _).symm.trans (StableHlo.Predicate.cmpi_eq_iff.mp e)⟩
    · exact ⟨1, (slice_first T0 Pre_dense_tables.Facts.slices_S8_S1_0 _).symm.trans (StableHlo.Predicate.cmpi_eq_iff.mp e)⟩
  obtain ⟨ch, hch⟩ := e6
  exact ⟨ch, funext fun i => (e0 i).trans hch, funext r15, funext r19⟩

/-- The precondition gives the kernel one of its two launches. -/
theorem pinned (m : (ℓ : Loc Kernel6.nD Kernel6.τ Kernel6.sig) → Buf (Elt Bits) ℓ) (h : Cert.Pre_Kernel6 m) : ∃ ch, Kernel6.Gen.Pinned ch m := by
  obtain ⟨ch, h0, h1, h2⟩ := tables_of_pre _ _ _ _ _ _ (h 0)
  have hc : ∀ c : Dev Kernel6.nD, c = 0 := fun c => Subsingleton.elim (α := Fin 1) _ _
  exact ⟨ch, fun c => by rw [hc c]; exact h0, fun c => by rw [hc c]; exact h1, fun c => by rw [hc c]; exact h2⟩

/-- The same of the idealized kernel. -/
theorem pinned_ideal (m : (ℓ : Loc Kernel6Ideal.nD Kernel6Ideal.τ Kernel6Ideal.sig) → Buf (Elt Ideal) ℓ) (h : Cert.Pre_Kernel6Ideal m) : ∃ ch, Kernel6Ideal.Gen.Pinned ch m := by
  obtain ⟨ch, h0, h1, h2⟩ := tables_of_pre _ _ _ _ _ _ (h 0)
  have hc : ∀ c : Dev Kernel6Ideal.nD, c = 0 := fun c => Subsingleton.elim (α := Fin 1) _ _
  exact ⟨ch, fun c => by rw [hc c]; exact h0, fun c => by rw [hc c]; exact h1, fun c => by rw [hc c]; exact h2⟩

/-! ## The runs -/

/-- Every run of the kernel from tables the precondition admits ends with the arguments as they were and every counter at zero. -/
theorem frame : Cert.quiescent_Kernel6 := fun m ρ h => (pinned m h).elim fun ch hp => Kernel6.Gen.frame ch m ρ hp

/-- The same of the idealized kernel. -/
theorem frame_ideal : Cert.quiescent_Kernel6Ideal := fun m ρ h => (pinned_ideal m h).elim fun ch hp => Kernel6Ideal.Gen.frame ch m ρ hp

/-- The idealized reference runs, leaves its arguments and ends with every semaphore at zero. -/
theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-! ## The reference -/

open Cert.Reference6Ideal.Read in
/-- The weights the reference takes are those of the layer its table names. -/
theorem layer_apply (w : FVec Ideal Reference6Ideal.S2x2048x7168 .f32) (e : Fin 2) (k : Fin 2048) (C : Fin 7168) :
    val_main_v8 (F := Ideal) w (fun _ => BitVec.ofNat 32 e.val) (ix2 k C) = w (ix3 e k C) := by
  have hk := k.isLt
  have hC := C.isLt
  have hs : val_main_v8 (F := Ideal) w (fun _ => BitVec.ofNat 32 e.val) (ix2 k C)
      = if IntOp.cmpi .eq (BitVec.ofNat 32 e.val) 0#32 = 1#1 then val_main_v5 (F := Ideal) w (ix2 k C) else val_main_v7 (F := Ideal) w (ix2 k C) := rfl
  rw [hs]
  fin_cases e
  · rw [if_pos (by decide), val_main_v5_apply, val_main_v4_apply]
    refine congrArg w (funext fun a => Fin.ext ?_)
    match a with
    | 0 => rfl
    | 1 => show (k.val * 7168 + C.val) / 7168 % 2048 = k.val; omega
    | 2 => show (k.val * 7168 + C.val) % 7168 = C.val; omega
  · rw [if_neg (by decide), val_main_v7_apply, val_main_v6_apply]
    refine congrArg w (funext fun a => Fin.ext ?_)
    match a with
    | 0 => rfl
    | 1 => show (k.val * 7168 + C.val) / 7168 % 2048 = k.val; omega
    | 2 => show (k.val * 7168 + C.val) % 7168 = C.val; omega

open Cert.Reference6Ideal.Read in
/-- The rows times the layer's weights, entry by entry. -/
theorem dot_apply (x : FVec Ideal Reference6Ideal.S8192x2048 .bf16) (w : FVec Ideal Reference6Ideal.S2x2048x7168 .f32) (e : Fin 2) (R : Fin 8192) (C : Fin 7168) :
    val_main_v17 (F := Ideal) x w (fun _ => BitVec.ofNat 32 e.val) (ix2 R C) = dot x w e R C := by
  rw [val_main_v17_apply]
  refine Finset.sum_congr rfl fun k _ => ?_
  refine congrArg₂ (· * ·) (congrArg x (funext fun a => match a with | ⟨0, _⟩ => rfl | ⟨1, _⟩ => rfl)) (Eq.trans (congrArg _ ?_) (layer_apply w e k C))
  exact funext fun a => match a with | ⟨0, _⟩ => rfl | ⟨1, _⟩ => rfl

open Cert.Reference6Ideal.Read in
/-- The reference's result, entry by entry. -/
theorem ref_apply (x : FVec Ideal Reference6Ideal.S8192x2048 .bf16) (w1 w2 : FVec Ideal Reference6Ideal.S2x2048x7168 .f32) (e : Fin 2) (R : Fin 8192) (C : Fin 7168) :
    val_main_v21 (F := Ideal) x w1 w2 (fun _ => BitVec.ofNat 32 e.val) (ix2 R C) = Kernel2Ideal.Up.swi (dot x w1 e R C) (dot x w2 e R C) := by
  have hg := dot_apply x w1 e R C
  have hu : val_main_v19 (F := Ideal) x w2 (fun _ => BitVec.ofNat 32 e.val) (ix2 R C) = dot x w2 e R C := dot_apply x w2 e R C
  have h1 : ∀ i, val_main_call2_v2 (F := Ideal) i = 1 := fun i => (val_main_call2_v2_apply i).trans (by rw [val_main_call2_cst_apply]; exact Ideal.ofBits_one_f32)
  have h2 : ∀ i, val_main_call2_v4 (F := Ideal) i = 1 := fun i => (val_main_call2_v4_apply i).trans (by rw [val_main_call2_cst_0_apply]; exact Ideal.ofBits_one_f32)
  rw [val_main_v21_apply, val_main_v20_apply, val_main_v18_apply, val_main_call2_v5_apply, val_main_call2_v3_apply, val_main_call2_v1_apply, val_main_call2_v0_apply, h1, h2, hg, hu]
  rfl

/-! ## The two together -/

/-- The idealized kernel and the idealized reference end with equal results. -/
theorem algebraic : Cert.algebraic_Kernel6Ideal_Reference6Ideal := by
  intro m ρ m' ρ' hpre hag
  obtain ⟨ch, hp⟩ := pinned_ideal m hpre
  refine ⟨fun c => (Kernel6Ideal.Gen.dats ch m ρ 0 c).arrAt (3 : Fin 4) (Kernel6Ideal.Gen.cfgA ch).N, ?_, ?_⟩
  · exact (θ_run Kernel6Ideal.defs _ _).mono (fun r h c => ⟨(h c).1 (3 : Fin 4),
      ((h c).1 (0 : Fin 4)).trans ((Kernel6Ideal.Gen.dats ch m ρ 0 c).arrAt_in (0 : Fin 4) rfl _),
      ((h c).1 (1 : Fin 4)).trans ((Kernel6Ideal.Gen.dats ch m ρ 0 c).arrAt_in (1 : Fin 4) rfl _),
      ((h c).1 (2 : Fin 4)).trans ((Kernel6Ideal.Gen.dats ch m ρ 0 c).arrAt_in (2 : Fin 4) rfl _),
      ((h c).2 0).trans (hp.1 c).symm, ((h c).2 1).trans (hp.2.1 c).symm, ((h c).2 2).trans (hp.2.2 c).symm⟩) (Kernel6Ideal.Gen.run_main ch m ρ hp)
  · refine (θ_run Cert.Reference6Ideal.defs _ _).mono (fun r h c => ⟨((h c).1.trans (Cert.Reference6Ideal.Read.val_main_v21_eq _ _ _ _)).trans ?_, (h c).2⟩)
      (Cert.Reference6Ideal.Value.run m' ρ')
    obtain ⟨e0, e1, e2, e3, _, _⟩ := hag c
    rw [e0, e1, e2, e3.trans (hp.1 c)]
    funext i
    obtain ⟨R, C, rfl⟩ : ∃ R C, i = ix2 R C := ⟨i 0, i 1, eq_ix2 i⟩
    exact (ref_apply _ _ _ ch R C).trans (arr_apply ch m ρ c R C).symm

end Cert.Dense

end
-- ==== Proof.MmCore.lean ====
module

public import proofs.«01_k».proof.Proof.Mm

@[expose] public section

set_option maxRecDepth 16384

noncomputable section

namespace Cert.Mm

open Idealize.ShloMosaic Idealize.ShloMosaic.TcCoe Idealize.SL.Sem
open Cert.Kernel5Ideal Cert.Kernel5Ideal.Gen

/-! ## Steps that keep a block of weights for eight blocks of rows

What the projections' calls have in common, whichever their weights and the width `M` of their blocks: a step that loads a block of
weights keeps `p1` of it, and every step leaves `p2` of its rows and the weights kept. `o` is what each step leaves, the block of the result and the
weights kept; `xb` and `wb` are the blocks of rows and weights it sees, of the rows `X` and the weights `W`. -/

variable {N C M : ℕ} (p1 : FVec Ideal ⟨3, ![1, 2048, M]⟩ .f32 → FVec Ideal ⟨2, ![2048, M]⟩ .bf16)
  (p2 : FVec Ideal S1024x2048 .bf16 → FVec Ideal ⟨2, ![2048, M]⟩ .bf16 → FVec Ideal ⟨2, ![1024, M]⟩ .f32)
  (h1 : ∀ (w : FVec Ideal ⟨3, ![1, 2048, M]⟩ .f32) (k : Fin 2048) (l : Fin M), p1 w (ix2 k l) = w (ix3 0 k l))
  (h2 : ∀ (x : FVec Ideal S1024x2048 .bf16) (w : FVec Ideal ⟨2, ![2048, M]⟩ .bf16) (r : Fin 1024) (l : Fin M),
    p2 x w (ix2 r l) = ∑ k : Fin 2048, x (ix2 r k) * w (ix2 k l))
  (o : ∀ n : ℕ, n < N → FVec Ideal ⟨2, ![1024, M]⟩ .f32 × FVec Ideal ⟨2, ![2048, M]⟩ .bf16)
  (xb : Fin N → FVec Ideal S1024x2048 .bf16) (wb : Fin N → FVec Ideal ⟨3, ![1, 2048, M]⟩ .f32)
  (X : Fin 8192 → Fin 2048 → EReal) (W : Fin 2048 → Fin C → EReal)

include h1 in
/-- After each step the weights kept are those of the step's block of columns. -/
theorem steps_kept (hw : ∀ (t : Fin N) (k : Fin 2048) (l : Fin M) (L : Fin C), L.val = M * (t.val / 8) + l.val → wb t (ix3 0 k l) = W k L)
    (hA : ∀ t : Fin N, t.val % 8 = 0 → o t.val t.isLt = (p2 (xb t) (p1 (wb t)), p1 (wb t)))
    (hB : ∀ t : Fin N, ¬ t.val % 8 = 0 → o t.val t.isLt = (p2 (xb t) (o (t.val - 1) (by omega)).2, (o (t.val - 1) (by omega)).2)) :
    ∀ (n : ℕ) (t : Fin N), t.val = n → ∀ (k : Fin 2048) (l : Fin M) (L : Fin C), L.val = M * (t.val / 8) + l.val → (o t.val t.isLt).2 (ix2 k l) = W k L := by
  intro n
  induction n with
  | zero =>
    intro t ht k l L hL
    have h0 : t.val % 8 = 0 := by rw [ht]
    exact (congrFun (congrArg Prod.snd (hA t h0)) (ix2 k l)).trans ((h1 (wb t) k l).trans (hw t k l L hL))
  | succ n ih =>
    intro t ht k l L hL
    by_cases h0 : t.val % 8 = 0
    · exact (congrFun (congrArg Prod.snd (hA t h0)) (ix2 k l)).trans ((h1 (wb t) k l).trans (hw t k l L hL))
    · have hp : t.val - 1 < N := by omega
      have hL' : L.val = M * ((t.val - 1) / 8) + l.val := by rw [hL, show (t.val - 1) / 8 = t.val / 8 by omega]
      exact (congrFun (congrArg Prod.snd (hB t h0)) (ix2 k l)).trans (ih ⟨t.val - 1, hp⟩ (by show t.val - 1 = n; omega) k l L hL')

include h1 h2 in
/-- Every step leaves its block of the product. -/
theorem steps_product (hx : ∀ (t : Fin N) (r : Fin 1024) (k : Fin 2048) (R : Fin 8192), R.val = 1024 * (t.val % 8) + r.val → xb t (ix2 r k) = X R k)
    (hw : ∀ (t : Fin N) (k : Fin 2048) (l : Fin M) (L : Fin C), L.val = M * (t.val / 8) + l.val → wb t (ix3 0 k l) = W k L)
    (hA : ∀ t : Fin N, t.val % 8 = 0 → o t.val t.isLt = (p2 (xb t) (p1 (wb t)), p1 (wb t)))
    (hB : ∀ t : Fin N, ¬ t.val % 8 = 0 → o t.val t.isLt = (p2 (xb t) (o (t.val - 1) (by omega)).2, (o (t.val - 1) (by omega)).2))
    (t : Fin N) (r : Fin 1024) (l : Fin M) (R : Fin 8192) (L : Fin C) (hR : R.val = 1024 * (t.val % 8) + r.val) (hL : L.val = M * (t.val / 8) + l.val) :
    (o t.val t.isLt).1 (ix2 r l) = ∑ k : Fin 2048, X R k * W k L := by
  by_cases h0 : t.val % 8 = 0
  · refine (congrFun (congrArg Prod.fst (hA t h0)) (ix2 r l)).trans ((h2 (xb t) (p1 (wb t)) r l).trans (Finset.sum_congr rfl fun k _ => ?_))
    rw [hx t r k R hR, h1 (wb t) k l, hw t k l L hL]
  · have hp : t.val - 1 < N := by omega
    have hL' : L.val = M * ((t.val - 1) / 8) + l.val := by rw [hL, show (t.val - 1) / 8 = t.val / 8 by omega]
    refine (congrFun (congrArg Prod.fst (hB t h0)) (ix2 r l)).trans ((h2 (xb t) (o (t.val - 1) hp).2 r l).trans (Finset.sum_congr rfl fun k _ => ?_))
    rw [hx t r k R hR]
    exact congrArg _ (steps_kept p1 p2 h1 o xb wb W hw hA hB _ ⟨t.val - 1, hp⟩ rfl k l L hL')

/-- The place in an array of an element of the block that a step visits. -/
theorem place {A B K : ℕ} (i j : ℕ) (r : Fin 1024) (l : Fin K) (R : Fin A) (L : Fin B) (e : (⟨2, ![A, B]⟩ : Shape).Idx) {i' j' : ℕ}
    (hi : i' = i) (hj : j' = j) (h0 : (e 0).val = i' * 1024 + r.val) (h1 : (e 1).val = j' * K + l.val)
    (hR : R.val = 1024 * i + r.val) (hL : L.val = K * j + l.val) : e = ix2 R L := by
  subst hi hj
  funext a
  refine Fin.ext ?_
  match a with
  | 0 => exact h0.trans ((congrArg (· + r.val) (Nat.mul_comm _ _)).trans hR.symm)
  | 1 => exact h1.trans ((congrArg (· + l.val) (Nat.mul_comm _ _)).trans hL.symm)

include h1 h2 in
/-- An array that holds at each step's place what the step leaves, the steps going down eight blocks of rows for each block of columns,
is the product. -/
theorem array_product (B : ℕ) (hN : N = 8 * B) (hM : 0 < M) (hC : C = M * B) (Y : FVec Ideal ⟨2, ![8192, C]⟩ .f32) (emb : Fin N → (⟨2, ![1024, M]⟩ : Shape).Idx → (⟨2, ![8192, C]⟩ : Shape).Idx)
    (hY : ∀ (t : Fin N) (r : Fin 1024) (l : Fin M), Y (emb t (ix2 r l)) = (o t.val t.isLt).1 (ix2 r l))
    (hemb : ∀ (t : Fin N) (r : Fin 1024) (l : Fin M) (R : Fin 8192) (L : Fin C), R.val = 1024 * (t.val % 8) + r.val → L.val = M * (t.val / 8) + l.val → emb t (ix2 r l) = ix2 R L)
    (hx : ∀ (t : Fin N) (r : Fin 1024) (k : Fin 2048) (R : Fin 8192), R.val = 1024 * (t.val % 8) + r.val → xb t (ix2 r k) = X R k)
    (hw : ∀ (t : Fin N) (k : Fin 2048) (l : Fin M) (L : Fin C), L.val = M * (t.val / 8) + l.val → wb t (ix3 0 k l) = W k L)
    (hA : ∀ t : Fin N, t.val % 8 = 0 → o t.val t.isLt = (p2 (xb t) (p1 (wb t)), p1 (wb t)))
    (hB : ∀ t : Fin N, ¬ t.val % 8 = 0 → o t.val t.isLt = (p2 (xb t) (o (t.val - 1) (by omega)).2, (o (t.val - 1) (by omega)).2))
    (R : Fin 8192) (L : Fin C) : Y (ix2 R L) = ∑ k : Fin 2048, X R k * W k L := by
  have hB' : L.val / M < B := Nat.div_lt_of_lt_mul (by rw [← hC]; exact L.isLt)
  let t : Fin N := ⟨8 * (L.val / M) + R.val / 1024, by omega⟩
  let r : Fin 1024 := ⟨R.val % 1024, by omega⟩
  let l : Fin M := ⟨L.val % M, Nat.mod_lt _ hM⟩
  have hR : R.val = 1024 * (t.val % 8) + r.val := by
    show R.val = 1024 * ((8 * (L.val / M) + R.val / 1024) % 8) + R.val % 1024
    omega
  have hL : L.val = M * (t.val / 8) + l.val := by
    show L.val = M * ((8 * (L.val / M) + R.val / 1024) / 8) + L.val % M
    rw [show (8 * (L.val / M) + R.val / 1024) / 8 = L.val / M by omega]
    exact (Nat.div_add_mod L.val M).symm
  rw [← hemb t r l R L hR hL, hY]
  exact steps_product p1 p2 h1 h2 o xb wb X W hx hw hA hB t r l R L hR hL

end Cert.Mm

end
-- ==== Proof.Mm7.lean ====
module

public import proofs.«01_k».proof.Proof.MmCore
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read

@[expose] public section

set_option maxRecDepth 16384

noncomputable section

namespace Cert.Mm7

open Idealize.ShloMosaic Idealize.ShloMosaic.TcCoe Idealize.SL.Sem
open Cert.Mm (off2 off3)

section
open Cert.Kernel7Ideal Cert.Kernel7Ideal.Gen

variable (m : (ℓ : Loc nD τ sig) → Buf (Elt Ideal) ℓ)

/-- A step that reloads the weights leaves the rows' product with the weights it loaded, and keeps them. -/
theorem step_A (c : Dev nD) (t : Fin cfg0.N) (h0 : t.val % 8 = 0) :
    outsAt0 m c t.val t.isLt = (k0_pay2 (F := Ideal) (iblk m c 0 t) (k0_pay1 (F := Ideal) (X0_1 m c t)), k0_pay1 (F := Ideal) (X0_1 m c t)) := by
  rw [outsAt0_A m c t h0]
  refine Prod.ext ?_ ?_
  · dsimp only
    unfold out0_A_2
    rw [View.read_writes_eq_canon _ _ _ (cover0_A_2 _ _ _ _ _ _ _ _ _ _ _ _ _)]
    unfold kernelRun0_A
    dsimp only
    sl_unfold_words
    rw [View.canon_unit_zero (S := S1024x1024) off2, View.readCov_unit_zero (S := S2048x1024) _ off2]
    simp only [View.readAt_eq_ld, (hs0_0 t).read_unread, (hs0_1 t).read_unread, View.ld_unit_zero (S := S1024x2048) off2, View.ld_unit_zero (S := S1x2048x1024) off3]
  · dsimp only
    unfold sout0_A_0
    rw [View.read_writes_eq_canon _ _ _ (scover0_A_0 _ _ _ _ _ _ _ _ _ _ _ _ _)]
    unfold kernelRun0_A
    dsimp only
    sl_unfold_words
    rw [View.canon_unit_zero (S := S2048x1024) off2]
    simp only [View.readAt_eq_ld, (hs0_1 t).read_unread, View.ld_unit_zero (S := S1x2048x1024) off3]

/-- Any other step leaves the rows' product with the weights kept, and keeps them. -/
theorem step_B (c : Dev nD) (t : Fin cfg0.N) (h0 : ¬ t.val % 8 = 0) (h : t.val - 1 < cfg0.N) :
    outsAt0 m c t.val t.isLt = (k0_pay2 (F := Ideal) (iblk m c 0 t) (outsAt0 m c (t.val - 1) h).2, (outsAt0 m c (t.val - 1) h).2) := by
  rw [outsAt0_B m c t h0]
  refine Prod.ext ?_ rfl
  dsimp only
  unfold out0_B_2
  rw [View.read_writes_eq_canon _ _ _ (cover0_B_2 _ _ _ _ _ _ _ _ _ _ _ _ _ _)]
  unfold kernelRun0_B
  dsimp only
  try sl_unfold_words
  rw [View.canon_unit_zero (S := S1024x1024) off2]
  simp only [View.readAt_eq_ld, (hs0_0 t).read_unread, (Memref.isWhole_whole cc0_scratch0).read_unread, View.ld_unit_zero (S := S1024x2048) off2, View.ld_unit_zero (S := S2048x1024) off2]

/-- Which block of rows each step visits. -/
theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
/-- Which block of weights each step visits: the columns before are the gate's. -/
theorem index_1 : ∀ t : Fin cfg0.N, win0_1.index t 0 = 0 ∧ win0_1.index t 1 = 0 ∧ win0_1.index t 2 = t.val / 8 + 4 :=
  (by decide +kernel : ∀ t : Fin grid0.N, win0_1.index t 0 = 0 ∧ win0_1.index t 1 = 0 ∧ win0_1.index t 2 = t.val / 8 + 4)
/-- Which block of the result each step visits. -/
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The rows as the program is handed them. -/
abbrev rows (c : Dev nD) : FVec Ideal S8192x2048 .bf16 := m ((c : Thread nD τ).loc main_arg0)
/-- The weights as the program is handed them. -/
abbrev weights (c : Dev nD) : FVec Ideal S1x2048x10304 .f32 := m ((c : Thread nD τ).loc main_arg1)

/-- The column of the weights that makes column `L` of the result. -/
abbrev col (L : Fin 6144) : Fin 10304 := ⟨4096 + L.val, by omega⟩

/-- A step's block of rows. -/
theorem iblk_0 (c : Dev nD) (t : Fin cfg0.N) (r : Fin 1024) (k : Fin 2048) (R : Fin 8192) (hR : R.val = 1024 * (t.val % 8) + r.val) :
    (iblk m c 0 t : FVec Ideal S1024x2048 .bf16) (ix2 r k) = rows m c (ix2 R k) := by
  unfold rows
  rw [← V_main_arg0 m c]
  show V m c main_arg0 (((cfg0.win 0).blk t).view.emb (ix2 r k)) = V m c main_arg0 (ix2 R k)
  exact congrArg _ (Mm.place (t.val % 8) 0 r k R k _ (index_0 t).1 (index_0 t).2 (Pipeline.Window.rect_emb_val win0_0 t (ix2 r k) 0)
    (Pipeline.Window.rect_emb_val win0_0 t (ix2 r k) 1) hR (by omega))

/-- A step's block of weights. -/
theorem block_1 (c : Dev nD) (t : Fin cfg0.N) (k : Fin 2048) (l : Fin 1024) (L : Fin 6144) (hL : L.val = 1024 * (t.val / 8) + l.val) :
    (X0_1 m c t : FVec Ideal S1x2048x1024 .f32) (ix3 0 k l) = weights m c (ix3 0 k (col L)) := by
  unfold weights
  rw [← V_main_arg1 m c]
  unfold X0_1 Pipeline.Window.fill
  rw [dif_pos (moved0_1 t _)]
  show V m c main_arg1 (((cfg0.win 1).blk t).view.emb _) = V m c main_arg1 (ix3 0 k (col L))
  congr 1
  funext a
  refine Fin.ext ?_
  have h := index_1 t
  match a with
  | 0 => exact Pipeline.Window.rect_emb_val_of_index_zero win0_1 t 0 h.1 _
  | 1 => exact Pipeline.Window.rect_emb_val_of_index_zero win0_1 t 1 h.2.1 _
  | 2 => exact (Pipeline.Window.rect_emb_val win0_1 t _ 2).trans (by rw [h.2.2]; show (t.val / 8 + 4) * 1024 + l.val = 4096 + L.val; omega)

/-- The result array is the product. -/
theorem arr_apply (c : Dev nD) (R : Fin 8192) (L : Fin 6144) :
    ((dats m 0 c).arrAt 2 cfg0.N : FVec Ideal S8192x6144 .f32) (ix2 R L) = ∑ k : Fin 2048, rows m c (ix2 R k) * weights m c (ix3 0 k (col L)) := by
  refine Mm.array_product (M := 1024) _ _ Mm.kept_apply Mm.product_apply (outsAt0 m c) (iblk m c 0) (X0_1 m c) (fun R k => rows m c (ix2 R k)) (fun k L => weights m c (ix3 0 k (col L)))
    6 N_0 (by decide) rfl ((dats m 0 c).arrAt 2 cfg0.N) (fun t => ((cfg0.win 2).blk t).view.emb) (fun t r l => ?_)
    (fun t r l R L hR hL => Mm.place (t.val % 8) (t.val / 8) r l R L _ (index_2 t).1 (index_2 t).2 (Pipeline.Window.rect_emb_val win0_2 t (ix2 r l) 0)
      (Pipeline.Window.rect_emb_val win0_2 t (ix2 r l) 1) hR hL)
    (iblk_0 m c) (block_1 m c) (step_A m c) (fun t h0 => step_B m c t h0 _) R L
  exact ((dats m 0 c).arrAt_emb_eq_flushed 2 Value.disjoint2 t (flush0_2 t) (ix2 r l)).trans (by rw [Value.flushed2]; rfl)

end

/-- The reference's result at an index is the same sum. -/
theorem ref_apply (x : FVec Ideal Cert.Reference7Ideal.S8192x2048 .bf16) (w : FVec Ideal Cert.Reference7Ideal.S1x2048x10304 .f32) (R : Fin 8192) (L : Fin 6144) :
    Cert.Reference7Ideal.Read.val_main_v3 (F := Ideal) x w (ix2 R L) = ∑ k : Fin 2048, x (ix2 R k) * w (ix3 0 k (col L)) := by
  rw [Cert.Reference7Ideal.Read.val_main_v3_apply]
  refine Finset.sum_congr rfl fun k _ => ?_
  rw [Cert.Reference7Ideal.Read.val_main_v2_apply, Cert.Reference7Ideal.Read.val_main_v1_apply]
  refine congrArg₂ _ (congrArg x (funext fun a => by fin_cases a <;> rfl)) (congrArg w (funext fun a => Fin.ext ?_))
  have hk := k.isLt
  have hL := L.isLt
  match a with
  | 0 => rfl
  | 1 => show (k.val * 6144 + L.val) / 6144 % 2048 = k.val; omega
  | 2 => show 4096 + (k.val * 6144 + L.val) % 6144 = 4096 + L.val; omega

/-- The idealized kernel and the idealized reference end with equal results. -/
theorem algebraic : Cert.algebraic_Kernel7Ideal_Reference7Ideal := by
  intro m ρ m' ρ' _ hag
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun r h c => ⟨((h c).1.trans (Cert.Reference7Ideal.Read.val_main_v3_eq _ _)).trans ?_, (h c).2⟩)
    (Cert.Reference7Ideal.Value.run m' ρ')
  obtain ⟨e0, e1⟩ := hag c
  rw [e0, e1]
  funext i
  obtain ⟨R, L, rfl⟩ : ∃ R L, i = ix2 R L := ⟨i 0, i 1, eq_ix2 i⟩
  exact (ref_apply _ _ R L).trans (arr_apply m c R L).symm

/-- The idealized reference runs, leaves its arguments and ends with every semaphore at zero. -/
theorem frame_reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Cert.Mm7

end
-- ==== Proof.Mm8.lean ====
module

public import proofs.«01_k».proof.Proof.MmCore
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read

@[expose] public section

set_option maxRecDepth 16384

noncomputable section

namespace Cert.Mm8

open Idealize.ShloMosaic Idealize.ShloMosaic.TcCoe Idealize.SL.Sem
open Cert.Mm (off2 off3)

section
open Cert.Kernel8Ideal Cert.Kernel8Ideal.Gen

variable (m : (ℓ : Loc nD τ sig) → Buf (Elt Ideal) ℓ)

/-- A step that reloads the weights leaves the rows' product with the weights it loaded, and keeps them. -/
theorem step_A (c : Dev nD) (t : Fin cfg0.N) (h0 : t.val % 8 = 0) :
    outsAt0 m c t.val t.isLt = (k0_pay2 (F := Ideal) (iblk m c 0 t) (k0_pay1 (F := Ideal) (X0_1 m c t)), k0_pay1 (F := Ideal) (X0_1 m c t)) := by
  rw [outsAt0_A m c t h0]
  refine Prod.ext ?_ ?_
  · dsimp only
    unfold out0_A_2
    rw [View.read_writes_eq_canon _ _ _ (cover0_A_2 _ _ _ _ _ _ _ _ _ _ _ _ _)]
    unfold kernelRun0_A
    dsimp only
    sl_unfold_words
    rw [View.canon_unit_zero (S := S1024x1024) off2, View.readCov_unit_zero (S := S2048x1024) _ off2]
    simp only [View.readAt_eq_ld, (hs0_0 t).read_unread, (hs0_1 t).read_unread, View.ld_unit_zero (S := S1024x2048) off2, View.ld_unit_zero (S := S1x2048x1024) off3]
  · dsimp only
    unfold sout0_A_0
    rw [View.read_writes_eq_canon _ _ _ (scover0_A_0 _ _ _ _ _ _ _ _ _ _ _ _ _)]
    unfold kernelRun0_A
    dsimp only
    sl_unfold_words
    rw [View.canon_unit_zero (S := S2048x1024) off2]
    simp only [View.readAt_eq_ld, (hs0_1 t).read_unread, View.ld_unit_zero (S := S1x2048x1024) off3]

/-- Any other step leaves the rows' product with the weights kept, and keeps them. -/
theorem step_B (c : Dev nD) (t : Fin cfg0.N) (h0 : ¬ t.val % 8 = 0) (h : t.val - 1 < cfg0.N) :
    outsAt0 m c t.val t.isLt = (k0_pay2 (F := Ideal) (iblk m c 0 t) (outsAt0 m c (t.val - 1) h).2, (outsAt0 m c (t.val - 1) h).2) := by
  rw [outsAt0_B m c t h0]
  refine Prod.ext ?_ rfl
  dsimp only
  unfold out0_B_2
  rw [View.read_writes_eq_canon _ _ _ (cover0_B_2 _ _ _ _ _ _ _ _ _ _ _ _ _ _)]
  unfold kernelRun0_B
  dsimp only
  try sl_unfold_words
  rw [View.canon_unit_zero (S := S1024x1024) off2]
  simp only [View.readAt_eq_ld, (hs0_0 t).read_unread, (Memref.isWhole_whole cc0_scratch0).read_unread, View.ld_unit_zero (S := S1024x2048) off2, View.ld_unit_zero (S := S2048x1024) off2]

/-- Which block of rows each step visits. -/
theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
/-- Which block of weights each step visits. -/
theorem index_1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
/-- Which block of the result each step visits. -/
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The rows as the program is handed them. -/
abbrev rows (c : Dev nD) : FVec Ideal S8192x2048 .bf16 := m ((c : Thread nD τ).loc main_arg0)
/-- The weights as the program is handed them. -/
abbrev weights (c : Dev nD) : FVec Ideal S1x2048x10304 .f32 := m ((c : Thread nD τ).loc main_arg1)

/-- The column of the weights that makes column `L` of the result. -/
abbrev col (L : Fin 4096) : Fin 10304 := ⟨L.val, by omega⟩

/-- A step's block of rows. -/
theorem iblk_0 (c : Dev nD) (t : Fin cfg0.N) (r : Fin 1024) (k : Fin 2048) (R : Fin 8192) (hR : R.val = 1024 * (t.val % 8) + r.val) :
    (iblk m c 0 t : FVec Ideal S1024x2048 .bf16) (ix2 r k) = rows m c (ix2 R k) := by
  unfold rows
  rw [← V_main_arg0 m c]
  show V m c main_arg0 (((cfg0.win 0).blk t).view.emb (ix2 r k)) = V m c main_arg0 (ix2 R k)
  exact congrArg _ (Mm.place (t.val % 8) 0 r k R k _ (index_0 t).1 (index_0 t).2 (Pipeline.Window.rect_emb_val win0_0 t (ix2 r k) 0)
    (Pipeline.Window.rect_emb_val win0_0 t (ix2 r k) 1) hR (by omega))

/-- A step's block of weights. -/
theorem block_1 (c : Dev nD) (t : Fin cfg0.N) (k : Fin 2048) (l : Fin 1024) (L : Fin 4096) (hL : L.val = 1024 * (t.val / 8) + l.val) :
    (X0_1 m c t : FVec Ideal S1x2048x1024 .f32) (ix3 0 k l) = weights m c (ix3 0 k (col L)) := by
  unfold weights
  rw [← V_main_arg1 m c]
  unfold X0_1 Pipeline.Window.fill
  rw [dif_pos (moved0_1 t _)]
  show V m c main_arg1 (((cfg0.win 1).blk t).view.emb _) = V m c main_arg1 (ix3 0 k (col L))
  congr 1
  funext a
  refine Fin.ext ?_
  have h := index_1 t
  match a with
  | 0 => exact Pipeline.Window.rect_emb_val_of_index_zero win0_1 t 0 h.1 _
  | 1 => exact Pipeline.Window.rect_emb_val_of_index_zero win0_1 t 1 h.2.1 _
  | 2 => exact (Pipeline.Window.rect_emb_val win0_1 t _ 2).trans (by rw [h.2.2]; show t.val / 8 * 1024 + l.val = L.val; omega)

/-- The result array is the product. -/
theorem arr_apply (c : Dev nD) (R : Fin 8192) (L : Fin 4096) :
    ((dats m 0 c).arrAt 2 cfg0.N : FVec Ideal S8192x4096 .f32) (ix2 R L) = ∑ k : Fin 2048, rows m c (ix2 R k) * weights m c (ix3 0 k (col L)) := by
  refine Mm.array_product (M := 1024) _ _ Mm.kept_apply Mm.product_apply (outsAt0 m c) (iblk m c 0) (X0_1 m c) (fun R k => rows m c (ix2 R k)) (fun k L => weights m c (ix3 0 k (col L)))
    4 N_0 (by decide) rfl ((dats m 0 c).arrAt 2 cfg0.N) (fun t => ((cfg0.win 2).blk t).view.emb) (fun t r l => ?_)
    (fun t r l R L hR hL => Mm.place (t.val % 8) (t.val / 8) r l R L _ (index_2 t).1 (index_2 t).2 (Pipeline.Window.rect_emb_val win0_2 t (ix2 r l) 0)
      (Pipeline.Window.rect_emb_val win0_2 t (ix2 r l) 1) hR hL)
    (iblk_0 m c) (block_1 m c) (step_A m c) (fun t h0 => step_B m c t h0 _) R L
  exact ((dats m 0 c).arrAt_emb_eq_flushed 2 Value.disjoint2 t (flush0_2 t) (ix2 r l)).trans (by rw [Value.flushed2]; rfl)

end

/-- The reference's result at an index is the same sum. -/
theorem ref_apply (x : FVec Ideal Cert.Reference8Ideal.S8192x2048 .bf16) (w : FVec Ideal Cert.Reference8Ideal.S1x2048x10304 .f32) (R : Fin 8192) (L : Fin 4096) :
    Cert.Reference8Ideal.Read.val_main_v3 (F := Ideal) x w (ix2 R L) = ∑ k : Fin 2048, x (ix2 R k) * w (ix3 0 k (col L)) := by
  rw [Cert.Reference8Ideal.Read.val_main_v3_apply]
  refine Finset.sum_congr rfl fun k _ => ?_
  rw [Cert.Reference8Ideal.Read.val_main_v2_apply, Cert.Reference8Ideal.Read.val_main_v1_apply]
  refine congrArg₂ _ (congrArg x (funext fun a => by fin_cases a <;> rfl)) (congrArg w (funext fun a => Fin.ext ?_))
  have hk := k.isLt
  have hL := L.isLt
  match a with
  | 0 => rfl
  | 1 => show (k.val * 4096 + L.val) / 4096 % 2048 = k.val; omega
  | 2 => show (k.val * 4096 + L.val) % 4096 = L.val; omega

/-- The idealized kernel and the idealized reference end with equal results. -/
theorem algebraic : Cert.algebraic_Kernel8Ideal_Reference8Ideal := by
  intro m ρ m' ρ' _ hag
  refine ⟨fun c => (Cert.Kernel8Ideal.Gen.dats m 0 c).arrAt 2 Cert.Kernel8Ideal.cfg0.N, Cert.Kernel8Ideal.Value.run_blocks m ρ, ?_⟩
  refine (θ_run Cert.Reference8Ideal.defs _ _).mono (fun r h c => ⟨((h c).1.trans (Cert.Reference8Ideal.Read.val_main_v3_eq _ _)).trans ?_, (h c).2⟩)
    (Cert.Reference8Ideal.Value.run m' ρ')
  obtain ⟨e0, e1⟩ := hag c
  rw [e0, e1]
  funext i
  obtain ⟨R, L, rfl⟩ : ∃ R L, i = ix2 R L := ⟨i 0, i 1, eq_ix2 i⟩
  exact (ref_apply _ _ R L).trans (arr_apply m c R L).symm

/-- The idealized reference runs, leaves its arguments and ends with every semaphore at zero. -/
theorem frame_reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

end Cert.Mm8

end
-- ==== Proof.Mm9.lean ====
module

public import proofs.«01_k».proof.Proof.MmCore
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read

@[expose] public section

set_option maxRecDepth 16384

noncomputable section

namespace Cert.Mm9

open Idealize.ShloMosaic Idealize.ShloMosaic.TcCoe Idealize.SL.Sem
open Cert.Mm (off2 off3)

section
open Cert.Kernel9Ideal Cert.Kernel9Ideal.Gen

variable (m : (ℓ : Loc nD τ sig) → Buf (Elt Ideal) ℓ)

/-- A step that reloads the weights leaves the rows' product with the weights it loaded, and keeps them. -/
theorem step_A (c : Dev nD) (t : Fin cfg0.N) (h0 : t.val % 8 = 0) :
    outsAt0 m c t.val t.isLt = (k0_pay2 (F := Ideal) (iblk m c 0 t) (k0_pay1 (F := Ideal) (iblk m c 1 t)), k0_pay1 (F := Ideal) (iblk m c 1 t)) := by
  rw [outsAt0_A m c t h0]
  refine Prod.ext ?_ ?_
  · dsimp only
    unfold out0_A_2
    rw [View.read_writes_eq_canon _ _ _ (cover0_A_2 _ _ _ _ _ _ _ _ _ _ _ _ _)]
    unfold kernelRun0_A
    dsimp only
    sl_unfold_words
    rw [View.canon_unit_zero (S := S1024x1024) off2, View.readCov_unit_zero (S := S2048x1024) _ off2]
    simp only [View.readAt_eq_ld, (hs0_0 t).read_unread, (hs0_1 t).read_unread, View.ld_unit_zero (S := S1024x2048) off2, View.ld_unit_zero (S := S1x2048x1024) off3]
  · dsimp only
    unfold sout0_A_0
    rw [View.read_writes_eq_canon _ _ _ (scover0_A_0 _ _ _ _ _ _ _ _ _ _ _ _ _)]
    unfold kernelRun0_A
    dsimp only
    sl_unfold_words
    rw [View.canon_unit_zero (S := S2048x1024) off2]
    simp only [View.readAt_eq_ld, (hs0_1 t).read_unread, View.ld_unit_zero (S := S1x2048x1024) off3]

/-- Any other step leaves the rows' product with the weights kept, and keeps them. -/
theorem step_B (c : Dev nD) (t : Fin cfg0.N) (h0 : ¬ t.val % 8 = 0) (h : t.val - 1 < cfg0.N) :
    outsAt0 m c t.val t.isLt = (k0_pay2 (F := Ideal) (iblk m c 0 t) (outsAt0 m c (t.val - 1) h).2, (outsAt0 m c (t.val - 1) h).2) := by
  rw [outsAt0_B m c t h0]
  refine Prod.ext ?_ rfl
  dsimp only
  unfold out0_B_2
  rw [View.read_writes_eq_canon _ _ _ (cover0_B_2 _ _ _ _ _ _ _ _ _ _ _ _ _ _)]
  unfold kernelRun0_B
  dsimp only
  try sl_unfold_words
  rw [View.canon_unit_zero (S := S1024x1024) off2]
  simp only [View.readAt_eq_ld, (hs0_0 t).read_unread, (Memref.isWhole_whole cc0_scratch0).read_unread, View.ld_unit_zero (S := S1024x2048) off2, View.ld_unit_zero (S := S2048x1024) off2]

/-- Which block of rows each step visits. -/
theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
/-- Which block of weights each step visits: layer 0's. -/
theorem index_1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
/-- Which block of the result each step visits. -/
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The rows as the program is handed them. -/
abbrev rows (c : Dev nD) : FVec Ideal S8192x2048 .bf16 := m ((c : Thread nD τ).loc main_arg0)
/-- The weights as the program is handed them. -/
abbrev weights (c : Dev nD) : FVec Ideal S2x2048x3072 .f32 := m ((c : Thread nD τ).loc main_arg1)

/-- A step's block of rows. -/
theorem iblk_0 (c : Dev nD) (t : Fin cfg0.N) (r : Fin 1024) (k : Fin 2048) (R : Fin 8192) (hR : R.val = 1024 * (t.val % 8) + r.val) :
    (iblk m c 0 t : FVec Ideal S1024x2048 .bf16) (ix2 r k) = rows m c (ix2 R k) := by
  unfold rows
  rw [← V_main_arg0 m c]
  show V m c main_arg0 (((cfg0.win 0).blk t).view.emb (ix2 r k)) = V m c main_arg0 (ix2 R k)
  exact congrArg _ (Mm.place (t.val % 8) 0 r k R k _ (index_0 t).1 (index_0 t).2 (Pipeline.Window.rect_emb_val win0_0 t (ix2 r k) 0)
    (Pipeline.Window.rect_emb_val win0_0 t (ix2 r k) 1) hR (by omega))

/-- A step's block of weights. -/
theorem block_1 (c : Dev nD) (t : Fin cfg0.N) (k : Fin 2048) (l : Fin 1024) (L : Fin 3072) (hL : L.val = 1024 * (t.val / 8) + l.val) :
    (iblk m c 1 t : FVec Ideal S1x2048x1024 .f32) (ix3 0 k l) = weights m c (ix3 0 k L) := by
  unfold weights
  rw [← V_main_arg1 m c]
  show V m c main_arg1 (((cfg0.win 1).blk t).view.emb _) = V m c main_arg1 (ix3 0 k L)
  congr 1
  funext a
  refine Fin.ext ?_
  have h := index_1 t
  match a with
  | 0 => exact Pipeline.Window.rect_emb_val_of_index_zero win0_1 t 0 h.1 _
  | 1 => exact Pipeline.Window.rect_emb_val_of_index_zero win0_1 t 1 h.2.1 _
  | 2 => exact (Pipeline.Window.rect_emb_val win0_1 t _ 2).trans (by rw [h.2.2]; show (t.val / 8) * 1024 + l.val = L.val; omega)

/-- The result array is the product. -/
theorem arr_apply (c : Dev nD) (R : Fin 8192) (L : Fin 3072) :
    ((dats m 0 c).arrAt 2 cfg0.N : FVec Ideal S8192x3072 .f32) (ix2 R L) = ∑ k : Fin 2048, rows m c (ix2 R k) * weights m c (ix3 0 k L) := by
  refine Mm.array_product (M := 1024) _ _ Mm.kept_apply Mm.product_apply (outsAt0 m c) (iblk m c 0) (iblk m c 1) (fun R k => rows m c (ix2 R k)) (fun k L => weights m c (ix3 0 k L))
    3 N_0 (by decide) rfl ((dats m 0 c).arrAt 2 cfg0.N) (fun t => ((cfg0.win 2).blk t).view.emb) (fun t r l => ?_)
    (fun t r l R L hR hL => Mm.place (t.val % 8) (t.val / 8) r l R L _ (index_2 t).1 (index_2 t).2 (Pipeline.Window.rect_emb_val win0_2 t (ix2 r l) 0)
      (Pipeline.Window.rect_emb_val win0_2 t (ix2 r l) 1) hR hL)
    (iblk_0 m c) (block_1 m c) (step_A m c) (fun t h0 => step_B m c t h0 _) R L
  exact ((dats m 0 c).arrAt_emb_eq_flushed 2 Value.disjoint2 t (flush0_2 t) (ix2 r l)).trans (by rw [Value.flushed2]; rfl)

end

/-- The reference's result at an index is the same sum. -/
theorem ref_apply (x : FVec Ideal Cert.Reference9Ideal.S8192x2048 .bf16) (w : FVec Ideal Cert.Reference9Ideal.S2x2048x3072 .f32) (R : Fin 8192) (L : Fin 3072) :
    Cert.Reference9Ideal.Read.val_main_v3 (F := Ideal) x w (ix2 R L) = ∑ k : Fin 2048, x (ix2 R k) * w (ix3 0 k L) := by
  rw [Cert.Reference9Ideal.Read.val_main_v3_apply]
  refine Finset.sum_congr rfl fun k _ => ?_
  rw [Cert.Reference9Ideal.Read.val_main_v2_apply, Cert.Reference9Ideal.Read.val_main_v1_apply]
  refine congrArg₂ _ (congrArg x (funext fun a => by fin_cases a <;> rfl)) (congrArg w (funext fun a => Fin.ext ?_))
  have hk := k.isLt
  have hL := L.isLt
  match a with
  | 0 => rfl
  | 1 => show (k.val * 3072 + L.val) / 3072 % 2048 = k.val; omega
  | 2 => show (k.val * 3072 + L.val) % 3072 = L.val; omega

/-- The idealized kernel and the idealized reference end with equal results. -/
theorem algebraic : Cert.algebraic_Kernel9Ideal_Reference9Ideal := by
  intro m ρ m' ρ' _ hag
  refine ⟨fun c => (Cert.Kernel9Ideal.Gen.dats m 0 c).arrAt 2 Cert.Kernel9Ideal.cfg0.N, Cert.Kernel9Ideal.Value.run_blocks m ρ, ?_⟩
  refine (θ_run Cert.Reference9Ideal.defs _ _).mono (fun r h c => ⟨((h c).1.trans (Cert.Reference9Ideal.Read.val_main_v3_eq _ _)).trans ?_, (h c).2⟩)
    (Cert.Reference9Ideal.Value.run m' ρ')
  obtain ⟨e0, e1⟩ := hag c
  rw [e0, e1]
  funext i
  obtain ⟨R, L, rfl⟩ : ∃ R L, i = ix2 R L := ⟨i 0, i 1, eq_ix2 i⟩
  exact (ref_apply _ _ R L).trans (arr_apply m c R L).symm

/-- The idealized reference runs, leaves its arguments and ends with every semaphore at zero. -/
theorem frame_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

end Cert.Mm9

end
-- ==== Proof.Mm10.lean ====
module

public import proofs.«01_k».proof.Proof.MmCore
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read

@[expose] public section

set_option maxRecDepth 16384

noncomputable section

namespace Cert.Mm10

open Idealize.ShloMosaic Idealize.ShloMosaic.TcCoe Idealize.SL.Sem
open Cert.Mm (off2 off3)

section
open Cert.Kernel10Ideal Cert.Kernel10Ideal.Gen

variable (m : (ℓ : Loc nD τ sig) → Buf (Elt Ideal) ℓ)

/-- A step that reloads the weights leaves the rows' product with the weights it loaded, and keeps them. -/
theorem step_A (c : Dev nD) (t : Fin cfg0.N) (h0 : t.val % 8 = 0) :
    outsAt0 m c t.val t.isLt = (k0_pay2 (F := Ideal) (iblk m c 0 t) (k0_pay1 (F := Ideal) (iblk m c 1 t)), k0_pay1 (F := Ideal) (iblk m c 1 t)) := by
  rw [outsAt0_A m c t h0]
  refine Prod.ext ?_ ?_
  · dsimp only
    unfold out0_A_2
    rw [View.read_writes_eq_canon _ _ _ (cover0_A_2 _ _ _ _ _ _ _ _ _ _ _ _ _)]
    unfold kernelRun0_A
    dsimp only
    sl_unfold_words
    rw [View.canon_unit_zero (S := S1024x1024) off2, View.readCov_unit_zero (S := S2048x1024) _ off2]
    simp only [View.readAt_eq_ld, (hs0_0 t).read_unread, (hs0_1 t).read_unread, View.ld_unit_zero (S := S1024x2048) off2, View.ld_unit_zero (S := S1x2048x1024) off3]
  · dsimp only
    unfold sout0_A_0
    rw [View.read_writes_eq_canon _ _ _ (scover0_A_0 _ _ _ _ _ _ _ _ _ _ _ _ _)]
    unfold kernelRun0_A
    dsimp only
    sl_unfold_words
    rw [View.canon_unit_zero (S := S2048x1024) off2]
    simp only [View.readAt_eq_ld, (hs0_1 t).read_unread, View.ld_unit_zero (S := S1x2048x1024) off3]

/-- Any other step leaves the rows' product with the weights kept, and keeps them. -/
theorem step_B (c : Dev nD) (t : Fin cfg0.N) (h0 : ¬ t.val % 8 = 0) (h : t.val - 1 < cfg0.N) :
    outsAt0 m c t.val t.isLt = (k0_pay2 (F := Ideal) (iblk m c 0 t) (outsAt0 m c (t.val - 1) h).2, (outsAt0 m c (t.val - 1) h).2) := by
  rw [outsAt0_B m c t h0]
  refine Prod.ext ?_ rfl
  dsimp only
  unfold out0_B_2
  rw [View.read_writes_eq_canon _ _ _ (cover0_B_2 _ _ _ _ _ _ _ _ _ _ _ _ _ _)]
  unfold kernelRun0_B
  dsimp only
  try sl_unfold_words
  rw [View.canon_unit_zero (S := S1024x1024) off2]
  simp only [View.readAt_eq_ld, (hs0_0 t).read_unread, (Memref.isWhole_whole cc0_scratch0).read_unread, View.ld_unit_zero (S := S1024x2048) off2, View.ld_unit_zero (S := S2048x1024) off2]

/-- Which block of rows each step visits. -/
theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
/-- Which block of weights each step visits: layer 1's. -/
theorem index_1 : ∀ t : Fin cfg0.N, win0_1.index t 0 = 1 ∧ win0_1.index t 1 = 0 ∧ win0_1.index t 2 = t.val / 8 :=
  (by decide +kernel : ∀ t : Fin grid0.N, win0_1.index t 0 = 1 ∧ win0_1.index t 1 = 0 ∧ win0_1.index t 2 = t.val / 8)
/-- Which block of the result each step visits. -/
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The rows as the program is handed them. -/
abbrev rows (c : Dev nD) : FVec Ideal S8192x2048 .bf16 := m ((c : Thread nD τ).loc main_arg0)
/-- The weights as the program is handed them. -/
abbrev weights (c : Dev nD) : FVec Ideal S2x2048x3072 .f32 := m ((c : Thread nD τ).loc main_arg1)

/-- A step's block of rows. -/
theorem iblk_0 (c : Dev nD) (t : Fin cfg0.N) (r : Fin 1024) (k : Fin 2048) (R : Fin 8192) (hR : R.val = 1024 * (t.val % 8) + r.val) :
    (iblk m c 0 t : FVec Ideal S1024x2048 .bf16) (ix2 r k) = rows m c (ix2 R k) := by
  unfold rows
  rw [← V_main_arg0 m c]
  show V m c main_arg0 (((cfg0.win 0).blk t).view.emb (ix2 r k)) = V m c main_arg0 (ix2 R k)
  exact congrArg _ (Mm.place (t.val % 8) 0 r k R k _ (index_0 t).1 (index_0 t).2 (Pipeline.Window.rect_emb_val win0_0 t (ix2 r k) 0)
    (Pipeline.Window.rect_emb_val win0_0 t (ix2 r k) 1) hR (by omega))

/-- A step's block of weights. -/
theorem block_1 (c : Dev nD) (t : Fin cfg0.N) (k : Fin 2048) (l : Fin 1024) (L : Fin 3072) (hL : L.val = 1024 * (t.val / 8) + l.val) :
    (iblk m c 1 t : FVec Ideal S1x2048x1024 .f32) (ix3 0 k l) = weights m c (ix3 1 k L) := by
  unfold weights
  rw [← V_main_arg1 m c]
  show V m c main_arg1 (((cfg0.win 1).blk t).view.emb _) = V m c main_arg1 (ix3 1 k L)
  congr 1
  funext a
  refine Fin.ext ?_
  have h := index_1 t
  match a with
  | 0 => exact (Pipeline.Window.rect_emb_val win0_1 t _ 0).trans (by rw [h.1]; rfl)
  | 1 => exact Pipeline.Window.rect_emb_val_of_index_zero win0_1 t 1 h.2.1 _
  | 2 => exact (Pipeline.Window.rect_emb_val win0_1 t _ 2).trans (by rw [h.2.2]; show (t.val / 8) * 1024 + l.val = L.val; omega)

/-- The result array is the product. -/
theorem arr_apply (c : Dev nD) (R : Fin 8192) (L : Fin 3072) :
    ((dats m 0 c).arrAt 2 cfg0.N : FVec Ideal S8192x3072 .f32) (ix2 R L) = ∑ k : Fin 2048, rows m c (ix2 R k) * weights m c (ix3 1 k L) := by
  refine Mm.array_product (M := 1024) _ _ Mm.kept_apply Mm.product_apply (outsAt0 m c) (iblk m c 0) (iblk m c 1) (fun R k => rows m c (ix2 R k)) (fun k L => weights m c (ix3 1 k L))
    3 N_0 (by decide) rfl ((dats m 0 c).arrAt 2 cfg0.N) (fun t => ((cfg0.win 2).blk t).view.emb) (fun t r l => ?_)
    (fun t r l R L hR hL => Mm.place (t.val % 8) (t.val / 8) r l R L _ (index_2 t).1 (index_2 t).2 (Pipeline.Window.rect_emb_val win0_2 t (ix2 r l) 0)
      (Pipeline.Window.rect_emb_val win0_2 t (ix2 r l) 1) hR hL)
    (iblk_0 m c) (block_1 m c) (step_A m c) (fun t h0 => step_B m c t h0 _) R L
  exact ((dats m 0 c).arrAt_emb_eq_flushed 2 Value.disjoint2 t (flush0_2 t) (ix2 r l)).trans (by rw [Value.flushed2]; rfl)

end

/-- The reference's result at an index is the same sum. -/
theorem ref_apply (x : FVec Ideal Cert.Reference10Ideal.S8192x2048 .bf16) (w : FVec Ideal Cert.Reference10Ideal.S2x2048x3072 .f32) (R : Fin 8192) (L : Fin 3072) :
    Cert.Reference10Ideal.Read.val_main_v3 (F := Ideal) x w (ix2 R L) = ∑ k : Fin 2048, x (ix2 R k) * w (ix3 1 k L) := by
  rw [Cert.Reference10Ideal.Read.val_main_v3_apply]
  refine Finset.sum_congr rfl fun k _ => ?_
  rw [Cert.Reference10Ideal.Read.val_main_v2_apply, Cert.Reference10Ideal.Read.val_main_v1_apply]
  refine congrArg₂ _ (congrArg x (funext fun a => by fin_cases a <;> rfl)) (congrArg w (funext fun a => Fin.ext ?_))
  have hk := k.isLt
  have hL := L.isLt
  match a with
  | 0 => rfl
  | 1 => show (k.val * 3072 + L.val) / 3072 % 2048 = k.val; omega
  | 2 => show (k.val * 3072 + L.val) % 3072 = L.val; omega

/-- The idealized kernel and the idealized reference end with equal results. -/
theorem algebraic : Cert.algebraic_Kernel10Ideal_Reference10Ideal := by
  intro m ρ m' ρ' _ hag
  refine ⟨fun c => (Cert.Kernel10Ideal.Gen.dats m 0 c).arrAt 2 Cert.Kernel10Ideal.cfg0.N, Cert.Kernel10Ideal.Value.run_blocks m ρ, ?_⟩
  refine (θ_run Cert.Reference10Ideal.defs _ _).mono (fun r h c => ⟨((h c).1.trans (Cert.Reference10Ideal.Read.val_main_v3_eq _ _)).trans ?_, (h c).2⟩)
    (Cert.Reference10Ideal.Value.run m' ρ')
  obtain ⟨e0, e1⟩ := hag c
  rw [e0, e1]
  funext i
  obtain ⟨R, L, rfl⟩ : ∃ R L, i = ix2 R L := ⟨i 0, i 1, eq_ix2 i⟩
  exact (ref_apply _ _ R L).trans (arr_apply m c R L).symm

/-- The idealized reference runs, leaves its arguments and ends with every semaphore at zero. -/
theorem frame_reference : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

end Cert.Mm10

end
-- ==== Proof.Norm.lean ====
module

public import proofs.«01_k».proof.Defs
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.ValueIdxCore

@[expose] public section

set_option maxRecDepth 16384

noncomputable section

namespace Cert.Norm

open Idealize.ShloMosaic Idealize.ShloMosaic.TcCoe Idealize.SL.Sem

/-- An element of a normalised row: the row's element over the root of the row's mean square, with the column's gain. -/
def normed (x : Fin 2048 → EReal) (l : Fin 2048) (g : EReal) : EReal :=
  x l * Ideal.rsqrt (Ideal.div (∑ k : Fin 2048, x k * x k) (Ideal.ofBits .f32 0x45000000#32) + Ideal.ofBits .f32 0x358637BD#32) * g

section
open Cert.Kernel11Ideal Cert.Kernel11Ideal.Gen

/-- What a step computes, at an index. -/
theorem pay_apply (x : FVec Ideal S1024x2048 .f32) (g : FVec Ideal S1x2048 .f32) (r : Fin 1024) (l : Fin 2048) :
    k0_pay1 (F := Ideal) x g (ix2 r l) = normed (fun k => x (ix2 r k)) l (g (ix2 0 l)) := by
  unfold normed
  pointwise [k0_pay1]

/-- Which block of rows each step visits. -/
theorem index_0 : ∀ t : Fin cfg0.N, win0_0.index t 0 = t.val ∧ win0_0.index t 1 = 0 :=
  (by decide +kernel : ∀ t : Fin grid0.N, win0_0.index t 0 = t.val ∧ win0_0.index t 1 = 0)
/-- Every step is handed all the gains. -/
theorem index_1 : ∀ t : Fin cfg0.N, win0_1.index t 0 = 0 ∧ win0_1.index t 1 = 0 :=
  (by decide +kernel : ∀ t : Fin grid0.N, win0_1.index t 0 = 0 ∧ win0_1.index t 1 = 0)
/-- Which block of the result each step visits. -/
theorem index_2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ)

/-- The rows as the program is handed them. -/
abbrev rows (c : Dev nD) : FVec Ideal S8192x2048 .f32 := m ((c : Thread nD τ).loc main_arg0)
/-- The gains as the program is handed them. -/
abbrev gains (c : Dev nD) : FVec Ideal S2048 .f32 := m ((c : Thread nD τ).loc main_arg1)

/-- A step's block of rows. -/
theorem iblk_0 (c : Dev nD) (t : Fin cfg0.N) (r : Fin 1024) (k : Fin 2048) (R : Fin 8192) (hR : R.val = 1024 * t.val + r.val) :
    (iblk m c 0 t : FVec Ideal S1024x2048 .f32) (ix2 r k) = rows m c (ix2 R k) := by
  unfold rows
  rw [← V_main_arg0 m c]
  show V m c main_arg0 (((cfg0.win 0).blk t).view.emb (ix2 r k)) = V m c main_arg0 (ix2 R k)
  congr 1
  funext a
  refine Fin.ext ?_
  have h := index_0 t
  match a with
  | 0 => exact (Pipeline.Window.rect_emb_val win0_0 t (ix2 r k) 0).trans (by rw [h.1]; exact (congrArg (· + r.val) (Nat.mul_comm _ _)).trans hR.symm)
  | 1 => exact Pipeline.Window.rect_emb_val_of_index_zero win0_0 t 1 h.2 (ix2 r k)

/-- The gains are laid out as one row before the call. -/
theorem gain_row (c : Dev nD) (l : Fin 2048) : (V m c main_v0 : FVec Ideal S1x2048 .f32) (ix2 0 l) = gains m c (ix1 l) := by
  show shapeCast S1x2048 (gains m c) shapeCasts_S2048_S1x2048 (ix2 0 l) = _
  pointwise

/-- Every step's block of gains. -/
theorem iblk_1 (c : Dev nD) (t : Fin cfg0.N) (l : Fin 2048) : (iblk m c 1 t : FVec Ideal S1x2048 .f32) (ix2 0 l) = gains m c (ix1 l) := by
  rw [← gain_row]
  show V m c main_v0 (((cfg0.win 1).blk t).view.emb (ix2 0 l)) = V m c main_v0 (ix2 0 l)
  congr 1
  funext a
  refine Fin.ext ?_
  have h := index_1 t
  match a with
  | 0 => exact Pipeline.Window.rect_emb_val_of_index_zero win0_1 t 0 h.1 (ix2 0 l)
  | 1 => exact Pipeline.Window.rect_emb_val_of_index_zero win0_1 t 1 h.2 (ix2 0 l)

/-- Offsets of a whole two-axis block. -/
theorem off2 : (![0, 0] : Fin 2 → Nat) = fun _ => 0 := funext fun a => by fin_cases a <;> rfl

/-- A step's block of the result. -/
theorem out_eq (c : Dev nD) (t : Fin cfg0.N) (r : Fin 1024) (l : Fin 2048) (R : Fin 8192) (hR : R.val = 1024 * t.val + r.val) :
    (out0_2 (F := Ideal) (iblk m c 0 t) (iblk m c 1 t) : FVec Ideal S1024x2048 .bf16) (ix2 r l) = normed (fun k => rows m c (ix2 R k)) l (gains m c (ix1 l)) := by
  unfold out0_2
  rw [View.canon_unit_zero (S := S1024x2048) off2]
  simp only [View.ld_unit_zero (S := S1024x2048) off2, View.ld_unit_zero (S := S1x2048) off2]
  refine (pay_apply _ _ r l).trans ?_
  rw [iblk_1 m c t l]
  exact congrArg (fun x => normed x l _) (funext fun k => iblk_0 m c t r k R hR)

/-- The result array is the normalised rows. -/
theorem arr_apply (c : Dev nD) (R : Fin 8192) (l : Fin 2048) :
    ((dats m 0 c).arrAt 2 cfg0.N : FVec Ideal S8192x2048 .bf16) (ix2 R l) = normed (fun k => rows m c (ix2 R k)) l (gains m c (ix1 l)) := by
  have hN : cfg0.N = 8 := N_0
  let t : Fin cfg0.N := ⟨R.val / 1024, by rw [hN]; omega⟩
  let r : Fin 1024 := ⟨R.val % 1024, by omega⟩
  have hR : R.val = 1024 * t.val + r.val := by show R.val = 1024 * (R.val / 1024) + R.val % 1024; omega
  have e : ((cfg0.win 2).blk t).view.emb (ix2 r l) = ix2 R l := by
    funext a
    refine Fin.ext ?_
    have h := index_2 t
    match a with
    | 0 => exact (Pipeline.Window.rect_emb_val win0_2 t (ix2 r l) 0).trans (by rw [h.1]; exact (congrArg (· + r.val) (Nat.mul_comm _ _)).trans hR.symm)
    | 1 => exact Pipeline.Window.rect_emb_val_of_index_zero win0_2 t 1 h.2 (ix2 r l)
  have h := (dats m 0 c).arrAt_emb_eq_flushed 2 Value.disjoint2 t (flush0_2 t) (ix2 r l)
  rw [e] at h
  refine h.trans ?_
  rw [Value.flushed2]
  refine Eq.trans ?_ (out_eq m c t r l R hR)
  generalize out0_2 (F := Ideal) _ _ = b
  rfl

end

section
open Cert.Reference11Ideal.Read

/-- The reference's result at an index. -/
theorem ref_apply (x : FVec Ideal Cert.Reference11Ideal.S8192x2048 .f32) (g : FVec Ideal Cert.Reference11Ideal.S2048 .f32) (R : Fin 8192) (l : Fin 2048) :
    val_main_v13 (F := Ideal) x g (ix2 R l) = normed (fun k => x (ix2 R k)) l (g (ix1 l)) := by
  unfold normed val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise

end

/-- The idealized kernel and the idealized reference end with equal results. -/
theorem algebraic : Cert.algebraic_Kernel11Ideal_Reference11Ideal := by
  intro m ρ m' ρ' _ hag
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun r h c => ⟨((h c).1.trans (Cert.Reference11Ideal.Read.val_main_v13_eq _ _)).trans ?_, (h c).2⟩)
    (Cert.Reference11Ideal.Value.run m' ρ')
  obtain ⟨e0, e1⟩ := hag c
  rw [e0, e1]
  funext i
  obtain ⟨R, l, rfl⟩ : ∃ R l, i = ix2 R l := ⟨i 0, i 1, eq_ix2 i⟩
  exact (ref_apply _ _ R l).trans (arr_apply m c R l).symm

/-- The idealized reference runs, leaves its arguments and ends with every semaphore at zero. -/
theorem frame_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

end Cert.Norm

end
-- ==== Proof.Mm12.lean ====
module

public import proofs.«01_k».proof.Proof.MmCore
public import Idealize.ShloMosaic.Lib.StableHlo.RunRead
public import Idealize.ShloMosaic.Lib.StableHlo.ReadAt
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read

@[expose] public section

set_option maxRecDepth 16384

noncomputable section

namespace Cert.Mm12

open Idealize.ShloMosaic Idealize.ShloMosaic.TcCoe Idealize.SL.Sem
open Cert.Mm (off2 off3)

/-- The number that fills the columns past the 64 heads' is zero. -/
theorem zero_pad : (FloatOps.sitofp (F := Ideal) .f32 (0#32) : EReal) = 0 := by
  show (((0#32 : BitVec 32).toInt : ℝ) : EReal) = 0
  simp

section
open Cert.Kernel12Ideal Cert.Kernel12Ideal.Gen

/-- The weights a step keeps are those of the block it loads. -/
theorem kept_apply (x : FVec Ideal S1x2048x128 .f32) (k : Fin 2048) (l : Fin 128) : k0_pay1 (F := Ideal) x (ix2 k l) = x (ix3 0 k l) := by
  pointwise [k0_pay1]

/-- The step's product at an index. -/
theorem product_apply (x : FVec Ideal S1024x2048 .bf16) (w : FVec Ideal S2048x128 .bf16) (r : Fin 1024) (l : Fin 128) :
    k0_pay2 (F := Ideal) x w (ix2 r l) = ∑ k : Fin 2048, x (ix2 r k) * w (ix2 k l) := by
  pointwise [k0_pay2]

variable (m : (ℓ : Loc nD τ sig) → Buf (Elt Ideal) ℓ)

/-- A step that reloads the weights leaves the rows' product with the weights it loaded, and keeps them. -/
theorem step_A (c : Dev nD) (t : Fin cfg0.N) (h0 : t.val % 8 = 0) :
    outsAt0 m c t.val t.isLt = (k0_pay2 (F := Ideal) (iblk m c 0 t) (k0_pay1 (F := Ideal) (iblk m c 1 t)), k0_pay1 (F := Ideal) (iblk m c 1 t)) := by
  rw [outsAt0_A m c t h0]
  refine Prod.ext ?_ ?_
  · dsimp only
    unfold out0_A_2
    rw [View.read_writes_eq_canon _ _ _ (cover0_A_2 _ _ _ _ _ _ _ _ _ _ _ _ _)]
    unfold kernelRun0_A
    dsimp only
    sl_unfold_words
    rw [View.canon_unit_zero (S := S1024x128) off2, View.readCov_unit_zero (S := S2048x128) _ off2]
    simp only [View.readAt_eq_ld, (hs0_0 t).read_unread, (hs0_1 t).read_unread, View.ld_unit_zero (S := S1024x2048) off2, View.ld_unit_zero (S := S1x2048x128) off3]
  · dsimp only
    unfold sout0_A_0
    rw [View.read_writes_eq_canon _ _ _ (scover0_A_0 _ _ _ _ _ _ _ _ _ _ _ _ _)]
    unfold kernelRun0_A
    dsimp only
    sl_unfold_words
    rw [View.canon_unit_zero (S := S2048x128) off2]
    simp only [View.readAt_eq_ld, (hs0_1 t).read_unread, View.ld_unit_zero (S := S1x2048x128) off3]

/-- Any other step leaves the rows' product with the weights kept, and keeps them. -/
theorem step_B (c : Dev nD) (t : Fin cfg0.N) (h0 : ¬ t.val % 8 = 0) (h : t.val - 1 < cfg0.N) :
    outsAt0 m c t.val t.isLt = (k0_pay2 (F := Ideal) (iblk m c 0 t) (outsAt0 m c (t.val - 1) h).2, (outsAt0 m c (t.val - 1) h).2) := by
  rw [outsAt0_B m c t h0]
  refine Prod.ext ?_ rfl
  dsimp only
  unfold out0_B_2
  rw [View.read_writes_eq_canon _ _ _ (cover0_B_2 _ _ _ _ _ _ _ _ _ _ _ _ _ _)]
  unfold kernelRun0_B
  dsimp only
  try sl_unfold_words
  rw [View.canon_unit_zero (S := S1024x128) off2]
  simp only [View.readAt_eq_ld, (hs0_0 t).read_unread, (Memref.isWhole_whole cc0_scratch0).read_unread, View.ld_unit_zero (S := S1024x2048) off2, View.ld_unit_zero (S := S2048x128) off2]

/-- Which block of rows each step visits. -/
theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
/-- Every step visits the one block of padded weights. -/
theorem index_1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
/-- Which block of the result each step visits. -/
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The rows as the program is handed them. -/
abbrev rows (c : Dev nD) : FVec Ideal S8192x2048 .bf16 := m ((c : Thread nD τ).loc main_arg0)
/-- The weights as the program is handed them. -/
abbrev weights (c : Dev nD) : FVec Ideal S1x2048x10304 .f32 := m ((c : Thread nD τ).loc main_arg1)

/-- The heads' columns of the weights, and zeros up to 128 columns. -/
def padded (w : FVec Ideal S1x2048x10304 .f32) (k : Fin 2048) (l : Fin 128) : EReal :=
  if h : l.val < 64 then w (ix3 0 k ⟨10240 + l.val, by omega⟩) else FloatOps.sitofp (F := Ideal) .f32 (0#32)

/-- The array that the call is handed is the heads' columns, padded. -/
theorem padded_eq (c : Dev nD) : (V m c main_v3 : FVec Ideal S1x2048x128 .f32)
    = broadcastInDim S1x2048x128 ![1, 2] bcast_S2048x128_S1x2048x128_1_2 (pad S2048x128 ![0, 0] ![0, 64] ![0, 0]
        (shapeCast S2048x64 (extractStridedSlice S1x2048x64 ![0, 0, 10240] (weights m c) slices_S1x2048x10304_S1x2048x64_0_0_10240) shapeCasts_S1x2048x64_S2048x64)
        (sitofp .f32 (constantI S_ 32 0#32)) pads_S2048x64_S2048x128_000_0640 h_S_) := by
  unfold V
  after_reads_simp
  rfl

/-- The same at an index. -/
theorem padded_apply (c : Dev nD) (k : Fin 2048) (l : Fin 128) : (V m c main_v3 : FVec Ideal S1x2048x128 .f32) (ix3 0 k l) = padded (weights m c) k l := by
  rw [padded_eq]
  unfold padded
  pointwise

/-- A step's block of rows. -/
theorem iblk_0 (c : Dev nD) (t : Fin cfg0.N) (r : Fin 1024) (k : Fin 2048) (R : Fin 8192) (hR : R.val = 1024 * (t.val % 8) + r.val) :
    (iblk m c 0 t : FVec Ideal S1024x2048 .bf16) (ix2 r k) = rows m c (ix2 R k) := by
  unfold rows
  rw [← V_main_arg0 m c]
  show V m c main_arg0 (((cfg0.win 0).blk t).view.emb (ix2 r k)) = V m c main_arg0 (ix2 R k)
  exact congrArg _ (Mm.place (t.val % 8) 0 r k R k _ (index_0 t).1 (index_0 t).2 (Pipeline.Window.rect_emb_val win0_0 t (ix2 r k) 0)
    (Pipeline.Window.rect_emb_val win0_0 t (ix2 r k) 1) hR (by omega))

/-- A step's block of weights. -/
theorem block_1 (c : Dev nD) (t : Fin cfg0.N) (k : Fin 2048) (l : Fin 128) (L : Fin 128) (hL : L.val = 128 * (t.val / 8) + l.val) :
    (iblk m c 1 t : FVec Ideal S1x2048x128 .f32) (ix3 0 k l) = padded (weights m c) k L := by
  rw [← padded_apply]
  show V m c main_v3 (((cfg0.win 1).blk t).view.emb _) = V m c main_v3 (ix3 0 k L)
  congr 1
  funext a
  refine Fin.ext ?_
  have h := index_1 t
  match a with
  | 0 => exact Pipeline.Window.rect_emb_val_of_index_zero win0_1 t 0 h.1 _
  | 1 => exact Pipeline.Window.rect_emb_val_of_index_zero win0_1 t 1 h.2.1 _
  | 2 => exact (Pipeline.Window.rect_emb_val win0_1 t _ 2).trans (by rw [h.2.2]; show (t.val / 8) * 128 + l.val = L.val; omega)

/-- The result array is the product. -/
theorem arr_apply (c : Dev nD) (R : Fin 8192) (L : Fin 128) :
    ((dats m 0 c).arrAt 2 cfg0.N : FVec Ideal S8192x128 .f32) (ix2 R L) = ∑ k : Fin 2048, rows m c (ix2 R k) * padded (weights m c) k L := by
  refine Mm.array_product (M := 128) _ _ kept_apply product_apply (outsAt0 m c) (iblk m c 0) (iblk m c 1) (fun R k => rows m c (ix2 R k)) (fun k L => padded (weights m c) k L)
    1 N_0 (by decide) rfl ((dats m 0 c).arrAt 2 cfg0.N) (fun t => ((cfg0.win 2).blk t).view.emb) (fun t r l => ?_)
    (fun t r l R L hR hL => Mm.place (t.val % 8) (t.val / 8) r l R L _ (index_2 t).1 (index_2 t).2 (Pipeline.Window.rect_emb_val win0_2 t (ix2 r l) 0)
      (Pipeline.Window.rect_emb_val win0_2 t (ix2 r l) 1) hR hL)
    (iblk_0 m c) (block_1 m c) (step_A m c) (fun t h0 => step_B m c t h0 _) R L
  exact ((dats m 0 c).arrAt_emb_eq_flushed 2 Value.disjoint2 t (flush0_2 t) (ix2 r l)).trans (by rw [Value.flushed2]; rfl)

end

section
open Cert.Reference12Ideal.Read

/-- The reference's result at an index is the same sum: past the heads' columns it is zero, and so is each term. -/
theorem ref_apply (x : FVec Ideal Cert.Reference12Ideal.S8192x2048 .bf16) (w : FVec Ideal Cert.Reference12Ideal.S1x2048x10304 .f32) (R : Fin 8192) (L : Fin 128) :
    val_main_v4 (F := Ideal) x w (ix2 R L) = ∑ k : Fin 2048, x (ix2 R k) * padded w k L := by
  have e : val_main_v4 (F := Ideal) x w (ix2 R L)
      = if h : L.val < 64 then ∑ k : Fin 2048, x (ix2 R k) * w (ix3 0 k ⟨10240 + L.val, by omega⟩) else FloatOps.sitofp (F := Ideal) .f32 (0#32) := by
    unfold val_main_v4 val_main_v3 val_main_v2 val_main_v1 val_main_v0 val_main_call0_v0 val_main_c
    pointwise
  rw [e]
  unfold padded
  by_cases h : L.val < 64
  · simp only [dif_pos h]
  · simp only [dif_neg h]
    rw [zero_pad]
    exact (Finset.sum_eq_zero fun k _ => mul_zero _).symm

end

/-- The idealized kernel and the idealized reference end with equal results. -/
theorem algebraic : Cert.algebraic_Kernel12Ideal_Reference12Ideal := by
  intro m ρ m' ρ' _ hag
  refine ⟨fun c => (Cert.Kernel12Ideal.Gen.dats m 0 c).arrAt 2 Cert.Kernel12Ideal.cfg0.N, Cert.Kernel12Ideal.Value.run_blocks m ρ, ?_⟩
  refine (θ_run Cert.Reference12Ideal.defs _ _).mono (fun r h c => ⟨((h c).1.trans (Cert.Reference12Ideal.Read.val_main_v4_eq _ _)).trans ?_, (h c).2⟩)
    (Cert.Reference12Ideal.Value.run m' ρ')
  obtain ⟨e0, e1⟩ := hag c
  rw [e0, e1]
  funext i
  obtain ⟨R, L, rfl⟩ : ∃ R L, i = ix2 R L := ⟨i 0, i 1, eq_ix2 i⟩
  exact (ref_apply _ _ R L).trans (arr_apply m c R L).symm

/-- The idealized reference runs, leaves its arguments and ends with every semaphore at zero. -/
theorem frame_reference : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

end Cert.Mm12

end
-- ==== Proof.HeadNorm.lean ====
module

public import proofs.«01_k».proof.Defs
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.ValueIdxCore
public import Idealize.ShloMosaic.Lib.IdealHost
public import Idealize.ShloMosaic.Lib.Pipeline.ValueKit.Tiles

@[expose] public section

set_option maxRecDepth 16384

noncomputable section

namespace Cert.HeadNorm

open Idealize.ShloMosaic Idealize.ShloMosaic.TcCoe Idealize.SL.Sem

/-- An element of a normalised head: the head's element over the root of the head's mean square, with the lane's gain. -/
def normed (x : Fin 64 → EReal) (l : Fin 64) (g : EReal) : EReal :=
  x l * Ideal.rsqrt (Ideal.div (∑ k : Fin 64, x k * x k) (Ideal.ofBits .f32 0x42800000#32) + Ideal.ofBits .f32 0x358637BD#32) * g

/-- Multiplying by the constant a sixty-fourth is dividing by the constant sixty-four. -/
theorem mean_eq (x : EReal) : x * Ideal.ofBits .f32 0x3C800000#32 = Ideal.div x (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by norm_num), ← EReal.coe_inv]
  norm_num

/-- The sum over a tile's first sixty-four lanes, the others taken as zero. -/
theorem sum_low (f : Fin 128 → EReal) :
    (∑ k : Fin 128, if k.val < 64 then f k else 0) = ∑ k : Fin 64, f ⟨k.val, by omega⟩ := by
  rw [Fin.sum_univ_add (a := 64) (b := 64)]
  have h0 : (∑ k : Fin 64, if (Fin.natAdd 64 k : Fin 128).val < 64 then f (Fin.natAdd 64 k) else 0) = 0 :=
    Finset.sum_eq_zero fun k _ => if_neg (by simp)
  refine (congrArg₂ (· + ·) (Finset.sum_congr rfl fun k _ => if_pos (by simp)) h0).trans (add_zero _)

/-- The sum over a tile's last sixty-four lanes, the others taken as zero. -/
theorem sum_high (f : Fin 128 → EReal) :
    (∑ k : Fin 128, if k.val < 64 then 0 else f k) = ∑ k : Fin 64, f ⟨64 + k.val, by omega⟩ := by
  rw [Fin.sum_univ_add (a := 64) (b := 64)]
  have h0 : (∑ k : Fin 64, if (Fin.castAdd 64 k : Fin 128).val < 64 then 0 else f (Fin.castAdd 64 k)) = 0 :=
    Finset.sum_eq_zero fun k _ => if_pos (by simp)
  refine (congrArg₂ (· + ·) h0 (Finset.sum_congr rfl fun k _ => if_neg (by simp))).trans (zero_add _)

/-- The sum of squares a lane's head is normalised by: the half of the tile the lane lies in. -/
theorem half_sum (f : Fin 128 → EReal) (l : Fin 128) :
    (if l.val < 64 then ∑ k : Fin 128, (if k.val < 64 then f k else 0) else ∑ k : Fin 128, if k.val < 64 then 0 else f k)
      = ∑ k : Fin 64, f ⟨64 * (l.val / 64) + k.val, by omega⟩ := by
  split
  · rw [sum_low]
    exact Finset.sum_congr rfl fun k _ => congrArg f (Fin.ext (by simp; omega))
  · rw [sum_high]
    exact Finset.sum_congr rfl fun k _ => congrArg f (Fin.ext (by simp; omega))

section
open Cert.Kernel13Ideal Cert.Kernel13Ideal.Gen

/-- Which lanes belong to a tile's first head. -/
theorem mask_apply (r : Fin 512) (l : Fin 128) : k0_pay2 (ix2 r l) = if l.val < 64 then 1#1 else 0#1 := by
  pointwise [k0_pay2]
  revert l
  decide +kernel

/-- Choosing by the mask is choosing by the lane. -/
theorem select_mask (r : Fin 512) (l : Fin 128) (a b : EReal) : Scalar.select (k0_pay2 (ix2 r l)) a b = if l.val < 64 then a else b := by
  rw [mask_apply]
  split <;> rfl

/-- A tile of one of the two results, at an index, before its scale. -/
theorem tile (x : FVec Ideal S512x128 .f32) (r : Fin 512) (l : Fin 128) (g : EReal) :
    x (ix2 r l) * Ideal.rsqrt (Scalar.select (k0_pay2 (ix2 r l))
        (∑ k : Fin 128, Scalar.select (k0_pay2 (ix2 r k)) (x (ix2 r k) * x (ix2 r k)) 0)
        (∑ k : Fin 128, Scalar.select (k0_pay2 (ix2 r k)) 0 (x (ix2 r k) * x (ix2 r k))) * Ideal.ofBits .f32 0x3C800000#32 + Ideal.ofBits .f32 0x358637BD#32) * g
      = normed (fun k => x (ix2 r ⟨64 * (l.val / 64) + k.val, by omega⟩)) ⟨l.val % 64, by omega⟩ g := by
  unfold normed
  simp only [select_mask]
  rw [half_sum (fun k => x (ix2 r k) * x (ix2 r k)) l, mean_eq]
  have e : (⟨64 * (l.val / 64) + l.val % 64, by omega⟩ : Fin 128) = l := Fin.ext (Nat.div_add_mod _ _)
  simp only [e]

/-- A query tile, at an index. -/
theorem tile_q (x : FVec Ideal S512x128 .f32) (g : FVec Ideal S1x128 .f32) (r : Fin 512) (l : Fin 128) :
    k0_pay10 (F := Ideal) k0_pay2 x g (ix2 r l) =
      normed (fun k => x (ix2 r ⟨64 * (l.val / 64) + k.val, by omega⟩)) ⟨l.val % 64, by omega⟩ (g (ix2 0 l)) * Ideal.ofBits .f32 0x3E000000#32 := by
  rw [← tile]
  pointwise [k0_pay10]

/-- A key tile, at an index. -/
theorem tile_k (x : FVec Ideal S512x128 .f32) (g : FVec Ideal S1x128 .f32) (r : Fin 512) (l : Fin 128) :
    k0_pay42 (F := Ideal) k0_pay2 x g (ix2 r l) =
      normed (fun k => x (ix2 r ⟨64 * (l.val / 64) + k.val, by omega⟩)) ⟨l.val % 64, by omega⟩ (g (ix2 0 l)) := by
  rw [← tile]
  pointwise [k0_pay42]

variable (m : (ℓ : Loc nD τ sig) → Buf (Elt Ideal) ℓ)

/-- The block of query results: each column's head normalised, with its lane's gain and the scale. -/
def blockQ (x : FVec Ideal S512x2048 .f32) (g : FVec Ideal S1x128 .f32) : FVec Ideal S512x2048 .bf16 := fun y =>
  normed (fun k => x (ix2 (y 0) ⟨64 * ((y 1).val / 64) + k.val, by have : (y 1).val < 2048 := (y 1).isLt; omega⟩)) ⟨(y 1).val % 64, by omega⟩
    (g (ix2 0 ⟨(y 1).val % 128, by omega⟩)) * Ideal.ofBits .f32 0x3E000000#32

/-- The block of key results: each column's head normalised, with its lane's gain. -/
def blockK (x : FVec Ideal S512x512 .f32) (g : FVec Ideal S1x128 .f32) : FVec Ideal S512x512 .f32 := fun y =>
  normed (fun k => x (ix2 (y 0) ⟨64 * ((y 1).val / 64) + k.val, by have : (y 1).val < 512 := (y 1).isLt; omega⟩)) ⟨(y 1).val % 64, by omega⟩
    (g (ix2 0 ⟨(y 1).val % 128, by omega⟩))

/-- Offsets of a whole two-axis block. -/
theorem off2 : (![0, 0] : Fin 2 → Nat) = fun _ => 0 := funext fun a => by fin_cases a <;> rfl

/-- The stored piece of a tile of queries is the block's columns. -/
theorem pieceQ (x : FVec Ideal S512x2048 .f32) (g : FVec Ideal S1x128 .f32) (b : ℕ) (inb) (ing) (hb : b % 128 = 0)
    (y : (Rect.unit (s := S512x2048) ![0, b] ![512, 128] inb).shape.Idx) :
    k0_pay10 (F := Ideal) k0_pay2 (View.ld (S := S512x2048) (Val := Elt Ideal) (e' := .f32) x (Rect.unit (s := S512x2048) ![0, b] ![512, 128] inb))
        (View.ld (S := S1x128) (Val := Elt Ideal) (e' := .f32) g (Rect.unit (s := S1x128) ![0, 0] ![1, 128] ing)) y
      = blockQ x g ((Rect.unit (s := S512x2048) ![0, b] ![512, 128] inb).emb y) := by
  obtain ⟨r, l, rfl⟩ : ∃ (r : Fin 512) (l : Fin 128), y = ix2 r l := ⟨y 0, y 1, eq_ix2 y⟩
  have hr : ((Rect.unit (s := S512x2048) ![0, b] ![512, 128] inb).emb (ix2 r l)) 0 = r := Fin.ext (by simp)
  have hc : (((Rect.unit (s := S512x2048) ![0, b] ![512, 128] inb).emb (ix2 r l)) 1).val = b + l.val := by simp
  refine (tile_q _ _ r l).trans ?_
  unfold blockQ
  simp only [hr, hc]
  rw [View.ld_unit_zero (S := S1x128) off2]
  have e1 : (⟨l.val % 64, by omega⟩ : Fin 64) = ⟨(b + l.val) % 64, by omega⟩ := Fin.ext (by simp; omega)
  have e2 : l = ⟨(b + l.val) % 128, by omega⟩ := Fin.ext (by simp; omega)
  rw [e1, ← e2]
  refine congrArg (normed · _ _ * _) (funext fun k => ?_)
  exact View.ld_unit_apply_of _ _ _ _ _ _ (fun i => by
    match i with
    | 0 => simp
    | 1 => simp; omega)

/-- The stored piece of a tile of keys is the block's columns. -/
theorem pieceK (x : FVec Ideal S512x512 .f32) (g : FVec Ideal S1x128 .f32) (b : ℕ) (inb) (ing) (hb : b % 128 = 0)
    (y : (Rect.unit (s := S512x512) ![0, b] ![512, 128] inb).shape.Idx) :
    k0_pay42 (F := Ideal) k0_pay2 (View.ld (S := S512x512) (Val := Elt Ideal) (e' := .f32) x (Rect.unit (s := S512x512) ![0, b] ![512, 128] inb))
        (View.ld (S := S1x128) (Val := Elt Ideal) (e' := .f32) g (Rect.unit (s := S1x128) ![0, 0] ![1, 128] ing)) y
      = blockK x g ((Rect.unit (s := S512x512) ![0, b] ![512, 128] inb).emb y) := by
  obtain ⟨r, l, rfl⟩ : ∃ (r : Fin 512) (l : Fin 128), y = ix2 r l := ⟨y 0, y 1, eq_ix2 y⟩
  have hr : ((Rect.unit (s := S512x512) ![0, b] ![512, 128] inb).emb (ix2 r l)) 0 = r := Fin.ext (by simp)
  have hc : (((Rect.unit (s := S512x512) ![0, b] ![512, 128] inb).emb (ix2 r l)) 1).val = b + l.val := by simp
  refine (tile_k _ _ r l).trans ?_
  unfold blockK
  simp only [hr, hc]
  rw [View.ld_unit_zero (S := S1x128) off2]
  have e1 : (⟨l.val % 64, by omega⟩ : Fin 64) = ⟨(b + l.val) % 64, by omega⟩ := Fin.ext (by simp; omega)
  have e2 : l = ⟨(b + l.val) % 128, by omega⟩ := Fin.ext (by simp; omega)
  rw [e1, ← e2]
  refine congrArg (normed · _ _) (funext fun k => ?_)
  exact View.ld_unit_apply_of _ _ _ _ _ _ (fun i => by
    match i with
    | 0 => simp
    | 1 => simp; omega)

/-- The block of queries a step writes. -/
theorem outQ (c : Dev nD) (t : Fin cfg0.N) (y : S512x2048.Idx) :
    (outsAt0 m c t).1 y = blockQ (X0_0 m c t) (iblk m c 2 t) y := by
  have hy := cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (X0_0 m c t) (iblk m c 1 t) (iblk m c 2 t) (iblk m c 3 t) y
  unfold outsAt0 out0_A_4
  dsimp only
  rw [View.read_writes_eq_canon _ _ _ (cover0_A_4 c _ _ _ _ _ _ _ _ _ _ _ _ _ _ _ _ _)]
  refine View.canon_apply_of_pieces _ _ ?_ y hy
  clear hy
  unfold kernelRun0_A
  dsimp only
  sl_unfold_words
  simp only [View.readAt_eq_ld, (hs0_0 t).read_unread, (hs0_1 t).read_unread, (hs0_2 t).read_unread, (hs0_3 t).read_unread]
  simp only [List.forall_mem_cons]
  exact ⟨
    fun x => pieceQ (X0_0 m c t) (iblk m c 2 t) 1920 _ _ rfl x,
    fun x => pieceQ (X0_0 m c t) (iblk m c 2 t) 1792 _ _ rfl x,
    fun x => pieceQ (X0_0 m c t) (iblk m c 2 t) 1664 _ _ rfl x,
    fun x => pieceQ (X0_0 m c t) (iblk m c 2 t) 1536 _ _ rfl x,
    fun x => pieceQ (X0_0 m c t) (iblk m c 2 t) 1408 _ _ rfl x,
    fun x => pieceQ (X0_0 m c t) (iblk m c 2 t) 1280 _ _ rfl x,
    fun x => pieceQ (X0_0 m c t) (iblk m c 2 t) 1152 _ _ rfl x,
    fun x => pieceQ (X0_0 m c t) (iblk m c 2 t) 1024 _ _ rfl x,
    fun x => pieceQ (X0_0 m c t) (iblk m c 2 t) 896 _ _ rfl x,
    fun x => pieceQ (X0_0 m c t) (iblk m c 2 t) 768 _ _ rfl x,
    fun x => pieceQ (X0_0 m c t) (iblk m c 2 t) 640 _ _ rfl x,
    fun x => pieceQ (X0_0 m c t) (iblk m c 2 t) 512 _ _ rfl x,
    fun x => pieceQ (X0_0 m c t) (iblk m c 2 t) 384 _ _ rfl x,
    fun x => pieceQ (X0_0 m c t) (iblk m c 2 t) 256 _ _ rfl x,
    fun x => pieceQ (X0_0 m c t) (iblk m c 2 t) 128 _ _ rfl x,
    fun x => pieceQ (X0_0 m c t) (iblk m c 2 t) 0 _ _ rfl x,
    fun p hp => absurd hp (List.not_mem_nil)⟩

/-- The block of keys a step writes. -/
theorem outK (c : Dev nD) (t : Fin cfg0.N) (y : S512x512.Idx) :
    (outsAt0 m c t).2 y = blockK (iblk m c 1 t) (iblk m c 3 t) y := by
  have hy := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (X0_0 m c t) (iblk m c 1 t) (iblk m c 2 t) (iblk m c 3 t) y
  unfold outsAt0 out0_A_5
  dsimp only
  rw [View.read_writes_eq_canon _ _ _ (cover0_A_5 c _ _ _ _ _ _ _ _ _ _ _ _ _ _ _ _ _)]
  refine View.canon_apply_of_pieces _ _ ?_ y hy
  clear hy
  unfold kernelRun0_A
  dsimp only
  sl_unfold_words
  simp only [View.readAt_eq_ld, (hs0_0 t).read_unread, (hs0_1 t).read_unread, (hs0_2 t).read_unread, (hs0_3 t).read_unread]
  simp only [List.forall_mem_cons]
  exact ⟨
    fun x => pieceK (iblk m c 1 t) (iblk m c 3 t) 384 _ _ rfl x,
    fun x => pieceK (iblk m c 1 t) (iblk m c 3 t) 256 _ _ rfl x,
    fun x => pieceK (iblk m c 1 t) (iblk m c 3 t) 128 _ _ rfl x,
    fun x => pieceK (iblk m c 1 t) (iblk m c 3 t) 0 _ _ rfl x,
    fun p hp => absurd hp (List.not_mem_nil)⟩

/-- Which block of query columns each step visits. -/
theorem index_0 : ∀ t : Fin cfg0.N, win0_0.index t 0 = t.val ∧ win0_0.index t 1 = 0 :=
  (by decide +kernel : ∀ t : Fin grid0.N, win0_0.index t 0 = t.val ∧ win0_0.index t 1 = 0)
/-- Which block of key columns each step visits. -/
theorem index_1 : ∀ t : Fin cfg0.N, win0_1.index t 0 = t.val ∧ win0_1.index t 1 = 4 :=
  (by decide +kernel : ∀ t : Fin grid0.N, win0_1.index t 0 = t.val ∧ win0_1.index t 1 = 4)
/-- Every step is handed all the query gains. -/
theorem index_2 : ∀ t : Fin cfg0.N, win0_2.index t 0 = 0 ∧ win0_2.index t 1 = 0 :=
  (by decide +kernel : ∀ t : Fin grid0.N, win0_2.index t 0 = 0 ∧ win0_2.index t 1 = 0)
/-- Every step is handed all the key gains. -/
theorem index_3 : ∀ t : Fin cfg0.N, win0_3.index t 0 = 0 ∧ win0_3.index t 1 = 0 :=
  (by decide +kernel : ∀ t : Fin grid0.N, win0_3.index t 0 = 0 ∧ win0_3.index t 1 = 0)
/-- Which block of the query result each step visits. -/
theorem index_4 : ∀ t : Fin cfg0.N, win0_4.index t 0 = t.val ∧ win0_4.index t 1 = 0 :=
  (by decide +kernel : ∀ t : Fin grid0.N, win0_4.index t 0 = t.val ∧ win0_4.index t 1 = 0)
/-- Which block of the key result each step visits. -/
theorem index_5 : ∀ t : Fin cfg0.N, win0_5.index t 0 = t.val ∧ win0_5.index t 1 = 0 :=
  (by decide +kernel : ∀ t : Fin grid0.N, win0_5.index t 0 = t.val ∧ win0_5.index t 1 = 0)

/-- The projections as the program is handed them. -/
abbrev proj (c : Dev nD) : FVec Ideal S8192x3072 .f32 := m ((c : Thread nD τ).loc main_arg0)
/-- The query gains as the program is handed them. -/
abbrev gainsQ (c : Dev nD) : FVec Ideal S64 .f32 := m ((c : Thread nD τ).loc main_arg1)
/-- The key gains as the program is handed them. -/
abbrev gainsK (c : Dev nD) : FVec Ideal S64 .f32 := m ((c : Thread nD τ).loc main_arg2)

/-- A step's block of query columns. -/
theorem block_0 (c : Dev nD) (t : Fin cfg0.N) (r : Fin 512) (k : Fin 2048) (R : Fin 8192) (hR : R.val = 512 * t.val + r.val) :
    (X0_0 m c t : FVec Ideal S512x2048 .f32) (ix2 r k) = proj m c (ix2 R ⟨k.val, by omega⟩) := by
  unfold X0_0 Pipeline.Window.fill
  rw [dif_pos (moved0_0 t (ix2 r k))]
  unfold proj
  rw [← V_main_arg0 m c]
  show V m c main_arg0 (((cfg0.win 0).blk t).view.emb _) = V m c main_arg0 (ix2 R ⟨k.val, by omega⟩)
  congr 1
  funext a
  refine Fin.ext ?_
  have h := index_0 t
  match a with
  | 0 => exact (Pipeline.Window.rect_emb_val win0_0 t _ 0).trans (by rw [h.1]; exact (congrArg (· + r.val) (Nat.mul_comm _ _)).trans hR.symm)
  | 1 => exact Pipeline.Window.rect_emb_val_of_index_zero win0_0 t 1 h.2 _

/-- A step's block of key columns. -/
theorem block_1 (c : Dev nD) (t : Fin cfg0.N) (r : Fin 512) (k : Fin 512) (R : Fin 8192) (hR : R.val = 512 * t.val + r.val) :
    (iblk m c 1 t : FVec Ideal S512x512 .f32) (ix2 r k) = proj m c (ix2 R ⟨2048 + k.val, by omega⟩) := by
  unfold proj
  rw [← V_main_arg0 m c]
  show V m c main_arg0 (((cfg0.win 1).blk t).view.emb (ix2 r k)) = V m c main_arg0 (ix2 R ⟨2048 + k.val, by omega⟩)
  congr 1
  funext a
  refine Fin.ext ?_
  have h := index_1 t
  match a with
  | 0 => exact (Pipeline.Window.rect_emb_val win0_1 t (ix2 r k) 0).trans (by rw [h.1]; exact (congrArg (· + r.val) (Nat.mul_comm _ _)).trans hR.symm)
  | 1 => exact (Pipeline.Window.rect_emb_val win0_1 t (ix2 r k) 1).trans (by rw [h.2]; rfl)

/-- The query gains are laid out twice over in one row before the call. -/
theorem gain_rowQ (c : Dev nD) (l : Fin 128) : (V m c main_v3 : FVec Ideal S1x128 .f32) (ix2 0 l) = gainsQ m c (ix1 ⟨l.val % 64, by omega⟩) := by
  show shapeCast S1x128 (shapeCast S128 (broadcastInDim S2x64 ![0, 1] bcast_S1x64_S2x64_0_1 (shapeCast S1x64 (gainsQ m c) shapeCasts_S64_S1x64)) shapeCasts_S2x64_S128)
    shapeCasts_S128_S1x128 (ix2 0 l) = _
  pointwise

/-- Every step's block of query gains. -/
theorem block_2 (c : Dev nD) (t : Fin cfg0.N) (l : Fin 128) : (iblk m c 2 t : FVec Ideal S1x128 .f32) (ix2 0 l) = gainsQ m c (ix1 ⟨l.val % 64, by omega⟩) := by
  rw [← gain_rowQ]
  show V m c main_v3 (((cfg0.win 2).blk t).view.emb (ix2 0 l)) = V m c main_v3 (ix2 0 l)
  congr 1
  funext a
  refine Fin.ext ?_
  have h := index_2 t
  match a with
  | 0 => exact Pipeline.Window.rect_emb_val_of_index_zero win0_2 t 0 h.1 (ix2 0 l)
  | 1 => exact Pipeline.Window.rect_emb_val_of_index_zero win0_2 t 1 h.2 (ix2 0 l)

/-- The key gains are laid out twice over in one row before the call. -/
theorem gain_rowK (c : Dev nD) (l : Fin 128) : (V m c main_v7 : FVec Ideal S1x128 .f32) (ix2 0 l) = gainsK m c (ix1 ⟨l.val % 64, by omega⟩) := by
  show shapeCast S1x128 (shapeCast S128 (broadcastInDim S2x64 ![0, 1] bcast_S1x64_S2x64_0_1 (shapeCast S1x64 (gainsK m c) shapeCasts_S64_S1x64)) shapeCasts_S2x64_S128)
    shapeCasts_S128_S1x128 (ix2 0 l) = _
  pointwise

/-- Every step's block of key gains. -/
theorem block_3 (c : Dev nD) (t : Fin cfg0.N) (l : Fin 128) : (iblk m c 3 t : FVec Ideal S1x128 .f32) (ix2 0 l) = gainsK m c (ix1 ⟨l.val % 64, by omega⟩) := by
  rw [← gain_rowK]
  show V m c main_v7 (((cfg0.win 3).blk t).view.emb (ix2 0 l)) = V m c main_v7 (ix2 0 l)
  congr 1
  funext a
  refine Fin.ext ?_
  have h := index_3 t
  match a with
  | 0 => exact Pipeline.Window.rect_emb_val_of_index_zero win0_3 t 0 h.1 (ix2 0 l)
  | 1 => exact Pipeline.Window.rect_emb_val_of_index_zero win0_3 t 1 h.2 (ix2 0 l)

/-- The query result array. -/
theorem arrQ (c : Dev nD) (R : Fin 8192) (l : Fin 2048) :
    ((dats m 0 c).arrAt 4 cfg0.N : FVec Ideal S8192x2048 .bf16) (ix2 R l)
      = normed (fun k => proj m c (ix2 R ⟨64 * (l.val / 64) + k.val, by omega⟩)) ⟨l.val % 64, by omega⟩ (gainsQ m c (ix1 ⟨l.val % 64, by omega⟩)) * Ideal.ofBits .f32 0x3E000000#32 := by
  have hN : cfg0.N = 16 := N_0
  let t : Fin cfg0.N := ⟨R.val / 512, by rw [hN]; omega⟩
  let r : Fin 512 := ⟨R.val % 512, by omega⟩
  have hR : R.val = 512 * t.val + r.val := by show R.val = 512 * (R.val / 512) + R.val % 512; omega
  have e : ((cfg0.win 4).blk t).view.emb (ix2 r l) = ix2 R l := by
    funext a
    refine Fin.ext ?_
    have h := index_4 t
    match a with
    | 0 => exact (Pipeline.Window.rect_emb_val win0_4 t (ix2 r l) 0).trans (by rw [h.1]; exact (congrArg (· + r.val) (Nat.mul_comm _ _)).trans hR.symm)
    | 1 => exact Pipeline.Window.rect_emb_val_of_index_zero win0_4 t 1 h.2 (ix2 r l)
  have h := (dats m 0 c).arrAt_emb_eq_flushed 4 Value.disjoint4 t (flush0_4 t) (ix2 r l)
  rw [e] at h
  refine h.trans ?_
  rw [Value.flushed4]
  refine (outQ m c t (ix2 r l)).trans ?_
  unfold blockQ
  refine (congrArg₂ (fun x g => normed x (⟨l.val % 64, by omega⟩ : Fin 64) g * Ideal.ofBits .f32 0x3E000000#32) (funext fun k => block_0 m c t r _ R hR) (block_2 m c t _)).trans ?_
  have eg : (⟨l.val % 128 % 64, by omega⟩ : Fin 64) = ⟨l.val % 64, by omega⟩ := Fin.ext (by simp)
  show normed (fun k => proj m c (ix2 R ⟨64 * (l.val / 64) + k.val, by omega⟩)) ⟨l.val % 64, by omega⟩ (gainsQ m c (ix1 ⟨l.val % 128 % 64, by omega⟩)) * Ideal.ofBits .f32 0x3E000000#32 = _
  rw [eg]

/-- The key result array. -/
theorem arrK (c : Dev nD) (R : Fin 8192) (l : Fin 512) :
    ((dats m 0 c).arrAt 5 cfg0.N : FVec Ideal S8192x512 .f32) (ix2 R l)
      = normed (fun k => proj m c (ix2 R ⟨2048 + 64 * (l.val / 64) + k.val, by omega⟩)) ⟨l.val % 64, by omega⟩ (gainsK m c (ix1 ⟨l.val % 64, by omega⟩)) := by
  have hN : cfg0.N = 16 := N_0
  let t : Fin cfg0.N := ⟨R.val / 512, by rw [hN]; omega⟩
  let r : Fin 512 := ⟨R.val % 512, by omega⟩
  have hR : R.val = 512 * t.val + r.val := by show R.val = 512 * (R.val / 512) + R.val % 512; omega
  have e : ((cfg0.win 5).blk t).view.emb (ix2 r l) = ix2 R l := by
    funext a
    refine Fin.ext ?_
    have h := index_5 t
    match a with
    | 0 => exact (Pipeline.Window.rect_emb_val win0_5 t (ix2 r l) 0).trans (by rw [h.1]; exact (congrArg (· + r.val) (Nat.mul_comm _ _)).trans hR.symm)
    | 1 => exact Pipeline.Window.rect_emb_val_of_index_zero win0_5 t 1 h.2 (ix2 r l)
  have h := (dats m 0 c).arrAt_emb_eq_flushed 5 Value.disjoint5 t (flush0_5 t) (ix2 r l)
  rw [e] at h
  refine h.trans ?_
  rw [Value.flushed5]
  refine (outK m c t (ix2 r l)).trans ?_
  unfold blockK
  refine (congrArg₂ (fun x g => normed x (⟨l.val % 64, by omega⟩ : Fin 64) g) (funext fun k => block_1 m c t r _ R hR) (block_3 m c t _)).trans ?_
  have eg : (⟨l.val % 128 % 64, by omega⟩ : Fin 64) = ⟨l.val % 64, by omega⟩ := Fin.ext (by simp)
  have ec : ∀ k : Fin 64, (⟨2048 + (64 * (l.val / 64) + k.val), by omega⟩ : Fin 3072) = ⟨2048 + 64 * (l.val / 64) + k.val, by omega⟩ := fun k => Fin.ext (Nat.add_assoc _ _ _).symm
  show normed (fun k => proj m c (ix2 R ⟨2048 + (64 * (l.val / 64) + k.val), by omega⟩)) ⟨l.val % 64, by omega⟩ (gainsK m c (ix1 ⟨l.val % 128 % 64, by omega⟩)) = _
  rw [eg]
  simp only [ec]

end

section
open Cert.Reference13Ideal.Read

/-- The reference's query result at an index. -/
theorem refQ (x : FVec Ideal Cert.Reference13Ideal.S8192x3072 .f32) (g : FVec Ideal Cert.Reference13Ideal.S64 .f32) (R : Fin 8192) (l : Fin 2048) :
    val_main_v34 (F := Ideal) x g (ix2 R l)
      = normed (fun k => x (ix2 R ⟨64 * (l.val / 64) + k.val, by omega⟩)) ⟨l.val % 64, by omega⟩ (g (ix1 ⟨l.val % 64, by omega⟩)) * Ideal.ofBits .f32 0x3E000000#32 := by
  unfold normed val_main_v34 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  simp only [Nat.mul_comm (l.val / 64) 64, Nat.add_assoc, Nat.div_add_mod]

/-- The reference's key result at an index. -/
theorem refK (x : FVec Ideal Cert.Reference13Ideal.S8192x3072 .f32) (g : FVec Ideal Cert.Reference13Ideal.S64 .f32) (R : Fin 8192) (l : Fin 512) :
    val_main_v33 (F := Ideal) x g (ix2 R l)
      = normed (fun k => x (ix2 R ⟨2048 + 64 * (l.val / 64) + k.val, by omega⟩)) ⟨l.val % 64, by omega⟩ (g (ix1 ⟨l.val % 64, by omega⟩)) := by
  unfold normed val_main_v33 val_main_v32 val_main_v31 val_main_v30 val_main_v29 val_main_v28 val_main_v27 val_main_v26 val_main_v25 val_main_v24 val_main_v23 val_main_v22 val_main_v21 val_main_v20 val_main_v19 val_main_v18 val_main_cst_3 val_main_cst_4 val_main_cst_5
  pointwise
  simp only [Nat.mul_comm (l.val / 64) 64, Nat.add_assoc, Nat.div_add_mod]

end

/-- The idealized kernel and the idealized reference end with equal results. -/
theorem algebraic : Cert.algebraic_Kernel13Ideal_Reference13Ideal := by
  intro m ρ m' ρ' _ hag
  refine ⟨fun c => (Cert.Kernel13Ideal.Gen.dats m 0 c).arrAt 4 Cert.Kernel13Ideal.cfg0.N, fun c => (Cert.Kernel13Ideal.Gen.dats m 0 c).arrAt 5 Cert.Kernel13Ideal.cfg0.N,
    Cert.Kernel13Ideal.Value.run_blocks m ρ, ?_⟩
  refine (θ_run Cert.Reference13Ideal.defs _ _).mono (fun r h c => ⟨((h c).1.trans (Cert.Reference13Ideal.Read.val_main_v34_eq _ _)).trans ?_,
      ((h c).2.1.trans (Cert.Reference13Ideal.Read.val_main_v33_eq _ _)).trans ?_, (h c).2.2⟩)
    (Cert.Reference13Ideal.Value.run m' ρ')
  · obtain ⟨e0, e1, e2⟩ := hag c
    rw [e0, e1]
    funext i
    obtain ⟨R, l, rfl⟩ : ∃ R l, i = ix2 R l := ⟨i 0, i 1, eq_ix2 i⟩
    exact (refQ _ _ R l).trans (arrQ m c R l).symm
  · obtain ⟨e0, e1, e2⟩ := hag c
    rw [e0, e2]
    funext i
    obtain ⟨R, l, rfl⟩ : ∃ R l, i = ix2 R l := ⟨i 0, i 1, eq_ix2 i⟩
    exact (refK _ _ R l).trans (arrK m c R l).symm

/-- The idealized reference runs, leaves its arguments and ends with every semaphore at zero. -/
theorem frame_reference : Cert.quiescent_Reference13Ideal := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)

end Cert.HeadNorm

end
-- ==== Proof.SconvStep.lean ====
module

public import proofs.«01_k».proof.Defs
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pointwise
public import Idealize.ShloMosaic.Lib.ValueIdxCore
public import Idealize.ShloMosaic.Lib.Pipeline.ValueKit.Tiles

@[expose] public section

set_option maxRecDepth 16384

noncomputable section

namespace Cert.SconvStep

open Idealize.ShloMosaic Idealize.ShloMosaic.TcCoe Idealize.SL.Sem

section
open Cert.Kernel14Ideal Cert.Kernel14Ideal.Gen

/-- Offsets of a whole two-axis block. -/
theorem off2 : (![0, 0] : Fin 2 → Nat) = fun _ => 0 := funext fun a => by fin_cases a <;> rfl

/-- The one step's windows are the whole arrays. -/
theorem index_zero : ∀ t : Fin cfg0.N, (∀ a, win0_0.index t a = 0) ∧ (∀ a, win0_1.index t a = 0) ∧ (∀ a, win0_2.index t a = 0) ∧ (∀ a, win0_3.index t a = 0) ∧ (∀ a, win0_4.index t a = 0) :=
  (by decide +kernel : ∀ t : Fin grid0.N, (∀ a, win0_0.index t a = 0) ∧ (∀ a, win0_1.index t a = 0) ∧ (∀ a, win0_2.index t a = 0) ∧ (∀ a, win0_3.index t a = 0) ∧ (∀ a, win0_4.index t a = 0))

variable (m : (ℓ : Loc nD τ sig) → Buf (Elt Ideal) ℓ)

/-- The projections as the program is handed them. -/
abbrev proj (c : Dev nD) : FVec Ideal S32x6144 .f32 := m ((c : Thread nD τ).loc main_arg0)
/-- The state as the program is handed it. -/
abbrev past (c : Dev nD) : FVec Ideal S32x2x2048 .f32 := m ((c : Thread nD τ).loc main_arg1)
/-- The weights as the program is handed them. -/
abbrev weights (c : Dev nD) : FVec Ideal S1x3x2048 .f32 := m ((c : Thread nD τ).loc main_arg2)

/-- The step's block of projections. -/
theorem block_0 (c : Dev nD) (t : Fin cfg0.N) (r : Fin 32) (k : Fin 6144) :
    (iblk m c 0 t : FVec Ideal S32x6144 .f32) (ix2 r k) = proj m c (ix2 r k) := by
  unfold proj
  rw [← V_main_arg0 m c]
  exact congrArg (V m c main_arg0) (funext fun a => Fin.ext (Pipeline.Window.rect_emb_val_of_index_zero win0_0 t a ((index_zero t).1 a) _))

/-- The step's block of state, which the host has laid out one earlier row after the other. -/
theorem block_1 (c : Dev nD) (t : Fin cfg0.N) (k : Fin 2) (r : Fin 32) (l : Fin 2048) :
    (iblk m c 1 t : FVec Ideal S2x32x2048 .f32) (ix3 k r l) = past m c (ix3 r k l) := by
  have e : (V m c main_v0 : FVec Ideal S2x32x2048 .f32) (ix3 k r l) = past m c (ix3 r k l) := by
    show transpose S2x32x2048 [1, 0, 2] (past m c) transposes_S32x2x2048_S2x32x2048_1_0_2 (ix3 k r l) = _
    pointwise
  rw [← e]
  exact congrArg (V m c main_v0) (funext fun a => Fin.ext (Pipeline.Window.rect_emb_val_of_index_zero win0_1 t a ((index_zero t).2.1 a) _))

/-- The step's block of weights. -/
theorem block_2 (c : Dev nD) (t : Fin cfg0.N) (k : Fin 3) (l : Fin 2048) :
    (iblk m c 2 t : FVec Ideal S3x2048 .f32) (ix2 k l) = weights m c (ix3 0 k l) := by
  have e : (V m c main_v1 : FVec Ideal S3x2048 .f32) (ix2 k l) = weights m c (ix3 0 k l) := by
    show shapeCast S3x2048 (weights m c) shapeCasts_S1x3x2048_S3x2048 (ix2 k l) = _
    pointwise
  rw [← e]
  exact congrArg (V m c main_v1) (funext fun a => Fin.ext (Pipeline.Window.rect_emb_val_of_index_zero win0_2 t a ((index_zero t).2.2.1 a) _))

/-- The new state row at an index. -/
def newRow (x : Fin 6144 → EReal) (l : Fin 2048) : EReal := x ⟨2048 + l.val, by omega⟩ * x ⟨4096 + l.val, by omega⟩

/-- The gated convolution at an index: the two rows before and the new one, each with its weight. -/
def conv (x : Fin 6144 → EReal) (p0 p1 w0 w1 w2 : EReal) (l : Fin 2048) : EReal :=
  x ⟨l.val, by omega⟩ * (w0 * p0 + w1 * p1 + w2 * newRow x l)

/-- A column of the projections from `b` on. -/
theorem proj_ld (x : FVec Ideal S32x6144 .f32) (b : ℕ) (inb) (r : Fin 32) (l : Fin 2048) (h : b + l.val < 6144) :
    View.ld (Val := Elt Ideal) (S := S32x6144) (e' := .f32) x (Rect.unit (s := S32x6144) ![0, b] ![32, 2048] inb) (ix2 r l) = x (ix2 r ⟨b + l.val, h⟩) :=
  View.ld_unit_apply_of _ _ _ _ _ _ (fun i => by
    match i with
    | 0 => simp
    | 1 => simp)

/-- A row of the weights. -/
theorem weight_ld (x : FVec Ideal S3x2048 .f32) (b : ℕ) (inb) (l : Fin 2048) (h : b < 3) :
    View.ld (Val := Elt Ideal) (S := S3x2048) (e' := .f32) x (Rect.unit (s := S3x2048) ![b, 0] ![1, 2048] inb) (ix2 0 l) = x (ix2 ⟨b, h⟩ l) :=
  View.ld_unit_apply_of _ _ _ _ _ _ (fun i => by
    match i with
    | 0 => simp
    | 1 => simp)

/-- An earlier row of the state. -/
theorem past_ld (x : FVec Ideal S2x32x2048 .f32) (b : ℕ) (inb) (r : Fin 32) (l : Fin 2048) (h : b < 2) :
    View.ld (Val := Elt Ideal) (S := S2x32x2048) (e' := .f32) x (Rect.unit (s := S2x32x2048) ![b, 0, 0] ![1, 32, 2048] inb) (ix3 0 r l) = x (ix3 ⟨b, h⟩ r l) :=
  View.ld_unit_apply_of _ _ _ _ _ _ (fun i => by
    match i with
    | 0 => simp
    | 1 => simp
    | 2 => simp)

/-- What the payload of the new state rows is, at an index. -/
theorem new_pay_apply (a b : FVec Ideal S32x2048 .f32) (r : Fin 32) (l : Fin 2048) : k0_pay1 (F := Ideal) a b (ix2 r l) = a (ix2 r l) * b (ix2 r l) := by
  pointwise [k0_pay1]

/-- The new state rows the step writes. -/
theorem out_4 (c : Dev nD) (t : Fin cfg0.N) (r : Fin 32) (l : Fin 2048) :
    (out0_4 (F := Ideal) (iblk m c 0 t) (iblk m c 1 t) (iblk m c 2 t) : FVec Ideal S32x2048 .f32) (ix2 r l) = newRow (fun k => proj m c (ix2 r k)) l := by
  unfold out0_4
  rw [View.canon_unit_zero (S := S32x2048) off2]
  refine (new_pay_apply _ _ r l).trans ?_
  unfold newRow
  rw [proj_ld _ 2048 _ r l (by omega), proj_ld _ 4096 _ r l (by omega), block_0 m c t, block_0 m c t]

/-- What the payload of the convolution is, at an index. -/
theorem pay_apply (a b : FVec Ideal S32x2048 .f32) (w0 : FVec Ideal S1x2048 .f32) (p0 : FVec Ideal S1x32x2048 .f32) (w1 : FVec Ideal S1x2048 .f32) (p1 : FVec Ideal S1x32x2048 .f32)
    (w2 : FVec Ideal S1x2048 .f32) (g : FVec Ideal S32x2048 .f32) (r : Fin 32) (l : Fin 2048) :
    k0_pay2 (F := Ideal) a b w0 p0 w1 p1 w2 g (ix2 r l)
      = g (ix2 r l) * (w0 (ix2 0 l) * p0 (ix3 0 r l) + w1 (ix2 0 l) * p1 (ix3 0 r l) + w2 (ix2 0 l) * (a (ix2 r l) * b (ix2 r l))) := by
  pointwise [k0_pay2, k0_pay1]

/-- The gated convolution the step writes. -/
theorem out_3 (c : Dev nD) (t : Fin cfg0.N) (r : Fin 32) (l : Fin 2048) :
    (out0_3 (F := Ideal) (iblk m c 0 t) (iblk m c 1 t) (iblk m c 2 t) : FVec Ideal S32x2048 .f32) (ix2 r l)
      = conv (fun k => proj m c (ix2 r k)) (past m c (ix3 r 0 l)) (past m c (ix3 r 1 l)) (weights m c (ix3 0 0 l)) (weights m c (ix3 0 1 l)) (weights m c (ix3 0 2 l)) l := by
  unfold out0_3
  rw [View.canon_unit_zero (S := S32x2048) off2]
  refine (pay_apply _ _ _ _ _ _ _ _ r l).trans ?_
  unfold conv newRow
  rw [proj_ld _ 2048 _ r l (by omega), proj_ld _ 4096 _ r l (by omega), proj_ld _ 0 _ r l (by omega), weight_ld _ 0 _ l (by omega), weight_ld _ 1 _ l (by omega),
    weight_ld _ 2 _ l (by omega), past_ld _ 0 _ r l (by omega), past_ld _ 1 _ r l (by omega)]
  rw [block_0 m c t, block_0 m c t, block_0 m c t, block_1 m c t, block_1 m c t, block_2 m c t, block_2 m c t, block_2 m c t]
  simp only [Nat.zero_add]
  rfl

/-- The gated convolution's array. -/
theorem arr_3 (c : Dev nD) (r : Fin 32) (l : Fin 2048) :
    ((dats m 0 c).arrAt 3 cfg0.N : FVec Ideal S32x2048 .f32) (ix2 r l)
      = conv (fun k => proj m c (ix2 r k)) (past m c (ix3 r 0 l)) (past m c (ix3 r 1 l)) (weights m c (ix3 0 0 l)) (weights m c (ix3 0 1 l)) (weights m c (ix3 0 2 l)) l := by
  let t : Fin cfg0.N := ⟨0, by decide⟩
  have e : ((cfg0.win 3).blk t).view.emb (ix2 r l) = ix2 r l :=
    funext fun a => Fin.ext (Pipeline.Window.rect_emb_val_of_index_zero win0_3 t a ((index_zero t).2.2.2.1 a) (ix2 r l))
  have h := (dats m 0 c).arrAt_emb_eq_flushed 3 Value.disjoint3 t (flush0_3 t) (ix2 r l)
  rw [e] at h
  refine h.trans ?_
  rw [Value.flushed3]
  refine Eq.trans ?_ (out_3 m c t r l)
  generalize out0_3 (F := Ideal) _ _ _ = b
  rfl

/-- The new state rows' array. -/
theorem arr_4 (c : Dev nD) (r : Fin 32) (l : Fin 2048) :
    ((dats m 0 c).arrAt 4 cfg0.N : FVec Ideal S32x2048 .f32) (ix2 r l) = newRow (fun k => proj m c (ix2 r k)) l := by
  let t : Fin cfg0.N := ⟨0, by decide⟩
  have e : ((cfg0.win 4).blk t).view.emb (ix2 r l) = ix2 r l :=
    funext fun a => Fin.ext (Pipeline.Window.rect_emb_val_of_index_zero win0_4 t a ((index_zero t).2.2.2.2 a) (ix2 r l))
  have h := (dats m 0 c).arrAt_emb_eq_flushed 4 Value.disjoint4 t (flush0_4 t) (ix2 r l)
  rw [e] at h
  refine h.trans ?_
  rw [Value.flushed4]
  refine Eq.trans ?_ (out_4 m c t r l)
  generalize out0_4 (F := Ideal) _ _ _ = b
  rfl

end

section
open Cert.Reference14Ideal.Read

/-- The reference's new state rows at an index. -/
theorem ref_4 (x : FVec Ideal Cert.Reference14Ideal.S32x6144 .f32) (p : FVec Ideal Cert.Reference14Ideal.S32x2x2048 .f32) (r : Fin 32) (l : Fin 2048) :
    val_main_v32 (F := Ideal) x p (ix2 r l) = newRow (fun k => x (ix2 r k)) l := by
  unfold newRow val_main_v32 val_main_v31 val_main_v5 val_main_v4 val_main_v3 val_main_v2 val_main_v0
  pointwise

/-- The reference's gated convolution at an index. -/
theorem ref_3 (x : FVec Ideal Cert.Reference14Ideal.S32x6144 .f32) (p : FVec Ideal Cert.Reference14Ideal.S32x2x2048 .f32) (w : FVec Ideal Cert.Reference14Ideal.S1x3x2048 .f32)
    (r : Fin 32) (l : Fin 2048) :
    val_main_v30 (F := Ideal) x p w (ix2 r l)
      = conv (fun k => x (ix2 r k)) (p (ix3 r 0 l)) (p (ix3 r 1 l)) (w (ix3 0 0 l)) (w (ix3 0 1 l)) (w (ix3 0 2 l)) l := by
  unfold conv newRow val_main_v30 val_main_v29 val_main_v28 val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8 val_main_v7 val_main_v6 val_main_v5 val_main_v4 val_main_v3
    val_main_v2 val_main_v1 val_main_v0 val_main_cst
  pointwise

end

/-- The idealized kernel and the idealized reference end with equal results. -/
theorem algebraic : Cert.algebraic_Kernel14Ideal_Reference14Ideal := by
  intro m ρ m' ρ' _ hag
  refine ⟨fun c => (Cert.Kernel14Ideal.Gen.dats m 0 c).arrAt 3 Cert.Kernel14Ideal.cfg0.N, fun c => (Cert.Kernel14Ideal.Gen.dats m 0 c).arrAt 4 Cert.Kernel14Ideal.cfg0.N,
    Cert.Kernel14Ideal.Value.run_blocks m ρ, ?_⟩
  refine (θ_run Cert.Reference14Ideal.defs _ _).mono (fun r h c => ⟨((h c).1.trans (Cert.Reference14Ideal.Read.val_main_v30_eq _ _ _)).trans ?_,
      ((h c).2.1.trans (Cert.Reference14Ideal.Read.val_main_v32_eq _ _)).trans ?_, (h c).2.2⟩)
    (Cert.Reference14Ideal.Value.run m' ρ')
  · obtain ⟨e0, e1, e2⟩ := hag c
    rw [e0, e1, e2]
    funext i
    obtain ⟨R, l, rfl⟩ : ∃ R l, i = ix2 R l := ⟨i 0, i 1, eq_ix2 i⟩
    exact (ref_3 _ _ _ R l).trans (arr_3 m c R l).symm
  · obtain ⟨e0, e1, e2⟩ := hag c
    rw [e0, e1]
    funext i
    obtain ⟨R, l, rfl⟩ : ∃ R l, i = ix2 R l := ⟨i 0, i 1, eq_ix2 i⟩
    exact (ref_4 _ _ R l).trans (arr_4 m c R l).symm

/-- The idealized reference runs, leaves its arguments and ends with every semaphore at zero. -/
theorem frame_reference : Cert.quiescent_Reference14Ideal := fun m ρ _ =>
  (θ_run Cert.Reference14Ideal.defs _ _).mono (fun r h => ⟨fun c => (h c).2.2, Idealize.ShloMosaic.sem_eq_zero_of_no_sems (by decide) r.2⟩)
    (Cert.Reference14Ideal.Value.run (F := Ideal) m ρ)

end Cert.SconvStep

end
-- ==== Proof.MoeMix.lean ====
module

public import proofs.«01_k».proof.Defs
public import proofs.«01_k».proof.Proof.SconvStep
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read

@[expose] public section

set_option maxRecDepth 16384

noncomputable section

namespace Cert.MoeMix

open Idealize.ShloMosaic Idealize.ShloMosaic.TcCoe Idealize.SL.Sem

/-- The row with the experts' results added, each with its gate. -/
def mix (h : EReal) (g : Fin 128 → EReal) (d : Fin 8 → EReal) : EReal :=
  h + (g 0 * d 0 + g 1 * d 1 + g 2 * d 2 + g 3 * d 3 + g 4 * d 4 + g 5 * d 5 + g 6 * d 6 + g 7 * d 7)

section
open Cert.Kernel15Ideal Cert.Kernel15Ideal.Gen

variable (m : (ℓ : Loc nD τ sig) → Buf (Elt Ideal) ℓ)

/-- The one step's windows are the whole arrays. -/
theorem index_zero : ∀ t : Fin cfg0.N, (∀ a, win0_0.index t a = 0) ∧ (∀ a, win0_1.index t a = 0) ∧ (∀ a, win0_2.index t a = 0) ∧ (∀ a, win0_3.index t a = 0) :=
  (by decide +kernel : ∀ t : Fin grid0.N, (∀ a, win0_0.index t a = 0) ∧ (∀ a, win0_1.index t a = 0) ∧ (∀ a, win0_2.index t a = 0) ∧ (∀ a, win0_3.index t a = 0))

/-- The rows as the program is handed them. -/
abbrev rows (c : Dev nD) : FVec Ideal S32x2048 .f32 := m ((c : Thread nD τ).loc main_arg0)
/-- The gates as the program is handed them. -/
abbrev gates (c : Dev nD) : FVec Ideal S32x128 .f32 := m ((c : Thread nD τ).loc main_arg1)
/-- The experts' results as the program is handed them. -/
abbrev experts (c : Dev nD) : FVec Ideal S8x32x2048 .f32 := m ((c : Thread nD τ).loc main_arg2)

/-- The step's block of rows. -/
theorem block_0 (c : Dev nD) (t : Fin cfg0.N) (r : Fin 32) (k : Fin 2048) : (iblk m c 0 t : FVec Ideal S32x2048 .f32) (ix2 r k) = rows m c (ix2 r k) := by
  unfold rows
  rw [← V_main_arg0 m c]
  exact congrArg (V m c main_arg0) (funext fun a => Fin.ext (Pipeline.Window.rect_emb_val_of_index_zero win0_0 t a ((index_zero t).1 a) _))

/-- The step's block of gates. -/
theorem block_1 (c : Dev nD) (t : Fin cfg0.N) (r : Fin 32) (k : Fin 128) : (iblk m c 1 t : FVec Ideal S32x128 .f32) (ix2 r k) = gates m c (ix2 r k) := by
  unfold gates
  rw [← V_main_arg1 m c]
  exact congrArg (V m c main_arg1) (funext fun a => Fin.ext (Pipeline.Window.rect_emb_val_of_index_zero win0_1 t a ((index_zero t).2.1 a) _))

/-- The step's block of the experts' results. -/
theorem block_2 (c : Dev nD) (t : Fin cfg0.N) (e : Fin 8) (r : Fin 32) (k : Fin 2048) :
    (iblk m c 2 t : FVec Ideal S8x32x2048 .f32) (ix3 e r k) = experts m c (ix3 e r k) := by
  unfold experts
  rw [← V_main_arg2 m c]
  exact congrArg (V m c main_arg2) (funext fun a => Fin.ext (Pipeline.Window.rect_emb_val_of_index_zero win0_2 t a ((index_zero t).2.2.1 a) _))

/-- One expert's results. -/
theorem expert_ld (x : FVec Ideal S8x32x2048 .f32) (b : ℕ) (inb) (r : Fin 32) (l : Fin 2048) (h : b < 8) :
    View.ld (Val := Elt Ideal) (S := S8x32x2048) (e' := .f32) x (Rect.unit (s := S8x32x2048) ![b, 0, 0] ![1, 32, 2048] inb) (ix3 0 r l) = x (ix3 ⟨b, h⟩ r l) :=
  View.ld_unit_apply_of _ _ _ _ _ _ (fun i => by
    match i with
    | 0 => simp
    | 1 => simp
    | 2 => simp)

/-- The sum over the lanes of the one lane with the expert's number is that lane. -/
theorem lane_sum (f : Fin 128 → EReal) (e : Fin 128) :
    (∑ x : Fin 128, Scalar.select (IntOp.cmpi .eq (BitVec.ofNat 32 x.val) (BitVec.ofNat 32 e.val)) (f x) 0) = f e := by
  refine (Finset.sum_congr rfl fun x _ => ?_).trans (Finset.sum_ite_eq' Finset.univ e f |>.trans (if_pos (Finset.mem_univ e)))
  by_cases h : x = e
  · subst h
    simp [Scalar.select, IntOp.cmpi]
  · have : BitVec.ofNat 32 x.val ≠ BitVec.ofNat 32 e.val := fun q => h (Fin.ext (by
      have := congrArg BitVec.toNat q
      simp only [BitVec.toNat_ofNat] at this
      omega))
    simp [Scalar.select, IntOp.cmpi, h, beq_eq_false_iff_ne.mpr this]

/-- What the payload is, at an index. -/
theorem pay_apply (g : FVec Ideal S32x128 .f32) (d0 d1 d2 d3 d4 d5 d6 d7 : FVec Ideal S1x32x2048 .f32) (h : FVec Ideal S32x2048 .f32) (v0 : IVec S32x128 32)
    (hv : v0 = iota .tc S32x128 32 [1] iota_S32x128_d1_w32) (r : Fin 32) (l : Fin 2048) :
    k0_pay1 (F := Ideal) v0 (k0_pay4 v0 (k0_pay2 g d0 g d1) (k0_pay3 g) d2 g d3 g d4) (k0_pay5 v0 g) d5 g d6 g d7 h (ix2 r l)
      = mix (h (ix2 r l)) (fun k => g (ix2 r k)) ![d0 (ix3 0 r l), d1 (ix3 0 r l), d2 (ix3 0 r l), d3 (ix3 0 r l),
        d4 (ix3 0 r l), d5 (ix3 0 r l), d6 (ix3 0 r l), d7 (ix3 0 r l)] := by
  subst hv
  pointwise [k0_pay1, k0_pay2, k0_pay3, k0_pay4, k0_pay5]
  have z := fun e : Fin 128 => lane_sum (fun k => g (ix2 r k)) e
  exact congrArg (h (ix2 r l) + ·) (congrArg₂ (· + ·) (congrArg₂ (· + ·) (congrArg₂ (· + ·) (congrArg₂ (· + ·) (congrArg₂ (· + ·) (congrArg₂ (· + ·) (congrArg₂ (· + ·)
    (congrArg (· * _) (z 0)) (congrArg (· * _) (z 1))) (congrArg (· * _) (z 2))) (congrArg (· * _) (z 3))) (congrArg (· * _) (z 4))) (congrArg (· * _) (z 5)))
    (congrArg (· * _) (z 6))) (congrArg (· * _) (z 7)))

/-- The rows the step writes. -/
theorem out_3 (c : Dev nD) (t : Fin cfg0.N) (r : Fin 32) (l : Fin 2048) :
    (out0_3 (F := Ideal) (iblk m c 0 t) (iblk m c 1 t) (iblk m c 2 t) : FVec Ideal S32x2048 .f32) (ix2 r l)
      = mix (rows m c (ix2 r l)) (fun k => gates m c (ix2 r k)) (fun e => experts m c (ix3 e r l)) := by
  unfold out0_3
  rw [View.canon_unit_zero (S := S32x2048) SconvStep.off2]
  simp only [View.ld_unit_zero (S := S32x2048) SconvStep.off2, View.ld_unit_zero (S := S32x128) SconvStep.off2]
  refine (pay_apply _ _ _ _ _ _ _ _ _ _ _ rfl r l).trans ?_
  unfold mix
  simp only [Matrix.cons_val]
  rw [expert_ld _ 0 _ r l (by omega), expert_ld _ 1 _ r l (by omega), expert_ld _ 2 _ r l (by omega), expert_ld _ 3 _ r l (by omega), expert_ld _ 4 _ r l (by omega),
    expert_ld _ 5 _ r l (by omega), expert_ld _ 6 _ r l (by omega), expert_ld _ 7 _ r l (by omega)]
  simp only [block_0 m c t, block_1 m c t, block_2 m c t]
  rfl

/-- The result's array. -/
theorem arr_3 (c : Dev nD) (r : Fin 32) (l : Fin 2048) :
    ((dats m 0 c).arrAt 3 cfg0.N : FVec Ideal S32x2048 .f32) (ix2 r l)
      = mix (rows m c (ix2 r l)) (fun k => gates m c (ix2 r k)) (fun e => experts m c (ix3 e r l)) := by
  let t : Fin cfg0.N := ⟨0, by decide⟩
  have e : ((cfg0.win 3).blk t).view.emb (ix2 r l) = ix2 r l :=
    funext fun a => Fin.ext (Pipeline.Window.rect_emb_val_of_index_zero win0_3 t a ((index_zero t).2.2.2 a) (ix2 r l))
  have h := (dats m 0 c).arrAt_emb_eq_flushed 3 Value.disjoint3 t (flush0_3 t) (ix2 r l)
  rw [e] at h
  refine h.trans ?_
  rw [Value.flushed3]
  refine Eq.trans ?_ (out_3 m c t r l)
  generalize out0_3 (F := Ideal) _ _ _ = b
  rfl

end

section
open Cert.Reference15Ideal.Read

/-- The reference's result at an index. -/
theorem ref_apply (h : FVec Ideal Cert.Reference15Ideal.S32x2048 .f32) (g : FVec Ideal Cert.Reference15Ideal.S32x128 .f32) (d : FVec Ideal Cert.Reference15Ideal.S8x32x2048 .f32)
    (r : Fin 32) (l : Fin 2048) : val_main_v49 (F := Ideal) h g d (ix2 r l) = mix (h (ix2 r l)) (fun k => g (ix2 r k)) (fun e => d (ix3 e r l)) := by
  unfold mix val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30
    val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0 val_main_cst
  pointwise

end

/-- The idealized kernel and the idealized reference end with equal results. -/
theorem algebraic : Cert.algebraic_Kernel15Ideal_Reference15Ideal := by
  intro m ρ m' ρ' _ hag
  refine ⟨fun c => (Cert.Kernel15Ideal.Gen.dats m 0 c).arrAt 3 Cert.Kernel15Ideal.cfg0.N, Cert.Kernel15Ideal.Value.run_blocks m ρ, ?_⟩
  refine (θ_run Cert.Reference15Ideal.defs _ _).mono (fun r h c => ⟨((h c).1.trans (Cert.Reference15Ideal.Read.val_main_v49_eq _ _ _)).trans ?_, (h c).2⟩)
    (Cert.Reference15Ideal.Value.run m' ρ')
  obtain ⟨e0, e1, e2⟩ := hag c
  rw [e0, e1, e2]
  funext i
  obtain ⟨R, l, rfl⟩ : ∃ R l, i = ix2 R l := ⟨i 0, i 1, eq_ix2 i⟩
  exact (ref_apply _ _ _ R l).trans (arr_3 m c R l).symm

/-- The idealized reference runs, leaves its arguments and ends with every semaphore at zero. -/
theorem frame_reference : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

end Cert.MoeMix

end
-- ==== Proof.Gate.lean ====
module

public import proofs.«01_k».proof.Defs
public import proofs.«01_k».proof.Proof.SconvStep
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read

@[expose] public section

set_option maxRecDepth 16384

noncomputable section

namespace Cert.Gate

open Idealize.ShloMosaic Idealize.ShloMosaic.TcCoe Idealize.SL.Sem

/-- An element with its gate's silu. -/
def gated (y z : EReal) : EReal := y * (z * Ideal.logistic z)

/-- An element of a normalised group: the group's gated element over the root of the group's mean square, with its weight. -/
def normed (y z : Fin 512 → EReal) (j : Fin 512) (w : EReal) : EReal :=
  gated (y j) (z j) * Ideal.rsqrt (Ideal.div (∑ k : Fin 512, gated (y k) (z k) * gated (y k) (z k)) (Ideal.ofBits .f32 0x44000000#32) + Ideal.ofBits .f32 0x358637BD#32) * w

/-- The result at a column, which lies in the group of 512 columns around it. -/
def column (y z w : Fin 4096 → EReal) (l : Fin 4096) : EReal :=
  normed (fun k => y ⟨512 * (l.val / 512) + k.val, by omega⟩) (fun k => z ⟨512 * (l.val / 512) + k.val, by omega⟩) ⟨l.val % 512, by omega⟩ (w l)

section
open Cert.Kernel16Ideal Cert.Kernel16Ideal.Gen

variable (m : (ℓ : Loc nD τ sig) → Buf (Elt Ideal) ℓ)

/-- The one step's windows are the whole arrays. -/
theorem index_zero : ∀ t : Fin cfg0.N, (∀ a, win0_0.index t a = 0) ∧ (∀ a, win0_1.index t a = 0) ∧ (∀ a, win0_2.index t a = 0) ∧ (∀ a, win0_3.index t a = 0) :=
  (by decide +kernel : ∀ t : Fin grid0.N, (∀ a, win0_0.index t a = 0) ∧ (∀ a, win0_1.index t a = 0) ∧ (∀ a, win0_2.index t a = 0) ∧ (∀ a, win0_3.index t a = 0))

/-- The values as the program is handed them. -/
abbrev vals (c : Dev nD) : FVec Ideal S32x4096 .f32 := m ((c : Thread nD τ).loc main_arg0)
/-- The gates as the program is handed them. -/
abbrev gates (c : Dev nD) : FVec Ideal S32x4096 .f32 := m ((c : Thread nD τ).loc main_arg1)
/-- The weights as the program is handed them. -/
abbrev weights (c : Dev nD) : FVec Ideal S4096 .f32 := m ((c : Thread nD τ).loc main_arg2)

/-- The step's block of values. -/
theorem block_0 (c : Dev nD) (t : Fin cfg0.N) (y : S32x4096.Idx) : (iblk m c 0 t : FVec Ideal S32x4096 .f32) y = vals m c y := by
  unfold vals
  rw [← V_main_arg0 m c]
  exact congrArg (V m c main_arg0) (funext fun a => Fin.ext (Pipeline.Window.rect_emb_val_of_index_zero win0_0 t a ((index_zero t).1 a) y))

/-- The step's block of gates. -/
theorem block_1 (c : Dev nD) (t : Fin cfg0.N) (y : S32x4096.Idx) : (iblk m c 1 t : FVec Ideal S32x4096 .f32) y = gates m c y := by
  unfold gates
  rw [← V_main_arg1 m c]
  exact congrArg (V m c main_arg1) (funext fun a => Fin.ext (Pipeline.Window.rect_emb_val_of_index_zero win0_1 t a ((index_zero t).2.1 a) y))

/-- The step's block of weights. -/
theorem block_2 (c : Dev nD) (t : Fin cfg0.N) (k : Fin 4096) : (iblk m c 2 t : FVec Ideal S1x4096 .f32) (ix2 0 k) = weights m c (ix1 k) := by
  have e : (V m c main_v0 : FVec Ideal S1x4096 .f32) (ix2 0 k) = weights m c (ix1 k) := by
    show shapeCast S1x4096 (weights m c) shapeCasts_S4096_S1x4096 (ix2 0 k) = _
    pointwise
  rw [← e]
  exact congrArg (V m c main_v0) (funext fun a => Fin.ext (Pipeline.Window.rect_emb_val_of_index_zero win0_2 t a ((index_zero t).2.2.1 a) (ix2 0 k)))

/-- A group's payload, at an index. -/
theorem pay_apply (y z : FVec Ideal S32x512 .f32) (w : FVec Ideal S1x512 .f32) (r : Fin 32) (j : Fin 512) :
    k0_pay2 (F := Ideal) y z w (ix2 r j) = normed (fun k => y (ix2 r k)) (fun k => z (ix2 r k)) j (w (ix2 0 j)) := by
  unfold normed gated
  pointwise [k0_pay2]

/-- The block the step writes. -/
def block (y z : FVec Ideal S32x4096 .f32) (w : FVec Ideal S1x4096 .f32) : FVec Ideal S32x4096 .f32 := fun i =>
  column (fun k => y (ix2 (i 0) k)) (fun k => z (ix2 (i 0) k)) (fun k => w (ix2 0 k)) (i 1)

/-- Some columns of a row of 4096. -/
theorem ld_col {n : ℕ} (x : FVec Ideal ⟨2, ![n, 4096]⟩ .f32) (b : ℕ) (inb) (r : Fin n) (j : Fin 512) (h : b + j.val < 4096) :
    View.ld (Val := Elt Ideal) (S := ⟨2, ![n, 4096]⟩) (e' := .f32) x (Rect.unit (s := ⟨2, ![n, 4096]⟩) ![0, b] ![n, 512] inb) (ix2 r j) = x (ix2 r ⟨b + j.val, h⟩) :=
  View.ld_unit_apply_of _ _ _ _ _ _ (fun i => by
    match i with
    | 0 => simp
    | 1 => simp)

/-- The stored piece of a group is the block's columns. -/
theorem piece (y z : FVec Ideal S32x4096 .f32) (w : FVec Ideal S1x4096 .f32) (b : ℕ) (inb) (inw) (hb : b % 512 = 0)
    (i : (Rect.unit (s := S32x4096) ![0, b] ![32, 512] inb).shape.Idx) :
    k0_pay2 (F := Ideal) (View.ld (S := S32x4096) (Val := Elt Ideal) (e' := .f32) y (Rect.unit (s := S32x4096) ![0, b] ![32, 512] inb))
        (View.ld (S := S32x4096) (Val := Elt Ideal) (e' := .f32) z (Rect.unit (s := S32x4096) ![0, b] ![32, 512] inb))
        (View.ld (S := S1x4096) (Val := Elt Ideal) (e' := .f32) w (Rect.unit (s := S1x4096) ![0, b] ![1, 512] inw)) i
      = block y z w ((Rect.unit (s := S32x4096) ![0, b] ![32, 512] inb).emb i) := by
  obtain ⟨r, j, rfl⟩ : ∃ (r : Fin 32) (j : Fin 512), i = ix2 r j := ⟨i 0, i 1, eq_ix2 i⟩
  have hle : b + 512 ≤ 4096 := inb 1
  have hr : ((Rect.unit (s := S32x4096) ![0, b] ![32, 512] inb).emb (ix2 r j)) 0 = r := Fin.ext (by simp)
  have hc : ((Rect.unit (s := S32x4096) ![0, b] ![32, 512] inb).emb (ix2 r j)) 1 = (⟨b + j.val, by omega⟩ : Fin 4096) := Fin.ext (by simp)
  refine (pay_apply _ _ _ r j).trans ?_
  unfold block column
  rw [hr, hc]
  have e1 : (⟨(b + j.val) % 512, by omega⟩ : Fin 512) = j := Fin.ext (by simp; omega)
  have e2 : ∀ k : Fin 512, (⟨512 * ((b + j.val) / 512) + k.val, by omega⟩ : Fin 4096) = ⟨b + k.val, by omega⟩ := fun k => Fin.ext (by simp; omega)
  simp only [e1, e2]
  rw [ld_col (n := 1) w b _ 0 j (by omega)]
  exact congrArg₂ (normed · · _ _) (funext fun k => ld_col (n := 32) y b _ r k (by omega)) (funext fun k => ld_col (n := 32) z b _ r k (by omega))

/-- What the step writes. -/
theorem out_3 (y z : FVec Ideal S32x4096 .f32) (w : FVec Ideal S1x4096 .f32) (i : S32x4096.Idx) : out0_3 (F := Ideal) y z w i = block y z w i := by
  unfold out0_3
  refine View.canon_apply_of_pieces _ _ ?_ i (cover0_3 _ _ _ _ _ _ _ _ i)
  simp only [List.forall_mem_cons]
  exact ⟨fun x => piece y z w 3584 _ _ rfl x, fun x => piece y z w 3072 _ _ rfl x, fun x => piece y z w 2560 _ _ rfl x, fun x => piece y z w 2048 _ _ rfl x,
    fun x => piece y z w 1536 _ _ rfl x, fun x => piece y z w 1024 _ _ rfl x, fun x => piece y z w 512 _ _ rfl x, fun x => piece y z w 0 _ _ rfl x,
    fun p hp => absurd hp (List.not_mem_nil)⟩

/-- The result's array. -/
theorem arr_3 (c : Dev nD) (r : Fin 32) (l : Fin 4096) :
    ((dats m 0 c).arrAt 3 cfg0.N : FVec Ideal S32x4096 .f32) (ix2 r l)
      = column (fun k => vals m c (ix2 r k)) (fun k => gates m c (ix2 r k)) (fun k => weights m c (ix1 k)) l := by
  let t : Fin cfg0.N := ⟨0, by decide⟩
  have e : ((cfg0.win 3).blk t).view.emb (ix2 r l) = ix2 r l :=
    funext fun a => Fin.ext (Pipeline.Window.rect_emb_val_of_index_zero win0_3 t a ((index_zero t).2.2.2 a) (ix2 r l))
  have h := (dats m 0 c).arrAt_emb_eq_flushed 3 Value.disjoint3 t (flush0_3 t) (ix2 r l)
  rw [e] at h
  refine h.trans ?_
  rw [Value.flushed3]
  have o := out_3 (iblk m c 0 t) (iblk m c 1 t) (iblk m c 2 t) (ix2 r l)
  unfold block at o
  simp only [block_0 m c t, block_1 m c t, block_2 m c t] at o
  refine Eq.trans ?_ o
  generalize out0_3 (F := Ideal) _ _ _ = b
  rfl

end

section
open Cert.Reference16Ideal.Read

/-- The reference's result at an index. -/
theorem ref_apply (y z : FVec Ideal Cert.Reference16Ideal.S32x4096 .f32) (w : FVec Ideal Cert.Reference16Ideal.S4096 .f32) (r : Fin 32) (l : Fin 4096) :
    val_main_v16 (F := Ideal) y z w (ix2 r l) = column (fun k => y (ix2 r k)) (fun k => z (ix2 r k)) (fun k => w (ix1 k)) l := by
  unfold column normed gated val_main_v16 val_main_v15 val_main_v14 val_main_v13 val_main_v12 val_main_v11 val_main_v10 val_main_v9 val_main_v8 val_main_cst_1 val_main_v7 val_main_v6
    val_main_cst_0 val_main_v5 val_main_v4 val_main_cst val_main_v3 val_main_v2 val_main_v1 val_main_v0 val_main_call0_v5 val_main_call0_v4 val_main_call0_cst_0 val_main_call0_v3 val_main_call0_v2 val_main_call0_cst val_main_call0_v1 val_main_call0_v0
  pointwise
  simp only [Nat.mul_comm (l.val / 512) 512, Nat.add_assoc, Nat.div_add_mod]
  rfl

end

/-- The idealized kernel and the idealized reference end with equal results. -/
theorem algebraic : Cert.algebraic_Kernel16Ideal_Reference16Ideal := by
  intro m ρ m' ρ' _ hag
  refine ⟨fun c => (Cert.Kernel16Ideal.Gen.dats m 0 c).arrAt 3 Cert.Kernel16Ideal.cfg0.N, Cert.Kernel16Ideal.Value.run_blocks m ρ, ?_⟩
  refine (θ_run Cert.Reference16Ideal.defs _ _).mono (fun r h c => ⟨((h c).1.trans (Cert.Reference16Ideal.Read.val_main_v16_eq _ _ _)).trans ?_, (h c).2⟩)
    (Cert.Reference16Ideal.Value.run m' ρ')
  obtain ⟨e0, e1, e2⟩ := hag c
  rw [e0, e1, e2]
  funext i
  obtain ⟨R, l, rfl⟩ : ∃ R l, i = ix2 R l := ⟨i 0, i 1, eq_ix2 i⟩
  exact (ref_apply _ _ _ R l).trans (arr_3 m c R l).symm

/-- The idealized reference runs, leaves its arguments and ends with every semaphore at zero. -/
theorem frame_reference : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

end Cert.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Final
public import proofs.«01_k».proof.Proof.UpFinal
public import proofs.«01_k».proof.Proof.DownFinal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.SconvFinal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Mm
public import proofs.«01_k».proof.Proof.Gen.Kernel6
public import proofs.«01_k».proof.Proof.Gen.Kernel6.Flash
public import proofs.«01_k».proof.Proof.Gen.Kernel6Ideal
public import proofs.«01_k».proof.Proof.Gen.Kernel6Ideal.Flash
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_dense_tables
public import proofs.«01_k».proof.Proof.DenseFinal
public import proofs.«01_k».proof.Proof.Mm7
public import proofs.«01_k».proof.Proof.Mm8
public import proofs.«01_k».proof.Proof.Mm9
public import proofs.«01_k».proof.Proof.Mm10
public import proofs.«01_k».proof.Proof.Norm
public import proofs.«01_k».proof.Proof.Mm12
public import proofs.«01_k».proof.Proof.HeadNorm
public import proofs.«01_k».proof.Proof.SconvStep
public import proofs.«01_k».proof.Proof.MoeMix
public import proofs.«01_k».proof.Proof.Gate
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Adequacy
public import Idealize.ShloMosaic.Init

@[expose] public section

noncomputable section

namespace Cert.Proof

open Idealize.ShloMosaic Idealize.SL.Sem Cert.Kernel

/-- Every claim of Defs.lean: the frames, and the equality of the calls with their references. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite.facts, Cert.Pre_tiles_first.Gen.facts, Cert.Pre_halves_first.Gen.facts, Cert.Pre_dense_tables.Gen.facts,
  Cert.On_rows_held.Gen.facts, Cert.On_halves_held.Gen.facts,
  fun m ρ _ => Cert.Kernel.Gen.frame m ρ,
  fun m ρ _ => Cert.KernelIdeal.Gen.frame m ρ,
  fun m ρ _ => Cert.KernelIdeal.Gen.frame m ρ,
  Cert.Attn.frame_reference,
  fun m ρ _ => Cert.Attn.frame_reference m ρ trivial,
  Cert.Up.frame,
  Cert.Up.frame_ideal,
  Cert.Up.frame_reference,
  fun m ρ _ => Cert.Up.frame_reference m ρ trivial,
  Cert.Down.frame,
  Cert.Down.frame_ideal,
  Cert.Down.frame_reference,
  fun m ρ _ => Cert.Down.frame_reference m ρ trivial,
  fun m ρ _ => Cert.Kernel4.Gen.frame m ρ,
  fun m ρ _ => Cert.Kernel4Ideal.Gen.frame m ρ,
  Cert.Sconv.frame_reference,
  fun m ρ _ => Cert.Kernel5.Gen.frame m ρ,
  fun m ρ _ => Cert.Kernel5Ideal.Gen.frame m ρ,
  Cert.Mm.frame_reference,
  Cert.Dense.frame,
  Cert.Dense.frame_ideal,
  Cert.Dense.frame_reference,
  fun m ρ _ => Cert.Dense.frame_reference m ρ trivial,
  fun m ρ _ => Cert.Kernel7.Gen.frame m ρ,
  fun m ρ _ => Cert.Kernel7Ideal.Gen.frame m ρ,
  Cert.Mm7.frame_reference,
  fun m ρ _ => Cert.Kernel8.Gen.frame m ρ,
  fun m ρ _ => Cert.Kernel8Ideal.Gen.frame m ρ,
  Cert.Mm8.frame_reference,
  fun m ρ _ => Cert.Kernel9.Gen.frame m ρ,
  fun m ρ _ => Cert.Kernel9Ideal.Gen.frame m ρ,
  Cert.Mm9.frame_reference,
  fun m ρ _ => Cert.Kernel10.Gen.frame m ρ,
  fun m ρ _ => Cert.Kernel10Ideal.Gen.frame m ρ,
  Cert.Mm10.frame_reference,
  fun m ρ _ => Cert.Kernel11.Gen.frame m ρ,
  fun m ρ _ => Cert.Kernel11Ideal.Gen.frame m ρ,
  Cert.Norm.frame_reference,
  fun m ρ _ => Cert.Kernel12.Gen.frame m ρ,
  fun m ρ _ => Cert.Kernel12Ideal.Gen.frame m ρ,
  Cert.Mm12.frame_reference,
  fun m ρ _ => Cert.Kernel13.Gen.frame m ρ,
  fun m ρ _ => Cert.Kernel13Ideal.Gen.frame m ρ,
  Cert.HeadNorm.frame_reference,
  fun m ρ _ => Cert.Kernel14.Gen.frame m ρ,
  fun m ρ _ => Cert.Kernel14Ideal.Gen.frame m ρ,
  Cert.SconvStep.frame_reference,
  fun m ρ _ => Cert.Kernel15.Gen.frame m ρ,
  fun m ρ _ => Cert.Kernel15Ideal.Gen.frame m ρ,
  Cert.MoeMix.frame_reference,
  fun m ρ _ => Cert.Kernel16.Gen.frame m ρ,
  fun m ρ _ => Cert.Kernel16Ideal.Gen.frame m ρ,
  Cert.Gate.frame_reference,
  trivial,
  Cert.Attn.algebraic,
  trivial,
  Cert.Up.algebraic,
  trivial,
  Cert.Down.algebraic,
  trivial,
  Cert.Sconv.algebraic,
  trivial,
  Cert.Mm.algebraic,
  trivial,
  Cert.Dense.algebraic,
  trivial,
  Cert.Mm7.algebraic,
  trivial,
  Cert.Mm8.algebraic,
  trivial,
  Cert.Mm9.algebraic,
  trivial,
  Cert.Mm10.algebraic,
  trivial,
  Cert.Norm.algebraic,
  trivial,
  Cert.Mm12.algebraic,
  trivial,
  Cert.HeadNorm.algebraic,
  trivial,
  Cert.SconvStep.algebraic,
  trivial,
  Cert.MoeMix.algebraic,
  trivial,
  Cert.Gate.algebraic⟩

end Cert.Proof

end
